-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_EDown [hPre_down_schedule : Cert.Pre_down_schedule.Facts] (m : (ℓ : Loc Cert.EDown.nD Cert.EDown.τ Cert.EDown.sig) → Buf (Elt Bits) ℓ) : Prop :=
  ∀ c : Dev Cert.EDown.nD,
    (Cert.Pre_down_schedule.fn (F := Bits) (m ((c.tc : Thread Cert.EDown.nD Cert.EDown.τ).loc Cert.EDown.main_arg0)) (m ((c.tc : Thread Cert.EDown.nD Cert.EDown.τ).loc Cert.EDown.main_arg1)) (m ((c.tc : Thread Cert.EDown.nD Cert.EDown.τ).loc Cert.EDown.main_arg2)) (m ((c.tc : Thread Cert.EDown.nD Cert.EDown.τ).loc Cert.EDown.main_arg3)) (m ((c.tc : Thread Cert.EDown.nD Cert.EDown.τ).loc Cert.EDown.main_arg4)) (m ((c.tc : Thread Cert.EDown.nD Cert.EDown.τ).loc Cert.EDown.main_arg5)) (m ((c.tc : Thread Cert.EDown.nD Cert.EDown.τ).loc Cert.EDown.main_arg6))) = (fun _ => 1#1)

def Pre_EDownIdeal [hPre_down_schedule : Cert.Pre_down_schedule.Facts] (m : (ℓ : Loc Cert.EDownIdeal.nD Cert.EDownIdeal.τ Cert.EDownIdeal.sig) → Buf (Elt Ideal) ℓ) : Prop :=
  ∀ c : Dev Cert.EDownIdeal.nD,
    (Cert.Pre_down_schedule.fn (F := Ideal) (m ((c.tc : Thread Cert.EDownIdeal.nD Cert.EDownIdeal.τ).loc Cert.EDownIdeal.main_arg0)) (m ((c.tc : Thread Cert.EDownIdeal.nD Cert.EDownIdeal.τ).loc Cert.EDownIdeal.main_arg1)) (m ((c.tc : Thread Cert.EDownIdeal.nD Cert.EDownIdeal.τ).loc Cert.EDownIdeal.main_arg2)) (m ((c.tc : Thread Cert.EDownIdeal.nD Cert.EDownIdeal.τ).loc Cert.EDownIdeal.main_arg3)) (m ((c.tc : Thread Cert.EDownIdeal.nD Cert.EDownIdeal.τ).loc Cert.EDownIdeal.main_arg4)) (m ((c.tc : Thread Cert.EDownIdeal.nD Cert.EDownIdeal.τ).loc Cert.EDownIdeal.main_arg5)) (m ((c.tc : Thread Cert.EDownIdeal.nD Cert.EDownIdeal.τ).loc Cert.EDownIdeal.main_arg6))) = (fun _ => 1#1)

def Pre_EDownRefIdeal [hPre_down_schedule : Cert.Pre_down_schedule.Facts] (m : (ℓ : Loc Cert.EDownRefIdeal.nD Cert.EDownRefIdeal.τ Cert.EDownRefIdeal.sig) → Buf (Elt Ideal) ℓ) : Prop :=
  ∀ c : Dev Cert.EDownRefIdeal.nD,
    (Cert.Pre_down_schedule.fn (F := Ideal) (m ((c.tc : Thread Cert.EDownRefIdeal.nD Cert.EDownRefIdeal.τ).loc Cert.EDownRefIdeal.main_arg0)) (m ((c.tc : Thread Cert.EDownRefIdeal.nD Cert.EDownRefIdeal.τ).loc Cert.EDownRefIdeal.main_arg1)) (m ((c.tc : Thread Cert.EDownRefIdeal.nD Cert.EDownRefIdeal.τ).loc Cert.EDownRefIdeal.main_arg2)) (m ((c.tc : Thread Cert.EDownRefIdeal.nD Cert.EDownRefIdeal.τ).loc Cert.EDownRefIdeal.main_arg3)) (m ((c.tc : Thread Cert.EDownRefIdeal.nD Cert.EDownRefIdeal.τ).loc Cert.EDownRefIdeal.main_arg4)) (m ((c.tc : Thread Cert.EDownRefIdeal.nD Cert.EDownRefIdeal.τ).loc Cert.EDownRefIdeal.main_arg5)) (m ((c.tc : Thread Cert.EDownRefIdeal.nD Cert.EDownRefIdeal.τ).loc Cert.EDownRefIdeal.main_arg6))) = (fun _ => 1#1)

def Pre_EUp [hPre_up_schedule : Cert.Pre_up_schedule.Facts] (m : (ℓ : Loc Cert.EUp.nD Cert.EUp.τ Cert.EUp.sig) → Buf (Elt Bits) ℓ) : Prop :=
  ∀ c : Dev Cert.EUp.nD,
    (Cert.Pre_up_schedule.fn (F := Bits) (m ((c.tc : Thread Cert.EUp.nD Cert.EUp.τ).loc Cert.EUp.main_arg0)) (m ((c.tc : Thread Cert.EUp.nD Cert.EUp.τ).loc Cert.EUp.main_arg1)) (m ((c.tc : Thread Cert.EUp.nD Cert.EUp.τ).loc Cert.EUp.main_arg2)) (m ((c.tc : Thread Cert.EUp.nD Cert.EUp.τ).loc Cert.EUp.main_arg3)) (m ((c.tc : Thread Cert.EUp.nD Cert.EUp.τ).loc Cert.EUp.main_arg4)) (m ((c.tc : Thread Cert.EUp.nD Cert.EUp.τ).loc Cert.EUp.main_arg5)) (m ((c.tc : Thread Cert.EUp.nD Cert.EUp.τ).loc Cert.EUp.main_arg6)) (m ((c.tc : Thread Cert.EUp.nD Cert.EUp.τ).loc Cert.EUp.main_arg7))) = (fun _ => 1#1)

def Pre_EUpIdeal [hPre_up_schedule : Cert.Pre_up_schedule.Facts] (m : (ℓ : Loc Cert.EUpIdeal.nD Cert.EUpIdeal.τ Cert.EUpIdeal.sig) → Buf (Elt Ideal) ℓ) : Prop :=
  ∀ c : Dev Cert.EUpIdeal.nD,
    (Cert.Pre_up_schedule.fn (F := Ideal) (m ((c.tc : Thread Cert.EUpIdeal.nD Cert.EUpIdeal.τ).loc Cert.EUpIdeal.main_arg0)) (m ((c.tc : Thread Cert.EUpIdeal.nD Cert.EUpIdeal.τ).loc Cert.EUpIdeal.main_arg1)) (m ((c.tc : Thread Cert.EUpIdeal.nD Cert.EUpIdeal.τ).loc Cert.EUpIdeal.main_arg2)) (m ((c.tc : Thread Cert.EUpIdeal.nD Cert.EUpIdeal.τ).loc Cert.EUpIdeal.main_arg3)) (m ((c.tc : Thread Cert.EUpIdeal.nD Cert.EUpIdeal.τ).loc Cert.EUpIdeal.main_arg4)) (m ((c.tc : Thread Cert.EUpIdeal.nD Cert.EUpIdeal.τ).loc Cert.EUpIdeal.main_arg5)) (m ((c.tc : Thread Cert.EUpIdeal.nD Cert.EUpIdeal.τ).loc Cert.EUpIdeal.main_arg6)) (m ((c.tc : Thread Cert.EUpIdeal.nD Cert.EUpIdeal.τ).loc Cert.EUpIdeal.main_arg7))) = (fun _ => 1#1)

def Pre_EUpRefIdeal [hPre_up_schedule : Cert.Pre_up_schedule.Facts] (m : (ℓ : Loc Cert.EUpRefIdeal.nD Cert.EUpRefIdeal.τ Cert.EUpRefIdeal.sig) → Buf (Elt Ideal) ℓ) : Prop :=
  ∀ c : Dev Cert.EUpRefIdeal.nD,
    (Cert.Pre_up_schedule.fn (F := Ideal) (m ((c.tc : Thread Cert.EUpRefIdeal.nD Cert.EUpRefIdeal.τ).loc Cert.EUpRefIdeal.main_arg0)) (m ((c.tc : Thread Cert.EUpRefIdeal.nD Cert.EUpRefIdeal.τ).loc Cert.EUpRefIdeal.main_arg1)) (m ((c.tc : Thread Cert.EUpRefIdeal.nD Cert.EUpRefIdeal.τ).loc Cert.EUpRefIdeal.main_arg2)) (m ((c.tc : Thread Cert.EUpRefIdeal.nD Cert.EUpRefIdeal.τ).loc Cert.EUpRefIdeal.main_arg3)) (m ((c.tc : Thread Cert.EUpRefIdeal.nD Cert.EUpRefIdeal.τ).loc Cert.EUpRefIdeal.main_arg4)) (m ((c.tc : Thread Cert.EUpRefIdeal.nD Cert.EUpRefIdeal.τ).loc Cert.EUpRefIdeal.main_arg5)) (m ((c.tc : Thread Cert.EUpRefIdeal.nD Cert.EUpRefIdeal.τ).loc Cert.EUpRefIdeal.main_arg6)) (m ((c.tc : Thread Cert.EUpRefIdeal.nD Cert.EUpRefIdeal.τ).loc Cert.EUpRefIdeal.main_arg7))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2)
      ∧ r.2.mem ((c.tc : Thread Cert.Gelu.nD Cert.Gelu.τ).loc Cert.Gelu.main_arg3) = m ((c.tc : Thread Cert.Gelu.nD Cert.Gelu.τ).loc Cert.Gelu.main_arg3))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
      ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2)
      ∧ r.2.mem ((c.tc : Thread Cert.GeluRefIdeal.nD Cert.GeluRefIdeal.τ).loc Cert.GeluRefIdeal.main_arg3) = m ((c.tc : Thread Cert.GeluRefIdeal.nD Cert.GeluRefIdeal.τ).loc Cert.GeluRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3)
      ∧ r.2.mem ((c.tc : Thread Cert.OutB.nD Cert.OutB.τ).loc Cert.OutB.main_arg4) = m ((c.tc : Thread Cert.OutB.nD Cert.OutB.τ).loc Cert.OutB.main_arg4))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
      ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2)
      ∧ r.2.mem ((c.tc : Thread Cert.OutBRefIdeal.nD Cert.OutBRefIdeal.τ).loc Cert.OutBRefIdeal.main_arg3) = m ((c.tc : Thread Cert.OutBRefIdeal.nD Cert.OutBRefIdeal.τ).loc Cert.OutBRefIdeal.main_arg3)
      ∧ r.2.mem ((c.tc : Thread Cert.OutBRefIdeal.nD Cert.OutBRefIdeal.τ).loc Cert.OutBRefIdeal.main_arg4) = m ((c.tc : Thread Cert.OutBRefIdeal.nD Cert.OutBRefIdeal.τ).loc Cert.OutBRefIdeal.main_arg4))
      ∧ r.2.sem = fun _ => 0)

def quiescent_EDown [hEDown : Cert.EDown.Facts] [hPre_down_schedule : Cert.Pre_down_schedule.Facts] : Prop :=
  ∀ (m : (ℓ : Loc Cert.EDown.nD Cert.EDown.τ Cert.EDown.sig) → Buf (Elt Bits) ℓ) (g : Dev Cert.EDown.nD → PrngReg), Pre_EDown m →
    θ_run (Cert.EDown.defs (F := Bits)) (onTc (τ := Cert.EDown.τ) (Cert.EDown.main (F := Bits))) ⟨m, fun _ => 0, g⟩ (fun r => (∀ c : Dev Cert.EDown.nD,
      r.2.mem ((c.tc : Thread Cert.EDown.nD Cert.EDown.τ).loc Cert.EDown.main_arg0) = m ((c.tc : Thread Cert.EDown.nD Cert.EDown.τ).loc Cert.EDown.main_arg0)
      ∧ r.2.mem ((c.tc : Thread Cert.EDown.nD Cert.EDown.τ).loc Cert.EDown.main_arg1) = m ((c.tc : Thread Cert.EDown.nD Cert.EDown.τ).loc Cert.EDown.main_arg1)
      ∧ r.2.mem ((c.tc : Thread Cert.EDown.nD Cert.EDown.τ).loc Cert.EDown.main_arg2) = m ((c.tc : Thread Cert.EDown.nD Cert.EDown.τ).loc Cert.EDown.main_arg2)
      ∧ r.2.mem ((c.tc : Thread Cert.EDown.nD Cert.EDown.τ).loc Cert.EDown.main_arg3) = m ((c.tc : Thread Cert.EDown.nD Cert.EDown.τ).loc Cert.EDown.main_arg3)
      ∧ r.2.mem ((c.tc : Thread Cert.EDown.nD Cert.EDown.τ).loc Cert.EDown.main_arg4) = m ((c.tc : Thread Cert.EDown.nD Cert.EDown.τ).loc Cert.EDown.main_arg4)
      ∧ r.2.mem ((c.tc : Thread Cert.EDown.nD Cert.EDown.τ).loc Cert.EDown.main_arg5) = m ((c.tc : Thread Cert.EDown.nD Cert.EDown.τ).loc Cert.EDown.main_arg5)
      ∧ r.2.mem ((c.tc : Thread Cert.EDown.nD Cert.EDown.τ).loc Cert.EDown.main_arg6) = m ((c.tc : Thread Cert.EDown.nD Cert.EDown.τ).loc Cert.EDown.main_arg6))
      ∧ r.2.sem = fun _ => 0)

def quiescent_EDownIdeal [hEDownIdeal : Cert.EDownIdeal.Facts] [hPre_down_schedule : Cert.Pre_down_schedule.Facts] : Prop :=
  ∀ (m : (ℓ : Loc Cert.EDownIdeal.nD Cert.EDownIdeal.τ Cert.EDownIdeal.sig) → Buf (Elt Ideal) ℓ) (g : Dev Cert.EDownIdeal.nD → PrngReg), Pre_EDownIdeal m →
    θ_run (Cert.EDownIdeal.defs (F := Ideal)) (onTc (τ := Cert.EDownIdeal.τ) (Cert.EDownIdeal.main (F := Ideal))) ⟨m, fun _ => 0, g⟩ (fun r => (∀ c : Dev Cert.EDownIdeal.nD,
      r.2.mem ((c.tc : Thread Cert.EDownIdeal.nD Cert.EDownIdeal.τ).loc Cert.EDownIdeal.main_arg0) = m ((c.tc : Thread Cert.EDownIdeal.nD Cert.EDownIdeal.τ).loc Cert.EDownIdeal.main_arg0)
      ∧ r.2.mem ((c.tc : Thread Cert.EDownIdeal.nD Cert.EDownIdeal.τ).loc Cert.EDownIdeal.main_arg1) = m ((c.tc : Thread Cert.EDownIdeal.nD Cert.EDownIdeal.τ).loc Cert.EDownIdeal.main_arg1)
      ∧ r.2.mem ((c.tc : Thread Cert.EDownIdeal.nD Cert.EDownIdeal.τ).loc Cert.EDownIdeal.main_arg2) = m ((c.tc : Thread Cert.EDownIdeal.nD Cert.EDownIdeal.τ).loc Cert.EDownIdeal.main_arg2)
      ∧ r.2.mem ((c.tc : Thread Cert.EDownIdeal.nD Cert.EDownIdeal.τ).loc Cert.EDownIdeal.main_arg3) = m ((c.tc : Thread Cert.EDownIdeal.nD Cert.EDownIdeal.τ).loc Cert.EDownIdeal.main_arg3)
      ∧ r.2.mem ((c.tc : Thread Cert.EDownIdeal.nD Cert.EDownIdeal.τ).loc Cert.EDownIdeal.main_arg4) = m ((c.tc : Thread Cert.EDownIdeal.nD Cert.EDownIdeal.τ).loc Cert.EDownIdeal.main_arg4)
      ∧ r.2.mem ((c.tc : Thread Cert.EDownIdeal.nD Cert.EDownIdeal.τ).loc Cert.EDownIdeal.main_arg5) = m ((c.tc : Thread Cert.EDownIdeal.nD Cert.EDownIdeal.τ).loc Cert.EDownIdeal.main_arg5)
      ∧ r.2.mem ((c.tc : Thread Cert.EDownIdeal.nD Cert.EDownIdeal.τ).loc Cert.EDownIdeal.main_arg6) = m ((c.tc : Thread Cert.EDownIdeal.nD Cert.EDownIdeal.τ).loc Cert.EDownIdeal.main_arg6))
      ∧ r.2.sem = fun _ => 0)

def quiescent_EDownRefIdeal [hEDownRefIdeal : Cert.EDownRefIdeal.Facts] [hPre_down_schedule : Cert.Pre_down_schedule.Facts] : Prop :=
  ∀ (m : (ℓ : Loc Cert.EDownRefIdeal.nD Cert.EDownRefIdeal.τ Cert.EDownRefIdeal.sig) → Buf (Elt Ideal) ℓ) (g : Dev Cert.EDownRefIdeal.nD → PrngReg), Pre_EDownRefIdeal m →
    θ_run (Cert.EDownRefIdeal.defs (F := Ideal)) (onTc (τ := Cert.EDownRefIdeal.τ) (Cert.EDownRefIdeal.main (F := Ideal))) ⟨m, fun _ => 0, g⟩ (fun r => (∀ c : Dev Cert.EDownRefIdeal.nD,
      r.2.mem ((c.tc : Thread Cert.EDownRefIdeal.nD Cert.EDownRefIdeal.τ).loc Cert.EDownRefIdeal.main_arg0) = m ((c.tc : Thread Cert.EDownRefIdeal.nD Cert.EDownRefIdeal.τ).loc Cert.EDownRefIdeal.main_arg0)
      ∧ r.2.mem ((c.tc : Thread Cert.EDownRefIdeal.nD Cert.EDownRefIdeal.τ).loc Cert.EDownRefIdeal.main_arg1) = m ((c.tc : Thread Cert.EDownRefIdeal.nD Cert.EDownRefIdeal.τ).loc Cert.EDownRefIdeal.main_arg1)
      ∧ r.2.mem ((c.tc : Thread Cert.EDownRefIdeal.nD Cert.EDownRefIdeal.τ).loc Cert.EDownRefIdeal.main_arg2) = m ((c.tc : Thread Cert.EDownRefIdeal.nD Cert.EDownRefIdeal.τ).loc Cert.EDownRefIdeal.main_arg2)
      ∧ r.2.mem ((c.tc : Thread Cert.EDownRefIdeal.nD Cert.EDownRefIdeal.τ).loc Cert.EDownRefIdeal.main_arg3) = m ((c.tc : Thread Cert.EDownRefIdeal.nD Cert.EDownRefIdeal.τ).loc Cert.EDownRefIdeal.main_arg3)
      ∧ r.2.mem ((c.tc : Thread Cert.EDownRefIdeal.nD Cert.EDownRefIdeal.τ).loc Cert.EDownRefIdeal.main_arg4) = m ((c.tc : Thread Cert.EDownRefIdeal.nD Cert.EDownRefIdeal.τ).loc Cert.EDownRefIdeal.main_arg4)
      ∧ r.2.mem ((c.tc : Thread Cert.EDownRefIdeal.nD Cert.EDownRefIdeal.τ).loc Cert.EDownRefIdeal.main_arg5) = m ((c.tc : Thread Cert.EDownRefIdeal.nD Cert.EDownRefIdeal.τ).loc Cert.EDownRefIdeal.main_arg5)
      ∧ r.2.mem ((c.tc : Thread Cert.EDownRefIdeal.nD Cert.EDownRefIdeal.τ).loc Cert.EDownRefIdeal.main_arg6) = m ((c.tc : Thread Cert.EDownRefIdeal.nD Cert.EDownRefIdeal.τ).loc Cert.EDownRefIdeal.main_arg6))
      ∧ r.2.sem = fun _ => 0)

def quiescent_EUp [hEUp : Cert.EUp.Facts] [hPre_up_schedule : Cert.Pre_up_schedule.Facts] : Prop :=
  ∀ (m : (ℓ : Loc Cert.EUp.nD Cert.EUp.τ Cert.EUp.sig) → Buf (Elt Bits) ℓ) (g : Dev Cert.EUp.nD → PrngReg), Pre_EUp m →
    θ_run (Cert.EUp.defs (F := Bits)) (onTc (τ := Cert.EUp.τ) (Cert.EUp.main (F := Bits))) ⟨m, fun _ => 0, g⟩ (fun r => (∀ c : Dev Cert.EUp.nD,
      r.2.mem ((c.tc : Thread Cert.EUp.nD Cert.EUp.τ).loc Cert.EUp.main_arg0) = m ((c.tc : Thread Cert.EUp.nD Cert.EUp.τ).loc Cert.EUp.main_arg0)
      ∧ r.2.mem ((c.tc : Thread Cert.EUp.nD Cert.EUp.τ).loc Cert.EUp.main_arg1) = m ((c.tc : Thread Cert.EUp.nD Cert.EUp.τ).loc Cert.EUp.main_arg1)
      ∧ r.2.mem ((c.tc : Thread Cert.EUp.nD Cert.EUp.τ).loc Cert.EUp.main_arg2) = m ((c.tc : Thread Cert.EUp.nD Cert.EUp.τ).loc Cert.EUp.main_arg2)
      ∧ r.2.mem ((c.tc : Thread Cert.EUp.nD Cert.EUp.τ).loc Cert.EUp.main_arg3) = m ((c.tc : Thread Cert.EUp.nD Cert.EUp.τ).loc Cert.EUp.main_arg3)
      ∧ r.2.mem ((c.tc : Thread Cert.EUp.nD Cert.EUp.τ).loc Cert.EUp.main_arg4) = m ((c.tc : Thread Cert.EUp.nD Cert.EUp.τ).loc Cert.EUp.main_arg4)
      ∧ r.2.mem ((c.tc : Thread Cert.EUp.nD Cert.EUp.τ).loc Cert.EUp.main_arg5) = m ((c.tc : Thread Cert.EUp.nD Cert.EUp.τ).loc Cert.EUp.main_arg5)
      ∧ r.2.mem ((c.tc : Thread Cert.EUp.nD Cert.EUp.τ).loc Cert.EUp.main_arg6) = m ((c.tc : Thread Cert.EUp.nD Cert.EUp.τ).loc Cert.EUp.main_arg6)
      ∧ r.2.mem ((c.tc : Thread Cert.EUp.nD Cert.EUp.τ).loc Cert.EUp.main_arg7) = m ((c.tc : Thread Cert.EUp.nD Cert.EUp.τ).loc Cert.EUp.main_arg7))
      ∧ r.2.sem = fun _ => 0)

def quiescent_EUpIdeal [hEUpIdeal : Cert.EUpIdeal.Facts] [hPre_up_schedule : Cert.Pre_up_schedule.Facts] : Prop :=
  ∀ (m : (ℓ : Loc Cert.EUpIdeal.nD Cert.EUpIdeal.τ Cert.EUpIdeal.sig) → Buf (Elt Ideal) ℓ) (g : Dev Cert.EUpIdeal.nD → PrngReg), Pre_EUpIdeal m →
    θ_run (Cert.EUpIdeal.defs (F := Ideal)) (onTc (τ := Cert.EUpIdeal.τ) (Cert.EUpIdeal.main (F := Ideal))) ⟨m, fun _ => 0, g⟩ (fun r => (∀ c : Dev Cert.EUpIdeal.nD,
      r.2.mem ((c.tc : Thread Cert.EUpIdeal.nD Cert.EUpIdeal.τ).loc Cert.EUpIdeal.main_arg0) = m ((c.tc : Thread Cert.EUpIdeal.nD Cert.EUpIdeal.τ).loc Cert.EUpIdeal.main_arg0)
      ∧ r.2.mem ((c.tc : Thread Cert.EUpIdeal.nD Cert.EUpIdeal.τ).loc Cert.EUpIdeal.main_arg1) = m ((c.tc : Thread Cert.EUpIdeal.nD Cert.EUpIdeal.τ).loc Cert.EUpIdeal.main_arg1)
      ∧ r.2.mem ((c.tc : Thread Cert.EUpIdeal.nD Cert.EUpIdeal.τ).loc Cert.EUpIdeal.main_arg2) = m ((c.tc : Thread Cert.EUpIdeal.nD Cert.EUpIdeal.τ).loc Cert.EUpIdeal.main_arg2)
      ∧ r.2.mem ((c.tc : Thread Cert.EUpIdeal.nD Cert.EUpIdeal.τ).loc Cert.EUpIdeal.main_arg3) = m ((c.tc : Thread Cert.EUpIdeal.nD Cert.EUpIdeal.τ).loc Cert.EUpIdeal.main_arg3)
      ∧ r.2.mem ((c.tc : Thread Cert.EUpIdeal.nD Cert.EUpIdeal.τ).loc Cert.EUpIdeal.main_arg4) = m ((c.tc : Thread Cert.EUpIdeal.nD Cert.EUpIdeal.τ).loc Cert.EUpIdeal.main_arg4)
      ∧ r.2.mem ((c.tc : Thread Cert.EUpIdeal.nD Cert.EUpIdeal.τ).loc Cert.EUpIdeal.main_arg5) = m ((c.tc : Thread Cert.EUpIdeal.nD Cert.EUpIdeal.τ).loc Cert.EUpIdeal.main_arg5)
      ∧ r.2.mem ((c.tc : Thread Cert.EUpIdeal.nD Cert.EUpIdeal.τ).loc Cert.EUpIdeal.main_arg6) = m ((c.tc : Thread Cert.EUpIdeal.nD Cert.EUpIdeal.τ).loc Cert.EUpIdeal.main_arg6)
      ∧ r.2.mem ((c.tc : Thread Cert.EUpIdeal.nD Cert.EUpIdeal.τ).loc Cert.EUpIdeal.main_arg7) = m ((c.tc : Thread Cert.EUpIdeal.nD Cert.EUpIdeal.τ).loc Cert.EUpIdeal.main_arg7))
      ∧ r.2.sem = fun _ => 0)

def quiescent_EUpRefIdeal [hEUpRefIdeal : Cert.EUpRefIdeal.Facts] [hPre_up_schedule : Cert.Pre_up_schedule.Facts] : Prop :=
  ∀ (m : (ℓ : Loc Cert.EUpRefIdeal.nD Cert.EUpRefIdeal.τ Cert.EUpRefIdeal.sig) → Buf (Elt Ideal) ℓ) (g : Dev Cert.EUpRefIdeal.nD → PrngReg), Pre_EUpRefIdeal m →
    θ_run (Cert.EUpRefIdeal.defs (F := Ideal)) (onTc (τ := Cert.EUpRefIdeal.τ) (Cert.EUpRefIdeal.main (F := Ideal))) ⟨m, fun _ => 0, g⟩ (fun r => (∀ c : Dev Cert.EUpRefIdeal.nD,
      r.2.mem ((c.tc : Thread Cert.EUpRefIdeal.nD Cert.EUpRefIdeal.τ).loc Cert.EUpRefIdeal.main_arg0) = m ((c.tc : Thread Cert.EUpRefIdeal.nD Cert.EUpRefIdeal.τ).loc Cert.EUpRefIdeal.main_arg0)
      ∧ r.2.mem ((c.tc : Thread Cert.EUpRefIdeal.nD Cert.EUpRefIdeal.τ).loc Cert.EUpRefIdeal.main_arg1) = m ((c.tc : Thread Cert.EUpRefIdeal.nD Cert.EUpRefIdeal.τ).loc Cert.EUpRefIdeal.main_arg1)
      ∧ r.2.mem ((c.tc : Thread Cert.EUpRefIdeal.nD Cert.EUpRefIdeal.τ).loc Cert.EUpRefIdeal.main_arg2) = m ((c.tc : Thread Cert.EUpRefIdeal.nD Cert.EUpRefIdeal.τ).loc Cert.EUpRefIdeal.main_arg2)
      ∧ r.2.mem ((c.tc : Thread Cert.EUpRefIdeal.nD Cert.EUpRefIdeal.τ).loc Cert.EUpRefIdeal.main_arg3) = m ((c.tc : Thread Cert.EUpRefIdeal.nD Cert.EUpRefIdeal.τ).loc Cert.EUpRefIdeal.main_arg3)
      ∧ r.2.mem ((c.tc : Thread Cert.EUpRefIdeal.nD Cert.EUpRefIdeal.τ).loc Cert.EUpRefIdeal.main_arg4) = m ((c.tc : Thread Cert.EUpRefIdeal.nD Cert.EUpRefIdeal.τ).loc Cert.EUpRefIdeal.main_arg4)
      ∧ r.2.mem ((c.tc : Thread Cert.EUpRefIdeal.nD Cert.EUpRefIdeal.τ).loc Cert.EUpRefIdeal.main_arg5) = m ((c.tc : Thread Cert.EUpRefIdeal.nD Cert.EUpRefIdeal.τ).loc Cert.EUpRefIdeal.main_arg5)
      ∧ r.2.mem ((c.tc : Thread Cert.EUpRefIdeal.nD Cert.EUpRefIdeal.τ).loc Cert.EUpRefIdeal.main_arg6) = m ((c.tc : Thread Cert.EUpRefIdeal.nD Cert.EUpRefIdeal.τ).loc Cert.EUpRefIdeal.main_arg6)
      ∧ r.2.mem ((c.tc : Thread Cert.EUpRefIdeal.nD Cert.EUpRefIdeal.τ).loc Cert.EUpRefIdeal.main_arg7) = m ((c.tc : Thread Cert.EUpRefIdeal.nD Cert.EUpRefIdeal.τ).loc Cert.EUpRefIdeal.main_arg7))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v41) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)
      ∧ m' ((c.tc : Thread Cert.GeluRefIdeal.nD Cert.GeluRefIdeal.τ).loc Cert.GeluRefIdeal.main_arg3) = m ((c.tc : Thread Cert.GeluIdeal.nD Cert.GeluIdeal.τ).loc Cert.GeluIdeal.main_arg3)) →
    ∃ (v0 : (c : Dev Cert.GeluIdeal.nD) → Buf (Elt Ideal) ((c.tc : Thread Cert.GeluIdeal.nD Cert.GeluIdeal.τ).loc Cert.GeluIdeal.main_v1_0)) (v1 : (c : Dev Cert.GeluIdeal.nD) → Buf (Elt Ideal) ((c.tc : Thread Cert.GeluIdeal.nD Cert.GeluIdeal.τ).loc Cert.GeluIdeal.main_v1_1)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v1_0) = v0 c
          ∧ r.2.mem ((c.tc : Thread Cert.GeluIdeal.nD Cert.GeluIdeal.τ).loc Cert.GeluIdeal.main_v1_1) = v1 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2)
          ∧ r.2.mem ((c.tc : Thread Cert.GeluIdeal.nD Cert.GeluIdeal.τ).loc Cert.GeluIdeal.main_arg3) = m ((c.tc : Thread Cert.GeluIdeal.nD Cert.GeluIdeal.τ).loc Cert.GeluIdeal.main_arg3))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v18) = v0 c
          ∧ r.2.mem ((c.tc : Thread Cert.GeluRefIdeal.nD Cert.GeluRefIdeal.τ).loc Cert.GeluRefIdeal.main_v19) = v1 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2)
          ∧ r.2.mem ((c.tc : Thread Cert.GeluRefIdeal.nD Cert.GeluRefIdeal.τ).loc Cert.GeluRefIdeal.main_arg3) = m' ((c.tc : Thread Cert.GeluRefIdeal.nD Cert.GeluRefIdeal.τ).loc Cert.GeluRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v28) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)
      ∧ m' ((c.tc : Thread Cert.OutBRefIdeal.nD Cert.OutBRefIdeal.τ).loc Cert.OutBRefIdeal.main_arg3) = m ((c.tc : Thread Cert.OutBIdeal.nD Cert.OutBIdeal.τ).loc Cert.OutBIdeal.main_arg3)
      ∧ m' ((c.tc : Thread Cert.OutBRefIdeal.nD Cert.OutBRefIdeal.τ).loc Cert.OutBRefIdeal.main_arg4) = m ((c.tc : Thread Cert.OutBIdeal.nD Cert.OutBIdeal.τ).loc Cert.OutBIdeal.main_arg4)) →
    ∃ (v0 : (c : Dev Cert.OutBIdeal.nD) → Buf (Elt Ideal) ((c.tc : Thread Cert.OutBIdeal.nD Cert.OutBIdeal.τ).loc Cert.OutBIdeal.main_v2_0)) (v1 : (c : Dev Cert.OutBIdeal.nD) → Buf (Elt Ideal) ((c.tc : Thread Cert.OutBIdeal.nD Cert.OutBIdeal.τ).loc Cert.OutBIdeal.main_v2_1)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v2_0) = v0 c
          ∧ r.2.mem ((c.tc : Thread Cert.OutBIdeal.nD Cert.OutBIdeal.τ).loc Cert.OutBIdeal.main_v2_1) = v1 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3)
          ∧ r.2.mem ((c.tc : Thread Cert.OutBIdeal.nD Cert.OutBIdeal.τ).loc Cert.OutBIdeal.main_arg4) = m ((c.tc : Thread Cert.OutBIdeal.nD Cert.OutBIdeal.τ).loc Cert.OutBIdeal.main_arg4))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v28) = v0 c
          ∧ r.2.mem ((c.tc : Thread Cert.OutBRefIdeal.nD Cert.OutBRefIdeal.τ).loc Cert.OutBRefIdeal.main_v29) = v1 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2)
          ∧ r.2.mem ((c.tc : Thread Cert.OutBRefIdeal.nD Cert.OutBRefIdeal.τ).loc Cert.OutBRefIdeal.main_arg3) = m' ((c.tc : Thread Cert.OutBRefIdeal.nD Cert.OutBRefIdeal.τ).loc Cert.OutBRefIdeal.main_arg3)
          ∧ r.2.mem ((c.tc : Thread Cert.OutBRefIdeal.nD Cert.OutBRefIdeal.τ).loc Cert.OutBRefIdeal.main_arg4) = m' ((c.tc : Thread Cert.OutBRefIdeal.nD Cert.OutBRefIdeal.τ).loc Cert.OutBRefIdeal.main_arg4))

def preserves_EDown_EDownIdeal : Prop :=
  True

def algebraic_EDownIdeal_EDownRefIdeal [hEDownIdeal : Cert.EDownIdeal.Facts] [hEDownRefIdeal : Cert.EDownRefIdeal.Facts] [hPre_down_schedule : Cert.Pre_down_schedule.Facts] : Prop :=
  ∀ (m : (ℓ : Loc Cert.EDownIdeal.nD Cert.EDownIdeal.τ Cert.EDownIdeal.sig) → Buf (Elt Ideal) ℓ) (g : Dev Cert.EDownIdeal.nD → PrngReg)
    (m' : (ℓ : Loc Cert.EDownRefIdeal.nD Cert.EDownRefIdeal.τ Cert.EDownRefIdeal.sig) → Buf (Elt Ideal) ℓ) (g' : Dev Cert.EDownRefIdeal.nD → PrngReg), Pre_EDownIdeal m →
    (∀ c : Dev Cert.EDownIdeal.nD,
      m' ((c.tc : Thread Cert.EDownRefIdeal.nD Cert.EDownRefIdeal.τ).loc Cert.EDownRefIdeal.main_arg0) = m ((c.tc : Thread Cert.EDownIdeal.nD Cert.EDownIdeal.τ).loc Cert.EDownIdeal.main_arg0)
      ∧ m' ((c.tc : Thread Cert.EDownRefIdeal.nD Cert.EDownRefIdeal.τ).loc Cert.EDownRefIdeal.main_arg1) = m ((c.tc : Thread Cert.EDownIdeal.nD Cert.EDownIdeal.τ).loc Cert.EDownIdeal.main_arg1)
      ∧ m' ((c.tc : Thread Cert.EDownRefIdeal.nD Cert.EDownRefIdeal.τ).loc Cert.EDownRefIdeal.main_arg2) = m ((c.tc : Thread Cert.EDownIdeal.nD Cert.EDownIdeal.τ).loc Cert.EDownIdeal.main_arg2)
      ∧ m' ((c.tc : Thread Cert.EDownRefIdeal.nD Cert.EDownRefIdeal.τ).loc Cert.EDownRefIdeal.main_arg3) = m ((c.tc : Thread Cert.EDownIdeal.nD Cert.EDownIdeal.τ).loc Cert.EDownIdeal.main_arg3)
      ∧ m' ((c.tc : Thread Cert.EDownRefIdeal.nD Cert.EDownRefIdeal.τ).loc Cert.EDownRefIdeal.main_arg4) = m ((c.tc : Thread Cert.EDownIdeal.nD Cert.EDownIdeal.τ).loc Cert.EDownIdeal.main_arg4)
      ∧ m' ((c.tc : Thread Cert.EDownRefIdeal.nD Cert.EDownRefIdeal.τ).loc Cert.EDownRefIdeal.main_arg5) = m ((c.tc : Thread Cert.EDownIdeal.nD Cert.EDownIdeal.τ).loc Cert.EDownIdeal.main_arg5)
      ∧ m' ((c.tc : Thread Cert.EDownRefIdeal.nD Cert.EDownRefIdeal.τ).loc Cert.EDownRefIdeal.main_arg6) = m ((c.tc : Thread Cert.EDownIdeal.nD Cert.EDownIdeal.τ).loc Cert.EDownIdeal.main_arg6)) →
    ∃ (v0 : (c : Dev Cert.EDownIdeal.nD) → Buf (Elt Ideal) ((c.tc : Thread Cert.EDownIdeal.nD Cert.EDownIdeal.τ).loc Cert.EDownIdeal.main_v0)),
      θ_run (Cert.EDownIdeal.defs (F := Ideal)) (onTc (τ := Cert.EDownIdeal.τ) (Cert.EDownIdeal.main (F := Ideal))) ⟨m, fun _ => 0, g⟩ (fun r => ∀ c : Dev Cert.EDownIdeal.nD,
          r.2.mem ((c.tc : Thread Cert.EDownIdeal.nD Cert.EDownIdeal.τ).loc Cert.EDownIdeal.main_v0) = v0 c
          ∧ r.2.mem ((c.tc : Thread Cert.EDownIdeal.nD Cert.EDownIdeal.τ).loc Cert.EDownIdeal.main_arg0) = m ((c.tc : Thread Cert.EDownIdeal.nD Cert.EDownIdeal.τ).loc Cert.EDownIdeal.main_arg0)
          ∧ r.2.mem ((c.tc : Thread Cert.EDownIdeal.nD Cert.EDownIdeal.τ).loc Cert.EDownIdeal.main_arg1) = m ((c.tc : Thread Cert.EDownIdeal.nD Cert.EDownIdeal.τ).loc Cert.EDownIdeal.main_arg1)
          ∧ r.2.mem ((c.tc : Thread Cert.EDownIdeal.nD Cert.EDownIdeal.τ).loc Cert.EDownIdeal.main_arg2) = m ((c.tc : Thread Cert.EDownIdeal.nD Cert.EDownIdeal.τ).loc Cert.EDownIdeal.main_arg2)
          ∧ r.2.mem ((c.tc : Thread Cert.EDownIdeal.nD Cert.EDownIdeal.τ).loc Cert.EDownIdeal.main_arg3) = m ((c.tc : Thread Cert.EDownIdeal.nD Cert.EDownIdeal.τ).loc Cert.EDownIdeal.main_arg3)
          ∧ r.2.mem ((c.tc : Thread Cert.EDownIdeal.nD Cert.EDownIdeal.τ).loc Cert.EDownIdeal.main_arg4) = m ((c.tc : Thread Cert.EDownIdeal.nD Cert.EDownIdeal.τ).loc Cert.EDownIdeal.main_arg4)
          ∧ r.2.mem ((c.tc : Thread Cert.EDownIdeal.nD Cert.EDownIdeal.τ).loc Cert.EDownIdeal.main_arg5) = m ((c.tc : Thread Cert.EDownIdeal.nD Cert.EDownIdeal.τ).loc Cert.EDownIdeal.main_arg5)
          ∧ r.2.mem ((c.tc : Thread Cert.EDownIdeal.nD Cert.EDownIdeal.τ).loc Cert.EDownIdeal.main_arg6) = m ((c.tc : Thread Cert.EDownIdeal.nD Cert.EDownIdeal.τ).loc Cert.EDownIdeal.main_arg6))
      ∧ θ_run (Cert.EDownRefIdeal.defs (F := Ideal)) (onTc (τ := Cert.EDownRefIdeal.τ) (Cert.EDownRefIdeal.main (F := Ideal))) ⟨m', fun _ => 0, g'⟩ (fun r => ∀ c : Dev Cert.EDownRefIdeal.nD,
          r.2.mem ((c.tc : Thread Cert.EDownRefIdeal.nD Cert.EDownRefIdeal.τ).loc Cert.EDownRefIdeal.main_v69) = v0 c
          ∧ r.2.mem ((c.tc : Thread Cert.EDownRefIdeal.nD Cert.EDownRefIdeal.τ).loc Cert.EDownRefIdeal.main_arg0) = m' ((c.tc : Thread Cert.EDownRefIdeal.nD Cert.EDownRefIdeal.τ).loc Cert.EDownRefIdeal.main_arg0)
          ∧ r.2.mem ((c.tc : Thread Cert.EDownRefIdeal.nD Cert.EDownRefIdeal.τ).loc Cert.EDownRefIdeal.main_arg1) = m' ((c.tc : Thread Cert.EDownRefIdeal.nD Cert.EDownRefIdeal.τ).loc Cert.EDownRefIdeal.main_arg1)
          ∧ r.2.mem ((c.tc : Thread Cert.EDownRefIdeal.nD Cert.EDownRefIdeal.τ).loc Cert.EDownRefIdeal.main_arg2) = m' ((c.tc : Thread Cert.EDownRefIdeal.nD Cert.EDownRefIdeal.τ).loc Cert.EDownRefIdeal.main_arg2)
          ∧ r.2.mem ((c.tc : Thread Cert.EDownRefIdeal.nD Cert.EDownRefIdeal.τ).loc Cert.EDownRefIdeal.main_arg3) = m' ((c.tc : Thread Cert.EDownRefIdeal.nD Cert.EDownRefIdeal.τ).loc Cert.EDownRefIdeal.main_arg3)
          ∧ r.2.mem ((c.tc : Thread Cert.EDownRefIdeal.nD Cert.EDownRefIdeal.τ).loc Cert.EDownRefIdeal.main_arg4) = m' ((c.tc : Thread Cert.EDownRefIdeal.nD Cert.EDownRefIdeal.τ).loc Cert.EDownRefIdeal.main_arg4)
          ∧ r.2.mem ((c.tc : Thread Cert.EDownRefIdeal.nD Cert.EDownRefIdeal.τ).loc Cert.EDownRefIdeal.main_arg5) = m' ((c.tc : Thread Cert.EDownRefIdeal.nD Cert.EDownRefIdeal.τ).loc Cert.EDownRefIdeal.main_arg5)
          ∧ r.2.mem ((c.tc : Thread Cert.EDownRefIdeal.nD Cert.EDownRefIdeal.τ).loc Cert.EDownRefIdeal.main_arg6) = m' ((c.tc : Thread Cert.EDownRefIdeal.nD Cert.EDownRefIdeal.τ).loc Cert.EDownRefIdeal.main_arg6))

def preserves_EUp_EUpIdeal : Prop :=
  True

def algebraic_EUpIdeal_EUpRefIdeal [hEUpIdeal : Cert.EUpIdeal.Facts] [hEUpRefIdeal : Cert.EUpRefIdeal.Facts] [hPre_up_schedule : Cert.Pre_up_schedule.Facts] : Prop :=
  ∀ (m : (ℓ : Loc Cert.EUpIdeal.nD Cert.EUpIdeal.τ Cert.EUpIdeal.sig) → Buf (Elt Ideal) ℓ) (g : Dev Cert.EUpIdeal.nD → PrngReg)
    (m' : (ℓ : Loc Cert.EUpRefIdeal.nD Cert.EUpRefIdeal.τ Cert.EUpRefIdeal.sig) → Buf (Elt Ideal) ℓ) (g' : Dev Cert.EUpRefIdeal.nD → PrngReg), Pre_EUpIdeal m →
    (∀ c : Dev Cert.EUpIdeal.nD,
      m' ((c.tc : Thread Cert.EUpRefIdeal.nD Cert.EUpRefIdeal.τ).loc Cert.EUpRefIdeal.main_arg0) = m ((c.tc : Thread Cert.EUpIdeal.nD Cert.EUpIdeal.τ).loc Cert.EUpIdeal.main_arg0)
      ∧ m' ((c.tc : Thread Cert.EUpRefIdeal.nD Cert.EUpRefIdeal.τ).loc Cert.EUpRefIdeal.main_arg1) = m ((c.tc : Thread Cert.EUpIdeal.nD Cert.EUpIdeal.τ).loc Cert.EUpIdeal.main_arg1)
      ∧ m' ((c.tc : Thread Cert.EUpRefIdeal.nD Cert.EUpRefIdeal.τ).loc Cert.EUpRefIdeal.main_arg2) = m ((c.tc : Thread Cert.EUpIdeal.nD Cert.EUpIdeal.τ).loc Cert.EUpIdeal.main_arg2)
      ∧ m' ((c.tc : Thread Cert.EUpRefIdeal.nD Cert.EUpRefIdeal.τ).loc Cert.EUpRefIdeal.main_arg3) = m ((c.tc : Thread Cert.EUpIdeal.nD Cert.EUpIdeal.τ).loc Cert.EUpIdeal.main_arg3)
      ∧ m' ((c.tc : Thread Cert.EUpRefIdeal.nD Cert.EUpRefIdeal.τ).loc Cert.EUpRefIdeal.main_arg4) = m ((c.tc : Thread Cert.EUpIdeal.nD Cert.EUpIdeal.τ).loc Cert.EUpIdeal.main_arg4)
      ∧ m' ((c.tc : Thread Cert.EUpRefIdeal.nD Cert.EUpRefIdeal.τ).loc Cert.EUpRefIdeal.main_arg5) = m ((c.tc : Thread Cert.EUpIdeal.nD Cert.EUpIdeal.τ).loc Cert.EUpIdeal.main_arg5)
      ∧ m' ((c.tc : Thread Cert.EUpRefIdeal.nD Cert.EUpRefIdeal.τ).loc Cert.EUpRefIdeal.main_arg6) = m ((c.tc : Thread Cert.EUpIdeal.nD Cert.EUpIdeal.τ).loc Cert.EUpIdeal.main_arg6)
      ∧ m' ((c.tc : Thread Cert.EUpRefIdeal.nD Cert.EUpRefIdeal.τ).loc Cert.EUpRefIdeal.main_arg7) = m ((c.tc : Thread Cert.EUpIdeal.nD Cert.EUpIdeal.τ).loc Cert.EUpIdeal.main_arg7)) →
    ∃ (v0 : (c : Dev Cert.EUpIdeal.nD) → Buf (Elt Ideal) ((c.tc : Thread Cert.EUpIdeal.nD Cert.EUpIdeal.τ).loc Cert.EUpIdeal.main_v0)),
      θ_run (Cert.EUpIdeal.defs (F := Ideal)) (onTc (τ := Cert.EUpIdeal.τ) (Cert.EUpIdeal.main (F := Ideal))) ⟨m, fun _ => 0, g⟩ (fun r => ∀ c : Dev Cert.EUpIdeal.nD,
          r.2.mem ((c.tc : Thread Cert.EUpIdeal.nD Cert.EUpIdeal.τ).loc Cert.EUpIdeal.main_v0) = v0 c
          ∧ r.2.mem ((c.tc : Thread Cert.EUpIdeal.nD Cert.EUpIdeal.τ).loc Cert.EUpIdeal.main_arg0) = m ((c.tc : Thread Cert.EUpIdeal.nD Cert.EUpIdeal.τ).loc Cert.EUpIdeal.main_arg0)
          ∧ r.2.mem ((c.tc : Thread Cert.EUpIdeal.nD Cert.EUpIdeal.τ).loc Cert.EUpIdeal.main_arg1) = m ((c.tc : Thread Cert.EUpIdeal.nD Cert.EUpIdeal.τ).loc Cert.EUpIdeal.main_arg1)
          ∧ r.2.mem ((c.tc : Thread Cert.EUpIdeal.nD Cert.EUpIdeal.τ).loc Cert.EUpIdeal.main_arg2) = m ((c.tc : Thread Cert.EUpIdeal.nD Cert.EUpIdeal.τ).loc Cert.EUpIdeal.main_arg2)
          ∧ r.2.mem ((c.tc : Thread Cert.EUpIdeal.nD Cert.EUpIdeal.τ).loc Cert.EUpIdeal.main_arg3) = m ((c.tc : Thread Cert.EUpIdeal.nD Cert.EUpIdeal.τ).loc Cert.EUpIdeal.main_arg3)
          ∧ r.2.mem ((c.tc : Thread Cert.EUpIdeal.nD Cert.EUpIdeal.τ).loc Cert.EUpIdeal.main_arg4) = m ((c.tc : Thread Cert.EUpIdeal.nD Cert.EUpIdeal.τ).loc Cert.EUpIdeal.main_arg4)
          ∧ r.2.mem ((c.tc : Thread Cert.EUpIdeal.nD Cert.EUpIdeal.τ).loc Cert.EUpIdeal.main_arg5) = m ((c.tc : Thread Cert.EUpIdeal.nD Cert.EUpIdeal.τ).loc Cert.EUpIdeal.main_arg5)
          ∧ r.2.mem ((c.tc : Thread Cert.EUpIdeal.nD Cert.EUpIdeal.τ).loc Cert.EUpIdeal.main_arg6) = m ((c.tc : Thread Cert.EUpIdeal.nD Cert.EUpIdeal.τ).loc Cert.EUpIdeal.main_arg6)
          ∧ r.2.mem ((c.tc : Thread Cert.EUpIdeal.nD Cert.EUpIdeal.τ).loc Cert.EUpIdeal.main_arg7) = m ((c.tc : Thread Cert.EUpIdeal.nD Cert.EUpIdeal.τ).loc Cert.EUpIdeal.main_arg7))
      ∧ θ_run (Cert.EUpRefIdeal.defs (F := Ideal)) (onTc (τ := Cert.EUpRefIdeal.τ) (Cert.EUpRefIdeal.main (F := Ideal))) ⟨m', fun _ => 0, g'⟩ (fun r => ∀ c : Dev Cert.EUpRefIdeal.nD,
          r.2.mem ((c.tc : Thread Cert.EUpRefIdeal.nD Cert.EUpRefIdeal.τ).loc Cert.EUpRefIdeal.main_v109) = v0 c
          ∧ r.2.mem ((c.tc : Thread Cert.EUpRefIdeal.nD Cert.EUpRefIdeal.τ).loc Cert.EUpRefIdeal.main_arg0) = m' ((c.tc : Thread Cert.EUpRefIdeal.nD Cert.EUpRefIdeal.τ).loc Cert.EUpRefIdeal.main_arg0)
          ∧ r.2.mem ((c.tc : Thread Cert.EUpRefIdeal.nD Cert.EUpRefIdeal.τ).loc Cert.EUpRefIdeal.main_arg1) = m' ((c.tc : Thread Cert.EUpRefIdeal.nD Cert.EUpRefIdeal.τ).loc Cert.EUpRefIdeal.main_arg1)
          ∧ r.2.mem ((c.tc : Thread Cert.EUpRefIdeal.nD Cert.EUpRefIdeal.τ).loc Cert.EUpRefIdeal.main_arg2) = m' ((c.tc : Thread Cert.EUpRefIdeal.nD Cert.EUpRefIdeal.τ).loc Cert.EUpRefIdeal.main_arg2)
          ∧ r.2.mem ((c.tc : Thread Cert.EUpRefIdeal.nD Cert.EUpRefIdeal.τ).loc Cert.EUpRefIdeal.main_arg3) = m' ((c.tc : Thread Cert.EUpRefIdeal.nD Cert.EUpRefIdeal.τ).loc Cert.EUpRefIdeal.main_arg3)
          ∧ r.2.mem ((c.tc : Thread Cert.EUpRefIdeal.nD Cert.EUpRefIdeal.τ).loc Cert.EUpRefIdeal.main_arg4) = m' ((c.tc : Thread Cert.EUpRefIdeal.nD Cert.EUpRefIdeal.τ).loc Cert.EUpRefIdeal.main_arg4)
          ∧ r.2.mem ((c.tc : Thread Cert.EUpRefIdeal.nD Cert.EUpRefIdeal.τ).loc Cert.EUpRefIdeal.main_arg5) = m' ((c.tc : Thread Cert.EUpRefIdeal.nD Cert.EUpRefIdeal.τ).loc Cert.EUpRefIdeal.main_arg5)
          ∧ r.2.mem ((c.tc : Thread Cert.EUpRefIdeal.nD Cert.EUpRefIdeal.τ).loc Cert.EUpRefIdeal.main_arg6) = m' ((c.tc : Thread Cert.EUpRefIdeal.nD Cert.EUpRefIdeal.τ).loc Cert.EUpRefIdeal.main_arg6)
          ∧ r.2.mem ((c.tc : Thread Cert.EUpRefIdeal.nD Cert.EUpRefIdeal.τ).loc Cert.EUpRefIdeal.main_arg7) = m' ((c.tc : Thread Cert.EUpRefIdeal.nD Cert.EUpRefIdeal.τ).loc Cert.EUpRefIdeal.main_arg7))

def Claim : Prop :=
  ∃ (hGate : Cert.Gate.Facts) (hGateIdeal : Cert.GateIdeal.Facts) (hGateRefIdeal : Cert.GateRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hGelu : Cert.Gelu.Facts) (hGeluIdeal : Cert.GeluIdeal.Facts) (hGeluRefIdeal : Cert.GeluRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hOutB : Cert.OutB.Facts) (hOutBIdeal : Cert.OutBIdeal.Facts) (hOutBRefIdeal : Cert.OutBRefIdeal.Facts) (hEDown : Cert.EDown.Facts) (hEDownIdeal : Cert.EDownIdeal.Facts) (hEDownRefIdeal : Cert.EDownRefIdeal.Facts) (hEUp : Cert.EUp.Facts) (hEUpIdeal : Cert.EUpIdeal.Facts) (hEUpRefIdeal : Cert.EUpRefIdeal.Facts) (hPre_down_schedule : Cert.Pre_down_schedule.Facts) (hPre_up_schedule : Cert.Pre_up_schedule.Facts),
    quiescent_Gate (hGate := hGate)
    ∧ quiescent_GateIdeal (hGateIdeal := hGateIdeal)
    ∧ quiescent_GateRefIdeal (hGateRefIdeal := hGateRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Gelu (hGelu := hGelu)
    ∧ quiescent_GeluIdeal (hGeluIdeal := hGeluIdeal)
    ∧ quiescent_GeluRefIdeal (hGeluRefIdeal := hGeluRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_OutB (hOutB := hOutB)
    ∧ quiescent_OutBIdeal (hOutBIdeal := hOutBIdeal)
    ∧ quiescent_OutBRefIdeal (hOutBRefIdeal := hOutBRefIdeal)
    ∧ quiescent_EDown (hEDown := hEDown) (hPre_down_schedule := hPre_down_schedule)
    ∧ quiescent_EDownIdeal (hEDownIdeal := hEDownIdeal) (hPre_down_schedule := hPre_down_schedule)
    ∧ quiescent_EDownRefIdeal (hEDownRefIdeal := hEDownRefIdeal) (hPre_down_schedule := hPre_down_schedule)
    ∧ quiescent_EUp (hEUp := hEUp) (hPre_up_schedule := hPre_up_schedule)
    ∧ quiescent_EUpIdeal (hEUpIdeal := hEUpIdeal) (hPre_up_schedule := hPre_up_schedule)
    ∧ quiescent_EUpRefIdeal (hEUpRefIdeal := hEUpRefIdeal) (hPre_up_schedule := hPre_up_schedule)
    ∧ preserves_Gate_GateIdeal
    ∧ algebraic_GateIdeal_GateRefIdeal (hGateIdeal := hGateIdeal) (hGateRefIdeal := hGateRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Gelu_GeluIdeal
    ∧ algebraic_GeluIdeal_GeluRefIdeal (hGeluIdeal := hGeluIdeal) (hGeluRefIdeal := hGeluRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_OutB_OutBIdeal
    ∧ algebraic_OutBIdeal_OutBRefIdeal (hOutBIdeal := hOutBIdeal) (hOutBRefIdeal := hOutBRefIdeal)
    ∧ preserves_EDown_EDownIdeal
    ∧ algebraic_EDownIdeal_EDownRefIdeal (hEDownIdeal := hEDownIdeal) (hEDownRefIdeal := hEDownRefIdeal) (hPre_down_schedule := hPre_down_schedule)
    ∧ preserves_EUp_EUpIdeal
    ∧ algebraic_EUpIdeal_EUpRefIdeal (hEUpIdeal := hEUpIdeal) (hEUpRefIdeal := hEUpRefIdeal) (hPre_up_schedule := hPre_up_schedule)
-- ==== Pre_down_schedule.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x40 : Shape := ⟨2, ![40, 40]⟩
abbrev S_ : Shape := ⟨0, ![]⟩

class Facts : Prop where
  bcast_S1_S40x40_0 : S1.BroadcastsInDim S40x40 (![0] : Fin 1 → Fin S40x40.rank)
  bcast_S40_S40x40_0 : S40.BroadcastsInDim S40x40 (![0] : Fin 1 → Fin S40x40.rank)
  bcast_S_S40x40 : S_.BroadcastsInDim S40x40 (![] : Fin 0 → Fin S40x40.rank)
  bcast_S40_S40x40_1 : S40.BroadcastsInDim S40x40 (![1] : Fin 1 → Fin S40x40.rank)

variable [Facts]

def fn_part4 {F : FTy → Type} [FloatOps F] (main_arg2 : IVec S40 32) (main_arg5 : IVec S40 32) (main_v23 : IVec S40x40 1) (main_v37 : IVec S40x40 1) (main_v70 : IVec S40x40 1) (main_v76 : IVec S40x40 1) (main_v77 : IVec S40x40 32) (main_v78 : IVec S40x40 32) : IVec S40x40 1 :=
  let main_v79 : IVec S40x40 1 := cmpi .eq main_v77 main_v78
  let main_v80 : IVec S40x40 32 := broadcastInDim S40x40 ![0] bcast_S40_S40x40_0 main_arg5
  let main_v81 : IVec S40x40 32 := broadcastInDim S40x40 ![1] bcast_S40_S40x40_1 main_arg2
  let main_v82 : IVec S40x40 1 := cmpi .eq main_v80 main_v81
  let main_v83 : IVec S40x40 1 := andi main_v79 main_v82
  let main_v84 : IVec S40x40 1 := ori main_v76 main_v83
  let main_v85 : IVec S40x40 1 := andi main_v23 main_v37
  let main_v86 : IVec S40x40 1 := andi main_v85 main_v70
  let main_v87 : IVec S40x40 1 := andi main_v86 main_v84
  main_v87

def fn_part3 {F : FTy → Type} [FloatOps F] (main_arg2 : IVec S40 32) (main_arg4 : IVec S40 32) (main_arg5 : IVec S40 32) (main_arg6 : IVec S40 32) (main_v0 : IVec S40x40 32) (main_v1 : IVec S40x40 32) (main_v2 : IVec S40x40 32) (main_v23 : IVec S40x40 1) (main_v37 : IVec S40x40 1) (main_v44 : IVec S40x40 1) (main_v55 : IVec S40x40 1) (main_v58 : IVec S40x40 1) (main_v59 : IVec S40x40 1) : IVec S40x40 1 :=
  let main_v60 : IVec S40x40 1 := ori main_v58 main_v59
  let main_v61 : IVec S40x40 32 := broadcastInDim S40x40 ![1] bcast_S40_S40x40_1 main_arg4
  let main_c_11 : IVec S_ 32 := constantI S_ 32 1#32
  let main_v62 : IVec S40x40 32 := broadcastInDim S40x40 ![] bcast_S_S40x40 main_c_11
  let main_v63 : IVec S40x40 1 := cmpi .eq main_v61 main_v62
  let main_v64 : IVec S40x40 1 := andi main_v63 main_v44
  let main_v65 : IVec S40x40 1 := ori main_v60 main_v64
  let main_v66 : IVec S40x40 32 := broadcastInDim S40x40 ![1] bcast_S40_S40x40_1 main_arg4
  let main_c_12 : IVec S_ 32 := constantI S_ 32 1#32
  let main_v67 : IVec S40x40 32 := broadcastInDim S40x40 ![] bcast_S_S40x40 main_c_12
  let main_v68 : IVec S40x40 1 := cmpi .ne main_v66 main_v67
  let main_v69 : IVec S40x40 1 := andi main_v68 main_v55
  let main_v70 : IVec S40x40 1 := ori main_v65 main_v69
  let main_c_13 : IVec S_ 32 := constantI S_ 32 1#32
  let main_v71 : IVec S40x40 32 := broadcastInDim S40x40 ![] bcast_S_S40x40 main_c_13
  let main_v72 : IVec S40x40 32 := addi main_v0 main_v71
  let main_v73 : IVec S40x40 1 := cmpi .ne main_v72 main_v2
  let main_c_14 : IVec S_ 32 := constantI S_ 32 0#32
  let main_v74 : IVec S40x40 32 := broadcastInDim S40x40 ![] bcast_S_S40x40 main_c_14
  let main_v75 : IVec S40x40 1 := cmpi .ne main_v1 main_v74
  let main_v76 : IVec S40x40 1 := ori main_v73 main_v75
  let main_v77 : IVec S40x40 32 := broadcastInDim S40x40 ![0] bcast_S40_S40x40_0 main_arg6
  let main_c_15 : IVec S_ 32 := constantI S_ 32 1#32
  let main_v78 : IVec S40x40 32 := broadcastInDim S40x40 ![] bcast_S_S40x40 main_c_15
  fn_part4 (F := F) main_arg2 main_arg5 main_v23 main_v37 main_v70 main_v76 main_v77 main_v78

def fn_part2 {F : FTy → Type} [FloatOps F] (main_arg2 : IVec S40 32) (main_arg4 : IVec S40 32) (main_arg5 : IVec S40 32) (main_arg6 : IVec S40 32) (main_v0 : IVec S40x40 32) (main_v1 : IVec S40x40 32) (main_v2 : IVec S40x40 32) (main_v23 : IVec S40x40 1) (main_v37 : IVec S40x40 1) : IVec S40x40 1 :=
  let main_v38 : IVec S40x40 32 := broadcastInDim S40x40 ![0] bcast_S40_S40x40_0 main_arg5
  let main_v39 : IVec S40x40 32 := broadcastInDim S40x40 ![1] bcast_S40_S40x40_1 main_arg2
  let main_v40 : IVec S40x40 1 := cmpi .eq main_v38 main_v39
  let main_v41 : IVec S40x40 32 := broadcastInDim S40x40 ![0] bcast_S40_S40x40_0 main_arg6
  let main_c_9 : IVec S_ 32 := constantI S_ 32 0#32
  let main_v42 : IVec S40x40 32 := broadcastInDim S40x40 ![] bcast_S_S40x40 main_c_9
  let main_v43 : IVec S40x40 1 := cmpi .eq main_v41 main_v42
  let main_v44 : IVec S40x40 1 := andi main_v40 main_v43
  let main_v45 : IVec S40x40 32 := broadcastInDim S40x40 ![1] bcast_S40_S40x40_1 main_arg2
  let main_v46 : IVec S40x40 32 := broadcastInDim S40x40 ![0] bcast_S40_S40x40_0 main_arg2
  let main_v47 : IVec S40x40 1 := cmpi .eq main_v45 main_v46
  let main_v48 : IVec S40x40 32 := broadcastInDim S40x40 ![1] bcast_S40_S40x40_1 main_arg5
  let main_v49 : IVec S40x40 32 := broadcastInDim S40x40 ![0] bcast_S40_S40x40_0 main_arg5
  let main_v50 : IVec S40x40 1 := cmpi .eq main_v48 main_v49
  let main_v51 : IVec S40x40 1 := andi main_v47 main_v50
  let main_v52 : IVec S40x40 32 := broadcastInDim S40x40 ![1] bcast_S40_S40x40_1 main_arg6
  let main_v53 : IVec S40x40 32 := broadcastInDim S40x40 ![0] bcast_S40_S40x40_0 main_arg6
  let main_v54 : IVec S40x40 1 := cmpi .eq main_v52 main_v53
  let main_v55 : IVec S40x40 1 := andi main_v51 main_v54
  let main_c_10 : IVec S_ 32 := constantI S_ 32 1#32
  let main_v56 : IVec S40x40 32 := broadcastInDim S40x40 ![] bcast_S_S40x40 main_c_10
  let main_v57 : IVec S40x40 32 := addi main_v0 main_v56
  let main_v58 : IVec S40x40 1 := cmpi .ne main_v1 main_v57
  let main_v59 : IVec S40x40 1 := cmpi .sge main_v1 main_v2
  fn_part3 (F := F) main_arg2 main_arg4 main_arg5 main_arg6 main_v0 main_v1 main_v2 main_v23 main_v37 main_v44 main_v55 main_v58 main_v59

def fn_part1 {F : FTy → Type} [FloatOps F] (main_arg2 : IVec S40 32) (main_arg4 : IVec S40 32) (main_arg5 : IVec S40 32) (main_arg6 : IVec S40 32) (main_v0 : IVec S40x40 32) (main_v1 : IVec S40x40 32) (main_v2 : IVec S40x40 32) (main_v17 : IVec S40x40 1) (main_v18 : IVec S40x40 32) : IVec S40x40 1 :=
  let main_v19 : IVec S40x40 1 := cmpi .sge main_v2 main_v18
  let main_v20 : IVec S40x40 1 := andi main_v17 main_v19
  let main_c_4 : IVec S_ 32 := constantI S_ 32 40#32
  let main_v21 : IVec S40x40 32 := broadcastInDim S40x40 ![] bcast_S_S40x40 main_c_4
  let main_v22 : IVec S40x40 1 := cmpi .sle main_v2 main_v21
  let main_v23 : IVec S40x40 1 := andi main_v20 main_v22
  let main_v24 : IVec S40x40 32 := broadcastInDim S40x40 ![0] bcast_S40_S40x40_0 main_arg6
  let main_c_5 : IVec S_ 32 := constantI S_ 32 0#32
  let main_v25 : IVec S40x40 32 := broadcastInDim S40x40 ![] bcast_S_S40x40 main_c_5
  let main_v26 : IVec S40x40 1 := cmpi .eq main_v24 main_v25
  let main_v27 : IVec S40x40 32 := broadcastInDim S40x40 ![0] bcast_S40_S40x40_0 main_arg6
  let main_c_6 : IVec S_ 32 := constantI S_ 32 1#32
  let main_v28 : IVec S40x40 32 := broadcastInDim S40x40 ![] bcast_S_S40x40 main_c_6
  let main_v29 : IVec S40x40 1 := cmpi .eq main_v27 main_v28
  let main_v30 : IVec S40x40 1 := ori main_v26 main_v29
  let main_c_7 : IVec S_ 32 := constantI S_ 32 0#32
  let main_v31 : IVec S40x40 32 := broadcastInDim S40x40 ![] bcast_S_S40x40 main_c_7
  let main_v32 : IVec S40x40 1 := cmpi .ne main_v0 main_v31
  let main_v33 : IVec S40x40 32 := broadcastInDim S40x40 ![0] bcast_S40_S40x40_0 main_arg4
  let main_c_8 : IVec S_ 32 := constantI S_ 32 1#32
  let main_v34 : IVec S40x40 32 := broadcastInDim S40x40 ![] bcast_S_S40x40 main_c_8
  let main_v35 : IVec S40x40 1 := cmpi .eq main_v33 main_v34
  let main_v36 : IVec S40x40 1 := ori main_v32 main_v35
  let main_v37 : IVec S40x40 1 := andi main_v30 main_v36
  fn_part2 (F := F) main_arg2 main_arg4 main_arg5 main_arg6 main_v0 main_v1 main_v2 main_v23 main_v37

def fn {F : FTy → Type} [FloatOps F] (main_arg0 : FVec F S20480x4096 .bf16) (main_arg1 : FVec F S8x4096x4096 .f32) (main_arg2 : IVec S40 32) (main_arg3 : IVec S1 32) (main_arg4 : IVec S40 32) (main_arg5 : IVec S40 32) (main_arg6 : IVec S40 32) : IVec S40x40 1 :=
  let main_v0 : IVec S40x40 32 := iotaInDim S40x40 32 0
  let main_v1 : IVec S40x40 32 := iotaInDim S40x40 32 1
  let main_v2 : IVec S40x40 32 := broadcastInDim S40x40 ![0] bcast_S1_S40x40_0 main_arg3
  let main_v3 : IVec S40x40 32 := broadcastInDim S40x40 ![0] bcast_S40_S40x40_0 main_arg2
  let main_c : IVec S_ 32 := constantI S_ 32 0#32
  let main_v4 : IVec S40x40 32 := broadcastInDim S40x40 ![] bcast_S_S40x40 main_c
  let main_v5 : IVec S40x40 1 := cmpi .sge main_v3 main_v4
  let main_v6 : IVec S40x40 32 := broadcastInDim S40x40 ![0] bcast_S40_S40x40_0 main_arg2
  let main_c_0 : IVec S_ 32 := constantI S_ 32 8#32
  let main_v7 : IVec S40x40 32 := broadcastInDim S40x40 ![] bcast_S_S40x40 main_c_0
  let main_v8 : IVec S40x40 1 := cmpi .slt main_v6 main_v7
  let main_v9 : IVec S40x40 1 := andi main_v5 main_v8
  let main_v10 : IVec S40x40 32 := broadcastInDim S40x40 ![0] bcast_S40_S40x40_0 main_arg5
  let main_c_1 : IVec S_ 32 := constantI S_ 32 0#32
  let main_v11 : IVec S40x40 32 := broadcastInDim S40x40 ![] bcast_S_S40x40 main_c_1
  let main_v12 : IVec S40x40 1 := cmpi .sge main_v10 main_v11
  let main_v13 : IVec S40x40 1 := andi main_v9 main_v12
  let main_v14 : IVec S40x40 32 := broadcastInDim S40x40 ![0] bcast_S40_S40x40_0 main_arg5
  let main_c_2 : IVec S_ 32 := constantI S_ 32 8#32
  let main_v15 : IVec S40x40 32 := broadcastInDim S40x40 ![] bcast_S_S40x40 main_c_2
  let main_v16 : IVec S40x40 1 := cmpi .slt main_v14 main_v15
  let main_v17 : IVec S40x40 1 := andi main_v13 main_v16
  let main_c_3 : IVec S_ 32 := constantI S_ 32 1#32
  let main_v18 : IVec S40x40 32 := broadcastInDim S40x40 ![] bcast_S_S40x40 main_c_3
  fn_part1 (F := F) main_arg2 main_arg4 main_arg5 main_arg6 main_v0 main_v1 main_v2 main_v17 main_v18
-- ==== Pre_up_schedule.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x40 : Shape := ⟨2, ![40, 40]⟩
abbrev S_ : Shape := ⟨0, ![]⟩

class Facts : Prop where
  bcast_S1_S40x40_0 : S1.BroadcastsInDim S40x40 (![0] : Fin 1 → Fin S40x40.rank)
  bcast_S40_S40x40_0 : S40.BroadcastsInDim S40x40 (![0] : Fin 1 → Fin S40x40.rank)
  bcast_S_S40x40 : S_.BroadcastsInDim S40x40 (![] : Fin 0 → Fin S40x40.rank)
  bcast_S40_S40x40_1 : S40.BroadcastsInDim S40x40 (![1] : Fin 1 → Fin S40x40.rank)

variable [Facts]

def fn_part4 {F : FTy → Type} [FloatOps F] (main_arg3 : IVec S40 32) (main_arg6 : IVec S40 32) (main_v23 : IVec S40x40 1) (main_v37 : IVec S40x40 1) (main_v70 : IVec S40x40 1) (main_v76 : IVec S40x40 1) (main_v77 : IVec S40x40 32) (main_v78 : IVec S40x40 32) : IVec S40x40 1 :=
  let main_v79 : IVec S40x40 1 := cmpi .eq main_v77 main_v78
  let main_v80 : IVec S40x40 32 := broadcastInDim S40x40 ![0] bcast_S40_S40x40_0 main_arg6
  let main_v81 : IVec S40x40 32 := broadcastInDim S40x40 ![1] bcast_S40_S40x40_1 main_arg3
  let main_v82 : IVec S40x40 1 := cmpi .eq main_v80 main_v81
  let main_v83 : IVec S40x40 1 := andi main_v79 main_v82
  let main_v84 : IVec S40x40 1 := ori main_v76 main_v83
  let main_v85 : IVec S40x40 1 := andi main_v23 main_v37
  let main_v86 : IVec S40x40 1 := andi main_v85 main_v70
  let main_v87 : IVec S40x40 1 := andi main_v86 main_v84
  main_v87

def fn_part3 {F : FTy → Type} [FloatOps F] (main_arg3 : IVec S40 32) (main_arg5 : IVec S40 32) (main_arg6 : IVec S40 32) (main_arg7 : IVec S40 32) (main_v0 : IVec S40x40 32) (main_v1 : IVec S40x40 32) (main_v2 : IVec S40x40 32) (main_v23 : IVec S40x40 1) (main_v37 : IVec S40x40 1) (main_v44 : IVec S40x40 1) (main_v55 : IVec S40x40 1) (main_v58 : IVec S40x40 1) (main_v59 : IVec S40x40 1) : IVec S40x40 1 :=
  let main_v60 : IVec S40x40 1 := ori main_v58 main_v59
  let main_v61 : IVec S40x40 32 := broadcastInDim S40x40 ![1] bcast_S40_S40x40_1 main_arg5
  let main_c_11 : IVec S_ 32 := constantI S_ 32 1#32
  let main_v62 : IVec S40x40 32 := broadcastInDim S40x40 ![] bcast_S_S40x40 main_c_11
  let main_v63 : IVec S40x40 1 := cmpi .eq main_v61 main_v62
  let main_v64 : IVec S40x40 1 := andi main_v63 main_v44
  let main_v65 : IVec S40x40 1 := ori main_v60 main_v64
  let main_v66 : IVec S40x40 32 := broadcastInDim S40x40 ![1] bcast_S40_S40x40_1 main_arg5
  let main_c_12 : IVec S_ 32 := constantI S_ 32 1#32
  let main_v67 : IVec S40x40 32 := broadcastInDim S40x40 ![] bcast_S_S40x40 main_c_12
  let main_v68 : IVec S40x40 1 := cmpi .ne main_v66 main_v67
  let main_v69 : IVec S40x40 1 := andi main_v68 main_v55
  let main_v70 : IVec S40x40 1 := ori main_v65 main_v69
  let main_c_13 : IVec S_ 32 := constantI S_ 32 1#32
  let main_v71 : IVec S40x40 32 := broadcastInDim S40x40 ![] bcast_S_S40x40 main_c_13
  let main_v72 : IVec S40x40 32 := addi main_v0 main_v71
  let main_v73 : IVec S40x40 1 := cmpi .ne main_v72 main_v2
  let main_c_14 : IVec S_ 32 := constantI S_ 32 0#32
  let main_v74 : IVec S40x40 32 := broadcastInDim S40x40 ![] bcast_S_S40x40 main_c_14
  let main_v75 : IVec S40x40 1 := cmpi .ne main_v1 main_v74
  let main_v76 : IVec S40x40 1 := ori main_v73 main_v75
  let main_v77 : IVec S40x40 32 := broadcastInDim S40x40 ![0] bcast_S40_S40x40_0 main_arg7
  let main_c_15 : IVec S_ 32 := constantI S_ 32 1#32
  let main_v78 : IVec S40x40 32 := broadcastInDim S40x40 ![] bcast_S_S40x40 main_c_15
  fn_part4 (F := F) main_arg3 main_arg6 main_v23 main_v37 main_v70 main_v76 main_v77 main_v78

def fn_part2 {F : FTy → Type} [FloatOps F] (main_arg3 : IVec S40 32) (main_arg5 : IVec S40 32) (main_arg6 : IVec S40 32) (main_arg7 : IVec S40 32) (main_v0 : IVec S40x40 32) (main_v1 : IVec S40x40 32) (main_v2 : IVec S40x40 32) (main_v23 : IVec S40x40 1) (main_v37 : IVec S40x40 1) : IVec S40x40 1 :=
  let main_v38 : IVec S40x40 32 := broadcastInDim S40x40 ![0] bcast_S40_S40x40_0 main_arg6
  let main_v39 : IVec S40x40 32 := broadcastInDim S40x40 ![1] bcast_S40_S40x40_1 main_arg3
  let main_v40 : IVec S40x40 1 := cmpi .eq main_v38 main_v39
  let main_v41 : IVec S40x40 32 := broadcastInDim S40x40 ![0] bcast_S40_S40x40_0 main_arg7
  let main_c_9 : IVec S_ 32 := constantI S_ 32 0#32
  let main_v42 : IVec S40x40 32 := broadcastInDim S40x40 ![] bcast_S_S40x40 main_c_9
  let main_v43 : IVec S40x40 1 := cmpi .eq main_v41 main_v42
  let main_v44 : IVec S40x40 1 := andi main_v40 main_v43
  let main_v45 : IVec S40x40 32 := broadcastInDim S40x40 ![1] bcast_S40_S40x40_1 main_arg3
  let main_v46 : IVec S40x40 32 := broadcastInDim S40x40 ![0] bcast_S40_S40x40_0 main_arg3
  let main_v47 : IVec S40x40 1 := cmpi .eq main_v45 main_v46
  let main_v48 : IVec S40x40 32 := broadcastInDim S40x40 ![1] bcast_S40_S40x40_1 main_arg6
  let main_v49 : IVec S40x40 32 := broadcastInDim S40x40 ![0] bcast_S40_S40x40_0 main_arg6
  let main_v50 : IVec S40x40 1 := cmpi .eq main_v48 main_v49
  let main_v51 : IVec S40x40 1 := andi main_v47 main_v50
  let main_v52 : IVec S40x40 32 := broadcastInDim S40x40 ![1] bcast_S40_S40x40_1 main_arg7
  let main_v53 : IVec S40x40 32 := broadcastInDim S40x40 ![0] bcast_S40_S40x40_0 main_arg7
  let main_v54 : IVec S40x40 1 := cmpi .eq main_v52 main_v53
  let main_v55 : IVec S40x40 1 := andi main_v51 main_v54
  let main_c_10 : IVec S_ 32 := constantI S_ 32 1#32
  let main_v56 : IVec S40x40 32 := broadcastInDim S40x40 ![] bcast_S_S40x40 main_c_10
  let main_v57 : IVec S40x40 32 := addi main_v0 main_v56
  let main_v58 : IVec S40x40 1 := cmpi .ne main_v1 main_v57
  let main_v59 : IVec S40x40 1 := cmpi .sge main_v1 main_v2
  fn_part3 (F := F) main_arg3 main_arg5 main_arg6 main_arg7 main_v0 main_v1 main_v2 main_v23 main_v37 main_v44 main_v55 main_v58 main_v59

def fn_part1 {F : FTy → Type} [FloatOps F] (main_arg3 : IVec S40 32) (main_arg5 : IVec S40 32) (main_arg6 : IVec S40 32) (main_arg7 : IVec S40 32) (main_v0 : IVec S40x40 32) (main_v1 : IVec S40x40 32) (main_v2 : IVec S40x40 32) (main_v17 : IVec S40x40 1) (main_v18 : IVec S40x40 32) : IVec S40x40 1 :=
  let main_v19 : IVec S40x40 1 := cmpi .sge main_v2 main_v18
  let main_v20 : IVec S40x40 1 := andi main_v17 main_v19
  let main_c_4 : IVec S_ 32 := constantI S_ 32 40#32
  let main_v21 : IVec S40x40 32 := broadcastInDim S40x40 ![] bcast_S_S40x40 main_c_4
  let main_v22 : IVec S40x40 1 := cmpi .sle main_v2 main_v21
  let main_v23 : IVec S40x40 1 := andi main_v20 main_v22
  let main_v24 : IVec S40x40 32 := broadcastInDim S40x40 ![0] bcast_S40_S40x40_0 main_arg7
  let main_c_5 : IVec S_ 32 := constantI S_ 32 0#32
  let main_v25 : IVec S40x40 32 := broadcastInDim S40x40 ![] bcast_S_S40x40 main_c_5
  let main_v26 : IVec S40x40 1 := cmpi .eq main_v24 main_v25
  let main_v27 : IVec S40x40 32 := broadcastInDim S40x40 ![0] bcast_S40_S40x40_0 main_arg7
  let main_c_6 : IVec S_ 32 := constantI S_ 32 1#32
  let main_v28 : IVec S40x40 32 := broadcastInDim S40x40 ![] bcast_S_S40x40 main_c_6
  let main_v29 : IVec S40x40 1 := cmpi .eq main_v27 main_v28
  let main_v30 : IVec S40x40 1 := ori main_v26 main_v29
  let main_c_7 : IVec S_ 32 := constantI S_ 32 0#32
  let main_v31 : IVec S40x40 32 := broadcastInDim S40x40 ![] bcast_S_S40x40 main_c_7
  let main_v32 : IVec S40x40 1 := cmpi .ne main_v0 main_v31
  let main_v33 : IVec S40x40 32 := broadcastInDim S40x40 ![0] bcast_S40_S40x40_0 main_arg5
  let main_c_8 : IVec S_ 32 := constantI S_ 32 1#32
  let main_v34 : IVec S40x40 32 := broadcastInDim S40x40 ![] bcast_S_S40x40 main_c_8
  let main_v35 : IVec S40x40 1 := cmpi .eq main_v33 main_v34
  let main_v36 : IVec S40x40 1 := ori main_v32 main_v35
  let main_v37 : IVec S40x40 1 := andi main_v30 main_v36
  fn_part2 (F := F) main_arg3 main_arg5 main_arg6 main_arg7 main_v0 main_v1 main_v2 main_v23 main_v37

def fn {F : FTy → Type} [FloatOps F] (main_arg0 : FVec F S20480x4096 .bf16) (main_arg1 : FVec F S8x4096x4096 .f32) (main_arg2 : FVec F S8x4096x4096 .f32) (main_arg3 : IVec S40 32) (main_arg4 : IVec S1 32) (main_arg5 : IVec S40 32) (main_arg6 : IVec S40 32) (main_arg7 : IVec S40 32) : IVec S40x40 1 :=
  let main_v0 : IVec S40x40 32 := iotaInDim S40x40 32 0
  let main_v1 : IVec S40x40 32 := iotaInDim S40x40 32 1
  let main_v2 : IVec S40x40 32 := broadcastInDim S40x40 ![0] bcast_S1_S40x40_0 main_arg4
  let main_v3 : IVec S40x40 32 := broadcastInDim S40x40 ![0] bcast_S40_S40x40_0 main_arg3
  let main_c : IVec S_ 32 := constantI S_ 32 0#32
  let main_v4 : IVec S40x40 32 := broadcastInDim S40x40 ![] bcast_S_S40x40 main_c
  let main_v5 : IVec S40x40 1 := cmpi .sge main_v3 main_v4
  let main_v6 : IVec S40x40 32 := broadcastInDim S40x40 ![0] bcast_S40_S40x40_0 main_arg3
  let main_c_0 : IVec S_ 32 := constantI S_ 32 8#32
  let main_v7 : IVec S40x40 32 := broadcastInDim S40x40 ![] bcast_S_S40x40 main_c_0
  let main_v8 : IVec S40x40 1 := cmpi .slt main_v6 main_v7
  let main_v9 : IVec S40x40 1 := andi main_v5 main_v8
  let main_v10 : IVec S40x40 32 := broadcastInDim S40x40 ![0] bcast_S40_S40x40_0 main_arg6
  let main_c_1 : IVec S_ 32 := constantI S_ 32 0#32
  let main_v11 : IVec S40x40 32 := broadcastInDim S40x40 ![] bcast_S_S40x40 main_c_1
  let main_v12 : IVec S40x40 1 := cmpi .sge main_v10 main_v11
  let main_v13 : IVec S40x40 1 := andi main_v9 main_v12
  let main_v14 : IVec S40x40 32 := broadcastInDim S40x40 ![0] bcast_S40_S40x40_0 main_arg6
  let main_c_2 : IVec S_ 32 := constantI S_ 32 8#32
  let main_v15 : IVec S40x40 32 := broadcastInDim S40x40 ![] bcast_S_S40x40 main_c_2
  let main_v16 : IVec S40x40 1 := cmpi .slt main_v14 main_v15
  let main_v17 : IVec S40x40 1 := andi main_v13 main_v16
  let main_c_3 : IVec S_ 32 := constantI S_ 32 1#32
  let main_v18 : IVec S40x40 32 := broadcastInDim S40x40 ![] bcast_S_S40x40 main_c_3
  fn_part1 (F := F) main_arg3 main_arg5 main_arg6 main_arg7 main_v0 main_v1 main_v2 main_v17 main_v18
-- ==== Gate.lean ====
abbrev S8192x16384 : Shape := ⟨2, ![8192, 16384]⟩
abbrev S8192 : Shape := ⟨1, ![8192]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S128x8 : Shape := ⟨2, ![128, 8]⟩
abbrev S1 : Shape := ⟨1, ![1]⟩
abbrev S1x8192 : Shape := ⟨2, ![1, 8192]⟩
abbrev S8192x8192 : Shape := ⟨2, ![8192, 8192]⟩
abbrev S128x8192 : Shape := ⟨2, ![128, 8192]⟩
abbrev S128 : Shape := ⟨1, ![128]⟩
abbrev S128x1 : Shape := ⟨2, ![128, 1]⟩
abbrev S1x128x128 : Shape := ⟨3, ![1, 128, 128]⟩
abbrev S128x1024 : Shape := ⟨2, ![128, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x16384, .bf16⟩
  | .hbm, ⟨1, _⟩ => ⟨S8192, .f32⟩
  | .hbm, ⟨2, _⟩ => ⟨S8192, .f32⟩
  | .hbm, ⟨3, _⟩ => ⟨S8x128x128, .f32⟩
  | .hbm, ⟨4, _⟩ => ⟨S8x128, .f32⟩
  | .hbm, ⟨5, _⟩ => ⟨S_, .f32⟩
  | .hbm, ⟨6, _⟩ => ⟨S128x128, .f32⟩
  | .hbm, ⟨7, _⟩ => ⟨S128x8, .f32⟩
  | .hbm, ⟨8, _⟩ => ⟨S_, .i32⟩
  | .hbm, ⟨9, _⟩ => ⟨S1, .i32⟩
  | .hbm, ⟨10, _⟩ => ⟨S128x128, .f32⟩
  | .hbm, ⟨11, _⟩ => ⟨S1x8192, .f32⟩
  | .hbm, ⟨12, _⟩ => ⟨S1x8192, .f32⟩
  | .hbm, ⟨13, _⟩ => ⟨S8192x8192, .bf16⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S1x8192, .f32⟩
  | .local _ .vmem, ⟨6, _⟩ => ⟨S8x128x128, .f32⟩
  | .local _ .vmem, ⟨7, _⟩ => ⟨S128x128, .f32⟩
  | .local _ .vmem, ⟨8, _⟩ => ⟨S128x8192, .bf16⟩
  | .local _ .vmem, ⟨9, _⟩ => ⟨S128x8192, .bf16⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S8192x16384 : Shape := ⟨2, ![8192, 16384]⟩
abbrev S8192 : Shape := ⟨1, ![8192]⟩
abbrev S8x128x128 : Shape := ⟨3, ![8, 128, 128]⟩
abbrev S8x128 : Shape := ⟨2, ![8, 128]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩
abbrev S64x128x8x1024 : Shape := ⟨4, ![64, 128, 8, 1024]⟩
abbrev S128x128 : Shape := ⟨2, ![128, 128]⟩
abbrev S1x128x128 : Shape := ⟨3, ![1, 128, 128]⟩
abbrev S8x64x1024x128 : Shape := ⟨4, ![8, 64, 1024, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S8192, .f32⟩
  | .hbm, ⟨2, _⟩ => ⟨S8192, .f32⟩
  | .hbm, ⟨3, _⟩ => ⟨S8x128x128, .f32⟩
  | .hbm, ⟨4, _⟩ => ⟨S8x128, .f32⟩
  | .hbm, ⟨5, _⟩ => ⟨S8192x16384, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S64x128x8x1024, .f32⟩
  | .hbm, ⟨38, _⟩ => ⟨S_, .i1⟩
  | .hbm, ⟨39, _⟩ => ⟨S128x128, .i1⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .i1⟩
  | .hbm, ⟨47, _⟩ => ⟨S128x128, .i1⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S_, .f32⟩
  | .hbm, ⟨52, _⟩ => ⟨S8x128x128, .i1⟩
  | .hbm, ⟨53, _⟩ => ⟨S8x128x128, .f32⟩
  | .hbm, ⟨54, _⟩ => ⟨S8x128x128, .f32⟩
  | .hbm, ⟨55, _⟩ => ⟨S8x64x1024x128, .f32⟩
  | .hbm, ⟨56, _⟩ => ⟨S64x128x8x1024, .f32⟩
  | .hbm, ⟨57, _⟩ => ⟨S128x8, .f32⟩
  | .hbm, ⟨58, _⟩ => ⟨S128x8x1, .f32⟩
  | .hbm, ⟨59, _⟩ => ⟨S1x128x8x1, .f32⟩
  | .hbm, ⟨60, _⟩ => ⟨S64x128x8x1024, .f32⟩
  | .hbm, ⟨61, _⟩ => ⟨S64x128x8x1024, .f32⟩
  | .hbm, ⟨62, _⟩ => ⟨S8192x8192, .f32⟩
  | .hbm, ⟨63, _⟩ => ⟨S8192x8192, .f32⟩
  | .hbm, ⟨64, _⟩ => ⟨S8192x8192, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== In.lean ====
abbrev S1x8192x4096 : Shape := ⟨3, ![1, 8192, 4096]⟩
abbrev S4096x16384 : Shape := ⟨2, ![4096, 16384]⟩
abbrev S8192x4096 : Shape := ⟨2, ![8192, 4096]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4096x16384, .f32⟩
  | .hbm, ⟨2, _⟩ => ⟨S8192x4096, .f32⟩
  | .hbm, ⟨3, _⟩ => ⟨S8192x4096, .bf16⟩
  | .hbm, ⟨4, _⟩ => ⟨S8192x16384, .bf16⟩
  | .local _ .vmem, ⟨0, _⟩ => ⟨S1024x4096, .bf16⟩
  | .local _ .vmem, ⟨1, _⟩ => ⟨S4096x1024, .f32⟩
  | .local _ .vmem, ⟨2, _⟩ => ⟨S4096x1024, .f32⟩
  | .local _ .vmem, ⟨3, _⟩ => ⟨S1024x1024, .bf16⟩
  | .local _ .vmem, ⟨4, _⟩ => ⟨S1024x1024, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S1x8192x4096 : Shape := ⟨3, ![1, 8192, 4096]⟩
abbrev S4096x16384 : Shape := ⟨2, ![4096, 16384]⟩
abbrev S1x8192x16384 : Shape := ⟨3, ![1, 8192, 16384]⟩
abbrev S8192x16384 : Shape := ⟨2, ![8192, 16384]⟩

abbrev nBuf : Space → Nat
  | .hbm => 5
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x16384, .f32⟩
  | .hbm, ⟨2, _⟩ => ⟨S1x8192x16384, .f32⟩
  | .hbm, ⟨3, _⟩ => ⟨S8192x16384, .f32⟩
  | .hbm, ⟨4, _⟩ => ⟨S8192x16384, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S8192x4096 : Shape := ⟨2, ![8192, 4096]⟩
abbrev S4096x14336 : Shape := ⟨2, ![4096, 14336]⟩
abbrev S14336x4096 : Shape := ⟨2, ![14336, 4096]⟩
abbrev S8192x14336 : Shape := ⟨2, ![8192, 14336]⟩
abbrev S1024x4096 : Shape := ⟨2, ![1024, 4096]⟩
abbrev S4096x512 : Shape := ⟨2, ![4096, 512]⟩
abbrev S64x4096 : Shape := ⟨2, ![64, 4096]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S8192x14336, .bf16⟩
  | .hbm, ⟨5, _⟩ => ⟨S14336x4096, .bf16⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S64x4096, .f32⟩
  | .local _ .vmem, ⟨6, _⟩ => ⟨S64x4096, .f32⟩
  | .local _ .vmem, ⟨7, _⟩ => ⟨S1024x512, .bf16⟩
  | .local _ .vmem, ⟨8, _⟩ => ⟨S1024x512, .bf16⟩
  | .local _ .vmem, ⟨9, _⟩ => ⟨S64x4096, .bf16⟩
  | .local _ .vmem, ⟨10, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.muli arg0 c28_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.muli arg0 c28_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x4096 : Shape := ⟨2, ![8192, 4096]⟩
abbrev S4096x14336 : Shape := ⟨2, ![4096, 14336]⟩
abbrev S14336x4096 : Shape := ⟨2, ![14336, 4096]⟩
abbrev S8192x14336 : Shape := ⟨2, ![8192, 14336]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S8192x4096, .f32⟩
  | .hbm, ⟨5, _⟩ => ⟨S8192x14336, .f32⟩
  | .hbm, ⟨6, _⟩ => ⟨S8192x14336, .f32⟩
  | .hbm, ⟨7, _⟩ => ⟨S8192x14336, .f32⟩
  | .hbm, ⟨8, _⟩ => ⟨S_, .f32⟩
  | .hbm, ⟨9, _⟩ => ⟨S8192x14336, .f32⟩
  | .hbm, ⟨10, _⟩ => ⟨S8192x14336, .f32⟩
  | .hbm, ⟨11, _⟩ => ⟨S_, .f32⟩
  | .hbm, ⟨12, _⟩ => ⟨S8192x14336, .f32⟩
  | .hbm, ⟨13, _⟩ => ⟨S8192x14336, .f32⟩
  | .hbm, ⟨14, _⟩ => ⟨S8192x14336, .f32⟩
  | .hbm, ⟨15, _⟩ => ⟨S8192x14336, .f32⟩
  | .hbm, ⟨16, _⟩ => ⟨S8192x14336, .f32⟩
  | .hbm, ⟨17, _⟩ => ⟨S8192x14336, .bf16⟩
  | .hbm, ⟨18, _⟩ => ⟨S14336x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Gelu.lean ====
abbrev S8192x4096 : Shape := ⟨2, ![8192, 4096]⟩
abbrev S4096x16384 : Shape := ⟨2, ![4096, 16384]⟩
abbrev S16384 : Shape := ⟨1, ![16384]⟩
abbrev S1x16384 : Shape := ⟨2, ![1, 16384]⟩
abbrev S8192x16384 : Shape := ⟨2, ![8192, 16384]⟩
abbrev S1024x4096 : Shape := ⟨2, ![1024, 4096]⟩
abbrev S4096x1024 : Shape := ⟨2, ![4096, 1024]⟩
abbrev S1x1024 : Shape := ⟨2, ![1, 1024]⟩
abbrev S64x4096 : Shape := ⟨2, ![64, 4096]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S16384, .f32⟩
  | .hbm, ⟨3, _⟩ => ⟨S8192x4096, .f32⟩
  | .hbm, ⟨4, _⟩ => ⟨S1x16384, .f32⟩
  | .hbm, ⟨5, _⟩ => ⟨S8192x16384, .bf16⟩
  | .hbm, ⟨6, _⟩ => ⟨S8192x4096, .bf16⟩
  | .local _ .vmem, ⟨0, _⟩ => ⟨S1024x4096, .bf16⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S64x4096, .f32⟩
  | .local _ .vmem, ⟨6, _⟩ => ⟨S64x4096, .f32⟩
  | .local _ .vmem, ⟨7, _⟩ => ⟨S1024x1024, .bf16⟩
  | .local _ .vmem, ⟨8, _⟩ => ⟨S1024x1024, .bf16⟩
  | .local _ .vmem, ⟨9, _⟩ => ⟨S64x4096, .bf16⟩
  | .local _ .vmem, ⟨10, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GeluRefIdeal.lean ====
abbrev S8192x4096 : Shape := ⟨2, ![8192, 4096]⟩
abbrev S4096x16384 : Shape := ⟨2, ![4096, 16384]⟩
abbrev S16384 : Shape := ⟨1, ![16384]⟩
abbrev S8192x16384 : Shape := ⟨2, ![8192, 16384]⟩
abbrev S1x16384 : Shape := ⟨2, ![1, 16384]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S16384, .f32⟩
  | .hbm, ⟨3, _⟩ => ⟨S8192x4096, .f32⟩
  | .hbm, ⟨4, _⟩ => ⟨S8192x4096, .f32⟩
  | .hbm, ⟨5, _⟩ => ⟨S8192x16384, .f32⟩
  | .hbm, ⟨6, _⟩ => ⟨S1x16384, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .f32⟩
  | .hbm, ⟨11, _⟩ => ⟨S_, .f32⟩
  | .hbm, ⟨12, _⟩ => ⟨S8192x16384, .f32⟩
  | .hbm, ⟨13, _⟩ => ⟨S8192x16384, .f32⟩
  | .hbm, ⟨14, _⟩ => ⟨S8192x16384, .f32⟩
  | .hbm, ⟨15, _⟩ => ⟨S_, .f32⟩
  | .hbm, ⟨16, _⟩ => ⟨S8192x16384, .f32⟩
  | .hbm, ⟨17, _⟩ => ⟨S8192x16384, .f32⟩
  | .hbm, ⟨18, _⟩ => ⟨S8192x16384, .f32⟩
  | .hbm, ⟨19, _⟩ => ⟨S_, .f32⟩
  | .hbm, ⟨20, _⟩ => ⟨S8192x16384, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S8192x16384, .bf16⟩
  | .hbm, ⟨27, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Out.lean ====
abbrev S8192x8192 : Shape := ⟨2, ![8192, 8192]⟩
abbrev S8192x4096 : Shape := ⟨2, ![8192, 4096]⟩
abbrev S4096 : Shape := ⟨1, ![4096]⟩
abbrev S1x4096 : Shape := ⟨2, ![1, 4096]⟩
abbrev S512x1024 : Shape := ⟨2, ![512, 1024]⟩
abbrev S1024x4096 : Shape := ⟨2, ![1024, 4096]⟩
abbrev S64x4096 : Shape := ⟨2, ![64, 4096]⟩
abbrev S512x4096 : Shape := ⟨2, ![512, 4096]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S64x4096, .f32⟩
  | .local _ .vmem, ⟨5, _⟩ => ⟨S64x4096, .f32⟩
  | .local _ .vmem, ⟨6, _⟩ => ⟨S1x4096, .f32⟩
  | .local _ .vmem, ⟨7, _⟩ => ⟨S1x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .bf16⟩
  | .local _ .vmem, ⟨11, _⟩ => ⟨S64x4096, .bf16⟩
  | .local _ .vmem, ⟨12, _⟩ => ⟨S512x4096, .f32⟩
  | .local _ .vmem, ⟨13, _⟩ => ⟨S512x4096, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def k0_cond3 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 1 := Scalar.andi v7 v21
  let v23 : BitVec 32 := Scalar.extui v22
  let c0_i32_10 : BitVec 32 := 0#32
  let v24 : BitVec 1 := Scalar.cmpi .ne v23 c0_i32_10
  v24

def k0_mult1 (i : grid0.Coords) : BitVec 32 :=
  let arg1 : BitVec 32 := BitVec.ofNat 32 (i 1).val
  let c64_i32 : BitVec 32 := 64#32
  let v42 : BitVec 32 := Scalar.muli arg1 c64_i32
  v42
def k0_off1 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond4 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi arg0 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_17 : BitVec 32 := 1#32
  let v35 : BitVec 1 := Scalar.cmpi .eq v34 c1_i32_17
  let v36 : BitVec 1 := Scalar.andi v7 v35
  let v37 : BitVec 32 := Scalar.extui v36
  let c0_i32_18 : BitVec 32 := 0#32
  let v38 : BitVec 1 := Scalar.cmpi .ne v37 c0_i32_18
  v38

def k0_mult2 (i : grid0.Coords) : BitVec 32 :=
  let arg1 : BitVec 32 := BitVec.ofNat 32 (i 1).val
  let c64_i32 : BitVec 32 := 64#32
  let v42 : BitVec 32 := Scalar.muli arg1 c64_i32
  v42
def k0_off2 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond5 (i : grid0.Coords) : BitVec 1 :=
  let arg0 : BitVec 32 := BitVec.ofNat 32 (i 0).val
  let c16_i32_19 : BitVec 32 := 16#32
  let v39 : BitVec 1 := Scalar.cmpi .eq arg0 c16_i32_19
  let v40 : BitVec 32 := Scalar.extui v39
  let c0_i32_20 : BitVec 32 := 0#32
  let v41 : BitVec 1 := Scalar.cmpi .ne v40 c0_i32_20
  v41

def k0_mult3 (i : grid0.Coords) : BitVec 32 :=
  let arg1 : BitVec 32 := BitVec.ofNat 32 (i 1).val
  let c64_i32 : BitVec 32 := 64#32
  let v42 : BitVec 32 := Scalar.muli arg1 c64_i32
  v42
def k0_off3 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c15_i32_0 : BitVec 32 := 15#32
  let v1 : BitVec 1 := Scalar.cmpi .sle arg0 c15_i32_0
  let c7_i32 : BitVec 32 := 7#32
  let v2 : BitVec 32 := Scalar.select v1 arg1 c7_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sle arg0 c15_i32
  let c7_i32 : BitVec 32 := 7#32
  let v1 : BitVec 32 := Scalar.select v0 arg1 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S8192x8192 : Shape := ⟨2, ![8192, 8192]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Down.lean ====
abbrev S8192x14336 : Shape := ⟨2, ![8192, 14336]⟩
abbrev S14336x4096 : Shape := ⟨2, ![14336, 4096]⟩
abbrev S8192x4096 : Shape := ⟨2, ![8192, 4096]⟩
abbrev S4096 : Shape := ⟨1, ![4096]⟩
abbrev S1x4096 : Shape := ⟨2, ![1, 4096]⟩
abbrev S512x1792 : Shape := ⟨2, ![512, 1792]⟩
abbrev S1792x4096 : Shape := ⟨2, ![1792, 4096]⟩
abbrev S64x4096 : Shape := ⟨2, ![64, 4096]⟩
abbrev S512x4096 : Shape := ⟨2, ![512, 4096]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x14336, .bf16⟩
  | .hbm, ⟨1, _⟩ => ⟨S14336x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x1792, .bf16⟩
  | .local _ .vmem, ⟨1, _⟩ => ⟨S512x1792, .bf16⟩
  | .local _ .vmem, ⟨2, _⟩ => ⟨S1792x4096, .bf16⟩
  | .local _ .vmem, ⟨3, _⟩ => ⟨S1792x4096, .bf16⟩
  | .local _ .vmem, ⟨4, _⟩ => ⟨S64x4096, .f32⟩
  | .local _ .vmem, ⟨5, _⟩ => ⟨S64x4096, .f32⟩
  | .local _ .vmem, ⟨6, _⟩ => ⟨S1x4096, .f32⟩
  | .local _ .vmem, ⟨7, _⟩ => ⟨S1x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .bf16⟩
  | .local _ .vmem, ⟨11, _⟩ => ⟨S64x4096, .bf16⟩
  | .local _ .vmem, ⟨12, _⟩ => ⟨S512x4096, .f32⟩
  | .local _ .vmem, ⟨13, _⟩ => ⟨S512x4096, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def k0_cond3 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 1 := Scalar.andi v7 v21
  let v23 : BitVec 32 := Scalar.extui v22
  let c0_i32_10 : BitVec 32 := 0#32
  let v24 : BitVec 1 := Scalar.cmpi .ne v23 c0_i32_10
  v24

def k0_mult1 (i : grid0.Coords) : BitVec 32 :=
  let arg1 : BitVec 32 := BitVec.ofNat 32 (i 1).val
  let c64_i32 : BitVec 32 := 64#32
  let v42 : BitVec 32 := Scalar.muli arg1 c64_i32
  v42
def k0_off1 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond4 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi arg0 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_17 : BitVec 32 := 1#32
  let v35 : BitVec 1 := Scalar.cmpi .eq v34 c1_i32_17
  let v36 : BitVec 1 := Scalar.andi v7 v35
  let v37 : BitVec 32 := Scalar.extui v36
  let c0_i32_18 : BitVec 32 := 0#32
  let v38 : BitVec 1 := Scalar.cmpi .ne v37 c0_i32_18
  v38

def k0_mult2 (i : grid0.Coords) : BitVec 32 :=
  let arg1 : BitVec 32 := BitVec.ofNat 32 (i 1).val
  let c64_i32 : BitVec 32 := 64#32
  let v42 : BitVec 32 := Scalar.muli arg1 c64_i32
  v42
def k0_off2 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond5 (i : grid0.Coords) : BitVec 1 :=
  let arg0 : BitVec 32 := BitVec.ofNat 32 (i 0).val
  let c16_i32_19 : BitVec 32 := 16#32
  let v39 : BitVec 1 := Scalar.cmpi .eq arg0 c16_i32_19
  let v40 : BitVec 32 := Scalar.extui v39
  let c0_i32_20 : BitVec 32 := 0#32
  let v41 : BitVec 1 := Scalar.cmpi .ne v40 c0_i32_20
  v41

def k0_mult3 (i : grid0.Coords) : BitVec 32 :=
  let arg1 : BitVec 32 := BitVec.ofNat 32 (i 1).val
  let c64_i32 : BitVec 32 := 64#32
  let v42 : BitVec 32 := Scalar.muli arg1 c64_i32
  v42
def k0_off3 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c15_i32_0 : BitVec 32 := 15#32
  let v1 : BitVec 1 := Scalar.cmpi .sle arg0 c15_i32_0
  let c7_i32 : BitVec 32 := 7#32
  let v2 : BitVec 32 := Scalar.select v1 arg1 c7_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sle arg0 c15_i32
  let c7_i32 : BitVec 32 := 7#32
  let v1 : BitVec 32 := Scalar.select v0 arg1 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S8192x14336 : Shape := ⟨2, ![8192, 14336]⟩
abbrev S14336x4096 : Shape := ⟨2, ![14336, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S14336x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x14336, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== OutB.lean ====
abbrev S8192x8192 : Shape := ⟨2, ![8192, 8192]⟩
abbrev S8192x4096 : Shape := ⟨2, ![8192, 4096]⟩
abbrev S4096 : Shape := ⟨1, ![4096]⟩
abbrev S1x4096 : Shape := ⟨2, ![1, 4096]⟩
abbrev S512x1024 : Shape := ⟨2, ![512, 1024]⟩
abbrev S1024x4096 : Shape := ⟨2, ![1024, 4096]⟩
abbrev S64x4096 : Shape := ⟨2, ![64, 4096]⟩
abbrev S512x4096 : Shape := ⟨2, ![512, 4096]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S64x4096, .f32⟩
  | .local _ .vmem, ⟨5, _⟩ => ⟨S64x4096, .f32⟩
  | .local _ .vmem, ⟨6, _⟩ => ⟨S1x4096, .f32⟩
  | .local _ .vmem, ⟨7, _⟩ => ⟨S1x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .bf16⟩
  | .local _ .vmem, ⟨11, _⟩ => ⟨S64x4096, .bf16⟩
  | .local _ .vmem, ⟨12, _⟩ => ⟨S512x4096, .f32⟩
  | .local _ .vmem, ⟨13, _⟩ => ⟨S512x4096, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def k0_cond3 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 1 := Scalar.andi v7 v21
  let v23 : BitVec 32 := Scalar.extui v22
  let c0_i32_10 : BitVec 32 := 0#32
  let v24 : BitVec 1 := Scalar.cmpi .ne v23 c0_i32_10
  v24

def k0_mult1 (i : grid0.Coords) : BitVec 32 :=
  let arg1 : BitVec 32 := BitVec.ofNat 32 (i 1).val
  let c64_i32 : BitVec 32 := 64#32
  let v42 : BitVec 32 := Scalar.muli arg1 c64_i32
  v42
def k0_off1 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond4 (i : grid0.Coords) : BitVec 1 :=
  let arg0 : BitVec 32 := BitVec.ofNat 32 (i 0).val
  let c0_i32_2 : BitVec 32 := 0#32
  let v5 : BitVec 1 := Scalar.cmpi .sgt arg0 c0_i32_2
  let c16_i32 : BitVec 32 := 16#32
  let v6 : BitVec 1 := Scalar.cmpi .slt arg0 c16_i32
  let v7 : BitVec 1 := Scalar.andi v5 v6
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi arg0 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_17 : BitVec 32 := 1#32
  let v35 : BitVec 1 := Scalar.cmpi .eq v34 c1_i32_17
  let v36 : BitVec 1 := Scalar.andi v7 v35
  let v37 : BitVec 32 := Scalar.extui v36
  let c0_i32_18 : BitVec 32 := 0#32
  let v38 : BitVec 1 := Scalar.cmpi .ne v37 c0_i32_18
  v38

def k0_mult2 (i : grid0.Coords) : BitVec 32 :=
  let arg1 : BitVec 32 := BitVec.ofNat 32 (i 1).val
  let c64_i32 : BitVec 32 := 64#32
  let v42 : BitVec 32 := Scalar.muli arg1 c64_i32
  v42
def k0_off2 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def k0_cond5 (i : grid0.Coords) : BitVec 1 :=
  let arg0 : BitVec 32 := BitVec.ofNat 32 (i 0).val
  let c16_i32_19 : BitVec 32 := 16#32
  let v39 : BitVec 1 := Scalar.cmpi .eq arg0 c16_i32_19
  let v40 : BitVec 32 := Scalar.extui v39
  let c0_i32_20 : BitVec 32 := 0#32
  let v41 : BitVec 1 := Scalar.cmpi .ne v40 c0_i32_20
  v41

def k0_mult3 (i : grid0.Coords) : BitVec 32 :=
  let arg1 : BitVec 32 := BitVec.ofNat 32 (i 1).val
  let c64_i32 : BitVec 32 := 64#32
  let v42 : BitVec 32 := Scalar.muli arg1 c64_i32
  v42
def k0_off3 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v47 : Index := Scalar.indexCast v43
  let c0_22 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c15_i32_0 : BitVec 32 := 15#32
  let v1 : BitVec 1 := Scalar.cmpi .sle arg0 c15_i32_0
  let c7_i32 : BitVec 32 := 7#32
  let v2 : BitVec 32 := Scalar.select v1 arg1 c7_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sle arg0 c15_i32
  let c7_i32 : BitVec 32 := 7#32
  let v1 : BitVec 32 := Scalar.select v0 arg1 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.muli v1 c8_i32
  let v3 : BitVec 32 := Scalar.addi v2 arg1
  let c0_i32_0 : BitVec 32 := 0#32
  let v4 : BitVec 32 := Scalar.select v0 c0_i32_0 v3
  let c0_i32_1 : BitVec 32 := 0#32
  let c0_i32_2 : BitVec 32 := 0#32
  ![v4.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutBRefIdeal.lean ====
abbrev S8192x8192 : Shape := ⟨2, ![8192, 8192]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x8192, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== EDown.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S512x4096 : Shape := ⟨2, ![512, 4096]⟩
abbrev S512x1024 : Shape := ⟨2, ![512, 1024]⟩
abbrev S2x1x4096x1024 : Shape := ⟨4, ![2, 1, 4096, 1024]⟩
abbrev S2x1 : Shape := ⟨2, ![2, 1]⟩
abbrev S1x1 : Shape := ⟨2, ![1, 1]⟩
abbrev S_ : Shape := ⟨0, ![]⟩
abbrev S1x1x4096x1024 : Shape := ⟨4, ![1, 1, 4096, 1024]⟩
abbrev S4096x1024 : Shape := ⟨2, ![4096, 1024]⟩
abbrev S1x4096x1024 : Shape := ⟨3, ![1, 4096, 1024]⟩

abbrev nBuf : Space → Nat
  | .hbm => 3
  | .vmem => 5
  | .smem => 6
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S2x1x4096x1024, .f32⟩
  | .local _ .smem, ⟨0, _⟩ => ⟨S40, .i32⟩
  | .local _ .smem, ⟨1, _⟩ => ⟨S1, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev main_arg6 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch2 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨5, ![main_arg2.idx, main_arg3.idx, main_arg4.idx, main_arg5.idx, main_arg6.idx], fun | 0 => main_arg2.names | 1 => main_arg3.names | 2 => main_arg4.names | 3 => main_arg5.names | 4 => main_arg6.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_off1 (v19 : BitVec 32) : Fin 3 → Nat :=
  let c0_i32_14 : BitVec 32 := 0#32
  let c0_i32_15 : BitVec 32 := 0#32
  ![v19.toNat, 0, 0]

def k0_chk1 (i : grid0.Coords) (v19 : BitVec 32) : Prop :=
  (∀ (k0_h1 : k0_cond1 i = 1#1), ∀ a, (k0_off1 v19) a + S1x4096x1024.size a ≤ S8x4096x4096.size a)
theorem k0_off1_inb : ∀ (i : grid0.Coords) (v19 : BitVec 32) (k0_hw1 : k0_chk1 i v19), ∀ (k0_h1 : k0_cond1 i = 1#1), ∀ a, (k0_off1 v19) a + S1x4096x1024.size a ≤ S8x4096x4096.size a := fun i v19 k0_hw1 k0_h1 => k0_hw1 k0_h1

def k0_off2 (i : grid0.Coords) : Fin 1 → Nat :=
  let arg1 : BitVec 32 := BitVec.ofNat 32 (i 1).val
  let v7 : Index := Scalar.indexCast arg1
  ![v7.toNat]
def k0_off3 (i : grid0.Coords) : Fin 1 → Nat :=
  let arg1 : BitVec 32 := BitVec.ofNat 32 (i 1).val
  let v21 : Index := Scalar.indexCast arg1
  ![v21.toNat]
def k0_off4 (v18 : BitVec 32) : Fin 2 → Nat :=
  let c1_i32_6 : BitVec 32 := 1#32
  let v19 : BitVec 32 := Scalar.subi c1_i32_6 v18
  let c0_i32_9 : BitVec 32 := 0#32
  ![v19.toNat, 0]
def k0_cond2 (i : grid0.Coords) (v0 : BitVec 32) (v8 : BitVec 32) : BitVec 1 :=
  let arg1 : BitVec 32 := BitVec.ofNat 32 (i 1).val
  let v1 : BitVec 1 := Scalar.cmpi .slt arg1 v0
  let c1_i32 : BitVec 32 := 1#32
  let v9 : BitVec 1 := Scalar.cmpi .eq v8 c1_i32
  let v10 : BitVec 1 := Scalar.andi v1 v9
  let v11 : BitVec 32 := Scalar.extui v10
  let c0_i32_2 : BitVec 32 := 0#32
  let v12 : BitVec 1 := Scalar.cmpi .ne v11 c0_i32_2
  v12

def k0_off5 (v18 : BitVec 32) : Fin 4 → Nat :=
  let c1_i32_6 : BitVec 32 := 1#32
  let v19 : BitVec 32 := Scalar.subi c1_i32_6 v18
  let c0_i32_8 : BitVec 32 := 0#32
  let c0_i32_10 : BitVec 32 := 0#32
  let c0_i32_11 : BitVec 32 := 0#32
  ![v19.toNat, 0, 0, 0]

def k0_chk2 (i : grid0.Coords) (v0 : BitVec 32) (v8 : BitVec 32) (v18 : BitVec 32) : Prop :=
  (∀ (k0_h2 : k0_cond2 i v0 v8 = 1#1), ∀ a, (k0_off4 v18) a + S1x1.size a ≤ S2x1.size a) ∧
  (∀ (k0_h2 : k0_cond2 i v0 v8 = 1#1), ∀ a, (k0_off5 v18) a + S1x1x4096x1024.size a ≤ S2x1x4096x1024.size a)
theorem k0_off4_inb : ∀ (i : grid0.Coords) (v0 : BitVec 32) (v8 : BitVec 32) (v18 : BitVec 32) (k0_hw2 : k0_chk2 i v0 v8 v18), ∀ (k0_h2 : k0_cond2 i v0 v8 = 1#1), ∀ a, (k0_off4 v18) a + S1x1.size a ≤ S2x1.size a := fun i v0 v8 v18 k0_hw2 k0_h2 => k0_hw2.1 k0_h2
theorem k0_off5_inb : ∀ (i : grid0.Coords) (v0 : BitVec 32) (v8 : BitVec 32) (v18 : BitVec 32) (k0_hw2 : k0_chk2 i v0 v8 v18), ∀ (k0_h2 : k0_cond2 i v0 v8 = 1#1), ∀ a, (k0_off5 v18) a + S1x1x4096x1024.size a ≤ S2x1x4096x1024.size a := fun i v0 v8 v18 k0_hw2 k0_h2 => k0_hw2.2 k0_h2

def k0_off6 (i : grid0.Coords) (v22 : BitVec 32) : Fin 3 → Nat :=
  let c0_i32_12 : BitVec 32 := 0#32
  let arg0 : BitVec 32 := BitVec.ofNat 32 (i 0).val
  let c1024_i32 : BitVec 32 := 1024#32
  let v23 : BitVec 32 := Scalar.muli arg0 c1024_i32
  ![v22.toNat, 0, v23.toNat]

def k0_chk3 (i : grid0.Coords) (v0 : BitVec 32) (v8 : BitVec 32) (v22 : BitVec 32) : Prop :=
  (∀ (k0_h2 : k0_cond2 i v0 v8 = 1#1), ∀ a, (k0_off6 i v22) a + S1x4096x1024.size a ≤ S8x4096x4096.size a)
theorem k0_off6_inb : ∀ (i : grid0.Coords) (v0 : BitVec 32) (v8 : BitVec 32) (v22 : BitVec 32) (k0_hw3 : k0_chk3 i v0 v8 v22), ∀ (k0_h2 : k0_cond2 i v0 v8 = 1#1), ∀ a, (k0_off6 i v22) a + S1x4096x1024.size a ≤ S8x4096x4096.size a := fun i v0 v8 v22 k0_hw3 k0_h2 => k0_hw3 k0_h2

def k0_off7 (i : grid0.Coords) : Fin 1 → Nat :=
  let arg1 : BitVec 32 := BitVec.ofNat 32 (i 1).val
  let v30 : Index := Scalar.indexCast arg1
  ![v30.toNat]
def k0_off8 (i : grid0.Coords) : Fin 1 → Nat :=
  let arg1 : BitVec 32 := BitVec.ofNat 32 (i 1).val
  let v38 : Index := Scalar.indexCast arg1
  ![v38.toNat]
def k0_off9 (v18 : BitVec 32) : Fin 2 → Nat :=
  let c1_i32_16 : BitVec 32 := 1#32
  let c1_i32_6 : BitVec 32 := 1#32
  let v19 : BitVec 32 := Scalar.subi c1_i32_6 v18
  let v43 : BitVec 32 := Scalar.subi c1_i32_16 v19
  let c0_i32_19 : BitVec 32 := 0#32
  ![v43.toNat, 0]
def k0_cond3 (i : grid0.Coords) (v31 : BitVec 32) : BitVec 1 :=
  let c1_i32_13 : BitVec 32 := 1#32
  let v32 : BitVec 1 := Scalar.cmpi .eq v31 c1_i32_13
  let arg0 : BitVec 32 := BitVec.ofNat 32 (i 0).val
  let c3_i32 : BitVec 32 := 3#32
  let v33 : BitVec 1 := Scalar.cmpi .eq arg0 c3_i32
  let v34 : BitVec 1 := Scalar.andi v32 v33
  let true_14 : BitVec 1 := 1#1
  let v35 : BitVec 1 := Scalar.xori v34 true_14
  let v36 : BitVec 32 := Scalar.extui v35
  let c0_i32_15 : BitVec 32 := 0#32
  let v37 : BitVec 1 := Scalar.cmpi .ne v36 c0_i32_15
  v37

def k0_off10 (v18 : BitVec 32) : Fin 4 → Nat :=
  let c1_i32_16 : BitVec 32 := 1#32
  let c1_i32_6 : BitVec 32 := 1#32
  let v19 : BitVec 32 := Scalar.subi c1_i32_6 v18
  let v43 : BitVec 32 := Scalar.subi c1_i32_16 v19
  let c0_i32_18 : BitVec 32 := 0#32
  let c0_i32_20 : BitVec 32 := 0#32
  let c0_i32_21 : BitVec 32 := 0#32
  ![v43.toNat, 0, 0, 0]

def k0_chk4 (i : grid0.Coords) (v0 : BitVec 32) (v8 : BitVec 32) (v18 : BitVec 32) (v31 : BitVec 32) : Prop :=
  (∀ (k0_h2 : k0_cond2 i v0 v8 = 1#1), ∀ (k0_h3 : k0_cond3 i v31 = 1#1), ∀ a, (k0_off9 v18) a + S1x1.size a ≤ S2x1.size a) ∧
  (∀ (k0_h2 : k0_cond2 i v0 v8 = 1#1), ∀ (k0_h3 : k0_cond3 i v31 = 1#1), ∀ a, (k0_off10 v18) a + S1x1x4096x1024.size a ≤ S2x1x4096x1024.size a)
theorem k0_off9_inb : ∀ (i : grid0.Coords) (v0 : BitVec 32) (v8 : BitVec 32) (v18 : BitVec 32) (v31 : BitVec 32) (k0_hw4 : k0_chk4 i v0 v8 v18 v31), ∀ (k0_h2 : k0_cond2 i v0 v8 = 1#1), ∀ (k0_h3 : k0_cond3 i v31 = 1#1), ∀ a, (k0_off9 v18) a + S1x1.size a ≤ S2x1.size a := fun i v0 v8 v18 v31 k0_hw4 k0_h2 k0_h3 => k0_hw4.1 k0_h2 k0_h3
theorem k0_off10_inb : ∀ (i : grid0.Coords) (v0 : BitVec 32) (v8 : BitVec 32) (v18 : BitVec 32) (v31 : BitVec 32) (k0_hw4 : k0_chk4 i v0 v8 v18 v31), ∀ (k0_h2 : k0_cond2 i v0 v8 = 1#1), ∀ (k0_h3 : k0_cond3 i v31 = 1#1), ∀ a, (k0_off10 v18) a + S1x1x4096x1024.size a ≤ S2x1x4096x1024.size a := fun i v0 v8 v18 v31 k0_hw4 k0_h2 k0_h3 => k0_hw4.2 k0_h2 k0_h3

def k0_off11 (i : grid0.Coords) (v39 : BitVec 32) (v41 : BitVec 32) : Fin 3 → Nat :=
  let c0_i32_22 : BitVec 32 := 0#32
  let arg0 : BitVec 32 := BitVec.ofNat 32 (i 0).val
  let v42 : BitVec 32 := Scalar.addi arg0 v41
  let c1024_i32_17 : BitVec 32 := 1024#32
  let v44 : BitVec 32 := Scalar.muli v42 c1024_i32_17
  ![v39.toNat, 0, v44.toNat]

def k0_chk5 (i : grid0.Coords) (v0 : BitVec 32) (v8 : BitVec 32) (v31 : BitVec 32) (v39 : BitVec 32) (v41 : BitVec 32) : Prop :=
  (∀ (k0_h2 : k0_cond2 i v0 v8 = 1#1), ∀ (k0_h3 : k0_cond3 i v31 = 1#1), ∀ a, (k0_off11 i v39 v41) a + S1x4096x1024.size a ≤ S8x4096x4096.size a)
theorem k0_off11_inb : ∀ (i : grid0.Coords) (v0 : BitVec 32) (v8 : BitVec 32) (v31 : BitVec 32) (v39 : BitVec 32) (v41 : BitVec 32) (k0_hw5 : k0_chk5 i v0 v8 v31 v39 v41), ∀ (k0_h2 : k0_cond2 i v0 v8 = 1#1), ∀ (k0_h3 : k0_cond3 i v31 = 1#1), ∀ a, (k0_off11 i v39 v41) a + S1x4096x1024.size a ≤ S8x4096x4096.size a := fun i v0 v8 v31 v39 v41 k0_hw5 k0_h2 k0_h3 => k0_hw5 k0_h2 k0_h3

def k0_off12 (v18 : BitVec 32) : Fin 4 → Nat :=
  let v20 : Index := Scalar.indexCast v18
  let c0_8 : Index := 0#32
  let c0_9 : Index := 0#32
  let c0_10 : Index := 0#32
  ![v20.toNat, 0, 0, 0]
def k0_cond4 (i : grid0.Coords) (v0 : BitVec 32) : BitVec 1 :=
  let arg1 : BitVec 32 := BitVec.ofNat 32 (i 1).val
  let v1 : BitVec 1 := Scalar.cmpi .slt arg1 v0
  let v13 : BitVec 32 := Scalar.extui v1
  let c0_i32_3 : BitVec 32 := 0#32
  let v14 : BitVec 1 := Scalar.cmpi .ne v13 c0_i32_3
  v14

def k0_chk6 (i : grid0.Coords) (v0 : BitVec 32) (v18 : BitVec 32) : Prop :=
  (∀ (k0_h4 : k0_cond4 i v0 = 1#1), ∀ a, (k0_off12 v18) a + S1x1x4096x1024.size a ≤ S2x1x4096x1024.size a)
theorem k0_off12_inb : ∀ (i : grid0.Coords) (v0 : BitVec 32) (v18 : BitVec 32) (k0_hw6 : k0_chk6 i v0 v18), ∀ (k0_h4 : k0_cond4 i v0 = 1#1), ∀ a, (k0_off12 v18) a + S1x1x4096x1024.size a ≤ S2x1x4096x1024.size a := fun i v0 v18 k0_hw6 k0_h4 => k0_hw6 k0_h4

def k0_cond5 (i : grid0.Coords) (v0 : BitVec 32) : BitVec 1 :=
  let arg1 : BitVec 32 := BitVec.ofNat 32 (i 1).val
  let v1 : BitVec 1 := Scalar.cmpi .slt arg1 v0
  let v_true : BitVec 1 := 1#1
  let v15 : BitVec 1 := Scalar.xori v1 v_true
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== EDownRefIdeal.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x1 : Shape := ⟨2, ![40, 1]⟩
abbrev S1x8 : Shape := ⟨2, ![1, 8]⟩
abbrev S40x8 : Shape := ⟨2, ![40, 8]⟩
abbrev S40x1x8 : Shape := ⟨3, ![40, 1, 8]⟩
abbrev S40x512x8 : Shape := ⟨3, ![40, 512, 8]⟩
abbrev S20480x8 : Shape := ⟨2, ![20480, 8]⟩
abbrev S_ : Shape := ⟨0, ![]⟩
abbrev S20480x1 : Shape := ⟨2, ![20480, 1]⟩
abbrev S1x4096x4096 : Shape := ⟨3, ![1, 4096, 4096]⟩
abbrev S4096x4096 : Shape := ⟨2, ![4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S40, .i32⟩
  | .hbm, ⟨3, _⟩ => ⟨S1, .i32⟩
  | .hbm, ⟨4, _⟩ => ⟨S40, .i32⟩
  | .hbm, ⟨5, _⟩ => ⟨S40, .i32⟩
  | .hbm, ⟨6, _⟩ => ⟨S40, .i32⟩
  | .hbm, ⟨7, _⟩ => ⟨S20480x4096, .f32⟩
  | .hbm, ⟨8, _⟩ => ⟨S40x1, .i32⟩
  | .hbm, ⟨9, _⟩ => ⟨S1x8, .i32⟩
  | .hbm, ⟨10, _⟩ => ⟨S40x8, .i32⟩
  | .hbm, ⟨11, _⟩ => ⟨S40x8, .i32⟩
  | .hbm, ⟨12, _⟩ => ⟨S40x8, .i1⟩
  | .hbm, ⟨13, _⟩ => ⟨S40x8, .f32⟩
  | .hbm, ⟨14, _⟩ => ⟨S40, .i32⟩
  | .hbm, ⟨15, _⟩ => ⟨S40, .i32⟩
  | .hbm, ⟨16, _⟩ => ⟨S40, .i1⟩
  | .hbm, ⟨17, _⟩ => ⟨S40x1, .i1⟩
  | .hbm, ⟨18, _⟩ => ⟨S40x1, .f32⟩
  | .hbm, ⟨19, _⟩ => ⟨S40x8, .f32⟩
  | .hbm, ⟨20, _⟩ => ⟨S40x8, .f32⟩
  | .hbm, ⟨21, _⟩ => ⟨S40x1x8, .f32⟩
  | .hbm, ⟨22, _⟩ => ⟨S40x512x8, .f32⟩
  | .hbm, ⟨23, _⟩ => ⟨S20480x8, .f32⟩
  | .hbm, ⟨24, _⟩ => ⟨S_, .f32⟩
  | .hbm, ⟨25, _⟩ => ⟨S20480x4096, .f32⟩
  | .hbm, ⟨26, _⟩ => ⟨S20480x1, .f32⟩
  | .hbm, ⟨27, _⟩ => ⟨S1x4096x4096, .f32⟩
  | .hbm, ⟨28, _⟩ => ⟨S4096x4096, .f32⟩
  | .hbm, ⟨29, _⟩ => ⟨S20480x4096, .f32⟩
  | .hbm, ⟨30, _⟩ => ⟨S20480x4096, .f32⟩
  | .hbm, ⟨31, _⟩ => ⟨S20480x4096, .f32⟩
  | .hbm, ⟨32, _⟩ => ⟨S20480x4096, .f32⟩
  | .hbm, ⟨33, _⟩ => ⟨S20480x1, .f32⟩
  | .hbm, ⟨34, _⟩ => ⟨S1x4096x4096, .f32⟩
  | .hbm, ⟨35, _⟩ => ⟨S4096x4096, .f32⟩
  | .hbm, ⟨36, _⟩ => ⟨S20480x4096, .f32⟩
  | .hbm, ⟨37, _⟩ => ⟨S20480x4096, .f32⟩
  | .hbm, ⟨38, _⟩ => ⟨S20480x4096, .f32⟩
  | .hbm, ⟨39, _⟩ => ⟨S20480x4096, .f32⟩
  | .hbm, ⟨40, _⟩ => ⟨S20480x1, .f32⟩
  | .hbm, ⟨41, _⟩ => ⟨S1x4096x4096, .f32⟩
  | .hbm, ⟨42, _⟩ => ⟨S4096x4096, .f32⟩
  | .hbm, ⟨43, _⟩ => ⟨S20480x4096, .f32⟩
  | .hbm, ⟨44, _⟩ => ⟨S20480x4096, .f32⟩
  | .hbm, ⟨45, _⟩ => ⟨S20480x4096, .f32⟩
  | .hbm, ⟨46, _⟩ => ⟨S20480x4096, .f32⟩
  | .hbm, ⟨47, _⟩ => ⟨S20480x1, .f32⟩
  | .hbm, ⟨48, _⟩ => ⟨S1x4096x4096, .f32⟩
  | .hbm, ⟨49, _⟩ => ⟨S4096x4096, .f32⟩
  | .hbm, ⟨50, _⟩ => ⟨S20480x4096, .f32⟩
  | .hbm, ⟨51, _⟩ => ⟨S20480x4096, .f32⟩
  | .hbm, ⟨52, _⟩ => ⟨S20480x4096, .f32⟩
  | .hbm, ⟨53, _⟩ => ⟨S20480x4096, .f32⟩
  | .hbm, ⟨54, _⟩ => ⟨S20480x1, .f32⟩
  | .hbm, ⟨55, _⟩ => ⟨S1x4096x4096, .f32⟩
  | .hbm, ⟨56, _⟩ => ⟨S4096x4096, .f32⟩
  | .hbm, ⟨57, _⟩ => ⟨S20480x4096, .f32⟩
  | .hbm, ⟨58, _⟩ => ⟨S20480x4096, .f32⟩
  | .hbm, ⟨59, _⟩ => ⟨S20480x4096, .f32⟩
  | .hbm, ⟨60, _⟩ => ⟨S20480x4096, .f32⟩
  | .hbm, ⟨61, _⟩ => ⟨S20480x1, .f32⟩
  | .hbm, ⟨62, _⟩ => ⟨S1x4096x4096, .f32⟩
  | .hbm, ⟨63, _⟩ => ⟨S4096x4096, .f32⟩
  | .hbm, ⟨64, _⟩ => ⟨S20480x4096, .f32⟩
  | .hbm, ⟨65, _⟩ => ⟨S20480x4096, .f32⟩
  | .hbm, ⟨66, _⟩ => ⟨S20480x4096, .f32⟩
  | .hbm, ⟨67, _⟩ => ⟨S20480x4096, .f32⟩
  | .hbm, ⟨68, _⟩ => ⟨S20480x1, .f32⟩
  | .hbm, ⟨69, _⟩ => ⟨S1x4096x4096, .f32⟩
  | .hbm, ⟨70, _⟩ => ⟨S4096x4096, .f32⟩
  | .hbm, ⟨71, _⟩ => ⟨S20480x4096, .f32⟩
  | .hbm, ⟨72, _⟩ => ⟨S20480x4096, .f32⟩
  | .hbm, ⟨73, _⟩ => ⟨S20480x4096, .f32⟩
  | .hbm, ⟨74, _⟩ => ⟨S20480x4096, .f32⟩
  | .hbm, ⟨75, _⟩ => ⟨S20480x1, .f32⟩
  | .hbm, ⟨76, _⟩ => ⟨S1x4096x4096, .f32⟩
  | .hbm, ⟨77, _⟩ => ⟨S4096x4096, .f32⟩
  | .hbm, ⟨78, _⟩ => ⟨S20480x4096, .f32⟩
  | .hbm, ⟨79, _⟩ => ⟨S20480x4096, .f32⟩
  | .hbm, ⟨80, _⟩ => ⟨S20480x4096, .f32⟩
  | .hbm, ⟨81, _⟩ => ⟨S20480x4096, .f32⟩
  | .hbm, ⟨82, _⟩ => ⟨S20480x4096, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩

abbrev nD : Nat := 1
abbrev τ : Topo := Topo.v7x

variable {F : FTy → Type} [FloatOps F]
-- ==== EUp.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S512x4096 : Shape := ⟨2, ![512, 4096]⟩
abbrev S512x512 : Shape := ⟨2, ![512, 512]⟩
abbrev S2x2x4096x512 : Shape := ⟨4, ![2, 2, 4096, 512]⟩
abbrev S2x2 : Shape := ⟨2, ![2, 2]⟩
abbrev S1x1 : Shape := ⟨2, ![1, 1]⟩
abbrev S_ : Shape := ⟨0, ![]⟩
abbrev S1x1x4096x512 : Shape := ⟨4, ![1, 1, 4096, 512]⟩
abbrev S4096x512 : Shape := ⟨2, ![4096, 512]⟩
abbrev S1x4096x512 : Shape := ⟨3, ![1, 4096, 512]⟩
abbrev S512x2048 : Shape := ⟨2, ![512, 2048]⟩
abbrev S2048x512 : Shape := ⟨2, ![2048, 512]⟩

abbrev nBuf : Space → Nat
  | .hbm => 4
  | .vmem => 5
  | .smem => 6
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S512x512, .bf16⟩
  | .local _ .vmem, ⟨3, _⟩ => ⟨S512x512, .bf16⟩
  | .local _ .vmem, ⟨4, _⟩ => ⟨S2x2x4096x512, .f32⟩
  | .local _ .smem, ⟨0, _⟩ => ⟨S40, .i32⟩
  | .local _ .smem, ⟨1, _⟩ => ⟨S1, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev main_arg7 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch2 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 40], ![false, false]⟩

abbrev pre0 : Pipeline.Prefetch sig := ⟨5, ![main_arg3.idx, main_arg4.idx, main_arg5.idx, main_arg6.idx, main_arg7.idx], fun | 0 => main_arg3.names | 1 => main_arg4.names | 2 => main_arg5.names | 3 => main_arg6.names | 4 => main_arg7.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_off1 (v19 : BitVec 32) : Fin 3 → Nat :=
  let c0_i32_14 : BitVec 32 := 0#32
  let c0_i32_15 : BitVec 32 := 0#32
  ![v19.toNat, 0, 0]

def k0_chk1 (i : grid0.Coords) (v19 : BitVec 32) : Prop :=
  (∀ (k0_h1 : k0_cond1 i = 1#1), ∀ a, (k0_off1 v19) a + S1x4096x512.size a ≤ S8x4096x4096.size a)
theorem k0_off1_inb : ∀ (i : grid0.Coords) (v19 : BitVec 32) (k0_hw1 : k0_chk1 i v19), ∀ (k0_h1 : k0_cond1 i = 1#1), ∀ a, (k0_off1 v19) a + S1x4096x512.size a ≤ S8x4096x4096.size a := fun i v19 k0_hw1 k0_h1 => k0_hw1 k0_h1

def k0_off2 (i : grid0.Coords) : Fin 1 → Nat :=
  let arg1 : BitVec 32 := BitVec.ofNat 32 (i 1).val
  let v7 : Index := Scalar.indexCast arg1
  ![v7.toNat]
def k0_off3 (i : grid0.Coords) : Fin 1 → Nat :=
  let arg1 : BitVec 32 := BitVec.ofNat 32 (i 1).val
  let v21 : Index := Scalar.indexCast arg1
  ![v21.toNat]
def k0_off4 (v18 : BitVec 32) : Fin 2 → Nat :=
  let c1_i32_6 : BitVec 32 := 1#32
  let v19 : BitVec 32 := Scalar.subi c1_i32_6 v18
  let c0_i32_10 : BitVec 32 := 0#32
  ![v19.toNat, 0]
def k0_cond2 (i : grid0.Coords) (v0 : BitVec 32) (v8 : BitVec 32) : BitVec 1 :=
  let arg1 : BitVec 32 := BitVec.ofNat 32 (i 1).val
  let v1 : BitVec 1 := Scalar.cmpi .slt arg1 v0
  let c1_i32 : BitVec 32 := 1#32
  let v9 : BitVec 1 := Scalar.cmpi .eq v8 c1_i32
  let v10 : BitVec 1 := Scalar.andi v1 v9
  let v11 : BitVec 32 := Scalar.extui v10
  let c0_i32_2 : BitVec 32 := 0#32
  let v12 : BitVec 1 := Scalar.cmpi .ne v11 c0_i32_2
  v12

def k0_off5 (v18 : BitVec 32) : Fin 4 → Nat :=
  let c1_i32_6 : BitVec 32 := 1#32
  let v19 : BitVec 32 := Scalar.subi c1_i32_6 v18
  let c0_i32_9 : BitVec 32 := 0#32
  let c0_i32_11 : BitVec 32 := 0#32
  let c0_i32_12 : BitVec 32 := 0#32
  ![v19.toNat, 0, 0, 0]
def k0_off6 (i : grid0.Coords) (v22 : BitVec 32) : Fin 3 → Nat :=
  let c0_i32_13 : BitVec 32 := 0#32
  let arg0 : BitVec 32 := BitVec.ofNat 32 (i 0).val
  let c512_i32 : BitVec 32 := 512#32
  let v23 : BitVec 32 := Scalar.muli arg0 c512_i32
  ![v22.toNat, 0, v23.toNat]

def k0_chk3 (i : grid0.Coords) (v0 : BitVec 32) (v8 : BitVec 32) (v22 : BitVec 32) : Prop :=
  (∀ (k0_h2 : k0_cond2 i v0 v8 = 1#1), ∀ a, (k0_off6 i v22) a + S1x4096x512.size a ≤ S8x4096x4096.size a)
theorem k0_off6_inb : ∀ (i : grid0.Coords) (v0 : BitVec 32) (v8 : BitVec 32) (v22 : BitVec 32) (k0_hw3 : k0_chk3 i v0 v8 v22), ∀ (k0_h2 : k0_cond2 i v0 v8 = 1#1), ∀ a, (k0_off6 i v22) a + S1x4096x512.size a ≤ S8x4096x4096.size a := fun i v0 v8 v22 k0_hw3 k0_h2 => k0_hw3 k0_h2

def k0_off7 (v18 : BitVec 32) : Fin 2 → Nat :=
  let c1_i32_6 : BitVec 32 := 1#32
  let v19 : BitVec 32 := Scalar.subi c1_i32_6 v18
  let c1_i32_15 : BitVec 32 := 1#32
  ![v19.toNat, 1]
def k0_off8 (v18 : BitVec 32) : Fin 4 → Nat :=
  let c1_i32_6 : BitVec 32 := 1#32
  let v19 : BitVec 32 := Scalar.subi c1_i32_6 v18
  let c1_i32_14 : BitVec 32 := 1#32
  let c0_i32_16 : BitVec 32 := 0#32
  let c0_i32_17 : BitVec 32 := 0#32
  ![v19.toNat, 1, 0, 0]

def k0_chk2 (i : grid0.Coords) (v0 : BitVec 32) (v8 : BitVec 32) (v18 : BitVec 32) : Prop :=
  (∀ (k0_h2 : k0_cond2 i v0 v8 = 1#1), ∀ a, (k0_off4 v18) a + S1x1.size a ≤ S2x2.size a) ∧
  (∀ (k0_h2 : k0_cond2 i v0 v8 = 1#1), ∀ a, (k0_off5 v18) a + S1x1x4096x512.size a ≤ S2x2x4096x512.size a) ∧
  (∀ (k0_h2 : k0_cond2 i v0 v8 = 1#1), ∀ a, (k0_off7 v18) a + S1x1.size a ≤ S2x2.size a) ∧
  (∀ (k0_h2 : k0_cond2 i v0 v8 = 1#1), ∀ a, (k0_off8 v18) a + S1x1x4096x512.size a ≤ S2x2x4096x512.size a)
theorem k0_off4_inb : ∀ (i : grid0.Coords) (v0 : BitVec 32) (v8 : BitVec 32) (v18 : BitVec 32) (k0_hw2 : k0_chk2 i v0 v8 v18), ∀ (k0_h2 : k0_cond2 i v0 v8 = 1#1), ∀ a, (k0_off4 v18) a + S1x1.size a ≤ S2x2.size a := fun i v0 v8 v18 k0_hw2 k0_h2 => k0_hw2.1 k0_h2
theorem k0_off5_inb : ∀ (i : grid0.Coords) (v0 : BitVec 32) (v8 : BitVec 32) (v18 : BitVec 32) (k0_hw2 : k0_chk2 i v0 v8 v18), ∀ (k0_h2 : k0_cond2 i v0 v8 = 1#1), ∀ a, (k0_off5 v18) a + S1x1x4096x512.size a ≤ S2x2x4096x512.size a := fun i v0 v8 v18 k0_hw2 k0_h2 => k0_hw2.2.1 k0_h2
theorem k0_off7_inb : ∀ (i : grid0.Coords) (v0 : BitVec 32) (v8 : BitVec 32) (v18 : BitVec 32) (k0_hw2 : k0_chk2 i v0 v8 v18), ∀ (k0_h2 : k0_cond2 i v0 v8 = 1#1), ∀ a, (k0_off7 v18) a + S1x1.size a ≤ S2x2.size a := fun i v0 v8 v18 k0_hw2 k0_h2 => k0_hw2.2.2.1 k0_h2
theorem k0_off8_inb : ∀ (i : grid0.Coords) (v0 : BitVec 32) (v8 : BitVec 32) (v18 : BitVec 32) (k0_hw2 : k0_chk2 i v0 v8 v18), ∀ (k0_h2 : k0_cond2 i v0 v8 = 1#1), ∀ a, (k0_off8 v18) a + S1x1x4096x512.size a ≤ S2x2x4096x512.size a := fun i v0 v8 v18 k0_hw2 k0_h2 => k0_hw2.2.2.2 k0_h2

def k0_off9 (i : grid0.Coords) : Fin 1 → Nat :=
  let arg1 : BitVec 32 := BitVec.ofNat 32 (i 1).val
  let v37 : Index := Scalar.indexCast arg1
  ![v37.toNat]
def k0_off10 (i : grid0.Coords) : Fin 1 → Nat :=
  let arg1 : BitVec 32 := BitVec.ofNat 32 (i 1).val
  let v45 : Index := Scalar.indexCast arg1
  ![v45.toNat]
def k0_off11 (v18 : BitVec 32) : Fin 2 → Nat :=
  let c1_i32_22 : BitVec 32 := 1#32
  let c1_i32_6 : BitVec 32 := 1#32
  let v19 : BitVec 32 := Scalar.subi c1_i32_6 v18
  let v50 : BitVec 32 := Scalar.subi c1_i32_22 v19
  let c0_i32_26 : BitVec 32 := 0#32
  ![v50.toNat, 0]
def k0_cond3 (i : grid0.Coords) (v38 : BitVec 32) : BitVec 1 :=
  let c1_i32_19 : BitVec 32 := 1#32
  let v39 : BitVec 1 := Scalar.cmpi .eq v38 c1_i32_19
  let arg0 : BitVec 32 := BitVec.ofNat 32 (i 0).val
  let c7_i32 : BitVec 32 := 7#32
  let v40 : BitVec 1 := Scalar.cmpi .eq arg0 c7_i32
  let v41 : BitVec 1 := Scalar.andi v39 v40
  let true_20 : BitVec 1 := 1#1
  let v42 : BitVec 1 := Scalar.xori v41 true_20
  let v43 : BitVec 32 := Scalar.extui v42
  let c0_i32_21 : BitVec 32 := 0#32
  let v44 : BitVec 1 := Scalar.cmpi .ne v43 c0_i32_21
  v44

def k0_off12 (v18 : BitVec 32) : Fin 4 → Nat :=
  let c1_i32_22 : BitVec 32 := 1#32
  let c1_i32_6 : BitVec 32 := 1#32
  let v19 : BitVec 32 := Scalar.subi c1_i32_6 v18
  let v50 : BitVec 32 := Scalar.subi c1_i32_22 v19
  let c0_i32_25 : BitVec 32 := 0#32
  let c0_i32_27 : BitVec 32 := 0#32
  let c0_i32_28 : BitVec 32 := 0#32
  ![v50.toNat, 0, 0, 0]
def k0_off13 (i : grid0.Coords) (v46 : BitVec 32) (v48 : BitVec 32) : Fin 3 → Nat :=
  let c0_i32_29 : BitVec 32 := 0#32
  let arg0 : BitVec 32 := BitVec.ofNat 32 (i 0).val
  let v49 : BitVec 32 := Scalar.addi arg0 v48
  let c512_i32_23 : BitVec 32 := 512#32
  let v51 : BitVec 32 := Scalar.muli v49 c512_i32_23
  ![v46.toNat, 0, v51.toNat]

def k0_chk5 (i : grid0.Coords) (v0 : BitVec 32) (v8 : BitVec 32) (v38 : BitVec 32) (v46 : BitVec 32) (v48 : BitVec 32) : Prop :=
  (∀ (k0_h2 : k0_cond2 i v0 v8 = 1#1), ∀ (k0_h3 : k0_cond3 i v38 = 1#1), ∀ a, (k0_off13 i v46 v48) a + S1x4096x512.size a ≤ S8x4096x4096.size a)
theorem k0_off13_inb : ∀ (i : grid0.Coords) (v0 : BitVec 32) (v8 : BitVec 32) (v38 : BitVec 32) (v46 : BitVec 32) (v48 : BitVec 32) (k0_hw5 : k0_chk5 i v0 v8 v38 v46 v48), ∀ (k0_h2 : k0_cond2 i v0 v8 = 1#1), ∀ (k0_h3 : k0_cond3 i v38 = 1#1), ∀ a, (k0_off13 i v46 v48) a + S1x4096x512.size a ≤ S8x4096x4096.size a := fun i v0 v8 v38 v46 v48 k0_hw5 k0_h2 k0_h3 => k0_hw5 k0_h2 k0_h3

def k0_off14 (v18 : BitVec 32) : Fin 2 → Nat :=
  let c1_i32_22 : BitVec 32 := 1#32
  let c1_i32_6 : BitVec 32 := 1#32
  let v19 : BitVec 32 := Scalar.subi c1_i32_6 v18
  let v50 : BitVec 32 := Scalar.subi c1_i32_22 v19
  let c1_i32_31 : BitVec 32 := 1#32
  ![v50.toNat, 1]
def k0_off15 (v18 : BitVec 32) : Fin 4 → Nat :=
  let c1_i32_22 : BitVec 32 := 1#32
  let c1_i32_6 : BitVec 32 := 1#32
  let v19 : BitVec 32 := Scalar.subi c1_i32_6 v18
  let v50 : BitVec 32 := Scalar.subi c1_i32_22 v19
  let c1_i32_30 : BitVec 32 := 1#32
  let c0_i32_32 : BitVec 32 := 0#32
  let c0_i32_33 : BitVec 32 := 0#32
  ![v50.toNat, 1, 0, 0]

def k0_chk4 (i : grid0.Coords) (v0 : BitVec 32) (v8 : BitVec 32) (v18 : BitVec 32) (v38 : BitVec 32) : Prop :=
  (∀ (k0_h2 : k0_cond2 i v0 v8 = 1#1), ∀ (k0_h3 : k0_cond3 i v38 = 1#1), ∀ a, (k0_off11 v18) a + S1x1.size a ≤ S2x2.size a) ∧
  (∀ (k0_h2 : k0_cond2 i v0 v8 = 1#1), ∀ (k0_h3 : k0_cond3 i v38 = 1#1), ∀ a, (k0_off12 v18) a + S1x1x4096x512.size a ≤ S2x2x4096x512.size a) ∧
  (∀ (k0_h2 : k0_cond2 i v0 v8 = 1#1), ∀ (k0_h3 : k0_cond3 i v38 = 1#1), ∀ a, (k0_off14 v18) a + S1x1.size a ≤ S2x2.size a) ∧
  (∀ (k0_h2 : k0_cond2 i v0 v8 = 1#1), ∀ (k0_h3 : k0_cond3 i v38 = 1#1), ∀ a, (k0_off15 v18) a + S1x1x4096x512.size a ≤ S2x2x4096x512.size a)
theorem k0_off11_inb : ∀ (i : grid0.Coords) (v0 : BitVec 32) (v8 : BitVec 32) (v18 : BitVec 32) (v38 : BitVec 32) (k0_hw4 : k0_chk4 i v0 v8 v18 v38), ∀ (k0_h2 : k0_cond2 i v0 v8 = 1#1), ∀ (k0_h3 : k0_cond3 i v38 = 1#1), ∀ a, (k0_off11 v18) a + S1x1.size a ≤ S2x2.size a := fun i v0 v8 v18 v38 k0_hw4 k0_h2 k0_h3 => k0_hw4.1 k0_h2 k0_h3
theorem k0_off12_inb : ∀ (i : grid0.Coords) (v0 : BitVec 32) (v8 : BitVec 32) (v18 : BitVec 32) (v38 : BitVec 32) (k0_hw4 : k0_chk4 i v0 v8 v18 v38), ∀ (k0_h2 : k0_cond2 i v0 v8 = 1#1), ∀ (k0_h3 : k0_cond3 i v38 = 1#1), ∀ a, (k0_off12 v18) a + S1x1x4096x512.size a ≤ S2x2x4096x512.size a := fun i v0 v8 v18 v38 k0_hw4 k0_h2 k0_h3 => k0_hw4.2.1 k0_h2 k0_h3
theorem k0_off14_inb : ∀ (i : grid0.Coords) (v0 : BitVec 32) (v8 : BitVec 32) (v18 : BitVec 32) (v38 : BitVec 32) (k0_hw4 : k0_chk4 i v0 v8 v18 v38), ∀ (k0_h2 : k0_cond2 i v0 v8 = 1#1), ∀ (k0_h3 : k0_cond3 i v38 = 1#1), ∀ a, (k0_off14 v18) a + S1x1.size a ≤ S2x2.size a := fun i v0 v8 v18 v38 k0_hw4 k0_h2 k0_h3 => k0_hw4.2.2.1 k0_h2 k0_h3
theorem k0_off15_inb : ∀ (i : grid0.Coords) (v0 : BitVec 32) (v8 : BitVec 32) (v18 : BitVec 32) (v38 : BitVec 32) (k0_hw4 : k0_chk4 i v0 v8 v18 v38), ∀ (k0_h2 : k0_cond2 i v0 v8 = 1#1), ∀ (k0_h3 : k0_cond3 i v38 = 1#1), ∀ a, (k0_off15 v18) a + S1x1x4096x512.size a ≤ S2x2x4096x512.size a := fun i v0 v8 v18 v38 k0_hw4 k0_h2 k0_h3 => k0_hw4.2.2.2 k0_h2 k0_h3

def k0_off16 (v18 : BitVec 32) : Fin 4 → Nat :=
  let c0_i32_9 : BitVec 32 := 0#32
  let c0_i32_10 : BitVec 32 := 0#32
  let c0_i32_11 : BitVec 32 := 0#32
  ![v18.toNat, 0, 0, 0]
def k0_cond4 (i : grid0.Coords) (v0 : BitVec 32) : BitVec 1 :=
  let arg1 : BitVec 32 := BitVec.ofNat 32 (i 1).val
  let v1 : BitVec 1 := Scalar.cmpi .slt arg1 v0
  let v13 : BitVec 32 := Scalar.extui v1
  let c0_i32_3 : BitVec 32 := 0#32
  let v14 : BitVec 1 := Scalar.cmpi .ne v13 c0_i32_3
  v14

def k0_off17 (v18 : BitVec 32) : Fin 4 → Nat :=
  let c1_i32_20 : BitVec 32 := 1#32
  let c0_i32_21 : BitVec 32 := 0#32
  let c0_i32_22 : BitVec 32 := 0#32
  ![v18.toNat, 1, 0, 0]

def k0_chk6 (i : grid0.Coords) (v0 : BitVec 32) (v18 : BitVec 32) : Prop :=
  (∀ (k0_h4 : k0_cond4 i v0 = 1#1), ∀ a, (k0_off16 v18) a + S1x1x4096x512.size a ≤ S2x2x4096x512.size a) ∧
  (∀ (k0_h4 : k0_cond4 i v0 = 1#1), ∀ a, (k0_off17 v18) a + S1x1x4096x512.size a ≤ S2x2x4096x512.size a)
theorem k0_off16_inb : ∀ (i : grid0.Coords) (v0 : BitVec 32) (v18 : BitVec 32) (k0_hw6 : k0_chk6 i v0 v18), ∀ (k0_h4 : k0_cond4 i v0 = 1#1), ∀ a, (k0_off16 v18) a + S1x1x4096x512.size a ≤ S2x2x4096x512.size a := fun i v0 v18 k0_hw6 k0_h4 => k0_hw6.1 k0_h4
theorem k0_off17_inb : ∀ (i : grid0.Coords) (v0 : BitVec 32) (v18 : BitVec 32) (k0_hw6 : k0_chk6 i v0 v18), ∀ (k0_h4 : k0_cond4 i v0 = 1#1), ∀ a, (k0_off17 v18) a + S1x1x4096x512.size a ≤ S2x2x4096x512.size a := fun i v0 v18 k0_hw6 k0_h4 => k0_hw6.2 k0_h4

def k0_cond5 (i : grid0.Coords) (v0 : BitVec 32) : BitVec 1 :=
  let arg1 : BitVec 32 := BitVec.ofNat 32 (i 1).val
  let v1 : BitVec 1 := Scalar.cmpi .slt arg1 v0
  let v_true : BitVec 1 := 1#1
  let v15 : BitVec 1 := Scalar.xori v1 v_true
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== EUpRefIdeal.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x1 : Shape := ⟨2, ![40, 1]⟩
abbrev S1x8 : Shape := ⟨2, ![1, 8]⟩
abbrev S40x8 : Shape := ⟨2, ![40, 8]⟩
abbrev S40x1x8 : Shape := ⟨3, ![40, 1, 8]⟩
abbrev S40x512x8 : Shape := ⟨3, ![40, 512, 8]⟩
abbrev S20480x8 : Shape := ⟨2, ![20480, 8]⟩
abbrev S_ : Shape := ⟨0, ![]⟩
abbrev S20480x1 : Shape := ⟨2, ![20480, 1]⟩
abbrev S1x4096x4096 : Shape := ⟨3, ![1, 4096, 4096]⟩
abbrev S4096x4096 : Shape := ⟨2, ![4096, 4096]⟩

abbrev nBuf : Space → Nat
  | .hbm => 188
  | .vmem => 0
  | .smem => 0
  | _ => 0

abbrev hbmTy0_0 (i : Nat) : BufTy := match i % 128 with
  | 0 => ⟨S20480x4096, .bf16⟩
  | 1 => ⟨S8x4096x4096, .f32⟩
  | 2 => ⟨S8x4096x4096, .f32⟩
  | 3 => ⟨S40, .i32⟩
  | 4 => ⟨S1, .i32⟩
  | 5 => ⟨S40, .i32⟩
  | 6 => ⟨S40, .i32⟩
  | 7 => ⟨S40, .i32⟩
  | 8 => ⟨S20480x4096, .f32⟩
  | 9 => ⟨S40x1, .i32⟩
  | 10 => ⟨S1x8, .i32⟩
  | 11 => ⟨S40x8, .i32⟩
  | 12 => ⟨S40x8, .i32⟩
  | 13 => ⟨S40x8, .i1⟩
  | 14 => ⟨S40x8, .f32⟩
  | 15 => ⟨S40, .i32⟩
  | 16 => ⟨S40, .i32⟩
  | 17 => ⟨S40, .i1⟩
  | 18 => ⟨S40x1, .i1⟩
  | 19 => ⟨S40x1, .f32⟩
  | 20 => ⟨S40x8, .f32⟩
  | 21 => ⟨S40x8, .f32⟩
  | 22 => ⟨S40x1x8, .f32⟩
  | 23 => ⟨S40x512x8, .f32⟩
  | 24 => ⟨S20480x8, .f32⟩
  | 25 => ⟨S_, .f32⟩
  | 26 => ⟨S20480x4096, .f32⟩
  | 27 => ⟨S20480x1, .f32⟩
  | 28 => ⟨S1x4096x4096, .f32⟩
  | 29 => ⟨S4096x4096, .f32⟩
  | 30 => ⟨S20480x4096, .f32⟩
  | 31 => ⟨S20480x4096, .f32⟩
  | 32 => ⟨S20480x4096, .f32⟩
  | 33 => ⟨S_, .f32⟩
  | 34 => ⟨S20480x4096, .f32⟩
  | 35 => ⟨S20480x4096, .f32⟩
  | 36 => ⟨S_, .f32⟩
  | 37 => ⟨S20480x4096, .f32⟩
  | 38 => ⟨S20480x4096, .f32⟩
  | 39 => ⟨S20480x4096, .f32⟩
  | 40 => ⟨S1x4096x4096, .f32⟩
  | 41 => ⟨S4096x4096, .f32⟩
  | 42 => ⟨S20480x4096, .f32⟩
  | 43 => ⟨S20480x4096, .f32⟩
  | 44 => ⟨S20480x4096, .f32⟩
  | 45 => ⟨S20480x4096, .f32⟩
  | 46 => ⟨S20480x4096, .f32⟩
  | 47 => ⟨S20480x1, .f32⟩
  | 48 => ⟨S1x4096x4096, .f32⟩
  | 49 => ⟨S4096x4096, .f32⟩
  | 50 => ⟨S20480x4096, .f32⟩
  | 51 => ⟨S20480x4096, .f32⟩
  | 52 => ⟨S20480x4096, .f32⟩
  | 53 => ⟨S_, .f32⟩
  | 54 => ⟨S20480x4096, .f32⟩
  | 55 => ⟨S20480x4096, .f32⟩
  | 56 => ⟨S_, .f32⟩
  | 57 => ⟨S20480x4096, .f32⟩
  | 58 => ⟨S20480x4096, .f32⟩
  | 59 => ⟨S20480x4096, .f32⟩
  | 60 => ⟨S1x4096x4096, .f32⟩
  | 61 => ⟨S4096x4096, .f32⟩
  | 62 => ⟨S20480x4096, .f32⟩
  | 63 => ⟨S20480x4096, .f32⟩
  | 64 => ⟨S20480x4096, .f32⟩
  | 65 => ⟨S20480x4096, .f32⟩
  | 66 => ⟨S20480x4096, .f32⟩
  | 67 => ⟨S20480x1, .f32⟩
  | 68 => ⟨S1x4096x4096, .f32⟩
  | 69 => ⟨S4096x4096, .f32⟩
  | 70 => ⟨S20480x4096, .f32⟩
  | 71 => ⟨S20480x4096, .f32⟩
  | 72 => ⟨S20480x4096, .f32⟩
  | 73 => ⟨S_, .f32⟩
  | 74 => ⟨S20480x4096, .f32⟩
  | 75 => ⟨S20480x4096, .f32⟩
  | 76 => ⟨S_, .f32⟩
  | 77 => ⟨S20480x4096, .f32⟩
  | 78 => ⟨S20480x4096, .f32⟩
  | 79 => ⟨S20480x4096, .f32⟩
  | 80 => ⟨S1x4096x4096, .f32⟩
  | 81 => ⟨S4096x4096, .f32⟩
  | 82 => ⟨S20480x4096, .f32⟩
  | 83 => ⟨S20480x4096, .f32⟩
  | 84 => ⟨S20480x4096, .f32⟩
  | 85 => ⟨S20480x4096, .f32⟩
  | 86 => ⟨S20480x4096, .f32⟩
  | 87 => ⟨S20480x1, .f32⟩
  | 88 => ⟨S1x4096x4096, .f32⟩
  | 89 => ⟨S4096x4096, .f32⟩
  | 90 => ⟨S20480x4096, .f32⟩
  | 91 => ⟨S20480x4096, .f32⟩
  | 92 => ⟨S20480x4096, .f32⟩
  | 93 => ⟨S_, .f32⟩
  | 94 => ⟨S20480x4096, .f32⟩
  | 95 => ⟨S20480x4096, .f32⟩
  | 96 => ⟨S_, .f32⟩
  | 97 => ⟨S20480x4096, .f32⟩
  | 98 => ⟨S20480x4096, .f32⟩
  | 99 => ⟨S20480x4096, .f32⟩
  | 100 => ⟨S1x4096x4096, .f32⟩
  | 101 => ⟨S4096x4096, .f32⟩
  | 102 => ⟨S20480x4096, .f32⟩
  | 103 => ⟨S20480x4096, .f32⟩
  | 104 => ⟨S20480x4096, .f32⟩
  | 105 => ⟨S20480x4096, .f32⟩
  | 106 => ⟨S20480x4096, .f32⟩
  | 107 => ⟨S20480x1, .f32⟩
  | 108 => ⟨S1x4096x4096, .f32⟩
  | 109 => ⟨S4096x4096, .f32⟩
  | 110 => ⟨S20480x4096, .f32⟩
  | 111 => ⟨S20480x4096, .f32⟩
  | 112 => ⟨S20480x4096, .f32⟩
  | 113 => ⟨S_, .f32⟩
  | 114 => ⟨S20480x4096, .f32⟩
  | 115 => ⟨S20480x4096, .f32⟩
  | 116 => ⟨S_, .f32⟩
  | 117 => ⟨S20480x4096, .f32⟩
  | 118 => ⟨S20480x4096, .f32⟩
  | 119 => ⟨S20480x4096, .f32⟩
  | 120 => ⟨S1x4096x4096, .f32⟩
  | 121 => ⟨S4096x4096, .f32⟩
  | 122 => ⟨S20480x4096, .f32⟩
  | 123 => ⟨S20480x4096, .f32⟩
  | 124 => ⟨S20480x4096, .f32⟩
  | 125 => ⟨S20480x4096, .f32⟩
  | 126 => ⟨S20480x4096, .f32⟩
  | 127 => ⟨S20480x1, .f32⟩
  | _ => ⟨S20480x4096, .bf16⟩

abbrev hbmTy0_1 (i : Nat) : BufTy := match i % 128 with
  | 0 => ⟨S1x4096x4096, .f32⟩
  | 1 => ⟨S4096x4096, .f32⟩
  | 2 => ⟨S20480x4096, .f32⟩
  | 3 => ⟨S20480x4096, .f32⟩
  | 4 => ⟨S20480x4096, .f32⟩
  | 5 => ⟨S_, .f32⟩
  | 6 => ⟨S20480x4096, .f32⟩
  | 7 => ⟨S20480x4096, .f32⟩
  | 8 => ⟨S_, .f32⟩
  | 9 => ⟨S20480x4096, .f32⟩
  | 10 => ⟨S20480x4096, .f32⟩
  | 11 => ⟨S20480x4096, .f32⟩
  | 12 => ⟨S1x4096x4096, .f32⟩
  | 13 => ⟨S4096x4096, .f32⟩
  | 14 => ⟨S20480x4096, .f32⟩
  | 15 => ⟨S20480x4096, .f32⟩
  | 16 => ⟨S20480x4096, .f32⟩
  | 17 => ⟨S20480x4096, .f32⟩
  | 18 => ⟨S20480x4096, .f32⟩
  | 19 => ⟨S20480x1, .f32⟩
  | 20 => ⟨S1x4096x4096, .f32⟩
  | 21 => ⟨S4096x4096, .f32⟩
  | 22 => ⟨S20480x4096, .f32⟩
  | 23 => ⟨S20480x4096, .f32⟩
  | 24 => ⟨S20480x4096, .f32⟩
  | 25 => ⟨S_, .f32⟩
  | 26 => ⟨S20480x4096, .f32⟩
  | 27 => ⟨S20480x4096, .f32⟩
  | 28 => ⟨S_, .f32⟩
  | 29 => ⟨S20480x4096, .f32⟩
  | 30 => ⟨S20480x4096, .f32⟩
  | 31 => ⟨S20480x4096, .f32⟩
  | 32 => ⟨S1x4096x4096, .f32⟩
  | 33 => ⟨S4096x4096, .f32⟩
  | 34 => ⟨S20480x4096, .f32⟩
  | 35 => ⟨S20480x4096, .f32⟩
  | 36 => ⟨S20480x4096, .f32⟩
  | 37 => ⟨S20480x4096, .f32⟩
  | 38 => ⟨S20480x4096, .f32⟩
  | 39 => ⟨S20480x1, .f32⟩
  | 40 => ⟨S1x4096x4096, .f32⟩
  | 41 => ⟨S4096x4096, .f32⟩
  | 42 => ⟨S20480x4096, .f32⟩
  | 43 => ⟨S20480x4096, .f32⟩
  | 44 => ⟨S20480x4096, .f32⟩
  | 45 => ⟨S_, .f32⟩
  | 46 => ⟨S20480x4096, .f32⟩
  | 47 => ⟨S20480x4096, .f32⟩
  | 48 => ⟨S_, .f32⟩
  | 49 => ⟨S20480x4096, .f32⟩
  | 50 => ⟨S20480x4096, .f32⟩
  | 51 => ⟨S20480x4096, .f32⟩
  | 52 => ⟨S1x4096x4096, .f32⟩
  | 53 => ⟨S4096x4096, .f32⟩
  | 54 => ⟨S20480x4096, .f32⟩
  | 55 => ⟨S20480x4096, .f32⟩
  | 56 => ⟨S20480x4096, .f32⟩
  | 57 => ⟨S20480x4096, .f32⟩
  | 58 => ⟨S20480x4096, .f32⟩
  | 59 => ⟨S20480x4096, .bf16⟩
  | _ => ⟨S20480x4096, .bf16⟩

abbrev hbmTy (i : Nat) : BufTy := match i / 128 with
  | 0 => hbmTy0_0 i
  | 1 => hbmTy0_1 i
  | _ => ⟨S20480x4096, .bf16⟩

abbrev bufTy : (tb : Table) → Fin (tcTables nBuf tb) → BufTy
  | .hbm, ⟨i, _⟩ => hbmTy i
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_call6_v0 : Ref sig .tc := ⟨.hbm, 131, rfl⟩
abbrev main_call6_v1 : Ref sig .tc := ⟨.hbm, 132, rfl⟩
abbrev main_call6_cst : Ref sig .tc := ⟨.hbm, 133, rfl⟩
abbrev main_call6_v2 : Ref sig .tc := ⟨.hbm, 134, rfl⟩
abbrev main_call6_v3 : Ref sig .tc := ⟨.hbm, 135, rfl⟩
abbrev main_call6_cst_0 : Ref sig .tc := ⟨.hbm, 136, rfl⟩
abbrev main_call6_v4 : Ref sig .tc := ⟨.hbm, 137, rfl⟩
abbrev main_call6_v5 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_call7_v0 : Ref sig .tc := ⟨.hbm, 151, rfl⟩
abbrev main_call7_v1 : Ref sig .tc := ⟨.hbm, 152, rfl⟩
abbrev main_call7_cst : Ref sig .tc := ⟨.hbm, 153, rfl⟩
abbrev main_call7_v2 : Ref sig .tc := ⟨.hbm, 154, rfl⟩
abbrev main_call7_v3 : Ref sig .tc := ⟨.hbm, 155, rfl⟩
abbrev main_call7_cst_0 : Ref sig .tc := ⟨.hbm, 156, rfl⟩
abbrev main_call7_v4 : Ref sig .tc := ⟨.hbm, 157, rfl⟩
abbrev main_call7_v5 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩

abbrev nD : Nat := 1
abbrev τ : Topo := Topo.v7x

variable {F : FTy → Type} [FloatOps F]
-- ==== Proof.GateValue.lean ====
/-
  The second layer's spatial gate: what the pipelined kernel leaves in its result array, read at the
  ideal instance. At every grid point the kernel normalizes a chunk of 128 rows, mixes the rows of each of
  its eight column groups by a causal 128 x 128 matrix, adds the mix bias and multiplies by the gate half.
-/
module

public import proofs.«01_k».proof.Proof.Gen.GateIdeal.Value
public import proofs.«01_k».proof.Proof.Gen.GateRefIdeal.Read
public import Idealize.ShloMosaic.Lib.Pipeline.ValueKit
public import Idealize.ShloMosaic.Lib.Pointwise
public import Idealize.ShloMosaic.Lib.Routing.OpsSet
public import Idealize.ShloMosaic.Lib.Routing.OpsPair

@[expose] public section

set_option maxRecDepth 16384

noncomputable section

namespace Cert.GateProof

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at grid point `t`: the gate half at row chunk `t`, the mixed half beside
    it, the norm's scale and shift, the mixing matrices and the bias whole, the result at row chunk `t`. -/
theorem idx : ∀ t : Fin cfg0.N, win0_0.index t = ![t.val, 0] ∧ win0_1.index t = ![t.val, 1]
    ∧ win0_2.index t = ![0, 0] ∧ win0_3.index t = ![0, 0] ∧ win0_4.index t = ![0, 0, 0]
    ∧ win0_5.index t = ![0, 0] ∧ win0_6.index t = ![t.val, 0] :=
  (by decide +kernel : ∀ t : Fin grid0.N, _)

/-- The causal mask of a mixing matrix: entry `(r, k)` is kept where `k ≤ r`, and is zero elsewhere. -/
abbrev keep (r k : Fin 128) (x : EReal) : EReal :=
  Scalar.select (IntOp.cmpi .sle (BitVec.ofNat 32 k.val) (BitVec.ofNat 32 r.val)) x 0

/-- The reference's lower-triangular mask and the kernel's comparison of row and column agree. -/
theorem mask_eq : ∀ r k : Fin 128,
    Scalar.select (IntOp.cmpi .sge (IntOp.addi (BitVec.ofNat 32 r.val) 0#32) (BitVec.ofNat 32 k.val)) 1#1 0#1
      = IntOp.cmpi .sle (BitVec.ofNat 32 k.val) (BitVec.ofNat 32 r.val) := by
  decide +kernel

open Cert.GateRefIdeal.Read in
/-- The reference's result at row `128 t + r` and column `1024 g + l`: the gate half times the causal mix, by
    matrix `g`, of chunk `t` of the normalized half, with its bias. -/
theorem ref_apply (x0 : FVec Ideal S8192x16384 .bf16) (x1 x2 : FVec Ideal S8192 .f32) (x3 : FVec Ideal S8x128x128 .f32)
    (x4 : FVec Ideal S8x128 .f32) (t : Fin 64) (r : Fin 128) (g : Fin 8) (l : Fin 1024) :
    val_main_v41 (F := Ideal) x0 x1 x2 x3 x4 (ix2 ⟨128 * t.val + r.val, by omega⟩ ⟨1024 * g.val + l.val, by omega⟩)
      = x0 (ix2 ⟨128 * t.val + r.val, by omega⟩ ⟨1024 * g.val + l.val, by omega⟩) *
        (∑ k : Fin 128, keep r k (val_main_v26 (F := Ideal) x0 x1 x2 (ix2 ⟨128 * t.val + k.val, by omega⟩
            ⟨1024 * g.val + l.val, by omega⟩) * x3 (ix3 g r k))
          + x4 (ix2 g r)) := by
  have hz : val_main_call1_v0 (F := Ideal) ix0 = 0 := by
    unfold val_main_call1_v0
    show Ideal.ofBits .f32 0#32 = 0
    exact Ideal.ofBits_zero_f32
  pointwise [hz, val_main_v41, val_main_v40, val_main_v39, val_main_v38, val_main_v37, val_main_v36, val_main_v35, val_main_v34,
    val_main_v33, val_main_v32, val_main_v31, val_main_v30, val_main_v29, val_main_v28, val_main_v27, val_main_v1, val_main_v0,
    val_main_call0_v5, val_main_call0_v4, val_main_call0_v3, val_main_call0_v2, val_main_call0_v1, val_main_call0_v0,
    val_main_call0_c, val_main_call0_c_0, val_main_call1_v2, val_main_call1_v1, val_main_c]
  have hr : (128 * t.val + r.val) % 128 = r.val := by omega
  have ht : (128 * t.val + r.val) / 128 = t.val := by omega
  have hg : (1024 * g.val + l.val) / 1024 = g.val := by omega
  simp only [hr, ht, hg, mask_eq, Fin.eta, Nat.mul_comm t.val 128, Nat.mul_comm g.val 1024]

open Cert.GateRefIdeal.Read in
/-- The normalized half of a chunk, as the kernel computes it from its blocks, is the reference's. -/
theorem norm_eq (c : Dev nD) (t : Fin cfg0.N) (k : Fin 128) (j : Fin 8192) :
    k0_pay2 (F := Ideal) (iblk m c 1 t) (iblk m c 2 t) (iblk m c 3 t) (ix2 k j)
      = val_main_v26 (F := Ideal) (m ((c : Thread nD τ).loc main_arg0)) (m ((c : Thread nD τ).loc main_arg1))
          (m ((c : Thread nD τ).loc main_arg2)) (ix2 ⟨128 * t.val + k.val, by have := t.isLt; have : cfg0.N = 64 := N_0; omega⟩ j) := by
  obtain ⟨-, h1, h2, h3, -, -, -⟩ := idx t
  pointwise [k0_pay2, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3]
  blk_point [iblk, V, h1, h2, h3]

/-- The bias window's array, prepared before the kernel: entry `(r, g)` of its first eight columns is the
    bias of matrix `g` at row `r`. -/
theorem bias_entry (c : Dev nD) (r : Fin 128) (g : Fin 8) :
    V m c main_v3 (ix2 r ⟨g.val, by omega⟩) = m ((c : Thread nD τ).loc main_arg4) (ix2 g r) := by
  dsimp only [V, hostOps0]
  after_results
  have hs : ∀ (k : S128x8.Idx) (a : Fin 2),
      scatter_S128x128_S1_S128x8_01_n_1_0.start k (broadcastInDim S1 ![] bcast_S_S1 (constantI S_ 32 0#32)) a = 0 := by
    intro k a
    unfold ScatterDims.start
    split <;> rfl
  have hw : ∀ (k : S128x8.Idx) (a : Fin 2), scatter_S128x128_S1_S128x8_01_n_1_0.window k a = (k a).val := by
    intro k a
    unfold ScatterDims.window
    match a with
    | ⟨0, _⟩ => rfl
    | ⟨1, _⟩ => rfl
  refine Routing.scatter_set_hit _ _ _ _ _ _ ?_ (ix2 r g) ?_
  · intro k hk
    rw [Routing.resultIdx?_eq_some] at hk
    have h0 := hk 0
    have h1 := hk 1
    rw [hs, hw] at h0 h1
    idx_vars k
    pointwise
    have e0 : k0 = r := Fin.ext (by simpa using h0)
    have e1 : k1 = g := Fin.ext (by simpa using h1)
    rw [e0, e1]
  · rw [Routing.resultIdx?_eq_some]
    intro a
    rw [hs, hw]
    match a with
    | ⟨0, _⟩ => simp
    | ⟨1, _⟩ => simp

/-- What the kernel's store to column group `g` holds at row `r` and column `l` of the group, from the gate block
    `u`, the mixing matrices `w`, the bias block `b` and the normalized chunk `v`. -/
def form (u : FVec Ideal S128x8192 .bf16) (w : FVec Ideal S8x128x128 .f32) (b : FVec Ideal S128x128 .f32)
    (v : FVec Ideal S128x8192 .bf16) (r : Fin 128) (g : Fin 8) (l : Fin 1024) : EReal :=
  u (ix2 r ⟨1024 * g.val + l.val, by omega⟩) *
    (∑ k : Fin 128, keep r k (w (ix3 g r k) * v (ix2 k ⟨1024 * g.val + l.val, by omega⟩)) + b (ix2 r ⟨g.val, by omega⟩))

section Stores

variable (u : FVec Ideal S128x8192 .bf16) (w : FVec Ideal S8x128x128 .f32) (b : FVec Ideal S128x128 .f32)
    (v : FVec Ideal S128x8192 .bf16) (x : S128x1024.Idx)

/-- The store to column group 0, at an index (the normalized chunk is computed in place). -/
theorem store0 (a : FVec Ideal S128x8192 .bf16) (p q : FVec Ideal S1x8192 .f32) :
    k0_pay7 (F := Ideal) (k0_pay5 (F := Ideal) a p q (View.ld w r0_3)) (k0_pay6 (F := Ideal) (View.ld b r0_2)) (View.ld u r0_4) x
      = form u w b (k0_pay2 (F := Ideal) a p q) (x 0) 0 (x 1) := by
  unfold k0_pay5
  generalize k0_pay2 (F := Ideal) a p q = v
  pointwise [form, keep, k0_pay7, k0_pay6, k0_pay3, k0_pay4]

/-- The store to column group 1, at an index. -/
theorem store1 : k0_pay8 v k0_pay3 (k0_pay4 (F := Ideal) (View.ld b r0_2)) (View.ld w r0_5) (View.ld u r0_6) x
      = form u w b v (x 0) 1 (x 1) := by
  pointwise [form, keep, k0_pay8, k0_pay3, k0_pay4]

/-- The store to column group 2, at an index. -/
theorem store2 : k0_pay9 v k0_pay3 (k0_pay4 (F := Ideal) (View.ld b r0_2)) (View.ld w r0_7) (View.ld u r0_8) x
      = form u w b v (x 0) 2 (x 1) := by
  pointwise [form, keep, k0_pay9, k0_pay3, k0_pay4]

/-- The store to column group 3, at an index. -/
theorem store3 : k0_pay10 v k0_pay3 (k0_pay4 (F := Ideal) (View.ld b r0_2)) (View.ld w r0_9) (View.ld u r0_10) x
      = form u w b v (x 0) 3 (x 1) := by
  pointwise [form, keep, k0_pay10, k0_pay3, k0_pay4]

/-- The store to column group 4, at an index. -/
theorem store4 : k0_pay11 v k0_pay3 (k0_pay4 (F := Ideal) (View.ld b r0_2)) (View.ld w r0_11) (View.ld u r0_12) x
      = form u w b v (x 0) 4 (x 1) := by
  pointwise [form, keep, k0_pay11, k0_pay3, k0_pay4]

/-- The store to column group 5, at an index. -/
theorem store5 : k0_pay13 v (k0_pay4 (F := Ideal) (View.ld b r0_2)) (k0_pay12 k0_pay3 (View.ld w r0_13)) (View.ld u r0_14) x
      = form u w b v (x 0) 5 (x 1) := by
  pointwise [form, keep, k0_pay13, k0_pay12, k0_pay3, k0_pay4]

/-- The store to column group 6, at an index. -/
theorem store6 : k0_pay14 v k0_pay3 (k0_pay4 (F := Ideal) (View.ld b r0_2)) (View.ld w r0_15) (View.ld u r0_16) x
      = form u w b v (x 0) 6 (x 1) := by
  pointwise [form, keep, k0_pay14, k0_pay3, k0_pay4]

/-- The store to column group 7, at an index. -/
theorem store7 : k0_pay1 (k0_pay15 v k0_pay3 (k0_pay4 (F := Ideal) (View.ld b r0_2)) (View.ld w r0_17)) (k0_pay16 (View.ld u r0_18)) x
      = form u w b v (x 0) 7 (x 1) := by
  pointwise [form, keep, k0_pay1, k0_pay15, k0_pay16, k0_pay3, k0_pay4]

end Stores

/-- The body's result block at an index whose column lies in group `g`, from the six input blocks. -/
theorem out_form (x0 x1 : Vec Ideal S128x8192 .bf16) (x2 x3 : Vec Ideal S1x8192 .f32) (x4 : Vec Ideal S8x128x128 .f32)
    (x5 : Vec Ideal S128x128 .f32) (y : S128x8192.Idx) (C : EReal)
    (hC : ∀ (r : Fin 128) (g : Fin 8) (l : Fin 1024), (y 0 : Nat) = r.val → (y 1 : Nat) = 1024 * g.val + l.val →
      form x0 x4 x5 (k0_pay2 (F := Ideal) x1 x2 x3) r g l = C) :
    out0_6 (F := Ideal) x0 x1 x2 x3 x4 x5 y = C := by
  have hz : (![0, 0] : Fin 2 → Nat) = fun _ => 0 := funext fun a => by fin_cases a <;> rfl
  have l1 : View.ld x1 r0_0 = x1 := View.ld_unit_zero (S := S128x8192) hz _ _
  have l2 : View.ld x2 r0_1 = x2 := View.ld_unit_zero (S := S1x8192) hz _ _
  have l3 : View.ld x3 r0_1 = x3 := View.ld_unit_zero (S := S1x8192) hz _ _
  unfold out0_6 k0_pay17 k0_pay18 k0_pay19
  simp only [l1, l2, l3]
  canon_tiles x h
  case piece0 => exact (store7 _ _ _ _ x).trans (hC (x 0) 7 (x 1) h0 h1)
  case piece1 => exact (store6 _ _ _ _ x).trans (hC (x 0) 6 (x 1) h0 h1)
  case piece2 => exact (store5 _ _ _ _ x).trans (hC (x 0) 5 (x 1) h0 h1)
  case piece3 => exact (store4 _ _ _ _ x).trans (hC (x 0) 4 (x 1) h0 h1)
  case piece4 => exact (store3 _ _ _ _ x).trans (hC (x 0) 3 (x 1) h0 h1)
  case piece5 => exact (store2 _ _ _ _ x).trans (hC (x 0) 2 (x 1) h0 h1)
  case piece6 => exact (store1 _ _ _ _ x).trans (hC (x 0) 1 (x 1) h0 h1)
  case piece7 => exact (store0 _ _ _ x _ _ _).trans (hC (x 0) 0 (x 1) h0 (by simpa using h1))

/-- What a store holds, from the blocks of grid point `t`, is the reference's result at that place of chunk `t`. -/
theorem piece (c : Dev nD) (t : Fin cfg0.N) (r : Fin 128) (g : Fin 8) (l : Fin 1024)
    (y : ((cfg0.win 6).xblock (cfg0.grid.coords t)).Idx) (h0 : (y 0 : Nat) = r.val) (h1 : (y 1 : Nat) = 1024 * g.val + l.val) :
    form (iblk m c 0 t) (iblk m c 4 t) (iblk m c 5 t) (k0_pay2 (F := Ideal) (iblk m c 1 t) (iblk m c 2 t) (iblk m c 3 t)) r g l
      = Cert.GateRefIdeal.Read.val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          ((win0_6.blk t).view.emb y) := by
  have hN : cfg0.N = 64 := N_0
  have htl := t.isLt
  obtain ⟨e0, e1, e2, e3, e4, e5, e6⟩ := idx t
  have hy : (win0_6.blk t).view.emb y = (ix2 ⟨128 * t.val + r.val, by omega⟩ ⟨1024 * g.val + l.val, by omega⟩ : S8192x8192.Idx) := by
    blk_ext [e6]
  rw [hy]
  refine Eq.trans ?_ (ref_apply _ _ _ _ _ ⟨t.val, by omega⟩ r g l).symm
  have hb : iblk m c 5 t (ix2 r ⟨g.val, by omega⟩) = m ((c : Thread nD τ).loc main_arg4) (ix2 g r) := by
    rw [← bias_entry m c r g]
    blk_ext [iblk, e5]
  have hu : iblk m c 0 t (ix2 r ⟨1024 * g.val + l.val, by omega⟩)
      = m ((c : Thread nD τ).loc main_arg0) (ix2 ⟨128 * t.val + r.val, by omega⟩ ⟨1024 * g.val + l.val, by omega⟩) := by
    blk_ext [iblk, V, e0]
  have hw : ∀ k : Fin 128, iblk m c 4 t (ix3 g r k) = m ((c : Thread nD τ).loc main_arg3) (ix3 g r k) := fun k => by
    blk_ext [iblk, V, e4]
  unfold form
  rw [hb, hu]
  refine Ideal.mul_congr rfl (Ideal.add_congr ?_ rfl)
  refine Finset.sum_congr rfl fun k _ => ?_
  rw [hw, norm_eq, mul_comm]

/-- After the run the result array holds the reference's gated mix of the arguments. -/
theorem final (c : Dev nD) : (dats (F := Ideal) m 0 c).arrAt 6 cfg0.N =
    Cert.GateRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  exact out_form _ _ _ _ _ _ _ _ fun r g l h0 h1 => piece m c t r g l y h0 h1

end Cert.GateProof

end
-- ==== Proof.InValue.lean ====
/-
  The first layer's input projection: what the pipelined matrix product leaves in its result array,
  read at the ideal instance.
-/
module

public import proofs.«01_k».proof.Proof.Gen.InIdeal.Value
public import proofs.«01_k».proof.Proof.Gen.InRefIdeal.Read
public import Idealize.ShloMosaic.Lib.Pipeline.ValueKit
public import Idealize.ShloMosaic.Lib.Pointwise

@[expose] public section

set_option maxRecDepth 16384

noncomputable section

namespace Cert.InProof

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at a grid point: the block of `x` has the result block's row index and
    all columns, the block of `w` all rows and the result block's column index. -/
theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

/-- After the run the result array holds the reference's product of the two arguments. -/
theorem final (c : Dev nD) : (dats (F := Ideal) m 0 c).arrAt 2 cfg0.N =
    Cert.InRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨h0, h1, h2, h3⟩ := idx t
  pointwise [k0_pay1, Cert.InRefIdeal.Read.val_main_v2, Cert.InRefIdeal.Read.val_main_v1, Cert.InRefIdeal.Read.val_main_v0]
  blk_point [iblk, V, h0, h1, h2, h3]

end Cert.InProof

end
-- ==== Proof.UpValue.lean ====
/-
  The feed-forward up projection: what the pipelined SwiGLU product leaves in its two result arrays,
  read at the ideal instance.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.UpProof

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at a grid point: the block of `x` has the result block's row index, the
    blocks of the two weights its column index; the slab of the down weight stands where its rounded
    copy stands. -/
theorem idx : ∀ t : Fin cfg0.N, win0_0.index t 0 = win0_4.index t 0 ∧ win0_0.index t 1 = 0
    ∧ win0_1.index t 0 = 0 ∧ win0_1.index t 1 = win0_4.index t 1
    ∧ win0_2.index t 0 = 0 ∧ win0_2.index t 1 = win0_4.index t 1
    ∧ win0_3.index t 0 = win0_5.index t 0 ∧ win0_3.index t 1 = win0_5.index t 1 :=
  (by decide +kernel : ∀ t : Fin grid0.N, _)

/-- After the run the first result array holds the reference's `silu(x w1) * (x w3)`. -/
theorem final_act (c : Dev nD) : (dats (F := Ideal) m 0 c).arrAt 4 cfg0.N =
    Cert.UpRefIdeal.Read.val_main_v5 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨h0, h1, h2, h3, h4, h5, -, -⟩ := idx t
  pointwise [k0_pay2, Cert.UpRefIdeal.Read.val_main_v0, Cert.UpRefIdeal.Read.val_main_v1, Cert.UpRefIdeal.Read.val_main_v2, Cert.UpRefIdeal.Read.val_main_v3, Cert.UpRefIdeal.Read.val_main_v4, Cert.UpRefIdeal.Read.val_main_v5, Cert.UpRefIdeal.Read.val_main_call0_v0, Cert.UpRefIdeal.Read.val_main_call0_v1, Cert.UpRefIdeal.Read.val_main_call0_v2, Cert.UpRefIdeal.Read.val_main_call0_v3, Cert.UpRefIdeal.Read.val_main_call0_v4, Cert.UpRefIdeal.Read.val_main_call0_v5, Cert.UpRefIdeal.Read.val_main_call0_cst, Cert.UpRefIdeal.Read.val_main_call0_cst_0]
  simp only [Ideal.logistic]
  blk_point [iblk, V, h0, h1, h2, h3, h4, h5]

/-- After the run the second result array holds the down weight (rounding is the identity here). -/
theorem final_copy (c : Dev nD) : (dats (F := Ideal) m 0 c).arrAt 5 cfg0.N =
    Cert.UpRefIdeal.Read.val_main_v6 (F := Ideal) (m ((c : Thread nD τ).loc main_arg3)) := by
  refine (dats m 0 c).arrAt_eq_of_covers 5 _ (by decide +kernel) fun t hf y => ?_
  blk_simp
  rw [after0_5]
  frame_out
  obtain ⟨-, -, -, -, -, -, h6, h7⟩ := idx t
  pointwise [k0_pay1, Cert.UpRefIdeal.Read.val_main_v6]
  blk_point [iblk, V, h6, h7]

end Cert.UpProof

end
-- ==== Proof.GeluValue.lean ====
/-
  The second layer's input projection: what the pipelined product with bias and gelu leaves in its two
  result arrays, read at the ideal instance.
-/
module

public import proofs.«01_k».proof.Proof.Gen.GeluIdeal.Value
public import proofs.«01_k».proof.Proof.Gen.GeluRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.GeluProof

open Cert.GeluIdeal Cert.GeluIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at a grid point: the block of `x` has the result block's row index, the
    blocks of the weight and of the bias its column index; the slab of the output weight stands where
    its rounded copy stands. -/
theorem idx : ∀ t : Fin cfg0.N, win0_0.index t 0 = win0_4.index t 0 ∧ win0_0.index t 1 = 0
    ∧ win0_1.index t 0 = 0 ∧ win0_1.index t 1 = win0_4.index t 1
    ∧ win0_2.index t 0 = 0 ∧ win0_2.index t 1 = win0_4.index t 1
    ∧ win0_3.index t 0 = win0_5.index t 0 ∧ win0_3.index t 1 = win0_5.index t 1 :=
  (by decide +kernel : ∀ t : Fin grid0.N, _)

/-- After the run the first result array holds the reference's `gelu(x w + b)`. -/
theorem final_act (c : Dev nD) : (dats (F := Ideal) m 0 c).arrAt 4 cfg0.N =
    Cert.GeluRefIdeal.Read.val_main_v18 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨h0, h1, h2, h3, h4, h5, -, -⟩ := idx t
  pointwise [k0_pay2, Cert.GeluRefIdeal.Read.val_main_v0, Cert.GeluRefIdeal.Read.val_main_v1, Cert.GeluRefIdeal.Read.val_main_v2, Cert.GeluRefIdeal.Read.val_main_v3, Cert.GeluRefIdeal.Read.val_main_v4, Cert.GeluRefIdeal.Read.val_main_v5, Cert.GeluRefIdeal.Read.val_main_v6, Cert.GeluRefIdeal.Read.val_main_v7, Cert.GeluRefIdeal.Read.val_main_v8, Cert.GeluRefIdeal.Read.val_main_v9, Cert.GeluRefIdeal.Read.val_main_v10, Cert.GeluRefIdeal.Read.val_main_v11, Cert.GeluRefIdeal.Read.val_main_v12, Cert.GeluRefIdeal.Read.val_main_v13, Cert.GeluRefIdeal.Read.val_main_v14, Cert.GeluRefIdeal.Read.val_main_v15, Cert.GeluRefIdeal.Read.val_main_v16, Cert.GeluRefIdeal.Read.val_main_v17, Cert.GeluRefIdeal.Read.val_main_v18, Cert.GeluRefIdeal.Read.val_main_cst, Cert.GeluRefIdeal.Read.val_main_cst_0, Cert.GeluRefIdeal.Read.val_main_cst_1, Cert.GeluRefIdeal.Read.val_main_cst_2]
  blk_point [iblk, V, h0, h1, h2, h3, h4, h5]

/-- After the run the second result array holds the output weight (rounding is the identity here). -/
theorem final_copy (c : Dev nD) : (dats (F := Ideal) m 0 c).arrAt 5 cfg0.N =
    Cert.GeluRefIdeal.Read.val_main_v19 (F := Ideal) (m ((c : Thread nD τ).loc main_arg3)) := by
  refine (dats m 0 c).arrAt_eq_of_covers 5 _ (by decide +kernel) fun t hf y => ?_
  blk_simp
  rw [after0_5]
  frame_out
  obtain ⟨-, -, -, -, -, -, h6, h7⟩ := idx t
  pointwise [k0_pay1, Cert.GeluRefIdeal.Read.val_main_v19]
  blk_point [iblk, V, h6, h7]

end Cert.GeluProof

end
-- ==== Proof.OutCases.lean ====
/-
  The call `l0_out_proj_ln`: which branches the body takes at which grid points. A point is one of five kinds: the first; the
  other points of row block 0; a point of an odd row block; a point of an even row block; one of the last eight.
-/
module

public import proofs.«01_k».proof.Proof.Gen.OutIdeal.Frame
public import proofs.«01_k».proof.Proof.Gen.OutIdeal.Skeleton

@[expose] public section

set_option maxRecDepth 16384

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's branch 0: both grid coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The same condition in terms of the point's position in the grid. -/
theorem hcond0_0 : ∀ t : Fin cfg0.N, cond0_0 (grid0.coords t) ↔ t.val % 136 = 0 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 136 = 0)

/-- The condition of the body's branch 1: the row block is the first. -/
abbrev cond0_1 (i : grid0.Coords) : Prop := (Scalar.cmpi .ne (Scalar.extui (Scalar.cmpi .eq (BitVec.ofNat 32 (i 0).val) 0#32)) 0#32) = 1#1
/-- The same condition in terms of the point's position in the grid. -/
theorem hcond0_1 : ∀ t : Fin cfg0.N, cond0_1 (grid0.coords t) ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's branch 2: the row block is even, neither the first nor past the last. -/
abbrev cond0_2 (i : grid0.Coords) : Prop := k0_cond3 i = 1#1
/-- The same condition in terms of the point's position in the grid. -/
theorem hcond0_2 : ∀ t : Fin cfg0.N, cond0_2 (grid0.coords t) ↔ (8 ≤ t.val ∧ t.val < 128 ∧ t.val % 16 < 8) :=
  (by decide +kernel : ∀ t : Fin grid0.N, cond0_2 (grid0.coords t) ↔ (8 ≤ t.val ∧ t.val < 128 ∧ t.val % 16 < 8))

/-- The condition of the body's branch 3: the row block is odd. -/
abbrev cond0_3 (i : grid0.Coords) : Prop := k0_cond4 i = 1#1
/-- The same condition in terms of the point's position in the grid. -/
theorem hcond0_3 : ∀ t : Fin cfg0.N, cond0_3 (grid0.coords t) ↔ (8 ≤ t.val ∧ t.val < 128 ∧ 8 ≤ t.val % 16) :=
  (by decide +kernel : ∀ t : Fin grid0.N, cond0_3 (grid0.coords t) ↔ (8 ≤ t.val ∧ t.val < 128 ∧ 8 ≤ t.val % 16))

/-- The condition of the body's branch 4: the row block is past the last. -/
abbrev cond0_4 (i : grid0.Coords) : Prop := k0_cond5 i = 1#1
/-- The same condition in terms of the point's position in the grid. -/
theorem hcond0_4 : ∀ t : Fin cfg0.N, cond0_4 (grid0.coords t) ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 128 ≤ t.val)

/-! ## Where the results are stored -/

/-- Input window 0 is in use at every point. -/
theorem liveAt0_0 : ∀ t : Fin cfg0.N, cfg0.idle 0 (grid0.coords t) = false := fun _ => rfl
/-- Input window 1 is in use at every point. -/
theorem liveAt0_1 : ∀ t : Fin cfg0.N, cfg0.idle 1 (grid0.coords t) = false := fun _ => rfl
/-- Input window 2 is in use at every point. -/
theorem liveAt0_2 : ∀ t : Fin cfg0.N, cfg0.idle 2 (grid0.coords t) = false := fun _ => rfl
/-- Input window 3 is in use at every point. -/
theorem liveAt0_3 : ∀ t : Fin cfg0.N, cfg0.idle 3 (grid0.coords t) = false := fun _ => rfl
/-- Input window 4 is in use at every point. -/
theorem liveAt0_4 : ∀ t : Fin cfg0.N, cfg0.idle 4 (grid0.coords t) = false := fun _ => rfl

/-- The branch conditions at the first point. -/
abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- The branch conditions at the other points of row block 0 (points 1 to 7). -/
abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- The branch conditions at the points of an odd row block (1, 3, …, 15). -/
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- The branch conditions at the points of an even row block (2, 4, …, 14). -/
abbrev conds0_D (i : grid0.Coords) : Prop := ¬cond0_0 i ∧ ¬cond0_1 i ∧ cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- The branch conditions at the last eight points, after the last row block. -/
abbrev conds0_E (i : grid0.Coords) : Prop := ¬cond0_0 i ∧ ¬cond0_1 i ∧ ¬cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- The body leaves the float32 result's block alone at the first point. -/
theorem idleAt0_5_A : ∀ t : Fin cfg0.N, cond0_0 (grid0.coords t) → cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_A (grid0.coords t) → cfg0.idle 5 (grid0.coords t) = true) t ⟨h0, h1, h2, h3, h4⟩
/-- No block of the float32 result is written back at the first point. -/
theorem noFlush0_5_A : ∀ t : Fin cfg0.N, cond0_0 (grid0.coords t) → cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_A (grid0.coords t) → (cfg0.win 5).flush t = false) t ⟨h0, h1, h2, h3, h4⟩
/-- The body leaves the float32 result's block alone at points 1 to 7. -/
theorem idleAt0_5_B : ∀ t : Fin cfg0.N, ¬cond0_0 (grid0.coords t) → cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_B (grid0.coords t) → cfg0.idle 5 (grid0.coords t) = true) t ⟨h0, h1, h2, h3, h4⟩
/-- No block of the float32 result is written back at points 1 to 7. -/
theorem noFlush0_5_B : ∀ t : Fin cfg0.N, ¬cond0_0 (grid0.coords t) → cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_B (grid0.coords t) → (cfg0.win 5).flush t = false) t ⟨h0, h1, h2, h3, h4⟩
/-- The body stores the float32 result's block at a point of an odd row block. -/
theorem liveAt0_5_C : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_C (grid0.coords t) → cfg0.idle 5 (grid0.coords t) = false) t ⟨h0, h1, h2, h3, h4⟩
/-- The body stores the float32 result's block at a point of an even row block. -/
theorem liveAt0_5_D : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- The body stores the float32 result's block at one of the last eight points. -/
theorem liveAt0_5_E : ∀ t : Fin cfg0.N, ¬cond0_0 (grid0.coords t) → ¬cond0_1 (grid0.coords t) → ¬cond0_2 (grid0.coords t) → ¬cond0_3 (grid0.coords t) → cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩
/-- The body leaves the bfloat16 result's block alone at the first point. -/
theorem idleAt0_6_A : ∀ t : Fin cfg0.N, cond0_0 (grid0.coords t) → cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_A (grid0.coords t) → cfg0.idle 6 (grid0.coords t) = true) t ⟨h0, h1, h2, h3, h4⟩
/-- No block of the bfloat16 result is written back at the first point. -/
theorem noFlush0_6_A : ∀ t : Fin cfg0.N, cond0_0 (grid0.coords t) → cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_A (grid0.coords t) → (cfg0.win 6).flush t = false) t ⟨h0, h1, h2, h3, h4⟩
/-- The body leaves the bfloat16 result's block alone at points 1 to 7. -/
theorem idleAt0_6_B : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_B (grid0.coords t) → cfg0.idle 6 (grid0.coords t) = true) t ⟨h0, h1, h2, h3, h4⟩
/-- No block of the bfloat16 result is written back at points 1 to 7. -/
theorem noFlush0_6_B : ∀ t : Fin cfg0.N, ¬cond0_0 (grid0.coords t) → cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_B (grid0.coords t) → (cfg0.win 6).flush t = false) t ⟨h0, h1, h2, h3, h4⟩
/-- The body stores the bfloat16 result's block at a point of an odd row block. -/
theorem liveAt0_6_C : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
/-- The body stores the bfloat16 result's block at a point of an even row block. -/
theorem liveAt0_6_D : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
/-- The body stores the bfloat16 result's block at one of the last eight points. -/
theorem liveAt0_6_E : ∀ t : Fin cfg0.N, ¬cond0_0 (grid0.coords t) → ¬cond0_1 (grid0.coords t) → ¬cond0_2 (grid0.coords t) → ¬cond0_3 (grid0.coords t) → cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩

/-! ## The buffers -/

/-- One staging buffer of the float32 result, through which its contents are stated. -/
abbrev VO0_5 : View sig .tc .vmem S64x4096 .f32 := (Memref.whole cc0_stg5_0 : Memref sig .tc .vmem S64x4096 .f32).view
/-- One staging buffer of the bfloat16 result, through which its contents are stated. -/
abbrev VO0_6 : View sig .tc .vmem S64x4096 .bf16 := (Memref.whole cc0_stg6_0 : Memref sig .tc .vmem S64x4096 .bf16).view
/-- Each window's staging buffer in use at point `t`, and that it is a whole buffer. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x4096 .bf16 := win0_6.stage (cfg0.slots t 6)
abbrev hs0_6 (t : Fin cfg0.N) : (ms0_6 t).IsWhole := hstage0_6 ((cfg0.slots t 6).cast nbuf0_6)
/-- The two accumulators, whole buffers of the kernel's own. -/
abbrev scM0_0 : Memref sig .tc .vmem S512x4096 .f32 := Memref.whole cc0_scratch0
abbrev scM0_1 : Memref sig .tc .vmem S512x4096 .f32 := Memref.whole cc0_scratch1
/-- The first accumulator as a view: what it holds is stated through it. -/
abbrev VS0_0 : View sig .tc .vmem S512x4096 .f32 := scM0_0.view
/-- The second accumulator as a view: what it holds is stated through it. -/
abbrev VS0_1 : View sig .tc .vmem S512x4096 .f32 := scM0_1.view

/-- What a core owns beside the windows: the two accumulators at any contents, and the random generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OutIdeal.Gen

end
-- ==== Proof.OutBody.lean ====
/-
  The call `l0_out_proj_ln`: the body run at each kind of grid point.
-/
module

public import proofs.«01_k».proof.Proof.OutCases

@[expose] public section

set_option maxRecDepth 16384

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Kinds
variable (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S64x4096 .f32) (harg4 : arg4.IsWhole)
  (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole)
  (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole)

set_option maxHeartbeats 1000000 in
/-- The body run at the first point: the stores it makes into the results' blocks and into the accumulators, with the
    proof that, from the input blocks at their contents and the accumulators at any contents, it runs to the end
    with the inputs as they were and those stores made. -/
noncomputable def kernelRun0_A (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (xi5 : Vec F S64x4096 .f32) (xi6 : Vec F S64x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_l0_out_proj_ln i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0_l0_out_proj_ln_eq_skeleton]; unfold cc0_l0_out_proj_ln_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 1000000 in
/-- The body run at the other points of row block 0 (points 1 to 7): the stores it makes into the results' blocks and into the accumulators, with the
    proof that, from the input blocks at their contents and the accumulators at what the point before left (`xs0`, `xs1`), it runs to the end
    with the inputs as they were and those stores made. -/
noncomputable def kernelRun0_B (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (xi5 : Vec F S64x4096 .f32) (xi6 : Vec F S64x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_l0_out_proj_ln i arg2 harg2 arg3 harg3 arg4 harg4 arg5 harg5 arg6 harg6 arg7 harg7 arg8 harg8 arg9 harg9 arg10 harg10) K } := by
  refine ⟨[], [], ?_, [], fun xi5 xi6 E K => ?run⟩
  case run =>
    simp only [cc0_l0_out_proj_ln_eq_skeleton]; unfold cc0_l0_out_proj_ln_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

set_option maxHeartbeats 1000000 in
/-- The body run at the points of an odd row block (1, 3, …, 15): the stores it makes into the results' blocks and into the accumulators, with the
    proof that, from the input blocks at their contents and the accumulators at what the point before left (`xs0`, `xs1`), it runs to the end
    with the inputs as they were and those stores made. -/
noncomputable def kernelRun0_C (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_l0_out_proj_ln i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_l0_out_proj_ln_eq_skeleton]; unfold cc0_l0_out_proj_ln_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexact HS0
    iexists _; iexact HS1

set_option maxHeartbeats 1000000 in
/-- The body run at the points of an even row block (2, 4, …, 14): the stores it makes into the results' blocks and into the accumulators, with the
    proof that, from the input blocks at their contents and the accumulators at what the point before left (`xs0`, `xs1`), it runs to the end
    with the inputs as they were and those stores made. -/
noncomputable def kernelRun0_D (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_l0_out_proj_ln i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_l0_out_proj_ln_eq_skeleton]; unfold cc0_l0_out_proj_ln_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexact HS1

set_option maxHeartbeats 1000000 in
/-- The body run at the last eight points, after the last row block: the stores it makes into the results' blocks and into the accumulators, with the
    proof that, from the input blocks at their contents and the accumulators at what the point before left (`xs0`, `xs1`), it runs to the end
    with the inputs as they were and those stores made. -/
noncomputable def kernelRun0_E (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_l0_out_proj_ln i arg2 harg2 arg3 harg3 arg4 harg4 arg5 harg5 arg6 harg6 arg7 harg7 arg8 harg8 arg9 harg9 arg10 harg10) K } := by
  refine ⟨?_, ?_, [], ?_, fun E K => ?run⟩
  case run =>
    simp only [cc0_l0_out_proj_ln_eq_skeleton]; unfold cc0_l0_out_proj_ln_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexact HS1

end Kinds

end Cert.OutIdeal.Gen

end
-- ==== Proof.OutFrame.lean ====
/-
  The call `l0_out_proj_ln`: what its buffers hold along the grid, and that it runs to the end with its arguments unchanged.
-/
module

public import proofs.«01_k».proof.Proof.OutBody
public import Idealize.ShloMosaic.Lib.Claim

@[expose] public section

set_option maxRecDepth 16384

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Stores
variable (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S64x4096 .f32) (harg4 : arg4.IsWhole)
  (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole)
  (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole)

/-- At the first point nothing is stored into the float32 result's block; nothing reads this value. -/
def out0_A_5 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) : Vec F S64x4096 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 hc2 hc3 hc4 x0 x1 x2 x3 x4).1)

/-- At the first point nothing is stored into the bfloat16 result's block; nothing reads this value. -/
def out0_A_6 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) : Vec F S64x4096 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 hc3 hc4 x0 x1 x2 x3 x4).2.1)

/-- At the first point the stores into the first accumulator cover it. -/
theorem scover0_A_0 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (y : S512x4096.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4).2.2.1 S512x4096.size (by sl_kernel_rfl) y

/-- What the first accumulator's buffer holds after the body at the first point. -/
def sout0_A_0 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 hc3 hc4 x0 x1 x2 x3 x4).2.2.1)

/-- At the first point the stores into the second accumulator cover it. -/
theorem scover0_A_1 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (y : S512x4096.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1 S512x4096.size (by sl_kernel_rfl) y

/-- What the second accumulator's buffer holds after the body at the first point. -/
def sout0_A_1 (hc0 : cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) : Vec F S512x4096 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1)

/-- At points 1 to 7 nothing is stored into the float32 result's block; nothing reads this value. -/
def out0_B_5 (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).1)

/-- At points 1 to 7 nothing is stored into the bfloat16 result's block; nothing reads this value. -/
def out0_B_6 (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- At points 1 to 7 the stores into the first accumulator cover it. -/
theorem scover0_B_0 (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S512x4096.Idx) :
    ∃ pc ∈ (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1 S512x4096.size (by sl_kernel_rfl) y

/-- What the first accumulator's buffer holds after the body at points 1 to 7. -/
def sout0_B_0 (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- What the second accumulator's buffer holds after the body at points 1 to 7. -/
def sout0_B_1 (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S64x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole) (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole) (hc0 : ¬cond0_0 i) (hc1 : cond0_1 i) (hc2 : ¬cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 := xs1

/-- At a point of an odd row block the stores into the float32 result cover it. -/
theorem cover0_C_5 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at a point of an odd row block. -/
def out0_C_5 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1)

/-- At a point of an odd row block the stores into the bfloat16 result cover it. -/
theorem cover0_C_6 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at a point of an odd row block. -/
def out0_C_6 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- What the first accumulator's buffer holds after the body at a point of an odd row block. -/
def sout0_C_0 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  arg9.view.read (Elt F) (arg9.view.writes (Elt F) (harg9.unread xs0) (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- At a point of an odd row block the stores into the second accumulator cover it. -/
theorem scover0_C_1 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1 S512x4096.size (by sl_kernel_rfl) y

/-- What the second accumulator's buffer holds after the body at a point of an odd row block. -/
def sout0_C_1 (hc0 : ¬cond0_0 i) (hc1 : ¬cond0_1 i) (hc2 : ¬cond0_2 i) (hc3 : cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-- At a point of an even row block the stores into the float32 result cover it. -/
theorem cover0_D_5 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at a point of an even row block. -/
def out0_D_5 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1)

/-- At a point of an even row block the stores into the bfloat16 result cover it. -/
theorem cover0_D_6 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at a point of an even row block. -/
def out0_D_6 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- At a point of an even row block the stores into the first accumulator cover it. -/
theorem scover0_D_0 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) (y : S512x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1 S512x4096.size (by sl_kernel_rfl) y

/-- What the first accumulator's buffer holds after the body at a point of an even row block. -/
def sout0_D_0 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- What the second accumulator's buffer holds after the body at a point of an even row block. -/
def sout0_D_1 (hc0 : ¬cond0_0 i) (hc1 : ¬cond0_1 i) (hc2 : cond0_2 i) (hc3 : ¬cond0_3 i) (hc4 : ¬cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  arg10.view.read (Elt F) (arg10.view.writes (Elt F) (harg10.unread xs1) (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-- At one of the last eight points the stores into the float32 result cover it. -/
theorem cover0_E_5 (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at one of the last eight points. -/
def out0_E_5 (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1)

/-- At one of the last eight points the stores into the bfloat16 result cover it. -/
theorem cover0_E_6 (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) (y : S64x4096.Idx) :
    ∃ pc ∈ (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at one of the last eight points. -/
def out0_E_6 (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- What the first accumulator's buffer holds after the body at one of the last eight points. -/
def sout0_E_0 (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S64x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole) (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole) (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 := xs0

/-- What the second accumulator's buffer holds after the body at one of the last eight points. -/
def sout0_E_1 (hc0 : ¬cond0_0 i) (hc1 : ¬cond0_1 i) (hc2 : ¬cond0_2 i) (hc3 : ¬cond0_3 i) (hc4 : cond0_4 i)
    (x0 : Vec F S512x1024 .bf16) (x1 : Vec F S1024x4096 .bf16) (x2 : Vec F S64x4096 .f32) (x3 x4 : Vec F S1x4096 .f32) (xs0 xs1 : Vec F S512x4096 .f32) : Vec F S512x4096 .f32 :=
  arg10.view.read (Elt F) (arg10.view.writes (Elt F) (harg10.unread xs1) (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-! ## What the outputs hold after each point -/

end Stores

/-- What the results' buffers and the two accumulators hold after the body at position `n`, by recursion along the grid:
    the kind of point decides, over what the point before left. -/
def outsAt0 (c : Dev nD) : (n : ℕ) → n < cfg0.N → Vec F S64x4096 .f32 × Vec F S64x4096 .bf16 × Vec F S512x4096 .f32 × Vec F S512x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 136 = 0 then
      if h1 : (n + 1) < 8 then
        if h2 : (8 ≤ (n + 1) ∧ (n + 1) < 128 ∧ (n + 1) % 16 < 8) then
          False.elim (by have hN : n + 1 < 136 := lt_of_lt_of_eq hn (show cfg0.N = 136 from N_0); omega)
        else
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 136 := lt_of_lt_of_eq hn (show cfg0.N = 136 from N_0); omega)
    else
      if h1 : (n + 1) < 8 then
        if h2 : (8 ≤ (n + 1) ∧ (n + 1) < 128 ∧ (n + 1) % 16 < 8) then
          False.elim (by have hN : n + 1 < 136 := lt_of_lt_of_eq hn (show cfg0.N = 136 from N_0); omega)
        else
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        if h2 : (8 ≤ (n + 1) ∧ (n + 1) < 128 ∧ (n + 1) % 16 < 8) then
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
        else
          if h3 : (8 ≤ (n + 1) ∧ (n + 1) < 128 ∧ 8 ≤ (n + 1) % 16) then
            if h4 : 128 ≤ (n + 1) then
              False.elim (by have hN : n + 1 < 136 := lt_of_lt_of_eq hn (show cfg0.N = 136 from N_0); omega)
            else
              (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
          else
            if h4 : 128 ≤ (n + 1) then
              (out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
            else
              False.elim (by have hN : n + 1 < 136 := lt_of_lt_of_eq hn (show cfg0.N = 136 from N_0); omega)

/-- `outsAt0` at the first point. -/
theorem outsAt0_A (c : Dev nD) (t : Fin cfg0.N) (h0 : t.val % 136 = 0) (h1 : t.val < 8) (h2 : ¬(8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at points 1 to 7. -/
theorem outsAt0_B (c : Dev nD) (t : Fin cfg0.N) (h0 : ¬t.val % 136 = 0) (h1 : t.val < 8) (h2 : ¬(8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- `outsAt0` at a point of an odd row block. -/
theorem outsAt0_C (c : Dev nD) (t : Fin cfg0.N) (h0 : ¬t.val % 136 = 0) (h1 : ¬t.val < 8) (h2 : ¬(8 ≤ t.val ∧ t.val < 128 ∧ t.val % 16 < 8)) (h3 : (8 ≤ t.val ∧ t.val < 128 ∧ 8 ≤ t.val % 16)) (h4 : ¬128 ≤ t.val) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of an even row block. -/
theorem outsAt0_D (c : Dev nD) (t : Fin cfg0.N) (h0 : ¬t.val % 136 = 0) (h1 : ¬t.val < 8) (h2 : (8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at one of the last eight points. -/
theorem outsAt0_E (c : Dev nD) (t : Fin cfg0.N) (h0 : ¬t.val % 136 = 0) (h1 : ¬t.val < 8) (h2 : ¬(8 ≤ t.val ∧ t.val < 128 ∧ t.val % 16 < 8)) (h3 : ¬(8 ≤ t.val ∧ t.val < 128 ∧ 8 ≤ t.val % 16)) (h4 : 128 ≤ t.val) :
    outsAt0 m c t.val t.isLt = (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- What a core owns beside the windows before position `n`: at the start the accumulators at any contents, afterwards at
    what the point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` the accumulators hold that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first the accumulators hold what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays at the start; after each point the inputs' buffers at their
    blocks and the results' at `outsAt0`; the accumulators as `PhiS` says; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The arrays of the proof data are those at the start. -/
theorem A_eq (c : Dev nD) (w : Fin cfg0.W) : (dats m 0 c).A w = V m c (Pipeline.arrRef spec0 w) := by
  dsimp only [dats]

/-- What is owned at a point's start, in terms of its position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 136 := lt_of_lt_of_eq t.isLt (show cfg0.N = 136 from N_0)
  by_cases h0 : t.val % 136 = 0
  · by_cases h1 : t.val < 8
    · by_cases h2 : (8 ≤ t.val ∧ t.val < 128 ∧ t.val % 16 < 8)
      · exfalso; omega
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [Dat.leavesExact_idle (dats m 0 c) 5 t (idleAt0_5_A t ((hcond0_0 t).mpr h0) ((hcond0_1 t).mpr h1) (fun h => h2 ((hcond0_2 t).mp h)) (fun h => h3 ((hcond0_3 t).mp h)) (fun h => h4 ((hcond0_4 t).mp h))) (noFlush0_5_A t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 6 t (idleAt0_6_A t ((hcond0_0 t).mpr h0) ((hcond0_1 t).mpr h1) (fun h => h2 ((hcond0_2 t).mp h)) (fun h => h3 ((hcond0_3 t).mp h)) (fun h => h4 ((hcond0_4 t).mp h))) (noFlush0_6_A t ((hcond0_0 t).mpr h0) ((hcond0_1 t).mpr h1) (fun h => h2 ((hcond0_2 t).mp h)) (fun h => h3 ((hcond0_3 t).mp h)) (fun h => h4 ((hcond0_4 t).mp h)))]
            by_cases hz : t.val = 0
            · rw [PhiS_castSucc m c t, PhiS_zero m c _ _ hz, PhiA0_eq]
              rw [outsAt0_A m c t h0 h1 h2 h3 h4]
              unfold sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)).2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [HS0]; · iexact HS0
              isplitl [HS1]; · iexact HS1
              iintro ⟨H0, H1, H2, H3, H4, H5, H6, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexists _; iexact H5
              iexists _; iexact H6
            · exfalso; have hN : t.val < 136 := lt_of_lt_of_eq t.isLt (show cfg0.N = 136 from N_0); omega
    · exfalso; omega
  · by_cases h1 : t.val < 8
    · by_cases h2 : (8 ≤ t.val ∧ t.val < 128 ∧ t.val % 16 < 8)
      · exfalso; omega
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [Dat.leavesExact_idle (dats m 0 c) 5 t (idleAt0_5_B t (fun h => h0 ((hcond0_0 t).mp h)) ((hcond0_1 t).mpr h1) (fun h => h2 ((hcond0_2 t).mp h)) (fun h => h3 ((hcond0_3 t).mp h)) (fun h => h4 ((hcond0_4 t).mp h))) (noFlush0_5_B t (fun h => h0 ((hcond0_0 t).mp h)) ((hcond0_1 t).mpr h1) (fun h => h2 ((hcond0_2 t).mp h)) (fun h => h3 ((hcond0_3 t).mp h)) (fun h => h4 ((hcond0_4 t).mp h)))]
            rw [Dat.leavesExact_idle (dats m 0 c) 6 t (idleAt0_6_B t (fun h => h0 ((hcond0_0 t).mp h)) ((hcond0_1 t).mpr h1) (fun h => h2 ((hcond0_2 t).mp h)) (fun h => h3 ((hcond0_3 t).mp h)) (fun h => h4 ((hcond0_4 t).mp h))) (noFlush0_6_B t (fun h => h0 ((hcond0_0 t).mp h)) ((hcond0_1 t).mpr h1) (fun h => h2 ((hcond0_2 t).mp h)) (fun h => h3 ((hcond0_3 t).mp h)) (fun h => h4 ((hcond0_4 t).mp h)))]
            by_cases hz : t.val = 0
            · exfalso; have hN : t.val < 136 := lt_of_lt_of_eq t.isLt (show cfg0.N = 136 from N_0); omega
            · rw [PhiS_castSucc m c t, PhiS_pos m c _ _ hz]
              rw [outsAt0_B m c t h0 h1 h2 h3 h4]
              unfold sout0_B_0 sout0_B_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) _ _).2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [HS0]; · iexact HS0
              isplitl [HS1]; · iexact HS1
              iintro ⟨H0, H1, H2, H3, H4, H5, H6, ⟨%es0, HS0⟩, HS1⟩
              isplitl [HS0 HS1 Hg]
              · isplitl [HS0 HS1]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _)
                  iexact HS1
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexists _; iexact H5
              iexists _; iexact H6
    · by_cases h2 : (8 ≤ t.val ∧ t.val < 128 ∧ t.val % 16 < 8)
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2) (fun h => h3 ((hcond0_3 t).mp h)) (fun h => h4 ((hcond0_4 t).mp h))], after0_6]
            by_cases hz : t.val = 0
            · exfalso; have hN : t.val < 136 := lt_of_lt_of_eq t.isLt (show cfg0.N = 136 from N_0); omega
            · rw [PhiS_castSucc m c t, PhiS_pos m c _ _ hz]
              rw [outsAt0_D m c t h0 h1 h2 h3 h4]
              unfold out0_D_5 out0_D_6 sout0_D_0 sout0_D_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_D c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, ⟨%es0, HS0⟩, HS1⟩
              isplitl [HS0 HS1 Hg]
              · isplitl [HS0 HS1]
                · isplitl [HS0]
                  · unfold owns; iexists _; isplitr
                    swap; · iexact HS0
                    ipureintro; exact View.read_writes_of_cover _ _ _ _ _ (scover0_D_0 c _ _ _ _ _ _ _ _ _ _ _ _ _ _ _ _ _ _ _ _ _ _ _ _ _ _ _ _ _ _ _)
                  unfold owns; iexists _; isplitr
                  swap; · iexact HS1
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_D_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _)
      · by_cases h3 : (8 ≤ t.val ∧ t.val < 128 ∧ 8 ≤ t.val % 16)
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) (fun h => h2 ((hcond0_2 t).mp h)) ((hcond0_3 t).mpr h3) (fun h => h4 ((hcond0_4 t).mp h))], after0_6]
            by_cases hz : t.val = 0
            · exfalso; have hN : t.val < 136 := lt_of_lt_of_eq t.isLt (show cfg0.N = 136 from N_0); omega
            · rw [PhiS_castSucc m c t, PhiS_pos m c _ _ hz]
              rw [outsAt0_C m c t h0 h1 h2 h3 h4]
              unfold out0_C_5 out0_C_6 sout0_C_0 sout0_C_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_C c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, HS0, ⟨%es1, HS1⟩⟩
              isplitl [HS0 HS1 Hg]
              · isplitl [HS0 HS1]
                · isplitl [HS0]
                  · unfold owns; iexists _; isplitr
                    swap; · iexact HS0
                    ipureintro; rfl
                  unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_C_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _)
        · by_cases h4 : 128 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_E t (fun h => h0 ((hcond0_0 t).mp h)) (fun h => h1 ((hcond0_1 t).mp h)) (fun h => h2 ((hcond0_2 t).mp h)) (fun h => h3 ((hcond0_3 t).mp h)) ((hcond0_4 t).mpr h4)], after0_5]
            rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) (fun h => h2 ((hcond0_2 t).mp h)) (fun h => h3 ((hcond0_3 t).mp h)) ((hcond0_4 t).mpr h4)], after0_6]
            by_cases hz : t.val = 0
            · exfalso; have hN : t.val < 136 := lt_of_lt_of_eq t.isLt (show cfg0.N = 136 from N_0); omega
            · rw [PhiS_castSucc m c t, PhiS_pos m c _ _ hz]
              rw [outsAt0_E m c t h0 h1 h2 h3 h4]
              unfold out0_E_5 out0_E_6 sout0_E_0 sout0_E_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_E c (grid0.coords t) _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, HS0, HS1⟩
              isplitl [HS0 HS1 Hg]
              · isplitl [HS0 HS1]
                · isplitl [HS0]
                  · iexact HS0
                  unfold owns; iexists _; isplitr
                  swap; · iexact HS1
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_E_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_E_6 c _ _ _ _ _ _ _ _ _ _ _ _ _ _ _ _ _ _ _ _ _ _ _ _ _ _ _ _ _ _ _)
          · exfalso; omega

/-- The call the pipeline makes at a point is the body at that point's buffers. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the accumulators are owned at any contents. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the accumulators' contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 136 := N_0; omega)

/-! ## The run and the frame -/

set_option backward.isDefEq.respectTransparency.types false in
/-- The call runs to the end, its arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call runs to the end, its arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The call runs to the end and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The call runs to the end, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.OutIdeal.Gen

end
-- ==== Proof.OutRun.lean ====
/-
  The call `l0_out_proj_ln`: its results after the run, as the arrays the proof data name.
-/
module

public import proofs.«01_k».proof.Proof.OutFrame
public import Idealize.ShloMosaic.Lib.Pipeline.Value

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run the float32 result is the array the proof data name. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the run the bfloat16 result is the array the proof data name. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the run argument `main_arg0` is as at the start. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run argument `main_arg1` is as at the start. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run argument `main_arg2` is as at the start. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the run argument `main_arg3` is as at the start. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run argument `main_arg4` is as at the start. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The call runs to the end, its results at the arrays the proof data name and its arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.OutIdeal.Value

end
-- ==== Proof.TwoBuffers.lean ====
/-
  Two accumulators used in turn. A grid of 17 row blocks times 8 steps runs in order; at step `k` of row block `i < 16`
  a partial product is added to the buffer of the block's parity, and at step `k` of every block after the first the
  other buffer, which holds the finished sums of the block before, has its `k`-th eighth of rows set to zero. What is
  shown here is what that other buffer holds, in the rows about to be set to zero, when the step begins.
-/
module

public import Mathlib.Data.EReal.Basic
public import Mathlib.Algebra.BigOperators.Group.Finset.Basic

@[expose] public section

namespace Cert.TwoBuffers

variable {S : Type} (E O P : ℕ → S → EReal) (row : S → ℕ)

/-- The buffer the row block of point `n` is summed in. -/
def mine (n : ℕ) : ℕ → S → EReal := if n / 8 % 2 = 0 then E else O

/-- The buffer that holds the row block before the one of point `n`. -/
def other (n : ℕ) : ℕ → S → EReal := if n / 8 % 2 = 0 then O else E

/-- The steps, as the kernel takes them: the first point, the rest of the first row block, and the later points. -/
structure Steps : Prop where
  first : ∀ y, E 0 y = P 0 y ∧ O 0 y = 0
  early : ∀ n, n + 1 < 8 → ∀ y, E (n + 1) y = E n y + P (n + 1) y ∧ O (n + 1) y = O n y
  add : ∀ n, 8 ≤ n + 1 → n + 1 < 128 → ∀ y, mine E O (n + 1) (n + 1) y = mine E O (n + 1) n y + P (n + 1) y
  zero : ∀ n, 8 ≤ n + 1 → n + 1 < 136 → ∀ y, other E O (n + 1) (n + 1) y
    = if 64 * ((n + 1) % 8) ≤ row y ∧ row y < 64 * ((n + 1) % 8) + 64 then 0 else other E O (n + 1) n y

variable {E O P row}

/-- When point `n + 1` begins: its own buffer holds the sums of the steps taken so far in its row block, and the other
    buffer holds the finished sums of the block before in the rows not yet set to zero, and zero elsewhere. -/
theorem before (h : Steps E O P row) (hr : ∀ y, row y < 512) : ∀ n, n + 1 < 136 → ∀ y,
    (n + 1 ≤ 128 → mine E O (n + 1) n y = ∑ s ∈ Finset.range ((n + 1) % 8), P (8 * ((n + 1) / 8) + s) y)
    ∧ other E O (n + 1) n y = if 8 ≤ n + 1 ∧ 64 * ((n + 1) % 8) ≤ row y
        then ∑ s ∈ Finset.range 8, P (8 * ((n + 1) / 8 - 1) + s) y else 0 := by
  intro n
  induction n with
  | zero =>
    intro _ y
    obtain ⟨h1, h2⟩ := h.first y
    simp [mine, other, h1, h2]
  | succ n ih =>
    intro hn y
    obtain ⟨i1, i2⟩ := ih (by omega) y
    have hy := hr y
    by_cases h8 : n + 1 < 8
    · obtain ⟨e1, e2⟩ := h.early n h8 y
      have q : (n + 1) / 8 = 0 := by omega
      have q' : (n + 1) % 8 = n + 1 := by omega
      simp only [mine, other, q, q'] at i1 i2
      replace i1 := i1 (by omega)
      simp only [Nat.zero_mod, if_true, Nat.mul_zero, Nat.zero_add] at i1 i2
      rw [if_neg (by omega)] at i2
      have e1' : E (n + 1) y = ∑ s ∈ Finset.range (n + 2), P s y := by
        rw [e1, i1, Finset.sum_range_succ (fun s => P s y) (n + 1)]
      have e2' : O (n + 1) y = 0 := e2.trans i2
      by_cases h7 : n + 1 = 7
      · have hn6 : n = 6 := by omega
        subst hn6
        simp [mine, other, e1', e2']
      · have q2 : (n + 1 + 1) / 8 = 0 := by omega
        have q2' : (n + 1 + 1) % 8 = n + 2 := by omega
        simp only [mine, other, q2, q2', Nat.zero_mod, if_true, Nat.mul_zero, Nat.zero_add]
        exact ⟨fun _ => e1', e2'.trans (by rw [if_neg (by omega)])⟩
    · have z := h.zero n (by omega) (by omega) y
      rw [i2] at z
      by_cases h7 : (n + 1) % 8 = 7
      · have q : (n + 1 + 1) / 8 = (n + 1) / 8 + 1 := by omega
        have q' : (n + 1 + 1) % 8 = 0 := by omega
        have sw : mine E O (n + 1 + 1) (n + 1) y = other E O (n + 1) (n + 1) y
            ∧ other E O (n + 1 + 1) (n + 1) y = mine E O (n + 1) (n + 1) y := by
          unfold mine other
          rw [q]
          rcases Nat.mod_two_eq_zero_or_one ((n + 1) / 8) with hp | hp
          · have : ((n + 1) / 8 + 1) % 2 = 1 := by omega
            simp [hp, this]
          · have : ((n + 1) / 8 + 1) % 2 = 0 := by omega
            simp [hp, this]
        rw [sw.1, sw.2, q, q']
        refine ⟨fun _ => ?_, ?_⟩
        · rw [z, Finset.range_zero, Finset.sum_empty]
          split
          · rfl
          · rw [if_neg (by omega)]
        · have hlt : n + 1 < 128 := by omega
          rw [h.add n (by omega) hlt y, i1 (by omega), if_pos ⟨by omega, by omega⟩, h7, Nat.add_sub_cancel,
            Finset.sum_range_succ _ 7, show 8 * ((n + 1) / 8) + 7 = n + 1 by omega]
      · have q : (n + 1 + 1) / 8 = (n + 1) / 8 := by omega
        have q' : (n + 1 + 1) % 8 = (n + 1) % 8 + 1 := by omega
        have sw : mine E O (n + 1 + 1) = mine E O (n + 1) ∧ other E O (n + 1 + 1) = other E O (n + 1) := by
          unfold mine other
          rw [q]
          exact ⟨rfl, rfl⟩
        rw [sw.1, sw.2, q, q']
        refine ⟨fun hlt => ?_, ?_⟩
        · rw [h.add n (by omega) (by omega) y, i1 (by omega), Finset.sum_range_succ,
            show 8 * ((n + 1) / 8) + (n + 1) % 8 = n + 1 by omega]
        · rw [z]
          by_cases c1 : 64 * ((n + 1) % 8) ≤ row y ∧ row y < 64 * ((n + 1) % 8) + 64
          · rw [if_pos c1, if_neg (by omega)]
          · rw [if_neg c1]
            by_cases c2 : 64 * ((n + 1) % 8) ≤ row y
            · rw [if_pos ⟨by omega, c2⟩, if_pos ⟨by omega, by omega⟩]
            · rw [if_neg (by omega), if_neg (by omega)]

end Cert.TwoBuffers

end
-- ==== Proof.OutValue.lean ====
/-
  A matmul whose rows are added to a residual stream and layer-normalized: what the pipelined kernel leaves in its two
  result arrays (the normalized rows, and the same rows rounded to bf16), read at the ideal instance. The sums of a row
  block are gathered over eight steps in one of two buffers, while the rows of the block before are read from the other
  buffer, normalized, written out and set to zero, an eighth at a time.
-/
module

public import proofs.«01_k».proof.Proof.OutRun
public import proofs.«01_k».proof.Proof.TwoBuffers
public import proofs.«01_k».proof.Proof.Gen.OutRefIdeal.Read
public import Idealize.ShloMosaic.Lib.Pipeline.ValueKit
public import Idealize.ShloMosaic.Lib.Pointwise
public import Idealize.ShloMosaic.Lib.WritesUnit

@[expose] public section

set_option maxRecDepth 16384

noncomputable section

namespace Cert.OutProof

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at grid point `t` (row block `t / 8`, step `t % 8`). After the last row block the left
    operand's window stays at the last block; the residual and the results stand at the rows normalized at this step,
    those of the row block before. -/
theorem idx : ∀ t : Fin cfg0.N, win0_0.index t = ![min (t.val / 8) 15, if t.val < 128 then t.val % 8 else 7]
    ∧ (t.val < 128 → win0_1.index t = ![t.val % 8, 0]) ∧ win0_2.index t = ![t.val - 8, 0] ∧ win0_3.index t = ![0, 0]
    ∧ win0_4.index t = ![0, 0] ∧ win0_5.index t = ![t.val - 8, 0] ∧ win0_6.index t = ![t.val - 8, 0]
    ∧ k0_off1 (grid0.coords t) = ![64 * (t.val % 8), 0] ∧ k0_off2 (grid0.coords t) = ![64 * (t.val % 8), 0]
    ∧ k0_off3 (grid0.coords t) = ![64 * (t.val % 8), 0] :=
  (by decide +kernel : ∀ t : Fin grid0.N, _)

/-! ## The payloads at an index -/

/-- An entry of the product of a left block and a right block. -/
def dot (a : FVec Ideal S512x1024 .bf16) (w : FVec Ideal S1024x4096 .bf16) (y : S512x4096.Idx) : EReal :=
  ∑ l : Fin 1024, a (ix2 (y 0) l) * w (ix2 l (y 1))

/-- An entry of the product of the whole operands. -/
def prod (x0 : FVec Ideal S8192x8192 .bf16) (x1 : FVec Ideal S8192x4096 .bf16) (u : Fin 8192) (q : Fin 4096) : EReal :=
  ∑ k : Fin 8192, x0 (ix2 u k) * x1 (ix2 k q)

theorem pay1_apply (s : FVec Ideal S512x4096 .f32) (a : FVec Ideal S512x1024 .bf16) (w : FVec Ideal S1024x4096 .bf16) (y : S512x4096.Idx) :
    k0_pay1 (F := Ideal) s a w y = s y + dot a w y := by pointwise [dot, k0_pay1]

theorem pay13_apply (s : FVec Ideal S512x4096 .f32) (a : FVec Ideal S512x1024 .bf16) (w : FVec Ideal S1024x4096 .bf16) (y : S512x4096.Idx) :
    k0_pay13 (F := Ideal) s a w y = s y + dot a w y := by pointwise [dot, k0_pay13]

theorem pay14_apply (s : FVec Ideal S512x4096 .f32) (a : FVec Ideal S512x1024 .bf16) (w : FVec Ideal S1024x4096 .bf16) (y : S512x4096.Idx) :
    k0_pay14 (F := Ideal) s a w y = s y + dot a w y := by pointwise [dot, k0_pay14]

theorem pay11_apply (y : S512x4096.Idx) : k0_pay11 (F := Ideal) y = 0 := by pointwise [k0_pay11]
theorem pay12_apply (y : S512x4096.Idx) : k0_pay12 (F := Ideal) y = 0 := by pointwise [k0_pay12]
theorem pay2_apply (y : S64x4096.Idx) : k0_pay2 (F := Ideal) y = 0 := by pointwise [k0_pay2]
theorem pay5_apply (y : S64x4096.Idx) : k0_pay5 (F := Ideal) y = 0 := by pointwise [k0_pay5]
theorem pay8_apply (y : S64x4096.Idx) : k0_pay8 (F := Ideal) y = 0 := by pointwise [k0_pay8]

/-! ## The two accumulators -/

/-- The partial product of grid point `n`: rows of the left block times columns of the right block. -/
def part (c : Dev nD) (n : ℕ) (y : S512x4096.Idx) : EReal :=
  if h : n < cfg0.N then dot (iblk m c 0 ⟨n, h⟩) (iblk m c 1 ⟨n, h⟩) y else 0

/-- The first accumulator after point `n`. -/
def accE (c : Dev nD) (n : ℕ) (y : S512x4096.Idx) : EReal := if h : n < cfg0.N then (outsAt0 m c n h).2.2.1 y else 0

/-- The second accumulator after point `n`. -/
def accO (c : Dev nD) (n : ℕ) (y : S512x4096.Idx) : EReal := if h : n < cfg0.N then (outsAt0 m c n h).2.2.2 y else 0

/-- Setting 64 rows of an accumulator to zero, read at an index. -/
theorem zeroed {v : View sig .tc .vmem S512x4096 .f32} (f : v.ty.Contents (Elt Ideal)) {off : Fin 2 → ℕ} (inb)
    (w : (Rect.unit (s := S512x4096) off ![64, 4096] inb).shape.Idx → Elt Ideal .f32) (hw : ∀ x, w x = (0 : EReal)) (k : ℕ)
    (ho : off = ![64 * k, 0]) (y : S512x4096.Idx) :
    v.read (Elt Ideal) (v.writes (Elt Ideal) f [⟨Rect.unit (s := S512x4096) off ![64, 4096] inb, w⟩]) y
      = if 64 * k ≤ (y 0).val ∧ (y 0).val < 64 * k + 64 then (0 : EReal) else v.read (Elt Ideal) f y := by
  rw [View.read_writes_cons_unit v f inb w [] y ho, View.writes_nil]
  by_cases h : 64 * k ≤ (y 0).val ∧ (y 0).val < 64 * k + 64
  · rw [if_pos h, dif_pos (fun a => by
      match a with
      | ⟨0, _⟩ => exact h
      | ⟨1, _⟩ => exact ⟨Nat.zero_le _, lt_of_lt_of_eq (y 1).isLt (Nat.zero_add _).symm⟩)]
    exact hw _
  · rw [if_neg h, dif_neg (fun h' => h (h' 0))]

/-- Every point of the grid does one step of the two-buffer scheme. -/
theorem steps (c : Dev nD) : TwoBuffers.Steps (accE m c) (accO m c) (part m c) (fun y => (y 0).val) where
  first y := by
    have hN : cfg0.N = 136 := N_0
    have h0 : 0 < cfg0.N := by omega
    simp only [accE, accO, part, dif_pos h0]
    constructor
    · rw [outsAt0_A m c ⟨0, h0⟩ (by simp) (by simp) (by simp) (by simp) (by simp)]
      frame_out
      rw [pay13_apply, pay11_apply, zero_add]
    · rw [outsAt0_A m c ⟨0, h0⟩ (by simp) (by simp) (by simp) (by simp) (by simp)]
      frame_out
      exact pay12_apply y
  early n hn y := by
    have hN : cfg0.N = 136 := N_0
    have h0 : n < cfg0.N := by omega
    have h1 : n + 1 < cfg0.N := by omega
    simp only [accE, accO, part, dif_pos h0, dif_pos h1]
    constructor
    · rw [outsAt0_B m c ⟨n + 1, h1⟩ (by dsimp only; omega) (by dsimp only; omega) (by dsimp only; omega) (by dsimp only; omega) (by dsimp only; omega)]
      frame_out
      rw [pay13_apply, (Memref.isWhole_whole _).read_unread]
      rfl
    · rw [outsAt0_B m c ⟨n + 1, h1⟩ (by dsimp only; omega) (by dsimp only; omega) (by dsimp only; omega) (by dsimp only; omega) (by dsimp only; omega)]
      frame_out
      rfl
  add n h8 hn y := by
    have hN : cfg0.N = 136 := N_0
    have h0 : n < cfg0.N := by omega
    have h1 : n + 1 < cfg0.N := by omega
    by_cases hp : (n + 1) / 8 % 2 = 0
    · simp only [TwoBuffers.mine, if_pos hp, accE, part, dif_pos h0, dif_pos h1]
      rw [outsAt0_D m c ⟨n + 1, h1⟩ (by dsimp only; omega) (by dsimp only; omega) (by dsimp only; omega) (by dsimp only; omega) (by dsimp only; omega)]
      frame_out
      rw [pay14_apply, (Memref.isWhole_whole _).read_unread]
      rfl
    · simp only [TwoBuffers.mine, if_neg hp, accO, part, dif_pos h0, dif_pos h1]
      rw [outsAt0_C m c ⟨n + 1, h1⟩ (by dsimp only; omega) (by dsimp only; omega) (by dsimp only; omega) (by dsimp only; omega) (by dsimp only; omega)]
      frame_out
      rw [pay1_apply, (Memref.isWhole_whole _).read_unread]
      rfl
  zero n h8 hn y := by
    have hN : cfg0.N = 136 := N_0
    have h0 : n < cfg0.N := by omega
    have h1 : n + 1 < cfg0.N := by omega
    obtain ⟨-, -, -, -, -, -, -, o1, o2, o3⟩ := idx ⟨n + 1, h1⟩
    by_cases hp : (n + 1) / 8 % 2 = 0
    · simp only [TwoBuffers.other, if_pos hp, accO, dif_pos h0, dif_pos h1]
      by_cases hl : n + 1 < 128
      · rw [outsAt0_D m c ⟨n + 1, h1⟩ (by dsimp only; omega) (by dsimp only; omega) (by dsimp only; omega) (by dsimp only; omega) (by dsimp only; omega)]
        frame_out
        rw [zeroed _ _ _ pay2_apply _ o1, (Memref.isWhole_whole _).read_unread]
        rfl
      · rw [outsAt0_E m c ⟨n + 1, h1⟩ (by dsimp only; omega) (by dsimp only; omega) (by dsimp only; omega) (by dsimp only; omega) (by dsimp only; omega)]
        frame_out
        rw [zeroed _ _ _ pay8_apply _ o3, (Memref.isWhole_whole _).read_unread]
        rfl
    · simp only [TwoBuffers.other, if_neg hp, accE, dif_pos h0, dif_pos h1]
      rw [outsAt0_C m c ⟨n + 1, h1⟩ (by dsimp only; omega) (by dsimp only; omega) (by dsimp only; omega) (by dsimp only; omega) (by dsimp only; omega)]
      frame_out
      rw [zeroed _ _ _ pay5_apply _ o2, (Memref.isWhole_whole _).read_unread]
      rfl

/-! ## The rows normalized at a point -/

open Cert.OutRefIdeal.Read in
/-- The normalized rows, from a residual block, a block of finished sums and the norm's scale and shift, are the
    reference's where the sums are the reference's products. -/
theorem norm_eq (r : FVec Ideal S64x4096 .f32) (d : FVec Ideal S64x4096 .f32) (g b : FVec Ideal S1x4096 .f32)
    (x0 : FVec Ideal S8192x8192 .bf16) (x1 : FVec Ideal S8192x4096 .bf16) (x2 : FVec Ideal S8192x4096 .f32) (x3 x4 : FVec Ideal S4096 .f32)
    (p : Fin 64) (u : Fin 8192) (q : Fin 4096) (hr : ∀ l : Fin 4096, r (ix2 p l) = x2 (ix2 u l))
    (hd : ∀ l : Fin 4096, d (ix2 p l) = prod x0 x1 u l)
    (hg : ∀ l : Fin 4096, g (ix2 0 l) = x3 (ix1 l)) (hb : ∀ l : Fin 4096, b (ix2 0 l) = x4 (ix1 l)) :
    k0_pay3 (F := Ideal) r d g b (ix2 p q) = val_main_v28 (F := Ideal) x0 x1 x2 x3 x4 (ix2 u q) := by
  pointwise [k0_pay3,
    val_main_v28, val_main_v27, val_main_v26, val_main_v25, val_main_v24, val_main_v23, val_main_v22,
    val_main_v21, val_main_v20, val_main_v19, val_main_v18, val_main_v17, val_main_v16, val_main_v15,
    val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, val_main_cst_3, val_main_cst_4]
  simp only [hr, hd, hg, hb, prod]

/-- When a point after the first row block begins, the other accumulator holds, in the rows this point normalizes, the
    reference's products for the row block before. -/
theorem sums_eq (c : Dev nD) (n : ℕ) (h8 : 8 ≤ n + 1) (hn : n + 1 < 136) (p : Fin 64) (q : Fin 4096) :
    TwoBuffers.other (accE m c) (accO m c) (n + 1) n (ix2 ⟨64 * ((n + 1) % 8) + p.val, by omega⟩ q)
      = prod (m ((c : Thread nD τ).loc main_arg0)) (m ((c : Thread nD τ).loc main_arg1)) ⟨64 * (n + 1 - 8) + p.val, by omega⟩ q := by
  have hN : cfg0.N = 136 := N_0
  rw [((TwoBuffers.before (steps m c) (fun y => (y 0).isLt) n hn _).2), if_pos ⟨h8, Nat.le_add_right _ _⟩, Finset.sum_range]
  refine (Fin.sum_fin_congr fun s => dif_pos (show 8 * ((n + 1) / 8 - 1) + s.val < cfg0.N by omega)).trans ?_
  refine Fin.sum_mul_add_congr fun s k hl => ?_
  have i := idx ⟨8 * ((n + 1) / 8 - 1) + s.val, by omega⟩
  have hlt : 8 * ((n + 1) / 8 - 1) + s.val < 128 := by omega
  have i0 := i.1
  have i1 := i.2.1 hlt
  simp only [if_pos hlt] at i0
  blk_point [iblk, V, i0, i1]

/-- Sixty-four rows of an accumulator lie inside it. -/
theorem inb {off : Fin 2 → ℕ} {k : ℕ} (ho : off = ![64 * k, 0]) (hk : k < 8) :
    ∀ a, off a + (![64, 4096] : Fin 2 → ℕ) a ≤ S512x4096.size a := by
  subst ho
  intro a
  match a with
  | ⟨0, _⟩ => show 64 * k + 64 ≤ 512; omega
  | ⟨1, _⟩ => show 0 + 4096 ≤ 4096; omega

/-- Sixty-four rows of an accumulator, read at an index. -/
theorem ld_rows (X : Vec Ideal S512x4096 .f32) {off : Fin 2 → ℕ} {k : ℕ} (ho : off = ![64 * k, 0]) (hk : k < 8) (h) (p : Fin 64)
    (q : Fin 4096) : View.ld X (Rect.unit (s := S512x4096) off ![64, 4096] h) (ix2 p q) = X (ix2 ⟨64 * k + p.val, by omega⟩ q) := by
  subst ho
  refine View.ld_unit_apply_of _ _ _ _ _ _ fun a => ?_
  match a with
  | ⟨0, _⟩ => rfl
  | ⟨1, _⟩ => exact (Nat.zero_add _).symm

/-- The result blocks of a point after the first row block: the residual block, the finished sums of the block before
    and the norm's scale and shift, normalized, and the same rounded. -/
theorem rows (c : Dev nD) (t : Fin cfg0.N) (h8 : 8 ≤ t.val) : ∃ d : FVec Ideal S64x4096 .f32,
    (outsAt0 m c t.val t.isLt).1 = k0_pay3 (F := Ideal) (iblk m c 2 t) d (iblk m c 3 t) (iblk m c 4 t)
    ∧ (outsAt0 m c t.val t.isLt).2.1 = k0_pay4 (F := Ideal) (iblk m c 2 t) d (iblk m c 3 t) (iblk m c 4 t)
    ∧ ∀ (p : Fin 64) (q : Fin 4096), d (ix2 p q)
      = TwoBuffers.other (accE m c) (accO m c) t.val (t.val - 1) (ix2 ⟨64 * (t.val % 8) + p.val, by omega⟩ q) := by
  have hN : cfg0.N = 136 := N_0
  have ht := t.isLt
  have hp : t.val - 1 < cfg0.N := by omega
  obtain ⟨-, -, -, -, -, -, -, o1, o2, o3⟩ := idx t
  by_cases hl : t.val < 128
  · by_cases hi : t.val % 16 < 8
    · refine ⟨View.ld (outsAt0 m c (t.val - 1) hp).2.2.2 (Rect.unit (k0_off1 (grid0.coords t)) ![64, 4096] (inb o1 (by omega))), ?_, ?_, fun p q => ?_⟩
      · rw [outsAt0_D m c t (by omega) (by omega) (by omega) (by omega) (by omega)]
        frame_out
        rw [(Memref.isWhole_whole _).read_unread]
      · rw [outsAt0_D m c t (by omega) (by omega) (by omega) (by omega) (by omega)]
        frame_out
        rw [(Memref.isWhole_whole _).read_unread]
      · rw [TwoBuffers.other, if_pos (by omega), accO, dif_pos hp]
        exact ld_rows _ o1 (by omega) _ p q
    · refine ⟨View.ld (outsAt0 m c (t.val - 1) hp).2.2.1 (Rect.unit (k0_off2 (grid0.coords t)) ![64, 4096] (inb o2 (by omega))), ?_, ?_, fun p q => ?_⟩
      · rw [outsAt0_C m c t (by omega) (by omega) (by omega) (by omega) (by omega)]
        frame_out
        rw [(Memref.isWhole_whole _).read_unread]
        rfl
      · rw [outsAt0_C m c t (by omega) (by omega) (by omega) (by omega) (by omega)]
        frame_out
        rw [(Memref.isWhole_whole _).read_unread]
        rfl
      · rw [TwoBuffers.other, if_neg (by omega), accE, dif_pos hp]
        exact ld_rows _ o2 (by omega) _ p q
  · refine ⟨View.ld (outsAt0 m c (t.val - 1) hp).2.2.2 (Rect.unit (k0_off3 (grid0.coords t)) ![64, 4096] (inb o3 (by omega))), ?_, ?_, fun p q => ?_⟩
    · rw [outsAt0_E m c t (by omega) (by omega) (by omega) (by omega) (by omega)]
      frame_out
      rw [(Memref.isWhole_whole _).read_unread]
      rfl
    · rw [outsAt0_E m c t (by omega) (by omega) (by omega) (by omega) (by omega)]
      frame_out
      rw [(Memref.isWhole_whole _).read_unread]
      rfl
    · rw [TwoBuffers.other, if_pos (by omega), accO, dif_pos hp]
      exact ld_rows _ o3 (by omega) _ p q

/-- Every point that writes its result blocks back comes after the first row block, or its blocks are written again. -/
theorem flush5 : ∀ t : Fin cfg0.N, (cfg0.win 5).flush t = true → 8 ≤ t.val := (by decide +kernel : ∀ t : Fin grid0.N, _)
theorem flush6 : ∀ t : Fin cfg0.N, (cfg0.win 6).flush t = true → 8 ≤ t.val := (by decide +kernel : ∀ t : Fin grid0.N, _)

/-- One entry of the normalized rows of a point is the reference's. -/
theorem entry (c : Dev nD) (t : Fin cfg0.N) (h8 : 8 ≤ t.val) (p : Fin 64) (q : Fin 4096) :
    (outsAt0 m c t.val t.isLt).1 (ix2 p q) = Cert.OutRefIdeal.Read.val_main_v28 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4))
        (ix2 ⟨64 * (t.val - 8) + p.val, by have := t.isLt; have : cfg0.N = 136 := N_0; omega⟩ q)
    ∧ (outsAt0 m c t.val t.isLt).2.1 (ix2 p q) = Cert.OutRefIdeal.Read.val_main_v29 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4))
        (ix2 ⟨64 * (t.val - 8) + p.val, by have := t.isLt; have : cfg0.N = 136 := N_0; omega⟩ q) := by
  have hN : cfg0.N = 136 := N_0
  have ht := t.isLt
  obtain ⟨d, e1, e2, hd⟩ := rows m c t h8
  obtain ⟨-, -, i2, i3, i4, -⟩ := idx t
  rw [e1, e2]
  have key : k0_pay3 (F := Ideal) (iblk m c 2 t) d (iblk m c 3 t) (iblk m c 4 t) (ix2 p q) = _ :=
    norm_eq _ d _ _ (m ((c : Thread nD τ).loc main_arg0)) (m ((c : Thread nD τ).loc main_arg1))
      (m ((c : Thread nD τ).loc main_arg2)) (m ((c : Thread nD τ).loc main_arg3)) (m ((c : Thread nD τ).loc main_arg4)) p
      ⟨64 * (t.val - 8) + p.val, by omega⟩ q (fun l => by blk_point [iblk, V, i2])
      (fun l => (hd p l).trans (by
        obtain ⟨n, hn⟩ : ∃ n, t.val = n + 1 := ⟨t.val - 1, by omega⟩
        simp only [hn, Nat.add_sub_cancel]
        exact sums_eq m c n (by omega) (by omega) p l))
      (fun l => by blk_point [iblk, V, i3]) (fun l => by blk_point [iblk, V, i4])
  refine ⟨key, ?_⟩
  rw [Cert.OutRefIdeal.Read.val_main_v29]
  exact key

/-- The kernel's first result is the reference's. -/
theorem final_rows (c : Dev nD) : (dats m 0 c).arrAt 5 cfg0.N = Cert.OutRefIdeal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have i5 := (idx t).2.2.2.2.2.1
  blk_simp
  rw [after0_5]
  have hy : (y : S64x4096.Idx) = ix2 (y 0) (y 1) := funext fun a => by fin_cases a <;> rfl
  refine (congrArg (outsAt0 m c t.val t.isLt).1 hy).trans ((entry m c t (flush5 t hf) (y 0) (y 1)).1.trans ?_)
  blk_ext [i5]

/-- The kernel's second result, the first rounded to bf16, is the reference's. -/
theorem final_round (c : Dev nD) : (dats m 0 c).arrAt 6 cfg0.N = Cert.OutRefIdeal.Read.val_main_v29 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  have i6 := (idx t).2.2.2.2.2.2.1
  blk_simp
  rw [after0_6]
  have hy : (y : S64x4096.Idx) = ix2 (y 0) (y 1) := funext fun a => by fin_cases a <;> rfl
  refine (congrArg (outsAt0 m c t.val t.isLt).2.1 hy).trans ((entry m c t (flush6 t hf) (y 0) (y 1)).2.trans ?_)
  blk_ext [i6]

end Cert.OutProof

end
-- ==== Proof.DownCases.lean ====
/-
  The call `l0_ffn_down_ln`: which branches the body takes at which grid points. A point is one of five kinds: the first; the
  other points of row block 0; a point of an odd row block; a point of an even row block; one of the last eight.
-/
module

public import proofs.«01_k».proof.Proof.Gen.DownIdeal.Frame
public import proofs.«01_k».proof.Proof.Gen.DownIdeal.Skeleton

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's branch 0: both grid coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The same condition in terms of the point's position in the grid. -/
theorem hcond0_0 : ∀ t : Fin cfg0.N, cond0_0 (grid0.coords t) ↔ t.val % 136 = 0 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 136 = 0)

/-- The condition of the body's branch 1: the row block is the first. -/
abbrev cond0_1 (i : grid0.Coords) : Prop := (Scalar.cmpi .ne (Scalar.extui (Scalar.cmpi .eq (BitVec.ofNat 32 (i 0).val) 0#32)) 0#32) = 1#1
/-- The same condition in terms of the point's position in the grid. -/
theorem hcond0_1 : ∀ t : Fin cfg0.N, cond0_1 (grid0.coords t) ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val < 8)

/-- The condition of the body's branch 2: the row block is even, neither the first nor past the last. -/
abbrev cond0_2 (i : grid0.Coords) : Prop := k0_cond3 i = 1#1
/-- The same condition in terms of the point's position in the grid. -/
theorem hcond0_2 : ∀ t : Fin cfg0.N, cond0_2 (grid0.coords t) ↔ (8 ≤ t.val ∧ t.val < 128 ∧ t.val % 16 < 8) :=
  (by decide +kernel : ∀ t : Fin grid0.N, cond0_2 (grid0.coords t) ↔ (8 ≤ t.val ∧ t.val < 128 ∧ t.val % 16 < 8))

/-- The condition of the body's branch 3: the row block is odd. -/
abbrev cond0_3 (i : grid0.Coords) : Prop := k0_cond4 i = 1#1
/-- The same condition in terms of the point's position in the grid. -/
theorem hcond0_3 : ∀ t : Fin cfg0.N, cond0_3 (grid0.coords t) ↔ (8 ≤ t.val ∧ t.val < 128 ∧ 8 ≤ t.val % 16) :=
  (by decide +kernel : ∀ t : Fin grid0.N, cond0_3 (grid0.coords t) ↔ (8 ≤ t.val ∧ t.val < 128 ∧ 8 ≤ t.val % 16))

/-- The condition of the body's branch 4: the row block is past the last. -/
abbrev cond0_4 (i : grid0.Coords) : Prop := k0_cond5 i = 1#1
/-- The same condition in terms of the point's position in the grid. -/
theorem hcond0_4 : ∀ t : Fin cfg0.N, cond0_4 (grid0.coords t) ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 128 ≤ t.val)

/-! ## Where the results are stored -/

/-- Input window 0 is in use at every point. -/
theorem liveAt0_0 : ∀ t : Fin cfg0.N, cfg0.idle 0 (grid0.coords t) = false := fun _ => rfl
/-- Input window 1 is in use at every point. -/
theorem liveAt0_1 : ∀ t : Fin cfg0.N, cfg0.idle 1 (grid0.coords t) = false := fun _ => rfl
/-- Input window 2 is in use at every point. -/
theorem liveAt0_2 : ∀ t : Fin cfg0.N, cfg0.idle 2 (grid0.coords t) = false := fun _ => rfl
/-- Input window 3 is in use at every point. -/
theorem liveAt0_3 : ∀ t : Fin cfg0.N, cfg0.idle 3 (grid0.coords t) = false := fun _ => rfl
/-- Input window 4 is in use at every point. -/
theorem liveAt0_4 : ∀ t : Fin cfg0.N, cfg0.idle 4 (grid0.coords t) = false := fun _ => rfl

/-- The branch conditions at the first point. -/
abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- The branch conditions at the other points of row block 0 (points 1 to 7). -/
abbrev conds0_B (i : grid0.Coords) : Prop := ¬cond0_0 i ∧ cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- The branch conditions at the points of an odd row block (1, 3, …, 15). -/
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- The branch conditions at the points of an even row block (2, 4, …, 14). -/
abbrev conds0_D (i : grid0.Coords) : Prop := ¬cond0_0 i ∧ ¬cond0_1 i ∧ cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- The branch conditions at the last eight points, after the last row block. -/
abbrev conds0_E (i : grid0.Coords) : Prop := ¬cond0_0 i ∧ ¬cond0_1 i ∧ ¬cond0_2 i ∧ ¬cond0_3 i ∧ cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- The body leaves the float32 result's block alone at the first point. -/
theorem idleAt0_5_A : ∀ t : Fin cfg0.N, cond0_0 (grid0.coords t) → cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_A (grid0.coords t) → cfg0.idle 5 (grid0.coords t) = true) t ⟨h0, h1, h2, h3, h4⟩
/-- No block of the float32 result is written back at the first point. -/
theorem noFlush0_5_A : ∀ t : Fin cfg0.N, cond0_0 (grid0.coords t) → cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_A (grid0.coords t) → (cfg0.win 5).flush t = false) t ⟨h0, h1, h2, h3, h4⟩
/-- The body leaves the float32 result's block alone at points 1 to 7. -/
theorem idleAt0_5_B : ∀ t : Fin cfg0.N, ¬cond0_0 (grid0.coords t) → cond0_1 (grid0.coords t) → ¬cond0_2 (grid0.coords t) → ¬cond0_3 (grid0.coords t) → ¬cond0_4 (grid0.coords t) → cfg0.idle 5 (grid0.coords t) = true :=
  fun t h0 h1 h2 h3 h4 => (by decide +kernel : ∀ t : Fin cfg0.N, conds0_B (grid0.coords t) → cfg0.idle 5 (grid0.coords t) = true) t ⟨h0, h1, h2, h3, h4⟩
/-- No block of the float32 result is written back at points 1 to 7. -/
theorem noFlush0_5_B : ∀ t : Fin cfg0.N, ¬cond0_0 (grid0.coords t) → cond0_1 (grid0.coords t) → ¬cond0_2 (grid0.coords t) → ¬cond0_3 (grid0.coords t) → ¬cond0_4 (grid0.coords t) → (cfg0.win 5).flush t = false :=
  fun t h0 h1 h2 h3 h4 => (by decide +kernel : ∀ t : Fin cfg0.N, conds0_B (grid0.coords t) → (cfg0.win 5).flush t = false) t ⟨h0, h1, h2, h3, h4⟩
/-- The body stores the float32 result's block at a point of an odd row block. -/
theorem liveAt0_5_C : ∀ t : Fin cfg0.N, ¬cond0_0 (grid0.coords t) → ¬cond0_1 (grid0.coords t) → ¬cond0_2 (grid0.coords t) → cond0_3 (grid0.coords t) → ¬cond0_4 (grid0.coords t) → cfg0.idle 5 (grid0.coords t) = false :=
  fun t h0 h1 h2 h3 h4 => (by decide +kernel : ∀ t : Fin cfg0.N, conds0_C (grid0.coords t) → cfg0.idle 5 (grid0.coords t) = false) t ⟨h0, h1, h2, h3, h4⟩
/-- The body stores the float32 result's block at a point of an even row block. -/
theorem liveAt0_5_D : ∀ t : Fin cfg0.N, ¬cond0_0 (grid0.coords t) → ¬cond0_1 (grid0.coords t) → cond0_2 (grid0.coords t) → ¬cond0_3 (grid0.coords t) → ¬cond0_4 (grid0.coords t) → cfg0.idle 5 (grid0.coords t) = false :=
  fun t h0 h1 h2 h3 h4 => (by decide +kernel : ∀ t : Fin cfg0.N, conds0_D (grid0.coords t) → cfg0.idle 5 (grid0.coords t) = false) t ⟨h0, h1, h2, h3, h4⟩
/-- The body stores the float32 result's block at one of the last eight points. -/
theorem liveAt0_5_E : ∀ t : Fin cfg0.N, ¬cond0_0 (grid0.coords t) → ¬cond0_1 (grid0.coords t) → ¬cond0_2 (grid0.coords t) → ¬cond0_3 (grid0.coords t) → cond0_4 (grid0.coords t) → cfg0.idle 5 (grid0.coords t) = false :=
  fun t h0 h1 h2 h3 h4 => (by decide +kernel : ∀ t : Fin cfg0.N, conds0_E (grid0.coords t) → cfg0.idle 5 (grid0.coords t) = false) t ⟨h0, h1, h2, h3, h4⟩
/-- The body leaves the bfloat16 result's block alone at the first point. -/
theorem idleAt0_6_A : ∀ t : Fin cfg0.N, cond0_0 (grid0.coords t) → cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_A (grid0.coords t) → cfg0.idle 6 (grid0.coords t) = true) t ⟨h0, h1, h2, h3, h4⟩
/-- No block of the bfloat16 result is written back at the first point. -/
theorem noFlush0_6_A : ∀ t : Fin cfg0.N, cond0_0 (grid0.coords t) → cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_A (grid0.coords t) → (cfg0.win 6).flush t = false) t ⟨h0, h1, h2, h3, h4⟩
/-- The body leaves the bfloat16 result's block alone at points 1 to 7. -/
theorem idleAt0_6_B : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_B (grid0.coords t) → cfg0.idle 6 (grid0.coords t) = true) t ⟨h0, h1, h2, h3, h4⟩
/-- No block of the bfloat16 result is written back at points 1 to 7. -/
theorem noFlush0_6_B : ∀ t : Fin cfg0.N, ¬cond0_0 (grid0.coords t) → cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_B (grid0.coords t) → (cfg0.win 6).flush t = false) t ⟨h0, h1, h2, h3, h4⟩
/-- The body stores the bfloat16 result's block at a point of an odd row block. -/
theorem liveAt0_6_C : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
/-- The body stores the bfloat16 result's block at a point of an even row block. -/
theorem liveAt0_6_D : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_D (grid0.coords t) → cfg0.idle 6 (grid0.coords t) = false) t ⟨h0, h1, h2, h3, h4⟩
/-- The body stores the bfloat16 result's block at one of the last eight points. -/
theorem liveAt0_6_E : ∀ t : Fin cfg0.N, ¬cond0_0 (grid0.coords t) → ¬cond0_1 (grid0.coords t) → ¬cond0_2 (grid0.coords t) → ¬cond0_3 (grid0.coords t) → cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩

/-! ## The buffers -/

/-- One staging buffer of the float32 result, through which its contents are stated. -/
abbrev VO0_5 : View sig .tc .vmem S64x4096 .f32 := (Memref.whole cc0_stg5_0 : Memref sig .tc .vmem S64x4096 .f32).view
/-- One staging buffer of the bfloat16 result, through which its contents are stated. -/
abbrev VO0_6 : View sig .tc .vmem S64x4096 .bf16 := (Memref.whole cc0_stg6_0 : Memref sig .tc .vmem S64x4096 .bf16).view
/-- Each window's staging buffer in use at point `t`, and that it is a whole buffer. -/
abbrev ms0_0 (t : Fin cfg0.N) : Memref sig .tc .vmem S512x1792 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x4096 .bf16 := win0_6.stage (cfg0.slots t 6)
abbrev hs0_6 (t : Fin cfg0.N) : (ms0_6 t).IsWhole := hstage0_6 ((cfg0.slots t 6).cast nbuf0_6)
/-- The two accumulators, whole buffers of the kernel's own. -/
abbrev scM0_0 : Memref sig .tc .vmem S512x4096 .f32 := Memref.whole cc0_scratch0
abbrev scM0_1 : Memref sig .tc .vmem S512x4096 .f32 := Memref.whole cc0_scratch1
/-- The first accumulator as a view: what it holds is stated through it. -/
abbrev VS0_0 : View sig .tc .vmem S512x4096 .f32 := scM0_0.view
/-- The second accumulator as a view: what it holds is stated through it. -/
abbrev VS0_1 : View sig .tc .vmem S512x4096 .f32 := scM0_1.view

/-- What a core owns beside the windows: the two accumulators at any contents, and the random generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DownIdeal.Gen

end
-- ==== Proof.DownBody.lean ====
/-
  The call `l0_ffn_down_ln`: the body run at each kind of grid point.
-/
module

public import proofs.«01_k».proof.Proof.DownCases

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Kinds
variable (c : Dev nD) (i : grid0.Coords) (arg2 : Memref sig .tc .vmem S512x1792 .bf16) (harg2 : arg2.IsWhole) (arg3 : Memref sig .tc .vmem S1792x4096 .bf16) (harg3 : arg3.IsWhole) (arg4 : Memref sig .tc .vmem S64x4096 .f32) (harg4 : arg4.IsWhole)
  (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole)
  (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole)

set_option maxHeartbeats 1000000 in
/-- The body run at the first point: the stores it makes into the results' blocks and into the accumulators, with the
    proof that, from the input blocks at their contents and the accumulators at any contents, it runs to the end
    with the inputs as they were and those stores made. -/
noncomputable def kernelRun0_A (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (xi5 : Vec F S64x4096 .f32) (xi6 : Vec F S64x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_l0_ffn_down_ln i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0_l0_ffn_down_ln_eq_skeleton]; unfold cc0_l0_ffn_down_ln_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 1000000 in
/-- The body run at the other points of row block 0 (points 1 to 7): the stores it makes into the results' blocks and into the accumulators, with the
    proof that, from the input blocks at their contents and the accumulators at what the point before left (`xs0`, `xs1`), it runs to the end
    with the inputs as they were and those stores made. -/
noncomputable def kernelRun0_B (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (xi5 : Vec F S64x4096 .f32) (xi6 : Vec F S64x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0_l0_ffn_down_ln i arg2 harg2 arg3 harg3 arg4 harg4 arg5 harg5 arg6 harg6 arg7 harg7 arg8 harg8 arg9 harg9 arg10 harg10) K } := by
  refine ⟨[], [], ?_, [], fun xi5 xi6 E K => ?run⟩
  case run =>
    simp only [cc0_l0_ffn_down_ln_eq_skeleton]; unfold cc0_l0_ffn_down_ln_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; · ipureintro; exact harg10.read_unread _
    iexact HS1

set_option maxHeartbeats 1000000 in
/-- The body run at the points of an odd row block (1, 3, …, 15): the stores it makes into the results' blocks and into the accumulators, with the
    proof that, from the input blocks at their contents and the accumulators at what the point before left (`xs0`, `xs1`), it runs to the end
    with the inputs as they were and those stores made. -/
noncomputable def kernelRun0_C (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_l0_ffn_down_ln i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_l0_ffn_down_ln_eq_skeleton]; unfold cc0_l0_ffn_down_ln_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexact HS0
    iexists _; iexact HS1

set_option maxHeartbeats 1000000 in
/-- The body run at the points of an even row block (2, 4, …, 14): the stores it makes into the results' blocks and into the accumulators, with the
    proof that, from the input blocks at their contents and the accumulators at what the point before left (`xs0`, `xs1`), it runs to the end
    with the inputs as they were and those stores made. -/
noncomputable def kernelRun0_D (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_l0_ffn_down_ln i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_l0_ffn_down_ln_eq_skeleton]; unfold cc0_l0_ffn_down_ln_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexact HS1

set_option maxHeartbeats 1000000 in
/-- The body run at the last eight points, after the last row block: the stores it makes into the results' blocks and into the accumulators, with the
    proof that, from the input blocks at their contents and the accumulators at what the point before left (`xs0`, `xs1`), it runs to the end
    with the inputs as they were and those stores made. -/
noncomputable def kernelRun0_E (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) :
    Σ' (L5 : List (View.Piece (Elt F) S64x4096 .f32)), Σ' (L6 : List (View.Piece (Elt F) S64x4096 .bf16)), Σ' (LS0 : List (View.Piece (Elt F) S512x4096 .f32)), { LS1 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_l0_ffn_down_ln i arg2 harg2 arg3 harg3 arg4 harg4 arg5 harg5 arg6 harg6 arg7 harg7 arg8 harg8 arg9 harg9 arg10 harg10) K } := by
  refine ⟨?_, ?_, [], ?_, fun E K => ?run⟩
  case run =>
    simp only [cc0_l0_ffn_down_ln_eq_skeleton]; unfold cc0_l0_ffn_down_ln_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexact HS1

end Kinds

end Cert.DownIdeal.Gen

end
-- ==== Proof.DownFrame.lean ====
/-
  The call `l0_ffn_down_ln`: what its buffers hold along the grid, and that it runs to the end with its arguments unchanged.
-/
module

public import proofs.«01_k».proof.Proof.DownBody
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Stores
variable (c : Dev nD) (i : grid0.Coords) (arg2 : Memref sig .tc .vmem S512x1792 .bf16) (harg2 : arg2.IsWhole) (arg3 : Memref sig .tc .vmem S1792x4096 .bf16) (harg3 : arg3.IsWhole) (arg4 : Memref sig .tc .vmem S64x4096 .f32) (harg4 : arg4.IsWhole)
  (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole)
  (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole)

/-- At the first point nothing is stored into the float32 result's block; nothing reads this value. -/
def out0_A_5 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) : Vec F S64x4096 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 hc2 hc3 hc4 x0 x1 x2 x3 x4).1)

/-- At the first point nothing is stored into the bfloat16 result's block; nothing reads this value. -/
def out0_A_6 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) : Vec F S64x4096 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 hc3 hc4 x0 x1 x2 x3 x4).2.1)

/-- At the first point the stores into the first accumulator cover it. -/
theorem scover0_A_0 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (y : S512x4096.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4).2.2.1 S512x4096.size (by sl_kernel_rfl) y

/-- What the first accumulator's buffer holds after the body at the first point. -/
def sout0_A_0 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 hc3 hc4 x0 x1 x2 x3 x4).2.2.1)

/-- At the first point the stores into the second accumulator cover it. -/
theorem scover0_A_1 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (y : S512x4096.Idx) :
    ∃ pc ∈ (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1 S512x4096.size (by sl_kernel_rfl) y

/-- What the second accumulator's buffer holds after the body at the first point. -/
def sout0_A_1 (hc0 : cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) : Vec F S512x4096 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 hc2 hc3 hc4 x0 x1 x2 x3 x4).2.2.2.1)

/-- At points 1 to 7 nothing is stored into the float32 result's block; nothing reads this value. -/
def out0_B_5 (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).1)

/-- At points 1 to 7 nothing is stored into the bfloat16 result's block; nothing reads this value. -/
def out0_B_6 (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- At points 1 to 7 the stores into the first accumulator cover it. -/
theorem scover0_B_0 (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S512x4096.Idx) :
    ∃ pc ∈ (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1 S512x4096.size (by sl_kernel_rfl) y

/-- What the first accumulator's buffer holds after the body at points 1 to 7. -/
def sout0_B_0 (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- What the second accumulator's buffer holds after the body at points 1 to 7. -/
def sout0_B_1 (c : Dev nD) (i : grid0.Coords) (arg2 : Memref sig .tc .vmem S512x1792 .bf16) (harg2 : arg2.IsWhole) (arg3 : Memref sig .tc .vmem S1792x4096 .bf16) (harg3 : arg3.IsWhole) (arg4 : Memref sig .tc .vmem S64x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole) (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole) (hc0 : ¬cond0_0 i) (hc1 : cond0_1 i) (hc2 : ¬cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 := xs1

/-- At a point of an odd row block the stores into the float32 result cover it. -/
theorem cover0_C_5 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at a point of an odd row block. -/
def out0_C_5 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).1)

/-- At a point of an odd row block the stores into the bfloat16 result cover it. -/
theorem cover0_C_6 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at a point of an odd row block. -/
def out0_C_6 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- What the first accumulator's buffer holds after the body at a point of an odd row block. -/
def sout0_C_0 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  arg9.view.read (Elt F) (arg9.view.writes (Elt F) (harg9.unread xs0) (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- At a point of an odd row block the stores into the second accumulator cover it. -/
theorem scover0_C_1 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1 S512x4096.size (by sl_kernel_rfl) y

/-- What the second accumulator's buffer holds after the body at a point of an odd row block. -/
def sout0_C_1 (hc0 : ¬cond0_0 i) (hc1 : ¬cond0_1 i) (hc2 : ¬cond0_2 i) (hc3 : cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-- At a point of an even row block the stores into the float32 result cover it. -/
theorem cover0_D_5 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at a point of an even row block. -/
def out0_D_5 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).1)

/-- At a point of an even row block the stores into the bfloat16 result cover it. -/
theorem cover0_D_6 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at a point of an even row block. -/
def out0_D_6 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- At a point of an even row block the stores into the first accumulator cover it. -/
theorem scover0_D_0 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) (y : S512x4096.Idx) :
    ∃ pc ∈ (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1 S512x4096.size (by sl_kernel_rfl) y

/-- What the first accumulator's buffer holds after the body at a point of an even row block. -/
def sout0_D_0 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.1)

/-- What the second accumulator's buffer holds after the body at a point of an even row block. -/
def sout0_D_1 (hc0 : ¬cond0_0 i) (hc1 : ¬cond0_1 i) (hc2 : cond0_2 i) (hc3 : ¬cond0_3 i) (hc4 : ¬cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  arg10.view.read (Elt F) (arg10.view.writes (Elt F) (harg10.unread xs1) (kernelRun0_D c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-- At one of the last eight points the stores into the float32 result cover it. -/
theorem cover0_E_5 (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1 S64x4096.size (by sl_kernel_rfl) y

/-- What the float32 result's buffer holds after the body at one of the last eight points. -/
def out0_E_5 (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .f32 :=
  VO0_5.read (Elt F) (VO0_5.writes (Elt F) VO0_5.junk (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).1)

/-- At one of the last eight points the stores into the bfloat16 result cover it. -/
theorem cover0_E_6 (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) (y : S64x4096.Idx) :
    ∃ pc ∈ (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1, y ∈ pc.1.set :=
  View.cover_of_tiledL (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1 S64x4096.size (by sl_kernel_rfl) y

/-- What the bfloat16 result's buffer holds after the body at one of the last eight points. -/
def out0_E_6 (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) : Vec F S64x4096 .bf16 :=
  VO0_6.read (Elt F) (VO0_6.writes (Elt F) VO0_6.junk (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.1)

/-- What the first accumulator's buffer holds after the body at one of the last eight points. -/
def sout0_E_0 (c : Dev nD) (i : grid0.Coords) (arg2 : Memref sig .tc .vmem S512x1792 .bf16) (harg2 : arg2.IsWhole) (arg3 : Memref sig .tc .vmem S1792x4096 .bf16) (harg3 : arg3.IsWhole) (arg4 : Memref sig .tc .vmem S64x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S64x4096 .f32) (harg7 : arg7.IsWhole) (arg8 : Memref sig .tc .vmem S64x4096 .bf16) (harg8 : arg8.IsWhole) (arg9 : Memref sig .tc .vmem S512x4096 .f32) (harg9 : arg9.IsWhole) (arg10 : Memref sig .tc .vmem S512x4096 .f32) (harg10 : arg10.IsWhole) (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 := xs0

/-- What the second accumulator's buffer holds after the body at one of the last eight points. -/
def sout0_E_1 (hc0 : ¬cond0_0 i) (hc1 : ¬cond0_1 i) (hc2 : ¬cond0_2 i) (hc3 : ¬cond0_3 i) (hc4 : cond0_4 i)
    (x0 : Vec F S512x1792 .bf16) (x1 : Vec F S1792x4096 .bf16) (x2 : Vec F S64x4096 .f32) (x3 x4 : Vec F S1x4096 .f32) (xs0 xs1 : Vec F S512x4096 .f32) : Vec F S512x4096 .f32 :=
  arg10.view.read (Elt F) (arg10.view.writes (Elt F) (harg10.unread xs1) (kernelRun0_E c i arg2 harg2 arg3 harg3 arg4 harg4 arg5 harg5 arg6 harg6 arg7 harg7 arg8 harg8 arg9 harg9 arg10 harg10 hc0 hc1 hc2 hc3 hc4 x0 x1 x2 x3 x4 xs0 xs1).2.2.2.1)

/-! ## What the outputs hold after each point -/

end Stores

/-- What the results' buffers and the two accumulators hold after the body at position `n`, by recursion along the grid:
    the kind of point decides, over what the point before left. -/
def outsAt0 (c : Dev nD) : (n : ℕ) → n < cfg0.N → Vec F S64x4096 .f32 × Vec F S64x4096 .bf16 × Vec F S512x4096 .f32 × Vec F S512x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 136 = 0 then
      if h1 : (n + 1) < 8 then
        if h2 : (8 ≤ (n + 1) ∧ (n + 1) < 128 ∧ (n + 1) % 16 < 8) then
          False.elim (by have hN : n + 1 < 136 := lt_of_lt_of_eq hn (show cfg0.N = 136 from N_0); omega)
        else
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 136 := lt_of_lt_of_eq hn (show cfg0.N = 136 from N_0); omega)
    else
      if h1 : (n + 1) < 8 then
        if h2 : (8 ≤ (n + 1) ∧ (n + 1) < 128 ∧ (n + 1) % 16 < 8) then
          False.elim (by have hN : n + 1 < 136 := lt_of_lt_of_eq hn (show cfg0.N = 136 from N_0); omega)
        else
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        if h2 : (8 ≤ (n + 1) ∧ (n + 1) < 128 ∧ (n + 1) % 16 < 8) then
          if h3 : (8 ≤ (n + 1) ∧ (n + 1) < 128 ∧ 8 ≤ (n + 1) % 16) then
            False.elim (by have hN : n + 1 < 136 := lt_of_lt_of_eq hn (show cfg0.N = 136 from N_0); omega)
          else
            if h4 : 128 ≤ (n + 1) then
              False.elim (by have hN : n + 1 < 136 := lt_of_lt_of_eq hn (show cfg0.N = 136 from N_0); omega)
            else
              (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
        else
          if h3 : (8 ≤ (n + 1) ∧ (n + 1) < 128 ∧ 8 ≤ (n + 1) % 16) then
            if h4 : 128 ≤ (n + 1) then
              False.elim (by have hN : n + 1 < 136 := lt_of_lt_of_eq hn (show cfg0.N = 136 from N_0); omega)
            else
              (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
          else
            if h4 : 128 ≤ (n + 1) then
              (out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
            else
              False.elim (by have hN : n + 1 < 136 := lt_of_lt_of_eq hn (show cfg0.N = 136 from N_0); omega)

/-- `outsAt0` at the first point. -/
theorem outsAt0_A (c : Dev nD) (t : Fin cfg0.N) (h0 : t.val % 136 = 0) (h1 : t.val < 8) (h2 : ¬(8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at points 1 to 7. -/
theorem outsAt0_B (c : Dev nD) (t : Fin cfg0.N) (h0 : ¬t.val % 136 = 0) (h1 : t.val < 8) (h2 : ¬(8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- `outsAt0` at a point of an odd row block. -/
theorem outsAt0_C (c : Dev nD) (t : Fin cfg0.N) (h0 : ¬t.val % 136 = 0) (h1 : ¬t.val < 8) (h2 : ¬(8 ≤ t.val ∧ t.val < 128 ∧ t.val % 16 < 8)) (h3 : (8 ≤ t.val ∧ t.val < 128 ∧ 8 ≤ t.val % 16)) (h4 : ¬128 ≤ t.val) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of an even row block. -/
theorem outsAt0_D (c : Dev nD) (t : Fin cfg0.N) (h0 : ¬t.val % 136 = 0) (h1 : ¬t.val < 8) (h2 : (8 ≤ t.val ∧ t.val < 128 ∧ t.val % 16 < 8)) (h3 : ¬(8 ≤ t.val ∧ t.val < 128 ∧ 8 ≤ t.val % 16)) (h4 : ¬128 ≤ t.val) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at one of the last eight points. -/
theorem outsAt0_E (c : Dev nD) (t : Fin cfg0.N) (h0 : ¬t.val % 136 = 0) (h1 : ¬t.val < 8) (h2 : ¬(8 ≤ t.val ∧ t.val < 128 ∧ t.val % 16 < 8)) (h3 : ¬(8 ≤ t.val ∧ t.val < 128 ∧ 8 ≤ t.val % 16)) (h4 : 128 ≤ t.val) :
    outsAt0 m c t.val t.isLt = (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- What a core owns beside the windows before position `n`: at the start the accumulators at any contents, afterwards at
    what the point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` the accumulators hold that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first the accumulators hold what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays at the start; after each point the inputs' buffers at their
    blocks and the results' at `outsAt0`; the accumulators as `PhiS` says; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The arrays of the proof data are those at the start. -/
theorem A_eq (c : Dev nD) (w : Fin cfg0.W) : (dats m 0 c).A w = V m c (Pipeline.arrRef spec0 w) := by
  dsimp only [dats]

/-- What is owned at a point's start, in terms of its position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 136 := lt_of_lt_of_eq t.isLt (show cfg0.N = 136 from N_0)
  by_cases h0 : t.val % 136 = 0
  · by_cases h1 : t.val < 8
    · by_cases h2 : (8 ≤ t.val ∧ t.val < 128 ∧ t.val % 16 < 8)
      · exfalso; omega
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [Dat.leavesExact_idle (dats m 0 c) 5 t (idleAt0_5_A t ((hcond0_0 t).mpr h0) ((hcond0_1 t).mpr h1) (fun h => h2 ((hcond0_2 t).mp h)) (fun h => h3 ((hcond0_3 t).mp h)) (fun h => h4 ((hcond0_4 t).mp h))) (noFlush0_5_A t ((hcond0_0 t).mpr h0) ((hcond0_1 t).mpr h1) (fun h => h2 ((hcond0_2 t).mp h)) (fun h => h3 ((hcond0_3 t).mp h)) (fun h => h4 ((hcond0_4 t).mp h)))]
            rw [Dat.leavesExact_idle (dats m 0 c) 6 t (idleAt0_6_A t ((hcond0_0 t).mpr h0) ((hcond0_1 t).mpr h1) (fun h => h2 ((hcond0_2 t).mp h)) (fun h => h3 ((hcond0_3 t).mp h)) (fun h => h4 ((hcond0_4 t).mp h))) (noFlush0_6_A t ((hcond0_0 t).mpr h0) ((hcond0_1 t).mpr h1) (fun h => h2 ((hcond0_2 t).mp h)) (fun h => h3 ((hcond0_3 t).mp h)) (fun h => h4 ((hcond0_4 t).mp h)))]
            by_cases hz : t.val = 0
            · rw [PhiS_castSucc m c t, PhiS_zero m c _ _ hz, PhiA0_eq]
              rw [outsAt0_A m c t h0 h1 h2 h3 h4]
              unfold sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)).2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [HS0]; · iexact HS0
              isplitl [HS1]; · iexact HS1
              iintro ⟨H0, H1, H2, H3, H4, H5, H6, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexists _; iexact H5
              iexists _; iexact H6
            · exfalso; have hN : t.val < 136 := lt_of_lt_of_eq t.isLt (show cfg0.N = 136 from N_0); omega
    · exfalso; omega
  · by_cases h1 : t.val < 8
    · by_cases h2 : (8 ≤ t.val ∧ t.val < 128 ∧ t.val % 16 < 8)
      · exfalso; omega
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [Dat.leavesExact_idle (dats m 0 c) 5 t (idleAt0_5_B t (fun h => h0 ((hcond0_0 t).mp h)) ((hcond0_1 t).mpr h1) (fun h => h2 ((hcond0_2 t).mp h)) (fun h => h3 ((hcond0_3 t).mp h)) (fun h => h4 ((hcond0_4 t).mp h))) (noFlush0_5_B t (fun h => h0 ((hcond0_0 t).mp h)) ((hcond0_1 t).mpr h1) (fun h => h2 ((hcond0_2 t).mp h)) (fun h => h3 ((hcond0_3 t).mp h)) (fun h => h4 ((hcond0_4 t).mp h)))]
            rw [Dat.leavesExact_idle (dats m 0 c) 6 t (idleAt0_6_B t (fun h => h0 ((hcond0_0 t).mp h)) ((hcond0_1 t).mpr h1) (fun h => h2 ((hcond0_2 t).mp h)) (fun h => h3 ((hcond0_3 t).mp h)) (fun h => h4 ((hcond0_4 t).mp h))) (noFlush0_6_B t (fun h => h0 ((hcond0_0 t).mp h)) ((hcond0_1 t).mpr h1) (fun h => h2 ((hcond0_2 t).mp h)) (fun h => h3 ((hcond0_3 t).mp h)) (fun h => h4 ((hcond0_4 t).mp h)))]
            by_cases hz : t.val = 0
            · exfalso; have hN : t.val < 136 := lt_of_lt_of_eq t.isLt (show cfg0.N = 136 from N_0); omega
            · rw [PhiS_castSucc m c t, PhiS_pos m c _ _ hz]
              rw [outsAt0_B m c t h0 h1 h2 h3 h4]
              unfold sout0_B_0 sout0_B_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t) _ _).2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [HS0]; · iexact HS0
              isplitl [HS1]; · iexact HS1
              iintro ⟨H0, H1, H2, H3, H4, H5, H6, ⟨%es0, HS0⟩, HS1⟩
              isplitl [HS0 HS1 Hg]
              · isplitl [HS0 HS1]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _)
                  iexact HS1
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexists _; iexact H5
              iexists _; iexact H6
    · by_cases h2 : (8 ≤ t.val ∧ t.val < 128 ∧ t.val % 16 < 8)
      · by_cases h3 : (8 ≤ t.val ∧ t.val < 128 ∧ 8 ≤ t.val % 16)
        · exfalso; omega
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) ((hcond0_2 t).mpr h2) (fun h => h3 ((hcond0_3 t).mp h)) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2) (fun h => h3 ((hcond0_3 t).mp h)) (fun h => h4 ((hcond0_4 t).mp h))], after0_6]
            by_cases hz : t.val = 0
            · exfalso; have hN : t.val < 136 := lt_of_lt_of_eq t.isLt (show cfg0.N = 136 from N_0); omega
            · rw [PhiS_castSucc m c t, PhiS_pos m c _ _ hz]
              rw [outsAt0_D m c t h0 h1 h2 h3 h4]
              unfold out0_D_5 out0_D_6 sout0_D_0 sout0_D_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_D c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, ⟨%es0, HS0⟩, HS1⟩
              isplitl [HS0 HS1 Hg]
              · isplitl [HS0 HS1]
                · isplitl [HS0]
                  · unfold owns; iexists _; isplitr
                    swap; · iexact HS0
                    ipureintro; exact View.read_writes_of_cover _ _ _ _ _ (scover0_D_0 c _ _ _ _ _ _ _ _ _ _ _ _ _ _ _ _ _ _ _ _ _ _ _ _ _ _ _ _ _ _ _)
                  unfold owns; iexists _; isplitr
                  swap; · iexact HS1
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_D_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_D_6 c _ _ _ _ _ _ _ _ _ _ _ _ _ _ _ _ _ _ _ _ _ _ _ _ _ _ _ _ _ _ _)
      · by_cases h3 : (8 ≤ t.val ∧ t.val < 128 ∧ 8 ≤ t.val % 16)
        · by_cases h4 : 128 ≤ t.val
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) (fun h => h2 ((hcond0_2 t).mp h)) ((hcond0_3 t).mpr h3) (fun h => h4 ((hcond0_4 t).mp h))], after0_5]
            rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) (fun h => h2 ((hcond0_2 t).mp h)) ((hcond0_3 t).mpr h3) (fun h => h4 ((hcond0_4 t).mp h))], after0_6]
            by_cases hz : t.val = 0
            · exfalso; have hN : t.val < 136 := lt_of_lt_of_eq t.isLt (show cfg0.N = 136 from N_0); omega
            · rw [PhiS_castSucc m c t, PhiS_pos m c _ _ hz]
              rw [outsAt0_C m c t h0 h1 h2 h3 h4]
              unfold out0_C_5 out0_C_6 sout0_C_0 sout0_C_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_C c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, HS0, ⟨%es1, HS1⟩⟩
              isplitl [HS0 HS1 Hg]
              · isplitl [HS0 HS1]
                · isplitl [HS0]
                  · unfold owns; iexists _; isplitr
                    swap; · iexact HS0
                    ipureintro; rfl
                  unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_C_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_C_6 c _ _ _ _ _ _ _ _ _ _ _ _ _ _ _ _ _ _ _ _ _ _ _ _ _ _ _ _ _ _ _)
        · by_cases h4 : 128 ≤ t.val
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5_E t (fun h => h0 ((hcond0_0 t).mp h)) (fun h => h1 ((hcond0_1 t).mp h)) (fun h => h2 ((hcond0_2 t).mp h)) (fun h => h3 ((hcond0_3 t).mp h)) ((hcond0_4 t).mpr h4)], after0_5]
            rw [show (dats m 0 c).leavesExact 6 t = owns (c : Thread nD τ) (ms0_6 t) fullShare ((dats m 0 c).after 6 t) from by
      unfold Dat.leavesExact; rw [liveAt0_6_E t (fun h => h0 ((hcond0_0 t).mp h)) (fun h => h1 ((hcond0_1 t).mp h)) (fun h => h2 ((hcond0_2 t).mp h)) (fun h => h3 ((hcond0_3 t).mp h)) ((hcond0_4 t).mpr h4)], after0_6]
            by_cases hz : t.val = 0
            · exfalso; have hN : t.val < 136 := lt_of_lt_of_eq t.isLt (show cfg0.N = 136 from N_0); omega
            · rw [PhiS_castSucc m c t, PhiS_pos m c _ _ hz]
              rw [outsAt0_E m c t h0 h1 h2 h3 h4]
              unfold out0_E_5 out0_E_6 sout0_E_0 sout0_E_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
              iapply ((kernelRun0_E c (grid0.coords t) _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) _ _).2.2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [HS0]; · iexact HS0
              isplitl [HS1]; · iexact HS1
              iintro ⟨H0, H1, H2, H3, H4, ⟨%e5, H5⟩, ⟨%e6, H6⟩, HS0, HS1⟩
              isplitl [HS0 HS1 Hg]
              · isplitl [HS0 HS1]
                · isplitl [HS0]
                  · iexact HS0
                  unfold owns; iexists _; isplitr
                  swap; · iexact HS1
                  ipureintro; rfl
                iexact Hg
              isplitl [Ho]; · iexact Ho
              isplitl [H0]; · iexact H0
              isplitl [H1]; · iexact H1
              isplitl [H2]; · iexact H2
              isplitl [H3]; · iexact H3
              isplitl [H4]; · iexact H4
              isplitl [H5]
              · unfold owns; iexists _; isplitr
                swap; · iexact H5
                ipureintro; exact View.read_writes_of_cover _ _ _ _ _ (cover0_E_5 c _ _ _ _ _ _ _ _ _ _ _ _ _ _ _ _ _ _ _ _ _ _ _ _ _ _ _ _ _ _ _)
              unfold owns; iexists _; isplitr
              swap; · iexact H6
              ipureintro; exact View.read_writes_of_cover _ _ _ _ _ (cover0_E_6 c _ _ _ _ _ _ _ _ _ _ _ _ _ _ _ _ _ _ _ _ _ _ _ _ _ _ _ _ _ _ _)
          · exfalso; omega

/-- The call the pipeline makes at a point is the body at that point's buffers. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the accumulators are owned at any contents. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the accumulators' contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 136 := N_0; omega)

/-! ## The run and the frame -/

set_option backward.isDefEq.respectTransparency.types false in
/-- The call runs to the end, its arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call runs to the end, its arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The call runs to the end and leaves its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The call runs to the end, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownIdeal.Gen

end
-- ==== Proof.DownRun.lean ====
/-
  The call `l0_ffn_down_ln`: its results after the run, as the arrays the proof data name.
-/
module

public import proofs.«01_k».proof.Proof.DownFrame
public import Idealize.ShloMosaic.Lib.Pipeline.Value

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run the float32 result is the array the proof data name. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the run the bfloat16 result is the array the proof data name. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the run argument `main_arg0` is as at the start. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run argument `main_arg1` is as at the start. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run argument `main_arg2` is as at the start. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the run argument `main_arg3` is as at the start. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run argument `main_arg4` is as at the start. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The call runs to the end, its results at the arrays the proof data name and its arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.DownIdeal.Value

end
-- ==== Proof.DownValue.lean ====
/-
  A matmul whose rows are added to a residual stream and layer-normalized: what the pipelined kernel leaves in its two
  result arrays (the normalized rows, and the same rows rounded to bf16), read at the ideal instance. The sums of a row
  block are gathered over eight steps in one of two buffers, while the rows of the block before are read from the other
  buffer, normalized, written out and set to zero, an eighth at a time.
-/
module

public import proofs.«01_k».proof.Proof.DownRun
public import proofs.«01_k».proof.Proof.TwoBuffers
public import proofs.«01_k».proof.Proof.Gen.DownRefIdeal.Read
public import Idealize.ShloMosaic.Lib.Pipeline.ValueKit
public import Idealize.ShloMosaic.Lib.Pointwise
public import Idealize.ShloMosaic.Lib.WritesUnit

@[expose] public section

set_option maxRecDepth 16384

noncomputable section

namespace Cert.DownProof

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at grid point `t` (row block `t / 8`, step `t % 8`). After the last row block the left
    operand's window stays at the last block; the residual and the results stand at the rows normalized at this step,
    those of the row block before. -/
theorem idx : ∀ t : Fin cfg0.N, win0_0.index t = ![min (t.val / 8) 15, if t.val < 128 then t.val % 8 else 7]
    ∧ (t.val < 128 → win0_1.index t = ![t.val % 8, 0]) ∧ win0_2.index t = ![t.val - 8, 0] ∧ win0_3.index t = ![0, 0]
    ∧ win0_4.index t = ![0, 0] ∧ win0_5.index t = ![t.val - 8, 0] ∧ win0_6.index t = ![t.val - 8, 0]
    ∧ k0_off1 (grid0.coords t) = ![64 * (t.val % 8), 0] ∧ k0_off2 (grid0.coords t) = ![64 * (t.val % 8), 0]
    ∧ k0_off3 (grid0.coords t) = ![64 * (t.val % 8), 0] :=
  (by decide +kernel : ∀ t : Fin grid0.N, _)

/-! ## The payloads at an index -/

/-- An entry of the product of a left block and a right block. -/
def dot (a : FVec Ideal S512x1792 .bf16) (w : FVec Ideal S1792x4096 .bf16) (y : S512x4096.Idx) : EReal :=
  ∑ l : Fin 1792, a (ix2 (y 0) l) * w (ix2 l (y 1))

/-- An entry of the product of the whole operands. -/
def prod (x0 : FVec Ideal S8192x14336 .bf16) (x1 : FVec Ideal S14336x4096 .bf16) (u : Fin 8192) (q : Fin 4096) : EReal :=
  ∑ k : Fin 14336, x0 (ix2 u k) * x1 (ix2 k q)

theorem pay1_apply (s : FVec Ideal S512x4096 .f32) (a : FVec Ideal S512x1792 .bf16) (w : FVec Ideal S1792x4096 .bf16) (y : S512x4096.Idx) :
    k0_pay1 (F := Ideal) s a w y = s y + dot a w y := by pointwise [dot, k0_pay1]

theorem pay13_apply (s : FVec Ideal S512x4096 .f32) (a : FVec Ideal S512x1792 .bf16) (w : FVec Ideal S1792x4096 .bf16) (y : S512x4096.Idx) :
    k0_pay13 (F := Ideal) s a w y = s y + dot a w y := by pointwise [dot, k0_pay13]

theorem pay14_apply (s : FVec Ideal S512x4096 .f32) (a : FVec Ideal S512x1792 .bf16) (w : FVec Ideal S1792x4096 .bf16) (y : S512x4096.Idx) :
    k0_pay14 (F := Ideal) s a w y = s y + dot a w y := by pointwise [dot, k0_pay14]

theorem pay11_apply (y : S512x4096.Idx) : k0_pay11 (F := Ideal) y = 0 := by pointwise [k0_pay11]
theorem pay12_apply (y : S512x4096.Idx) : k0_pay12 (F := Ideal) y = 0 := by pointwise [k0_pay12]
theorem pay2_apply (y : S64x4096.Idx) : k0_pay2 (F := Ideal) y = 0 := by pointwise [k0_pay2]
theorem pay5_apply (y : S64x4096.Idx) : k0_pay5 (F := Ideal) y = 0 := by pointwise [k0_pay5]
theorem pay8_apply (y : S64x4096.Idx) : k0_pay8 (F := Ideal) y = 0 := by pointwise [k0_pay8]

/-! ## The two accumulators -/

/-- The partial product of grid point `n`: rows of the left block times columns of the right block. -/
def part (c : Dev nD) (n : ℕ) (y : S512x4096.Idx) : EReal :=
  if h : n < cfg0.N then dot (iblk m c 0 ⟨n, h⟩) (iblk m c 1 ⟨n, h⟩) y else 0

/-- The first accumulator after point `n`. -/
def accE (c : Dev nD) (n : ℕ) (y : S512x4096.Idx) : EReal := if h : n < cfg0.N then (outsAt0 m c n h).2.2.1 y else 0

/-- The second accumulator after point `n`. -/
def accO (c : Dev nD) (n : ℕ) (y : S512x4096.Idx) : EReal := if h : n < cfg0.N then (outsAt0 m c n h).2.2.2 y else 0

/-- Setting 64 rows of an accumulator to zero, read at an index. -/
theorem zeroed {v : View sig .tc .vmem S512x4096 .f32} (f : v.ty.Contents (Elt Ideal)) {off : Fin 2 → ℕ} (inb)
    (w : (Rect.unit (s := S512x4096) off ![64, 4096] inb).shape.Idx → Elt Ideal .f32) (hw : ∀ x, w x = (0 : EReal)) (k : ℕ)
    (ho : off = ![64 * k, 0]) (y : S512x4096.Idx) :
    v.read (Elt Ideal) (v.writes (Elt Ideal) f [⟨Rect.unit (s := S512x4096) off ![64, 4096] inb, w⟩]) y
      = if 64 * k ≤ (y 0).val ∧ (y 0).val < 64 * k + 64 then (0 : EReal) else v.read (Elt Ideal) f y := by
  rw [View.read_writes_cons_unit v f inb w [] y ho, View.writes_nil]
  by_cases h : 64 * k ≤ (y 0).val ∧ (y 0).val < 64 * k + 64
  · rw [if_pos h, dif_pos (fun a => by
      match a with
      | ⟨0, _⟩ => exact h
      | ⟨1, _⟩ => exact ⟨Nat.zero_le _, lt_of_lt_of_eq (y 1).isLt (Nat.zero_add _).symm⟩)]
    exact hw _
  · rw [if_neg h, dif_neg (fun h' => h (h' 0))]

/-- Every point of the grid does one step of the two-buffer scheme. -/
theorem steps (c : Dev nD) : TwoBuffers.Steps (accE m c) (accO m c) (part m c) (fun y => (y 0).val) where
  first y := by
    have hN : cfg0.N = 136 := N_0
    have h0 : 0 < cfg0.N := by omega
    simp only [accE, accO, part, dif_pos h0]
    constructor
    · rw [outsAt0_A m c ⟨0, h0⟩ (by simp) (by simp) (by simp) (by simp) (by simp)]
      frame_out
      rw [pay13_apply, pay11_apply, zero_add]
    · rw [outsAt0_A m c ⟨0, h0⟩ (by simp) (by simp) (by simp) (by simp) (by simp)]
      frame_out
      exact pay12_apply y
  early n hn y := by
    have hN : cfg0.N = 136 := N_0
    have h0 : n < cfg0.N := by omega
    have h1 : n + 1 < cfg0.N := by omega
    simp only [accE, accO, part, dif_pos h0, dif_pos h1]
    constructor
    · rw [outsAt0_B m c ⟨n + 1, h1⟩ (by dsimp only; omega) (by dsimp only; omega) (by dsimp only; omega) (by dsimp only; omega) (by dsimp only; omega)]
      frame_out
      rw [pay13_apply, (Memref.isWhole_whole _).read_unread]
      rfl
    · rw [outsAt0_B m c ⟨n + 1, h1⟩ (by dsimp only; omega) (by dsimp only; omega) (by dsimp only; omega) (by dsimp only; omega) (by dsimp only; omega)]
      frame_out
      rfl
  add n h8 hn y := by
    have hN : cfg0.N = 136 := N_0
    have h0 : n < cfg0.N := by omega
    have h1 : n + 1 < cfg0.N := by omega
    by_cases hp : (n + 1) / 8 % 2 = 0
    · simp only [TwoBuffers.mine, if_pos hp, accE, part, dif_pos h0, dif_pos h1]
      rw [outsAt0_D m c ⟨n + 1, h1⟩ (by dsimp only; omega) (by dsimp only; omega) (by dsimp only; omega) (by dsimp only; omega) (by dsimp only; omega)]
      frame_out
      rw [pay14_apply, (Memref.isWhole_whole _).read_unread]
      rfl
    · simp only [TwoBuffers.mine, if_neg hp, accO, part, dif_pos h0, dif_pos h1]
      rw [outsAt0_C m c ⟨n + 1, h1⟩ (by dsimp only; omega) (by dsimp only; omega) (by dsimp only; omega) (by dsimp only; omega) (by dsimp only; omega)]
      frame_out
      rw [pay1_apply, (Memref.isWhole_whole _).read_unread]
      rfl
  zero n h8 hn y := by
    have hN : cfg0.N = 136 := N_0
    have h0 : n < cfg0.N := by omega
    have h1 : n + 1 < cfg0.N := by omega
    obtain ⟨-, -, -, -, -, -, -, o1, o2, o3⟩ := idx ⟨n + 1, h1⟩
    by_cases hp : (n + 1) / 8 % 2 = 0
    · simp only [TwoBuffers.other, if_pos hp, accO, dif_pos h0, dif_pos h1]
      by_cases hl : n + 1 < 128
      · rw [outsAt0_D m c ⟨n + 1, h1⟩ (by dsimp only; omega) (by dsimp only; omega) (by dsimp only; omega) (by dsimp only; omega) (by dsimp only; omega)]
        frame_out
        rw [zeroed _ _ _ pay2_apply _ o1, (Memref.isWhole_whole _).read_unread]
        rfl
      · rw [outsAt0_E m c ⟨n + 1, h1⟩ (by dsimp only; omega) (by dsimp only; omega) (by dsimp only; omega) (by dsimp only; omega) (by dsimp only; omega)]
        frame_out
        rw [zeroed _ _ _ pay8_apply _ o3, (Memref.isWhole_whole _).read_unread]
        rfl
    · simp only [TwoBuffers.other, if_neg hp, accE, dif_pos h0, dif_pos h1]
      rw [outsAt0_C m c ⟨n + 1, h1⟩ (by dsimp only; omega) (by dsimp only; omega) (by dsimp only; omega) (by dsimp only; omega) (by dsimp only; omega)]
      frame_out
      rw [zeroed _ _ _ pay5_apply _ o2, (Memref.isWhole_whole _).read_unread]
      rfl

/-! ## The rows normalized at a point -/

open Cert.DownRefIdeal.Read in
/-- The normalized rows, from a residual block, a block of finished sums and the norm's scale and shift, are the
    reference's where the sums are the reference's products. -/
theorem norm_eq (r : FVec Ideal S64x4096 .f32) (d : FVec Ideal S64x4096 .f32) (g b : FVec Ideal S1x4096 .f32)
    (x0 : FVec Ideal S8192x14336 .bf16) (x1 : FVec Ideal S14336x4096 .bf16) (x2 : FVec Ideal S8192x4096 .f32) (x3 x4 : FVec Ideal S4096 .f32)
    (p : Fin 64) (u : Fin 8192) (q : Fin 4096) (hr : ∀ l : Fin 4096, r (ix2 p l) = x2 (ix2 u l))
    (hd : ∀ l : Fin 4096, d (ix2 p l) = prod x0 x1 u l)
    (hg : ∀ l : Fin 4096, g (ix2 0 l) = x3 (ix1 l)) (hb : ∀ l : Fin 4096, b (ix2 0 l) = x4 (ix1 l)) :
    k0_pay3 (F := Ideal) r d g b (ix2 p q) = val_main_v28 (F := Ideal) x0 x1 x2 x3 x4 (ix2 u q) := by
  pointwise [k0_pay3,
    val_main_v28, val_main_v27, val_main_v26, val_main_v25, val_main_v24, val_main_v23, val_main_v22,
    val_main_v21, val_main_v20, val_main_v19, val_main_v18, val_main_v17, val_main_v16, val_main_v15,
    val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, val_main_cst_2, val_main_cst_3, val_main_cst_4]
  simp only [hr, hd, hg, hb, prod]

/-- When a point after the first row block begins, the other accumulator holds, in the rows this point normalizes, the
    reference's products for the row block before. -/
theorem sums_eq (c : Dev nD) (n : ℕ) (h8 : 8 ≤ n + 1) (hn : n + 1 < 136) (p : Fin 64) (q : Fin 4096) :
    TwoBuffers.other (accE m c) (accO m c) (n + 1) n (ix2 ⟨64 * ((n + 1) % 8) + p.val, by omega⟩ q)
      = prod (m ((c : Thread nD τ).loc main_arg0)) (m ((c : Thread nD τ).loc main_arg1)) ⟨64 * (n + 1 - 8) + p.val, by omega⟩ q := by
  have hN : cfg0.N = 136 := N_0
  rw [((TwoBuffers.before (steps m c) (fun y => (y 0).isLt) n hn _).2), if_pos ⟨h8, Nat.le_add_right _ _⟩, Finset.sum_range]
  refine (Fin.sum_fin_congr fun s => dif_pos (show 8 * ((n + 1) / 8 - 1) + s.val < cfg0.N by omega)).trans ?_
  refine Fin.sum_mul_add_congr fun s k hl => ?_
  have i := idx ⟨8 * ((n + 1) / 8 - 1) + s.val, by omega⟩
  have hlt : 8 * ((n + 1) / 8 - 1) + s.val < 128 := by omega
  have i0 := i.1
  have i1 := i.2.1 hlt
  simp only [if_pos hlt] at i0
  blk_point [iblk, V, i0, i1]

/-- Sixty-four rows of an accumulator lie inside it. -/
theorem inb {off : Fin 2 → ℕ} {k : ℕ} (ho : off = ![64 * k, 0]) (hk : k < 8) :
    ∀ a, off a + (![64, 4096] : Fin 2 → ℕ) a ≤ S512x4096.size a := by
  subst ho
  intro a
  match a with
  | ⟨0, _⟩ => show 64 * k + 64 ≤ 512; omega
  | ⟨1, _⟩ => show 0 + 4096 ≤ 4096; omega

/-- Sixty-four rows of an accumulator, read at an index. -/
theorem ld_rows (X : Vec Ideal S512x4096 .f32) {off : Fin 2 → ℕ} {k : ℕ} (ho : off = ![64 * k, 0]) (hk : k < 8) (h) (p : Fin 64)
    (q : Fin 4096) : View.ld X (Rect.unit (s := S512x4096) off ![64, 4096] h) (ix2 p q) = X (ix2 ⟨64 * k + p.val, by omega⟩ q) := by
  subst ho
  refine View.ld_unit_apply_of _ _ _ _ _ _ fun a => ?_
  match a with
  | ⟨0, _⟩ => rfl
  | ⟨1, _⟩ => exact (Nat.zero_add _).symm

/-- The result blocks of a point after the first row block: the residual block, the finished sums of the block before
    and the norm's scale and shift, normalized, and the same rounded. -/
theorem rows (c : Dev nD) (t : Fin cfg0.N) (h8 : 8 ≤ t.val) : ∃ d : FVec Ideal S64x4096 .f32,
    (outsAt0 m c t.val t.isLt).1 = k0_pay3 (F := Ideal) (iblk m c 2 t) d (iblk m c 3 t) (iblk m c 4 t)
    ∧ (outsAt0 m c t.val t.isLt).2.1 = k0_pay4 (F := Ideal) (iblk m c 2 t) d (iblk m c 3 t) (iblk m c 4 t)
    ∧ ∀ (p : Fin 64) (q : Fin 4096), d (ix2 p q)
      = TwoBuffers.other (accE m c) (accO m c) t.val (t.val - 1) (ix2 ⟨64 * (t.val % 8) + p.val, by omega⟩ q) := by
  have hN : cfg0.N = 136 := N_0
  have ht := t.isLt
  have hp : t.val - 1 < cfg0.N := by omega
  obtain ⟨-, -, -, -, -, -, -, o1, o2, o3⟩ := idx t
  by_cases hl : t.val < 128
  · by_cases hi : t.val % 16 < 8
    · refine ⟨View.ld (outsAt0 m c (t.val - 1) hp).2.2.2 (Rect.unit (k0_off1 (grid0.coords t)) ![64, 4096] (inb o1 (by omega))), ?_, ?_, fun p q => ?_⟩
      · rw [outsAt0_D m c t (by omega) (by omega) (by omega) (by omega) (by omega)]
        frame_out
        rw [(Memref.isWhole_whole _).read_unread]
      · rw [outsAt0_D m c t (by omega) (by omega) (by omega) (by omega) (by omega)]
        frame_out
        rw [(Memref.isWhole_whole _).read_unread]
      · rw [TwoBuffers.other, if_pos (by omega), accO, dif_pos hp]
        exact ld_rows _ o1 (by omega) _ p q
    · refine ⟨View.ld (outsAt0 m c (t.val - 1) hp).2.2.1 (Rect.unit (k0_off2 (grid0.coords t)) ![64, 4096] (inb o2 (by omega))), ?_, ?_, fun p q => ?_⟩
      · rw [outsAt0_C m c t (by omega) (by omega) (by omega) (by omega) (by omega)]
        frame_out
        rw [(Memref.isWhole_whole _).read_unread]
        rfl
      · rw [outsAt0_C m c t (by omega) (by omega) (by omega) (by omega) (by omega)]
        frame_out
        rw [(Memref.isWhole_whole _).read_unread]
        rfl
      · rw [TwoBuffers.other, if_neg (by omega), accE, dif_pos hp]
        exact ld_rows _ o2 (by omega) _ p q
  · refine ⟨View.ld (outsAt0 m c (t.val - 1) hp).2.2.2 (Rect.unit (k0_off3 (grid0.coords t)) ![64, 4096] (inb o3 (by omega))), ?_, ?_, fun p q => ?_⟩
    · rw [outsAt0_E m c t (by omega) (by omega) (by omega) (by omega) (by omega)]
      frame_out
      rw [(Memref.isWhole_whole _).read_unread]
      rfl
    · rw [outsAt0_E m c t (by omega) (by omega) (by omega) (by omega) (by omega)]
      frame_out
      rw [(Memref.isWhole_whole _).read_unread]
      rfl
    · rw [TwoBuffers.other, if_pos (by omega), accO, dif_pos hp]
      exact ld_rows _ o3 (by omega) _ p q

/-- Every point that writes its result blocks back comes after the first row block, or its blocks are written again. -/
theorem flush5 : ∀ t : Fin cfg0.N, (cfg0.win 5).flush t = true → 8 ≤ t.val := (by decide +kernel : ∀ t : Fin grid0.N, _)
theorem flush6 : ∀ t : Fin cfg0.N, (cfg0.win 6).flush t = true → 8 ≤ t.val := (by decide +kernel : ∀ t : Fin grid0.N, _)

/-- One entry of the normalized rows of a point is the reference's. -/
theorem entry (c : Dev nD) (t : Fin cfg0.N) (h8 : 8 ≤ t.val) (p : Fin 64) (q : Fin 4096) :
    (outsAt0 m c t.val t.isLt).1 (ix2 p q) = Cert.DownRefIdeal.Read.val_main_v28 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4))
        (ix2 ⟨64 * (t.val - 8) + p.val, by have := t.isLt; have : cfg0.N = 136 := N_0; omega⟩ q)
    ∧ (outsAt0 m c t.val t.isLt).2.1 (ix2 p q) = Cert.DownRefIdeal.Read.val_main_v29 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4))
        (ix2 ⟨64 * (t.val - 8) + p.val, by have := t.isLt; have : cfg0.N = 136 := N_0; omega⟩ q) := by
  have hN : cfg0.N = 136 := N_0
  have ht := t.isLt
  obtain ⟨d, e1, e2, hd⟩ := rows m c t h8
  obtain ⟨-, -, i2, i3, i4, -⟩ := idx t
  rw [e1, e2]
  have key : k0_pay3 (F := Ideal) (iblk m c 2 t) d (iblk m c 3 t) (iblk m c 4 t) (ix2 p q) = _ :=
    norm_eq _ d _ _ (m ((c : Thread nD τ).loc main_arg0)) (m ((c : Thread nD τ).loc main_arg1))
      (m ((c : Thread nD τ).loc main_arg2)) (m ((c : Thread nD τ).loc main_arg3)) (m ((c : Thread nD τ).loc main_arg4)) p
      ⟨64 * (t.val - 8) + p.val, by omega⟩ q (fun l => by blk_point [iblk, V, i2])
      (fun l => (hd p l).trans (by
        obtain ⟨n, hn⟩ : ∃ n, t.val = n + 1 := ⟨t.val - 1, by omega⟩
        simp only [hn, Nat.add_sub_cancel]
        exact sums_eq m c n (by omega) (by omega) p l))
      (fun l => by blk_point [iblk, V, i3]) (fun l => by blk_point [iblk, V, i4])
  refine ⟨key, ?_⟩
  rw [Cert.DownRefIdeal.Read.val_main_v29]
  exact key

/-- The kernel's first result is the reference's. -/
theorem final_rows (c : Dev nD) : (dats m 0 c).arrAt 5 cfg0.N = Cert.DownRefIdeal.Read.val_main_v28 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  have i5 := (idx t).2.2.2.2.2.1
  blk_simp
  rw [after0_5]
  have hy : (y : S64x4096.Idx) = ix2 (y 0) (y 1) := funext fun a => by fin_cases a <;> rfl
  refine (congrArg (outsAt0 m c t.val t.isLt).1 hy).trans ((entry m c t (flush5 t hf) (y 0) (y 1)).1.trans ?_)
  blk_ext [i5]

/-- The kernel's second result, the first rounded to bf16, is the reference's. -/
theorem final_round (c : Dev nD) : (dats m 0 c).arrAt 6 cfg0.N = Cert.DownRefIdeal.Read.val_main_v29 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t hf y => ?_
  have i6 := (idx t).2.2.2.2.2.2.1
  blk_simp
  rw [after0_6]
  have hy : (y : S64x4096.Idx) = ix2 (y 0) (y 1) := funext fun a => by fin_cases a <;> rfl
  refine (congrArg (outsAt0 m c t.val t.isLt).2.1 hy).trans ((entry m c t (flush6 t hf) (y 0) (y 1)).2.trans ?_)
  blk_ext [i6]

end Cert.DownProof

end
-- ==== Proof.EDownNames.lean ====
/-
  The call `l1_moe_down`: names for the pieces of its buffers.

  The kernel holds two slots for a column tile of an expert's weights, one DMA semaphore per slot, and one word
  saying which slot is current. This file names the slots, the semaphores and the tiles of the weights, and states
  that the slices the body computes are these.
-/
module

public import proofs.«01_k».proof.Proof.Gen.EDownIdeal.Launch
public import Idealize.ShloMosaic.Lib.Ring
public import Idealize.ShloMosaic.Lib.Affine
public import Idealize.ShloMosaic.Lib.Tactic
public import Idealize.ShloMosaic.Lib.Exec

@[expose] public section

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The weights of all experts, in HBM. -/
abbrev wM : Memref sig .tc .hbm S8x4096x4096 .f32 := Memref.whole main_arg1
/-- The two slots a column tile is copied into. -/
abbrev bufM : Memref sig .tc .vmem S2x1x4096x1024 .f32 := Memref.whole cc0_scratch0
/-- The word naming the current slot. -/
abbrev curM : Memref sig .tc .smem S1 .i32 := Memref.whole cc0_scratch2

/-- Slot `s`'s place in the buffer of slots. -/
abbrev slotOff (s : Fin 2) : Fin 4 → Nat := ![s.val, 0, 0, 0]
/-- Slot `s`'s semaphore's place. -/
abbrev semOff (s : Fin 2) : Fin 2 → Nat := ![s.val, 0]
/-- Where column tile `j` of expert `e`'s weights begins. -/
abbrev tileOff (e : Fin 8) (j : Fin 4) : Fin 3 → Nat := ![e.val, 0, 1024 * j.val]

theorem slotOff_inb : ∀ s : Fin 2, ∀ a, slotOff s a + S1x1x4096x1024.size a ≤ S2x1x4096x1024.size a := by decide
theorem semOff_inb : ∀ s : Fin 2, ∀ a, semOff s a + S1x1.size a ≤ S2x1.size a := by decide
theorem tileOff_inb : ∀ (e : Fin 8) (j : Fin 4), ∀ a, tileOff e j a + S1x4096x1024.size a ≤ S8x4096x4096.size a := by decide

/-- Slot `s`, as a matrix. -/
def slotM (s : Fin 2) : Memref sig .tc .vmem S4096x1024 .f32 :=
  (bufM.slice (Rect.unit (s := S2x1x4096x1024) (slotOff s) S1x1x4096x1024.size (slotOff_inb s)) (fun _ => rfl)).squeeze S4096x1024 squeezes_S1x1x4096x1024_S4096x1024
/-- Slot `s`'s semaphore. -/
def slotSem (s : Fin 2) : DmaSems sig S_ :=
  (cc0_scratch1.slice (Rect.unit (s := S2x1) (semOff s) S1x1.size (semOff_inb s))).squeeze S_ squeezes_S1x1_S_
/-- Column tile `j` of expert `e`'s weights, as a matrix. -/
def tileM (e : Fin 8) (j : Fin 4) : Memref sig .tc .hbm S4096x1024 .f32 :=
  (wM.slice (Rect.unit (s := S8x4096x4096) (tileOff e j) S1x4096x1024.size (tileOff_inb e j)) (fun _ => rfl)).squeeze S4096x1024 squeezes_S1x4096x1024_S4096x1024

instance (s : Fin 2) : ClosedOff (slotOff s) := ⟨slotOff s, rfl⟩
instance (e : Fin 8) (j : Fin 4) : ClosedOff (tileOff e j) := ⟨tileOff e j, rfl⟩

/-- The expert a word names. -/
abbrev expertOf (v : BitVec 32) : Fin 8 := Fin.ofNat 8 v.toNat
/-- The column tile a number names. -/
abbrev colOf (n : Nat) : Fin 4 := Fin.ofNat 4 n
/-- The word for slot `s`. -/
abbrev wordOf (s : Fin 2) : BitVec 32 := BitVec.ofNat 32 s.val

section Canon

private theorem slotSem_congr {off : Fin 2 → Nat} {s : Fin 2} (e : off = semOff s) (hh) :
    (cc0_scratch1.slice (Rect.unit (s := S2x1) off S1x1.size hh)).squeeze S_ squeezes_S1x1_S_ = slotSem s :=
  congrArg (fun A : DmaSems sig S1x1 => A.squeeze S_ squeezes_S1x1_S_) (SemArray.slice_unit_congr _ e _ _)
private theorem slotM_congr {off : Fin 4 → Nat} {s : Fin 2} (e : off = slotOff s) (hh hs) :
    (bufM.slice (Rect.unit (s := S2x1x4096x1024) off S1x1x4096x1024.size hh) hs).squeeze S4096x1024 squeezes_S1x1x4096x1024_S4096x1024 = slotM s :=
  congrArg (fun M : Memref sig .tc .vmem S1x1x4096x1024 .f32 => M.squeeze S4096x1024 squeezes_S1x1x4096x1024_S4096x1024) (Memref.slice_unit_congr _ e _ _ _ _)
private theorem tileM_congr {off : Fin 3 → Nat} {e : Fin 8} {j : Fin 4} (h : off = tileOff e j) (hh hs) :
    (wM.slice (Rect.unit (s := S8x4096x4096) off S1x4096x1024.size hh) hs).squeeze S4096x1024 squeezes_S1x4096x1024_S4096x1024 = tileM e j :=
  congrArg (fun M : Memref sig .tc .hbm S1x4096x1024 .f32 => M.squeeze S4096x1024 squeezes_S1x4096x1024_S4096x1024) (Memref.slice_unit_congr _ h _ _ _ _)

/-- The first point's semaphore and slot. -/
@[sl_canon] theorem semL0 (hh) : (cc0_scratch1.slice (Rect.unit (s := S2x1) ![0, 0] S1x1.size hh)).squeeze S_ squeezes_S1x1_S_ = slotSem 0 := slotSem_congr (by decide) _
@[sl_canon] theorem slotL0 (hh hs) : (bufM.slice (Rect.unit (s := S2x1x4096x1024) ![0, 0, 0, 0] S1x1x4096x1024.size hh) hs).squeeze S4096x1024 squeezes_S1x1x4096x1024_S4096x1024 = slotM 0 := slotM_congr (by decide) _ _

/-- The slot a run of tiles is waited for in: the one that is not current. -/
@[sl_canon] theorem semW (s : Fin 2) (hh) : (cc0_scratch1.slice (Rect.unit (s := S2x1) (k0_off4 (wordOf s)) S1x1.size hh)).squeeze S_ squeezes_S1x1_S_ = slotSem (1 - s) :=
  slotSem_congr (by revert s; decide) _
@[sl_canon] theorem slotW (s : Fin 2) (hh hs) : (bufM.slice (Rect.unit (s := S2x1x4096x1024) (k0_off5 (wordOf s)) S1x1x4096x1024.size hh) hs).squeeze S4096x1024 squeezes_S1x1x4096x1024_S4096x1024 = slotM (1 - s) :=
  slotM_congr (by revert s; decide) _ _
/-- The same at the first point, whose word is 1. -/
@[sl_canon] theorem semF1 (hh) : (cc0_scratch1.slice (Rect.unit (s := S2x1) (k0_off4 1#32) S1x1.size hh)).squeeze S_ squeezes_S1x1_S_ = slotSem 0 := slotSem_congr (by decide) _
@[sl_canon] theorem slotF1 (hh hs) : (bufM.slice (Rect.unit (s := S2x1x4096x1024) (k0_off5 1#32) S1x1x4096x1024.size hh) hs).squeeze S4096x1024 squeezes_S1x1x4096x1024_S4096x1024 = slotM 0 := slotM_congr (by decide) _ _
@[sl_canon] theorem semF2 (hh) : (cc0_scratch1.slice (Rect.unit (s := S2x1) (k0_off9 1#32) S1x1.size hh)).squeeze S_ squeezes_S1x1_S_ = slotSem 1 := slotSem_congr (by decide) _
@[sl_canon] theorem slotF2 (hh hs) : (bufM.slice (Rect.unit (s := S2x1x4096x1024) (k0_off10 1#32) S1x1x4096x1024.size hh) hs).squeeze S4096x1024 squeezes_S1x1x4096x1024_S4096x1024 = slotM 1 := slotM_congr (by decide) _ _
/-- The slot the next tile is copied to: the one that was current. -/
@[sl_canon] theorem semN (s : Fin 2) (hh) : (cc0_scratch1.slice (Rect.unit (s := S2x1) (k0_off9 (wordOf s)) S1x1.size hh)).squeeze S_ squeezes_S1x1_S_ = slotSem s :=
  slotSem_congr (by revert s; decide) _
@[sl_canon] theorem slotN (s : Fin 2) (hh hs) : (bufM.slice (Rect.unit (s := S2x1x4096x1024) (k0_off10 (wordOf s)) S1x1x4096x1024.size hh) hs).squeeze S4096x1024 squeezes_S1x1x4096x1024_S4096x1024 = slotM s :=
  slotM_congr (by revert s; decide) _ _

theorem off1_eq (v : BitVec 32) (hv : v.toNat < 8) : k0_off1 v = tileOff (expertOf v) 0 := by
  funext a; fin_cases a <;> simp [k0_off1, Fin.ofNat, Nat.mod_eq_of_lt hv]
theorem mul_1024 (n : BitVec 32) (hn : n.toNat < 4) : (Scalar.muli n 1024#32).toNat = 1024 * n.toNat := by
  simp only [Scalar.muli, IntOp.muli, BitVec.toNat_mul, BitVec.toNat_ofNat]; omega
theorem coord_toNat (i : grid0.Coords) : (BitVec.ofNat 32 (i 0).val).toNat = (i 0).val := by
  have h : (i 0).val < 4 := (i 0).isLt
  simp only [BitVec.toNat_ofNat]; omega
theorem off6_eq (i : grid0.Coords) (v : BitVec 32) (hv : v.toNat < 8) : k0_off6 i v = tileOff (expertOf v) (colOf (i 0).val) := by
  have h : (i 0).val < 4 := (i 0).isLt
  have e : (Scalar.muli (BitVec.ofNat 32 (i 0).val) 1024#32).toNat = 1024 * (i 0).val := by
    rw [mul_1024 _ (by rw [coord_toNat]; exact h), coord_toNat]
  show (![v.toNat, 0, (Scalar.muli (BitVec.ofNat 32 (i 0).val) 1024#32).toNat] : Fin 3 → Nat) = _
  rw [e]; funext a; fin_cases a <;> simp [Fin.ofNat, Nat.mod_eq_of_lt hv, Nat.mod_eq_of_lt h]
theorem off11_eq (i : grid0.Coords) (l v : BitVec 32) (hv : v.toNat < 8) (hl : (i 0).val + l.toNat < 4) :
    k0_off11 i v l = tileOff (expertOf v) (colOf ((i 0).val + l.toNat)) := by
  have ea : (Scalar.addi (BitVec.ofNat 32 (i 0).val) l).toNat = (i 0).val + l.toNat := by
    simp only [Scalar.addi, IntOp.addi, BitVec.toNat_add, coord_toNat]; omega
  have e : (Scalar.muli (Scalar.addi (BitVec.ofNat 32 (i 0).val) l) 1024#32).toNat = 1024 * ((i 0).val + l.toNat) := by
    rw [mul_1024 _ (by rw [ea]; exact hl), ea]
  show (![v.toNat, 0, (Scalar.muli (Scalar.addi (BitVec.ofNat 32 (i 0).val) l) 1024#32).toNat] : Fin 3 → Nat) = _
  rw [e]; funext a; fin_cases a <;> simp [Fin.ofNat, Nat.mod_eq_of_lt hv, Nat.mod_eq_of_lt hl]

/-- The tile the first point copies, the one a run waits for, the one it copies next. -/
@[sl_canon] theorem tileF (v : BitVec 32) (hv : v.toNat < 8) (hh hs) : (wM.slice (Rect.unit (s := S8x4096x4096) (k0_off1 v) S1x4096x1024.size hh) hs).squeeze S4096x1024 squeezes_S1x4096x1024_S4096x1024 = tileM (expertOf v) 0 :=
  tileM_congr (off1_eq v hv) _ _
@[sl_canon] theorem tileW (i : grid0.Coords) (v : BitVec 32) (hv : v.toNat < 8) (hh hs) : (wM.slice (Rect.unit (s := S8x4096x4096) (k0_off6 i v) S1x4096x1024.size hh) hs).squeeze S4096x1024 squeezes_S1x4096x1024_S4096x1024 = tileM (expertOf v) (colOf (i 0).val) :=
  tileM_congr (off6_eq i v hv) _ _
@[sl_canon] theorem tileN (i : grid0.Coords) (l v : BitVec 32) (hv : v.toNat < 8) (hl : (i 0).val + l.toNat < 4) (hh hs) : (wM.slice (Rect.unit (s := S8x4096x4096) (k0_off11 i v l) S1x4096x1024.size hh) hs).squeeze S4096x1024 squeezes_S1x4096x1024_S4096x1024 = tileM (expertOf v) (colOf ((i 0).val + l.toNat)) :=
  tileM_congr (off11_eq i l v hv hl) _ _

/-- The checks the body makes hold. -/
theorem chk1_of (i : grid0.Coords) (v : BitVec 32) (hv : v.toNat < 8) : k0_chk1 i v := fun _ => by
  rw [off1_eq v hv]; exact tileOff_inb _ _
theorem chk2_of (i : grid0.Coords) (n r : BitVec 32) (s : Fin 2) : k0_chk2 i n r (wordOf s) :=
  ⟨fun _ => by revert s; decide, fun _ => by revert s; decide⟩
theorem chk3_of (i : grid0.Coords) (n r v : BitVec 32) (hv : v.toNat < 8) : k0_chk3 i n r v := fun _ => by
  rw [off6_eq i v hv]; exact tileOff_inb _ _
theorem chk4_of (i : grid0.Coords) (n r l : BitVec 32) (s : Fin 2) : k0_chk4 i n r (wordOf s) l :=
  ⟨fun _ _ => by revert s; decide, fun _ _ => by revert s; decide⟩
theorem chk5_of (i : grid0.Coords) (n r l' v l : BitVec 32) (hv : v.toNat < 8) (hl : (i 0).val + l.toNat < 4) : k0_chk5 i n r l' v l := fun _ _ => by
  rw [off11_eq i l v hv hl]; exact tileOff_inb _ _
theorem chk6_of (i : grid0.Coords) (n : BitVec 32) (s : Fin 2) : k0_chk6 i n (wordOf s) := fun _ => by revert s; decide

/-- Where the current slot is read. -/
theorem off12_eq (s : Fin 2) : k0_off12 (wordOf s) = slotOff s := by revert s; decide
instance (s : Fin 2) : ClosedOff (k0_off12 (wordOf s)) := ⟨slotOff s, off12_eq s⟩

end Canon

end Cert.EDownIdeal.Gen

end
-- ==== Proof.EDownBody.lean ====
/-
  The call `l1_moe_down`: the body run at each kind of grid point.
-/
module

public import proofs.«01_k».proof.Proof.EDownNames
public import Idealize.ShloMosaic.Lib.Pipeline.Frame
public import Idealize.ShloMosaic.Lib.Pipeline.FrameBody
public import Idealize.ShloMosaic.Lib.Pipeline.Value
public import Idealize.ShloMosaic.Lib.VecWindow

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The five tables: each tile's expert, the number of tiles used, whether a tile begins a run of one expert's tiles,
    the expert of the next run, whether the run is the last one. -/
abbrev teM : Memref sig .tc .smem S40 .i32 := Memref.whole main_arg2
abbrev nuM : Memref sig .tc .smem S1 .i32 := Memref.whole main_arg3
abbrev rsM : Memref sig .tc .smem S40 .i32 := Memref.whole main_arg4
abbrev neM : Memref sig .tc .smem S40 .i32 := Memref.whole main_arg5
abbrev lrM : Memref sig .tc .smem S40 .i32 := Memref.whole main_arg6

/-- A memref's buffer on core `c`, and half of it held (the other half is the pipeline's), and all of it held. -/
abbrev BufOf (c : Dev nD) {sp : Space} {S : Shape} {e : EltTy} (M : Memref sig .tc sp S e) : Type := Buf (Elt F) (M.view.loc (c : Thread nD τ))
abbrev halfPt (c : Dev nD) {S : Shape} {e : EltTy} (M : Memref sig .tc .smem S e) (f : BufOf (F := F) c M) : sProp 𝕄 :=
  M.view.loc (c : Thread nD τ) ↦{fullShare.right} f
abbrev allPt (c : Dev nD) {sp : Space} {S : Shape} {e : EltTy} (M : Memref sig .tc sp S e) (f : BufOf (F := F) c M) : sProp 𝕄 :=
  M.view.loc (c : Thread nD τ) ↦{fullShare} f

theorem first_pos : 0 < S1.numel := by decide

/-- The number of tiles used, read as the body reads it. -/
abbrev nuW (c : Dev nD) (T : BufOf (F := F) c nuM) : BitVec 32 :=
  nuM.view.readAt (Elt F) (Rect.unit (s := S1) ![0] S1.size inb_S1_S1_0).toLoadRect T (Shape.Idx.first first_pos)
/-- The first tile's word of a table. -/
abbrev firstW (c : Dev nD) (M : Memref sig .tc .smem S40 .i32) (T : BufOf (F := F) c M) : BitVec 32 :=
  M.view.readAt (Elt F) (Rect.unit (s := S40) ![0] S1.size inb_S40_S1_0).toLoadRect T (Shape.Idx.first first_pos)
/-- The grid point's tile's word of a table. -/
abbrev wordAt (c : Dev nD) (M : Memref sig .tc .smem S40 .i32) (T : BufOf (F := F) c M) (i : grid0.Coords) : BitVec 32 :=
  M.view.readAt (Elt F) (Rect.unit (s := S40) (k0_off2 i) S1.size (k0_off2_inb i)).toLoadRect T (Shape.Idx.first first_pos)

section Pieces
variable (c : Dev nD) (XW : BufOf (F := F) c wM)

/-- Slot `s`'s semaphore at zero. -/
abbrev cellP (s : Fin 2) : sProp 𝕄 := semVal ((c : Thread nD τ), SemLoc.dma (slotSem s).sem) 0
/-- Slot `s` at contents `f`. -/
abbrev slotAt (s : Fin 2) (f : BufOf (F := F) c (slotM s)) : sProp 𝕄 :=
  (slotM s).view.loc (c : Thread nD τ) ↦[(slotM s).view.set]{fullShare} f
/-- A tile of the weights as a matrix of words. -/
abbrev tileOf (e : Fin 8) (j : Fin 4) : S4096x1024.Idx → Elt F .f32 := ReadAs.same.apply ((tileM e j).view.read (Elt F) XW)
/-- Slot `s` with a matrix copied into it. -/
abbrev slotWith (s : Fin 2) (y : S4096x1024.Idx → Elt F .f32) : BufOf (F := F) c (slotM s) :=
  (slotM s).view.writes (Elt F) (slotM s).view.junk [⟨Rect.whole S4096x1024, y⟩]
/-- A tile of the weights held. -/
abbrev tileP (e : Fin 8) (j : Fin 4) : sProp 𝕄 := (tileM e j).view.loc (c : Thread nD τ) ↦[(tileM e j).view.set]{fullShare} XW
/-- All the weights but one tile. -/
abbrev restP (e : Fin 8) (j : Fin 4) : sProp 𝕄 := wM.view.loc (c : Thread nD τ) ↦[Finset.univ \ (tileM e j).view.set]{fullShare} XW
/-- A copy of a tile into slot `s` under way. -/
abbrev flightP (s : Fin 2) (e : Fin 8) (j : Fin 4) (f : BufOf (F := F) c (slotM s)) : sProp 𝕄 :=
  Transfers.Flight countersEmb (c : Thread nD τ) (SemLoc.dma (slotSem s).sem) () 524288
    iprop(slotAt c s ((slotM s).view.writes (Elt F) f [⟨Rect.whole S4096x1024, tileOf c XW e j⟩]) ∗ tileP c XW e j)

/-- The weights are a tile and the rest. -/
theorem tile_split (e : Fin 8) (j : Fin 4) : allPt c wM XW ⊢ iprop(tileP c XW e j ∗ restP c XW e j) :=
  (pointsTo_split_subset (Finset.subset_univ _)).1
theorem tile_join (e : Fin 8) (j : Fin 4) : iprop(tileP c XW e j ∗ restP c XW e j) ⊢ allPt c wM XW :=
  (pointsTo_split_subset (Finset.subset_univ _)).2

theorem tile_change (e e' : Fin 8) (j j' : Fin 4) : iprop(tileP c XW e j ∗ restP c XW e j) ⊢ iprop(tileP c XW e' j' ∗ restP c XW e' j') :=
  (tile_join c XW e j).trans (tile_split c XW e' j')

end Pieces

section Body
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)

/-- The body at a grid point, on the staging buffers it is called with. -/
abbrev bodyOn : Prog (TpuEff nD τ sig (Elt F) Λ₀ .tc) PUnit :=
  cc0_l1_moe_down i teM (Memref.isWhole_whole _) nuM (Memref.isWhole_whole _) rsM (Memref.isWhole_whole _) neM (Memref.isWhole_whole _) lrM (Memref.isWhole_whole _)
    arg7 harg7 wM (Memref.isWhole_whole _) arg9 harg9 bufM (Memref.isWhole_whole _) cc0_scratch1 curM (Memref.isWhole_whole _)

/-- The tables held. -/
abbrev tablesP : sProp 𝕄 := iprop(halfPt c teM Tte ∗ halfPt c nuM Tnu ∗ halfPt c rsM Trs ∗ halfPt c neM Tne ∗ halfPt c lrM Tlr)

/-- The current slot's word. -/
abbrev curP (s : Fin 2) : sProp 𝕄 := allPt (F := F) c curM (fun _ => wordOf s)

/-- What the body stores at a used tile: the rows times the slot's weights. -/
def downOf (x : Vec F S512x4096 .bf16) (y : S4096x1024.Idx → Elt F .f32) : Vec F S512x1024 .bf16 :=
  truncf .bf16 (matmul dot_S512x4096_S4096x1024_S512x1024_1_0_0_1_n_n none x (truncf .bf16 (show FVec F S4096x1024 .f32 from y) bitsLt_bf16_f32) (constant S512x1024 .f32 0x00000000#32)) bitsLt_bf16_f32

/-- The current slot, loaded as the body loads it, is what its matrix view reads. -/
theorem slot_load_at (s : Fin 2) {off : Fin 4 → Nat} (e : off = slotOff s) (h : ∀ a, off a + S1x1x4096x1024.size a ≤ S2x1x4096x1024.size a)
    (f : bufM.view.ty.Contents (Elt F)) :
    shapeCast S4096x1024 (bufM.view.readAt (Elt F) (Rect.unit (s := S2x1x4096x1024) off S1x1x4096x1024.size h).toLoadRect f) shapeCasts_S1x1x4096x1024_S4096x1024
      = (slotM s).view.read (Elt F) f := by
  subst e; rfl
/-- What a copy into a slot leaves there. -/
theorem slot_landed (s : Fin 2) (f : BufOf (F := F) c (slotM s)) (y : S4096x1024.Idx → Elt F .f32) :
    (slotM s).view.read (Elt F) ((slotM s).view.writes (Elt F) f [⟨Rect.whole S4096x1024, y⟩]) = y := View.read_writes_whole (slotM s).view f y

/-- What a used tile's store leaves. -/
theorem stored_down (s : Fin 2) (x : Vec F S512x4096 .bf16) (y : S4096x1024.Idx → Elt F .f32) (g : BufOf (F := F) c (slotM s)) (hg : (slotM s).view.read (Elt F) g = y)
    (f : BufOf (F := F) c arg9) {off : Fin 4 → Nat} (e : off = slotOff s)
    (h : ∀ a, off a + S1x1x4096x1024.size a ≤ S2x1x4096x1024.size a) :
    arg9.view.read (Elt F) (arg9.view.writes (Elt F) f [⟨Rect.unit (s := S512x1024) ![0, 0] S512x1024.size inb_S512x1024_S512x1024_0_0,
      truncf .bf16 (matmul dot_S512x4096_S4096x1024_S512x1024_1_0_0_1_n_n none
        (arg7.view.readAt (Elt F) (Rect.unit (s := S512x4096) ![0, 0] S512x4096.size inb_S512x4096_S512x4096_0_0).toLoadRect (harg7.unread x))
        (truncf .bf16 (show FVec F S4096x1024 .f32 from shapeCast S4096x1024 (bufM.view.readAt (Elt F) (Rect.unit (s := S2x1x4096x1024) off S1x1x4096x1024.size h).toLoadRect g) shapeCasts_S1x1x4096x1024_S4096x1024) bitsLt_bf16_f32)
        (constant S512x1024 .f32 0x00000000#32)) bitsLt_bf16_f32⟩]) = downOf x y := by
  rw [View.read_writes_full, (slot_load_at s e h g).trans hg, View.readAt_full, harg7.read_unread]; rfl

/-- What a store of the current slot's word leaves. -/
theorem cur_writes (w : BitVec 32) (f : BufOf (F := F) c curM) (h : ∀ a, (![0] : Fin 1 → Nat) a + S1.size a ≤ S1.size a) :
    curM.view.writes (Elt F) f [⟨Rect.unit (s := S1) ![0] S1.size h, fun _ => w⟩] = fun _ => w :=
  View.read_writes_full curM.view f h _ []

/-- The other slot's word, as the body computes it. -/
theorem other_word (s : Fin 2) : Scalar.subi 1#32 (wordOf s) = wordOf (1 - s) := by revert s; decide

/-- What an unused tile's store leaves. -/
def noneOf : Vec F S512x1024 .bf16 := broadcast S512x1024 (Scalar.ofBits .bf16 0x0000#16)

set_option maxHeartbeats 4000000 in
/-- A tile that is not used: zero is stored. -/
theorem run_unused (x : Vec F S512x4096 .bf16)
    (hc1 : ¬k0_cond1 i = 1#1) (hc2 : ¬k0_cond2 i (nuW c Tnu) (wordAt c rsM Trs i) = 1#1) (hc4 : ¬k0_cond4 i (nuW c Tnu) = 1#1) (hc5 : k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg9 fullShare d) ∗ owes (c : Thread nD τ) 0 W
        ∗ (iprop(tablesP c Tte Tnu Trs Tne Tlr ∗ owns (c : Thread nD τ) arg7 fullShare x ∗ owns (c : Thread nD τ) arg9 fullShare noneOf
        ∗ (∃ W, owes (c : Thread nD τ) 0 W)) -∗ K ⟨⟩))
      ⊢ wp frame (wpE (defs₀ (F := F)) Variants.none c none) Set.univ (bodyOn i arg7 harg7 arg9 harg9) K := by
  unfold owns
  iintro ⟨⟨H2, H3, H4, H5, H6⟩, ⟨%f7, %hf7, H7⟩, ⟨%d9, %f9, %hf9, H9⟩, HW, Hk⟩
  obtain rfl := harg7.eq_unread hf7; obtain rfl := harg9.eq_unread hf9
  sl_exec (disch := first | sl_exact hc1)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact View.read_writes_full arg9.view _ _ _ _
  iexists _; iexact HW

set_option maxHeartbeats 4000000 in
/-- A tile that continues a run: the current slot is used as it is. -/
theorem run_same (s : Fin 2) (x : Vec F S512x4096 .bf16) (g : BufOf (F := F) c (slotM s)) (y : S4096x1024.Idx → Elt F .f32) (hg : (slotM s).view.read (Elt F) g = y)
    (hc1 : ¬k0_cond1 i = 1#1) (hc2 : ¬k0_cond2 i (nuW c Tnu) (wordAt c rsM Trs i) = 1#1) (hc4 : k0_cond4 i (nuW c Tnu) = 1#1) (hc5 : ¬k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ slotAt c s g ∗ curP (F := F) c s ∗ owes (c : Thread nD τ) 0 W
        ∗ (iprop(tablesP c Tte Tnu Trs Tne Tlr ∗ owns (c : Thread nD τ) arg7 fullShare x ∗ owns (c : Thread nD τ) arg9 fullShare (downOf x y)
        ∗ slotAt c s g ∗ curP (F := F) c s ∗ (∃ W, owes (c : Thread nD τ) 0 W)) -∗ K ⟨⟩))
      ⊢ wp frame (wpE (defs₀ (F := F)) Variants.none c none) Set.univ (bodyOn i arg7 harg7 arg9 harg9) K := by
  unfold owns
  iintro ⟨⟨H2, H3, H4, H5, H6⟩, ⟨%f7, %hf7, H7⟩, ⟨%d9, %f9, %hf9, H9⟩, HS, HC, HW, Hk⟩
  obtain rfl := harg7.eq_unread hf7; obtain rfl := harg9.eq_unread hf9
  sl_exec (disch := first | sl_exact hc1)
  have hcur : run_same.sl.r_2 (F := F) c s = wordOf s := rfl
  rw [hcur]
  have hchk : k0_chk6 i (run_same.sl.r c Tnu) (wordOf s) := chk6_of i _ s
  sl_exec (disch := first | sl_exact hc1)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_down c arg7 harg7 arg9 s x y g hg _ (off12_eq s) _
  isplitl [HS]; · iexact HS
  isplitl [HC]; · iexact HC
  iexists _; iexact HW

end Body

end Cert.EDownIdeal.Gen

end
-- ==== Proof.EDownFirst.lean ====
/-
  The call `l1_moe_down`: the body run at the first grid point.
-/
module

public import proofs.«01_k».proof.Proof.EDownBody

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)

/-- What two stores of the current slot's word leave. -/
theorem cur_writes2 (w v : BitVec 32) (f : BufOf (F := F) c curM) (h h' : ∀ a, (![0] : Fin 1 → Nat) a + S1.size a ≤ S1.size a) :
    curM.view.writes (Elt F) f [⟨Rect.unit (s := S1) ![0] S1.size h, fun _ => w⟩, ⟨Rect.unit (s := S1) ![0] S1.size h', fun _ => v⟩] = fun _ => w :=
  View.read_writes_full curM.view f h _ _

set_option maxHeartbeats 4000000 in
/-- The grid's first point: the first tile's weights are copied to slot 0 and waited for, slot 0 becomes current, and
    the next run's copy into slot 1 is started. -/
theorem run_first (x : Vec F S512x4096 .bf16) (g : BufOf (F := F) c (slotM 1)) (f : BufOf (F := F) c (slotM 0)) (fc : BufOf (F := F) c curM)
    (hc1 : k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1) (hi : (i 0).val = 0) (hfw : firstW c teM Tte = wordAt c teM Tte i)
    (hte : (wordAt c teM Tte i).toNat < 8) (hne : (wordAt c neM Tne i).toNat < 8) (hl : (i 0).val + (wordAt c lrM Tlr i).toNat < 4)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ slotAt c 0 f ∗ slotAt c 1 g ∗ allPt c curM fc ∗ cellP (F := F) c 0 ∗ cellP (F := F) c 1 ∗ allPt c wM XW
        ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) 0))
          ∗ owns (c : Thread nD τ) (slotM 0) fullShare (tileOf c XW (expertOf (wordAt c teM Tte i)) 0)
          ∗ curP (F := F) c 0 ∗ cellP (F := F) c 0
          ∗ flightP c XW 1 (expertOf (wordAt c neM Tne i)) (colOf ((i 0).val + (wordAt c lrM Tlr i).toNat)) g
          ∗ restP c XW (expertOf (wordAt c neM Tne i)) (colOf ((i 0).val + (wordAt c lrM Tlr i).toNat))
          ∗ (∃ W, owes (c : Thread nD τ) 0 W)) -∗ K ⟨⟩))
      ⊢ wp frame (wpE (defs₀ (F := F)) Variants.none c none) Set.univ (bodyOn i arg7 harg7 arg9 harg9) K := by
  unfold owns
  iintro ⟨⟨H2, H3, H4, H5, H6⟩, ⟨%f7, %hf7, H7⟩, ⟨%d9, %f9, %hf9, H9⟩, H0, HS, HC, HF, HZ, HA, HW, Hk⟩
  obtain rfl := harg7.eq_unread hf7; obtain rfl := harg9.eq_unread hf9
  ihave HA := (tile_split c XW (expertOf (wordAt c teM Tte i)) 0) $$ HA
  icases HA with ⟨HT, HR⟩
  sl_exec (disch := first | sl_exact hc1)
  rw [show run_first.sl.r_2 (F := F) c Tte = wordAt c teM Tte i from hfw]
  have k1 : k0_chk1 i (wordAt c teM Tte i) := chk1_of i _ hte
  sl_exec (disch := first | sl_exact hc1 | sl_exact k1)
  have k2 : k0_chk2 i (run_first.sl.r c Tnu) (run_first.sl.r_3 c i Trs) 1#32 := chk2_of i _ _ 1
  sl_exec (disch := first | sl_exact hc1 | sl_exact k2)
  rw [show run_first.sl.r_4 (F := F) c i Tte = wordAt c teM Tte i from rfl]
  have k3 : k0_chk3 i (run_first.sl.r c Tnu) (run_first.sl.r_3 c i Trs) (wordAt c teM Tte i) := chk3_of i _ _ _ hte
  sl_exec (disch := first | sl_exact hc1 | sl_exact k3)
  rw [show run_first.sl.r_5 (F := F) c i Tlr = wordAt c lrM Tlr i from rfl]
  have k4 : k0_chk4 i (run_first.sl.r c Tnu) (run_first.sl.r_3 c i Trs) 1#32 (wordAt c lrM Tlr i) := chk4_of i _ _ _ 1
  ihave HA := (tile_change c XW _ (expertOf (wordAt c neM Tne i)) _ (colOf ((i 0).val + (wordAt c lrM Tlr i).toNat))) $$ [HT HR]
  · isplitl [HT]; · iexact HT
    iexact HR
  icases HA with ⟨HT, HR⟩
  sl_exec (disch := first | sl_exact hc1 | sl_exact k4)
  rw [show run_first.sl.r_6 (F := F) c i Tne = wordAt c neM Tne i from rfl, show run_first.sl.r_7 (F := F) c i Tlr = wordAt c lrM Tlr i from rfl]
  have k5 : k0_chk5 i (run_first.sl.r c Tnu) (run_first.sl.r_3 c i Trs) (wordAt c lrM Tlr i) (wordAt c neM Tne i) (wordAt c lrM Tlr i) := chk5_of i _ _ _ _ _ hne hl
  sl_exec (disch := first | sl_exact hc1 | sl_exact k5)

  have k6 : k0_chk6 i (run_first.sl.r c Tnu) 0#32 := chk6_of i _ 0
  sl_exec (disch := first | sl_exact hc1 | sl_exact k6)
  rw [cur_writes2]
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_down c arg7 harg7 arg9 0 x _ _ (slot_landed c 0 _ _) _ rfl _
  isplitl [H0]
  · iexists _; isplitr
    swap; · iexact H0
    ipureintro; exact slot_landed c 0 _ _
  isplitl [HC]; · iexact HC
  isplitl [HF]; · iexact HF
  isplitl [HZ]; · iexact HZ
  isplitl [HR]; · iexact HR
  iexists _; iexact HW

end Body

end Cert.EDownIdeal.Gen

end
-- ==== Proof.EDownLast.lean ====
/-
  The call `l1_moe_down`: the body run at the last run's first tile.
-/
module

public import proofs.«01_k».proof.Proof.EDownBody

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)

set_option maxHeartbeats 4000000 in
/-- A tile that begins a run: the run's weights have landed in the other slot, which becomes current; the run is
    the last, so no copy is started. -/
theorem run_last (s : Fin 2) (x : Vec F S512x4096 .bf16) (g : BufOf (F := F) c (slotM s)) (f : BufOf (F := F) c (slotM (1 - s)))
    (hc1 : ¬k0_cond1 i = 1#1) (hc2 : k0_cond2 i (nuW c Tnu) (wordAt c rsM Trs i) = 1#1) (hc3 : ¬k0_cond3 i (wordAt c lrM Tlr i) = 1#1)
    (hc4 : k0_cond4 i (nuW c Tnu) = 1#1) (hc5 : ¬k0_cond5 i (nuW c Tnu) = 1#1)
    (hte : (wordAt c teM Tte i).toNat < 8)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ slotAt c s g ∗ curP (F := F) c s ∗ cellP (F := F) c s
        ∗ flightP c XW (1 - s) (expertOf (wordAt c teM Tte i)) (colOf (i 0).val) f ∗ restP c XW (expertOf (wordAt c teM Tte i)) (colOf (i 0).val)
        ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) (colOf (i 0).val)))
          ∗ owns (c : Thread nD τ) (slotM (1 - s)) fullShare (tileOf c XW (expertOf (wordAt c teM Tte i)) (colOf (i 0).val))
          ∗ curP (F := F) c (1 - s) ∗ cellP (F := F) c (1 - s)
          ∗ slotAt c s g ∗ cellP (F := F) c s ∗ allPt c wM XW
          ∗ (∃ W, owes (c : Thread nD τ) 0 W)) -∗ K ⟨⟩))
      ⊢ wp frame (wpE (defs₀ (F := F)) Variants.none c none) Set.univ (bodyOn i arg7 harg7 arg9 harg9) K := by
  unfold owns
  iintro ⟨⟨H2, H3, H4, H5, H6⟩, ⟨%f7, %hf7, H7⟩, ⟨%d9, %f9, %hf9, H9⟩, HS, HC, HZ, HF, HR, HW, Hk⟩
  obtain rfl := harg7.eq_unread hf7; obtain rfl := harg9.eq_unread hf9
  sl_exec (disch := first | sl_exact hc1)
  have hcur : run_last.sl.r_2 (F := F) c s = wordOf s := rfl
  rw [hcur]
  have k2 : k0_chk2 i (run_last.sl.r c Tnu) (run_last.sl.r_1 c i Trs) (wordOf s) := chk2_of i _ _ s
  sl_exec (disch := first | sl_exact hc1 | sl_exact k2)
  rw [show run_last.sl.r_3 (F := F) c i Tte = wordAt c teM Tte i from rfl]
  have k3 : k0_chk3 i (run_last.sl.r c Tnu) (run_last.sl.r_1 c i Trs) (wordAt c teM Tte i) := chk3_of i _ _ _ hte
  sl_exec (disch := first | sl_exact hc1 | sl_exact k3)
  rw [show run_last.sl.r_4 (F := F) c i Tlr = wordAt c lrM Tlr i from rfl]
  have k4 : k0_chk4 i (run_last.sl.r c Tnu) (run_last.sl.r_1 c i Trs) (wordOf s) (wordAt c lrM Tlr i) := chk4_of i _ _ _ s
  ihave HA := (tile_join c XW _ _) $$ [HF_src HR]
  · isplitl [HF_src]; · iexact HF_src
    iexact HR
  sl_exec (disch := first | sl_exact hc1 | sl_exact k4)
  have hv : run_last.sl.v19 s = wordOf (1 - s) := other_word s
  rw [hv, cur_writes]
  have k6 : k0_chk6 i (run_last.sl.r c Tnu) (wordOf (1 - s)) := chk6_of i _ (1 - s)
  sl_exec (disch := first | sl_exact hc1 | sl_exact k6)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_down c arg7 harg7 arg9 (1 - s) x _ _ (slot_landed c (1 - s) _ _) _ (off12_eq (1 - s)) _
  isplitl [HF_dst]
  · iexists _; isplitr
    swap; · iexact HF_dst
    ipureintro; exact slot_landed c (1 - s) _ _
  isplitl [HC]; · iexact HC
  isplitl [HF]; · iexact HF
  isplitl [HS]; · iexact HS
  isplitl [HZ]; · iexact HZ
  isplitl [HA]; · iexact HA
  iexists _; iexact HW

end Body

end Cert.EDownIdeal.Gen

end
-- ==== Proof.EDownState.lean ====
/-
  The call `l1_moe_down`: the tables' words as a schedule, the body's conditions read off it, and what the two slots
  hold between grid points.
-/
module

public import proofs.«01_k».proof.Proof.EDownFirst
public import proofs.«01_k».proof.Proof.EDownLast
public import Idealize.ShloMosaic.Lib.WordCmp

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The schedule -/

/-- A table's word for tile `u`. -/
def word (T : S40.Idx → BitVec 32) (u : ℕ) : BitVec 32 := T (fun a => ⟨u % 40, by
  have : S40.size a = 40 := by fin_cases a; rfl
  rw [this]; exact Nat.mod_lt _ (by decide)⟩)

/-- The tables describe runs of tiles of one expert: of `n` used tiles the first begins a run; a tile that begins a run is
    the one announced by the run before, and any other has the words of the tile before; the last run announces the
    first, and it alone is marked last. -/
structure Sched (te rs ne lr : ℕ → BitVec 32) (n : ℕ) : Prop where
  pos : 1 ≤ n
  le : n ≤ 40
  te8 : ∀ u < 40, (te u).toNat < 8
  ne8 : ∀ u < 40, (ne u).toNat < 8
  lr01 : ∀ u < 40, lr u = 0#32 ∨ lr u = 1#32
  first : rs 0 = 1#32
  step : ∀ t, t + 1 < n → (rs (t + 1) = 1#32 ∧ ne t = te (t + 1) ∧ lr t = 0#32)
    ∨ (rs (t + 1) ≠ 1#32 ∧ te (t + 1) = te t ∧ ne (t + 1) = ne t ∧ lr (t + 1) = lr t)
  last : lr (n - 1) = 1#32 ∧ ne (n - 1) = te 0

/-! ## The body's conditions -/

theorem bit_ne (b : BitVec 1) : Scalar.cmpi .ne (Scalar.extui b : BitVec 32) 0#32 = 1#1 ↔ b = 1#1 := by revert b; decide
theorem bit_and (a b : BitVec 1) : Scalar.andi a b = 1#1 ↔ a = 1#1 ∧ b = 1#1 := by revert a b; decide
theorem bit_not (a : BitVec 1) : Scalar.xori a 1#1 = 1#1 ↔ ¬a = 1#1 := by revert a; decide
theorem word_eq (a b : BitVec 32) : Scalar.cmpi .eq a b = 1#1 ↔ a = b := by
  show BitVec.ofBool (a == b) = 1#1 ↔ a = b
  by_cases h : a = b
  · simp [h]
  · have : (a == b) = false := by simpa using h
    rw [this]; simp [h]
theorem word_lt (k : ℕ) (b : BitVec 32) (hk : k < 40) (hb : b.toNat ≤ 40) : Scalar.cmpi .slt (BitVec.ofNat 32 k) b = 1#1 ↔ k < b.toNat := by
  have e : (BitVec.ofNat 32 k).toNat = k := by simp only [BitVec.toNat_ofNat]; omega
  have : (BitVec.ofNat 32 k).slt b = decide (k < b.toNat) := by
    rw [BitVec.slt_eq_decide, BitVec.toInt_eq_toNat_of_lt (by omega), BitVec.toInt_eq_toNat_of_lt (by omega), e]
    simp
  by_cases h : k < b.toNat <;> simp [Scalar.cmpi, IntOp.cmpi, this, h]

variable (i : grid0.Coords)
theorem coord0_lt : (i 0).val < 4 := (i 0).isLt
theorem coord1_lt : (i 1).val < 40 := (i 1).isLt
theorem ofNat_eq (k : ℕ) (hk : k < 40) (z : ℕ) (hz : z < 40) : BitVec.ofNat 32 k = BitVec.ofNat 32 z ↔ k = z := by
  constructor
  · intro h; have := congrArg BitVec.toNat h; simp only [BitVec.toNat_ofNat] at this; omega
  · rintro rfl; rfl

theorem cond1_iff : k0_cond1 i = 1#1 ↔ (i 0).val = 0 ∧ (i 1).val = 0 := by
  have h0 := coord0_lt i; have h1 := coord1_lt i
  simp only [k0_cond1]
  rw [bit_ne, bit_and, word_eq, word_eq, show (0#32 : BitVec 32) = BitVec.ofNat 32 0 from rfl, ofNat_eq _ (by omega) 0 (by omega), ofNat_eq _ h1 0 (by omega)]
theorem cond2_iff (n r : BitVec 32) (hn : n.toNat ≤ 40) : k0_cond2 i n r = 1#1 ↔ (i 1).val < n.toNat ∧ r = 1#32 := by
  simp only [k0_cond2]
  rw [bit_ne, bit_and, word_eq, word_lt _ _ (coord1_lt i) hn]
theorem cond3_iff (l : BitVec 32) : k0_cond3 i l = 1#1 ↔ ¬(l = 1#32 ∧ (i 0).val = 3) := by
  have h0 := coord0_lt i
  simp only [k0_cond3]
  rw [bit_ne, bit_not, bit_and, word_eq, word_eq, show (3#32 : BitVec 32) = BitVec.ofNat 32 3 from rfl, ofNat_eq _ (by omega) 3 (by omega)]
theorem cond4_iff (n : BitVec 32) (hn : n.toNat ≤ 40) : k0_cond4 i n = 1#1 ↔ (i 1).val < n.toNat := by
  simp only [k0_cond4]
  rw [bit_ne, word_lt _ _ (coord1_lt i) hn]
theorem cond5_iff (n : BitVec 32) (hn : n.toNat ≤ 40) : k0_cond5 i n = 1#1 ↔ ¬(i 1).val < n.toNat := by
  simp only [k0_cond5]
  rw [bit_ne, bit_not, word_lt _ _ (coord1_lt i) hn]

/-! ## The words the body reads -/

/-- The number of used tiles. -/
def usedOf (T : S1.Idx → BitVec 32) : BitVec 32 := T (fun a => ⟨0, by fin_cases a; decide⟩)
theorem nuW_eq (c : Dev nD) (T : BufOf (F := F) c nuM) : nuW c T = usedOf T := by
  refine congrArg (f := fun x => (T : S1.Idx → BitVec 32) x) (funext fun a => ?_)
  fin_cases a; rfl

theorem coord_word (k : ℕ) (hk : k < 40) : (Scalar.indexCast (BitVec.ofNat 32 k)).toNat = k := by
  show (BitVec.ofNat 32 k).toNat = k
  simp only [BitVec.toNat_ofNat]; omega

theorem teW (c : Dev nD) (T : BufOf (F := F) c teM) : wordAt c teM T i = word T (i 1).val := by
  refine congrArg (f := fun x => (T : S40.Idx → BitVec 32) x) (funext fun a => ?_)
  have h := coord1_lt i
  fin_cases a
  apply Fin.ext
  show (Scalar.indexCast (BitVec.ofNat 32 (i 1).val)).toNat + 1 * 0 = (i 1).val % 40
  rw [coord_word _ h]; omega
theorem rsW (c : Dev nD) (T : BufOf (F := F) c rsM) : wordAt c rsM T i = word T (i 1).val := teW i c T
theorem neW (c : Dev nD) (T : BufOf (F := F) c neM) : wordAt c neM T i = word T (i 1).val := teW i c T
theorem lrW (c : Dev nD) (T : BufOf (F := F) c lrM) : wordAt c lrM T i = word T (i 1).val := teW i c T
theorem teF (c : Dev nD) (T : BufOf (F := F) c teM) : firstW c teM T = word T 0 := by
  refine congrArg (f := fun x => (T : S40.Idx → BitVec 32) x) (funext fun a => ?_)
  fin_cases a; rfl

/-! ## Between grid points -/

section Held
variable (c : Dev nD) (XW : BufOf (F := F) c wM)

/-- What is held of the next tile: the copy of it under way into slot `s`, or, when there is none, the slot at anything. -/
def nextP (s : Fin 2) : Option (Fin 8 × Fin 4) → sProp 𝕄
  | none => iprop((∃ f, slotAt c s f) ∗ cellP (F := F) c s ∗ allPt c wM XW)
  | some (e, j) => iprop((∃ f, flightP c XW s e j f) ∗ restP c XW e j)

/-- Tile `(e, j)` of the weights is in the current slot, and the copy of tile `nx` into the other slot is under way. -/
def heldP (e : Fin 8) (j : Fin 4) (nx : Option (Fin 8 × Fin 4)) : sProp 𝕄 :=
  iprop(∃ s : Fin 2, curP (F := F) c s ∗ cellP (F := F) c s ∗ owns (c : Thread nD τ) (slotM s) fullShare (tileOf c XW e j) ∗ nextP c XW (1 - s) nx)

end Held

/-- The tile of the weights being copied while tile `u` of column tile `j` is worked on. -/
def nextOf (ne lr : ℕ → BitVec 32) (j u : ℕ) : Option (Fin 8 × Fin 4) :=
  if lr u = 1#32 ∧ j = 3 then none else some (expertOf (ne u), colOf (j + (lr u).toNat))

end Cert.EDownIdeal.Gen

end
-- ==== Proof.EDownPre.lean ====
/-
  The words of the schedule tables: what the stated condition on them says, tile by tile.
-/
module

public import proofs.«01_k».proof.Proof.EDownState
public import proofs.«01_k».proof.Proof.Gen.Pre_down_schedule
public import Idealize.ShloMosaic.Lib.Pointwise
public import Idealize.ShloMosaic.Lib.StableHlo.Predicate

@[expose] public section

noncomputable section

namespace Cert.EDownIdeal.Gen

open Idealize.ShloMosaic Idealize.SL.Sem

variable {F : FTy → Type} [FloatOps F]

theorem cmpi_ne_iff (a b : BitVec 32) : IntOp.cmpi .ne a b = 1#1 ↔ a ≠ b := by
  simp only [IntOp.cmpi, StableHlo.Predicate.ofBool_eq_one_iff, bne_iff_ne]

/-- A word at least the small number `k` and less than, or at most, a small number, as a natural number. -/
theorem word_ge (w : BitVec 32) (k : ℕ) (hk : k < 41) (h : IntOp.cmpi .sge w (BitVec.ofNat 32 k) = 1#1) : w.toNat < 2 ^ 31 ∧ k ≤ w.toNat := by
  simp only [IntOp.cmpi, StableHlo.Predicate.ofBool_eq_one_iff, BitVec.sle, decide_eq_true_eq, StableHlo.Predicate.toInt_ofNat_small k (by omega),
    BitVec.toInt_eq_toNat_cond] at h
  have := w.isLt
  split at h <;> omega

theorem word_lt8 (w : BitVec 32) (h0 : IntOp.cmpi .sge w 0#32 = 1#1) (h : IntOp.cmpi .slt w 8#32 = 1#1) : w.toNat < 8 :=
  (StableHlo.Predicate.slt_iff_toNat (word_ge w 0 (by omega) h0).1 (by decide)).mp h

theorem word_le40 (w : BitVec 32) (h1 : IntOp.cmpi .sge w 1#32 = 1#1) (h : IntOp.cmpi .sle w 40#32 = 1#1) : 1 ≤ w.toNat ∧ w.toNat ≤ 40 :=
  ⟨(word_ge w 1 (by omega) h1).2, (StableHlo.Predicate.sle_iff_toNat (word_ge w 1 (by omega) h1).1 (by decide)).mp h⟩

theorem word_at (T : S40.Idx → BitVec 32) (t : Fin 40) : word T t.val = T (ix1 t) := by
  unfold word
  refine congrArg T (funext fun a => ?_)
  fin_cases a
  exact Fin.ext (Nat.mod_eq_of_lt t.isLt)

theorem used_at (T : S1.Idx → BitVec 32) : usedOf T = T (ix1 0) := by
  unfold usedOf
  refine congrArg T (funext fun a => ?_)
  fin_cases a; rfl

/-- The stated condition at a pair of tiles, in words: the range of every word; two tiles one after the other are of
    two runs or of one; the last tile used and the first. -/
theorem pre_at (a0 : FVec F S20480x4096 .bf16) (a1 : FVec F S8x4096x4096 .f32) (te : IVec S40 32) (nu : IVec S1 32) (rs ne lr : IVec S40 32)
    (h : Cert.Pre_down_schedule.fn (F := F) a0 a1 te nu rs ne lr = fun _ => 1#1) (t u : Fin 40) :
    ((word te t.val).toNat < 8 ∧ (word ne t.val).toNat < 8 ∧ 1 ≤ (usedOf nu).toNat ∧ (usedOf nu).toNat ≤ 40
      ∧ (word lr t.val = 0#32 ∨ word lr t.val = 1#32) ∧ (t.val = 0 → word rs t.val = 1#32))
    ∧ (u.val = t.val + 1 → u.val < (usedOf nu).toNat →
        (word rs u.val = 1#32 ∧ word ne t.val = word te u.val ∧ word lr t.val = 0#32)
        ∨ (word rs u.val ≠ 1#32 ∧ word te u.val = word te t.val ∧ word ne u.val = word ne t.val ∧ word lr u.val = word lr t.val))
    ∧ (t.val + 1 = (usedOf nu).toNat → u.val = 0 → word lr t.val = 1#32 ∧ word ne t.val = word te u.val) := by
  have h := congrFun h (ix2 t u)
  pointwise [Cert.Pre_down_schedule.fn, Cert.Pre_down_schedule.fn_part1, Cert.Pre_down_schedule.fn_part2, Cert.Pre_down_schedule.fn_part3, Cert.Pre_down_schedule.fn_part4] at h
  simp only [← word_at, ← used_at, IntOp.andi_eq_one, IntOp.ori_eq_one, StableHlo.Predicate.cmpi_eq_iff, cmpi_ne_iff] at h
  obtain ⟨⟨⟨⟨⟨⟨⟨⟨t0, t1⟩, n0⟩, n1⟩, u0⟩, u1⟩, ⟨hl, hf⟩⟩, hs⟩, he⟩ := h
  obtain ⟨p0, p1⟩ := word_le40 _ u0 u1
  have ht := t.isLt
  have hu := u.isLt
  refine ⟨⟨word_lt8 _ t0 t1, word_lt8 _ n0 n1, p0, p1, hl, fun e => hf.resolve_left fun k => k (by rw [e])⟩, fun e l => ?_, fun e f => ?_⟩
  · rcases hs with ((hs | hs) | hs) | hs
    · exact absurd (by rw [e]; exact (BitVec.ofNat_add ..).symm ▸ rfl) hs
    · have := (StableHlo.Predicate.sge_iff_toNat (by rw [BitVec.toNat_ofNat]; omega) (by omega)).mp hs
      rw [BitVec.toNat_ofNat] at this
      omega
    · exact Or.inl ⟨hs.1, hs.2.1, hs.2.2⟩
    · exact Or.inr ⟨hs.1, hs.2.1.1, hs.2.1.2, hs.2.2⟩
  · rcases he with (he | he) | he
    · refine absurd (BitVec.eq_of_toNat_eq ?_) he
      show (BitVec.ofNat 32 t.val + 1#32).toNat = _
      rw [BitVec.toNat_add, BitVec.toNat_ofNat, BitVec.toNat_ofNat]
      omega
    · exact absurd (by rw [f]) he
    · exact he

/-- The stated condition says that the tables describe runs of tiles of one expert. -/
theorem sched_of (a0 : FVec F S20480x4096 .bf16) (a1 : FVec F S8x4096x4096 .f32) (te : IVec S40 32) (nu : IVec S1 32) (rs ne lr : IVec S40 32)
    (h : Cert.Pre_down_schedule.fn (F := F) a0 a1 te nu rs ne lr = fun _ => 1#1) :
    Sched (word te) (word rs) (word ne) (word lr) (usedOf nu).toNat where
  pos := (pre_at a0 a1 te nu rs ne lr h 0 0).1.2.2.1
  le := (pre_at a0 a1 te nu rs ne lr h 0 0).1.2.2.2.1
  te8 u hu := (pre_at a0 a1 te nu rs ne lr h ⟨u, hu⟩ 0).1.1
  ne8 u hu := (pre_at a0 a1 te nu rs ne lr h ⟨u, hu⟩ 0).1.2.1
  lr01 u hu := (pre_at a0 a1 te nu rs ne lr h ⟨u, hu⟩ 0).1.2.2.2.2.1
  first := (pre_at a0 a1 te nu rs ne lr h 0 0).1.2.2.2.2.2 rfl
  step t ht := by
    have := (pre_at a0 a1 te nu rs ne lr h 0 0).1.2.2.2.1
    exact (pre_at a0 a1 te nu rs ne lr h ⟨t, by omega⟩ ⟨t + 1, by omega⟩).2.1 rfl ht
  last := by
    have h1 := (pre_at a0 a1 te nu rs ne lr h 0 0).1.2.2.1
    have h2 := (pre_at a0 a1 te nu rs ne lr h 0 0).1.2.2.2.1
    exact (pre_at a0 a1 te nu rs ne lr h ⟨(usedOf nu).toNat - 1, by omega⟩ 0).2.2 (by dsimp only; omega) rfl

end Cert.EDownIdeal.Gen

end
-- ==== Proof.EDownStart.lean ====
/-
  The call `l1_moe_down`: the body run at a tile that begins a run of one expert's tiles.
-/
module

public import proofs.«01_k».proof.Proof.EDownBody

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)

set_option maxHeartbeats 4000000 in
/-- A tile that begins a run: the run's weights have landed in the other slot, which becomes current, and the next
    run's copy into the slot that was current is started. -/
theorem run_start (s : Fin 2) (x : Vec F S512x4096 .bf16) (g : BufOf (F := F) c (slotM s)) (f : BufOf (F := F) c (slotM (1 - s)))
    (hc1 : ¬k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1)
    (hte : (wordAt c teM Tte i).toNat < 8) (hne : (wordAt c neM Tne i).toNat < 8) (hl : (i 0).val + (wordAt c lrM Tlr i).toNat < 4)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ slotAt c s g ∗ curP (F := F) c s ∗ cellP (F := F) c s
        ∗ flightP c XW (1 - s) (expertOf (wordAt c teM Tte i)) (colOf (i 0).val) f ∗ restP c XW (expertOf (wordAt c teM Tte i)) (colOf (i 0).val)
        ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) (colOf (i 0).val)))
          ∗ owns (c : Thread nD τ) (slotM (1 - s)) fullShare (tileOf c XW (expertOf (wordAt c teM Tte i)) (colOf (i 0).val))
          ∗ curP (F := F) c (1 - s) ∗ cellP (F := F) c (1 - s)
          ∗ flightP c XW s (expertOf (wordAt c neM Tne i)) (colOf ((i 0).val + (wordAt c lrM Tlr i).toNat)) g
          ∗ restP c XW (expertOf (wordAt c neM Tne i)) (colOf ((i 0).val + (wordAt c lrM Tlr i).toNat))
          ∗ (∃ W, owes (c : Thread nD τ) 0 W)) -∗ K ⟨⟩))
      ⊢ wp frame (wpE (defs₀ (F := F)) Variants.none c none) Set.univ (bodyOn i arg7 harg7 arg9 harg9) K := by
  unfold owns
  iintro ⟨⟨H2, H3, H4, H5, H6⟩, ⟨%f7, %hf7, H7⟩, ⟨%d9, %f9, %hf9, H9⟩, HS, HC, HZ, HF, HR, HW, Hk⟩
  obtain rfl := harg7.eq_unread hf7; obtain rfl := harg9.eq_unread hf9
  sl_exec (disch := first | sl_exact hc1)
  have hcur : run_start.sl.r_2 (F := F) c s = wordOf s := rfl
  rw [hcur]
  have k2 : k0_chk2 i (run_start.sl.r c Tnu) (run_start.sl.r_1 c i Trs) (wordOf s) := chk2_of i _ _ s
  sl_exec (disch := first | sl_exact hc1 | sl_exact k2)
  rw [show run_start.sl.r_3 (F := F) c i Tte = wordAt c teM Tte i from rfl]
  have k3 : k0_chk3 i (run_start.sl.r c Tnu) (run_start.sl.r_1 c i Trs) (wordAt c teM Tte i) := chk3_of i _ _ _ hte
  sl_exec (disch := first | sl_exact hc1 | sl_exact k3)
  rw [show run_start.sl.r_4 (F := F) c i Tlr = wordAt c lrM Tlr i from rfl]
  have k4 : k0_chk4 i (run_start.sl.r c Tnu) (run_start.sl.r_1 c i Trs) (wordOf s) (wordAt c lrM Tlr i) := chk4_of i _ _ _ s
  ihave HA := (tile_change c XW _ (expertOf (wordAt c neM Tne i)) _ (colOf ((i 0).val + (wordAt c lrM Tlr i).toNat))) $$ [HF_src HR]
  · isplitl [HF_src]; · iexact HF_src
    iexact HR
  icases HA with ⟨HT, HR⟩
  sl_exec (disch := first | sl_exact hc1 | sl_exact k4)
  rw [show run_start.sl.r_5 (F := F) c i Tne = wordAt c neM Tne i from rfl, show run_start.sl.r_6 (F := F) c i Tlr = wordAt c lrM Tlr i from rfl]
  have k5 : k0_chk5 i (run_start.sl.r c Tnu) (run_start.sl.r_1 c i Trs) (wordAt c lrM Tlr i) (wordAt c neM Tne i) (wordAt c lrM Tlr i) := chk5_of i _ _ _ _ _ hne hl
  sl_exec (disch := first | sl_exact hc1 | sl_exact k5)
  have hv : run_start.sl.v19 s = wordOf (1 - s) := other_word s
  rw [hv, cur_writes]
  have k6 : k0_chk6 i (run_start.sl.r c Tnu) (wordOf (1 - s)) := chk6_of i _ (1 - s)
  sl_exec (disch := first | sl_exact hc1 | sl_exact k6)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_down c arg7 harg7 arg9 (1 - s) x _ _ (slot_landed c (1 - s) _ _) _ (off12_eq (1 - s)) _
  isplitl [HF_dst]
  · iexists _; isplitr
    swap; · iexact HF_dst
    ipureintro; exact slot_landed c (1 - s) _ _
  isplitl [HC]; · iexact HC
  isplitl [HF]; · iexact HF
  isplitl [HZ]; · iexact HZ
  isplitl [HR]; · iexact HR
  iexists _; iexact HW

end Body

end Cert.EDownIdeal.Gen

end
-- ==== Proof.EDownStep.lean ====
/-
  The call `l1_moe_down`: what each kind of grid point does to what is held between points, and the schedule's words
  from one point to the next.
-/
module

public import proofs.«01_k».proof.Proof.EDownState
public import proofs.«01_k».proof.Proof.EDownStart

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each kind of grid point does to what is held between points -/

section Step
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)

theorem other_other (s : Fin 2) : 1 - (1 - s) = s := by revert s; decide

/-- A tile that is not used: nothing of what is held changes. -/
theorem step_unused (x : Vec F S512x4096 .bf16) (e : Fin 8) (j : Fin 4) (nx : Option (Fin 8 × Fin 4))
    (hc1 : ¬k0_cond1 i = 1#1) (hc2 : ¬k0_cond2 i (nuW c Tnu) (wordAt c rsM Trs i) = 1#1) (hc4 : ¬k0_cond4 i (nuW c Tnu) = 1#1) (hc5 : k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ heldP c XW e j nx ∗ owes (c : Thread nD τ) 0 W
        ∗ (iprop(tablesP c Tte Tnu Trs Tne Tlr ∗ owns (c : Thread nD τ) arg7 fullShare x
          ∗ owns (c : Thread nD τ) arg9 fullShare (noneOf)
          ∗ heldP c XW e j nx ∗ (∃ W, owes (c : Thread nD τ) 0 W)) -∗ K ⟨⟩))
      ⊢ wp frame (wpE (defs₀ (F := F)) Variants.none c none) Set.univ (bodyOn i arg7 harg7 arg9 harg9) K := by
  iintro ⟨HT, H7, H9, HH, HW, Hk⟩
  iapply (run_unused c i arg7 harg7 arg9 harg9 Tte Tnu Trs Tne Tlr x hc1 hc2 hc4 hc5 W K)
  isplitl [HT]; · iexact HT
  isplitl [H7]; · iexact H7
  isplitl [H9]; · iexact H9
  isplitl [HW]; · iexact HW
  iintro ⟨HT, H7, H9, HW⟩
  iapply Hk
  isplitl [HT]; · iexact HT
  isplitl [H7]; · iexact H7
  isplitl [H9]; · iexact H9
  isplitl [HH]; · iexact HH
  iexact HW

/-- A tile of the run under way: the current slot is used as it is. -/
theorem step_same (x : Vec F S512x4096 .bf16) (e : Fin 8) (j : Fin 4) (nx : Option (Fin 8 × Fin 4))
    (hc1 : ¬k0_cond1 i = 1#1) (hc2 : ¬k0_cond2 i (nuW c Tnu) (wordAt c rsM Trs i) = 1#1) (hc4 : k0_cond4 i (nuW c Tnu) = 1#1) (hc5 : ¬k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ heldP c XW e j nx ∗ owes (c : Thread nD τ) 0 W
        ∗ (iprop(tablesP c Tte Tnu Trs Tne Tlr ∗ owns (c : Thread nD τ) arg7 fullShare x
          ∗ owns (c : Thread nD τ) arg9 fullShare (downOf x (tileOf c XW e j))
          ∗ heldP c XW e j nx ∗ (∃ W, owes (c : Thread nD τ) 0 W)) -∗ K ⟨⟩))
      ⊢ wp frame (wpE (defs₀ (F := F)) Variants.none c none) Set.univ (bodyOn i arg7 harg7 arg9 harg9) K := by
  unfold heldP
  iintro ⟨HT, H7, H9, ⟨%s, HC, Hc, HS, HN⟩, HW, Hk⟩
  unfold owns
  icases HS with ⟨%g, %hg, HS⟩
  iapply (run_same c i arg7 harg7 arg9 harg9 Tte Tnu Trs Tne Tlr s x g (tileOf c XW e j) hg hc1 hc2 hc4 hc5 W K)
  unfold owns
  isplitl [HT]; · iexact HT
  isplitl [H7]; · iexact H7
  isplitl [H9]; · iexact H9
  isplitl [HS]; · iexact HS
  isplitl [HC]; · iexact HC
  isplitl [HW]; · iexact HW
  iintro ⟨HT, H7, H9, HS, HC, HW⟩
  iapply Hk
  isplitl [HT]; · iexact HT
  isplitl [H7]; · iexact H7
  isplitl [H9]; · iexact H9
  isplitr [HW]
  · iexists s
    isplitl [HC]; · iexact HC
    isplitl [Hc]; · iexact Hc
    isplitl [HS]
    · iexists g
      isplitr; · ipureintro; exact hg
      iexact HS
    iexact HN
  iexact HW

/-- The first tile of a run that is not the last: the copy under way is waited for, the other slot becomes current, and the
    next copy is started. -/
theorem step_start (x : Vec F S512x4096 .bf16) (e : Fin 8) (j : Fin 4)
    (hc1 : ¬k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1)
    (hte : (wordAt c teM Tte i).toNat < 8) (hne : (wordAt c neM Tne i).toNat < 8) (hl : (i 0).val + (wordAt c lrM Tlr i).toNat < 4)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ heldP c XW e j (some (expertOf (wordAt c teM Tte i), colOf (i 0).val)) ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) (colOf (i 0).val)))
          ∗ heldP c XW (expertOf (wordAt c teM Tte i)) (colOf (i 0).val) (some (expertOf (wordAt c neM Tne i), colOf ((i 0).val + (wordAt c lrM Tlr i).toNat))) ∗ (∃ W, owes (c : Thread nD τ) 0 W)) -∗ K ⟨⟩))
      ⊢ wp frame (wpE (defs₀ (F := F)) Variants.none c none) Set.univ (bodyOn i arg7 harg7 arg9 harg9) K := by
  unfold heldP
  simp only [nextP]
  iintro ⟨HT, H7, H9, ⟨%s, HC, Hc, HS, ⟨%f, HF⟩, HR⟩, HW, Hk⟩
  unfold owns
  icases HS with ⟨%g, %hg, HS⟩
  iapply (run_start c XW i arg7 harg7 arg9 harg9 Tte Tnu Trs Tne Tlr s x g f hc1 hc2 hc3 hc4 hc5 hte hne hl W K)
  unfold owns
  isplitl [HT]; · iexact HT
  isplitl [H7]; · iexact H7
  isplitl [H9]; · iexact H9
  isplitl [HS]; · iexact HS
  isplitl [HC]; · iexact HC
  isplitl [Hc]; · iexact Hc
  isplitl [HF]; · iexact HF
  isplitl [HR]; · iexact HR
  isplitl [HW]; · iexact HW
  iintro ⟨HT, H7, H9, HS, HC, Hc, HF, HR, HW⟩
  iapply Hk
  isplitl [HT]; · iexact HT
  isplitl [H7]; · iexact H7
  isplitl [H9]; · iexact H9
  isplitr [HW]
  · iexists (1 - s)
    irw [other_other s]
    isplitl [HC]; · iexact HC
    isplitl [Hc]; · iexact Hc
    isplitl [HS]; · iexact HS
    isplitl [HF]; · iexists g; iexact HF
    iexact HR
  iexact HW

/-- The first tile of the last run of the last column tile: as above, and no copy is started. -/
theorem step_last (x : Vec F S512x4096 .bf16) (e : Fin 8) (j : Fin 4)
    (hc1 : ¬k0_cond1 i = 1#1) (hc2 : k0_cond2 i (nuW c Tnu) (wordAt c rsM Trs i) = 1#1) (hc3 : ¬k0_cond3 i (wordAt c lrM Tlr i) = 1#1)
    (hc4 : k0_cond4 i (nuW c Tnu) = 1#1) (hc5 : ¬k0_cond5 i (nuW c Tnu) = 1#1)
    (hte : (wordAt c teM Tte i).toNat < 8)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ heldP c XW e j (some (expertOf (wordAt c teM Tte i), colOf (i 0).val)) ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) (colOf (i 0).val)))
          ∗ heldP c XW (expertOf (wordAt c teM Tte i)) (colOf (i 0).val) none ∗ (∃ W, owes (c : Thread nD τ) 0 W)) -∗ K ⟨⟩))
      ⊢ wp frame (wpE (defs₀ (F := F)) Variants.none c none) Set.univ (bodyOn i arg7 harg7 arg9 harg9) K := by
  unfold heldP
  simp only [nextP]
  iintro ⟨HT, H7, H9, ⟨%s, HC, Hc, HS, ⟨%f, HF⟩, HR⟩, HW, Hk⟩
  unfold owns
  icases HS with ⟨%g, %hg, HS⟩
  iapply (run_last c XW i arg7 harg7 arg9 harg9 Tte Tnu Trs Tne Tlr s x g f hc1 hc2 hc3 hc4 hc5 hte W K)
  unfold owns
  isplitl [HT]; · iexact HT
  isplitl [H7]; · iexact H7
  isplitl [H9]; · iexact H9
  isplitl [HS]; · iexact HS
  isplitl [HC]; · iexact HC
  isplitl [Hc]; · iexact Hc
  isplitl [HF]; · iexact HF
  isplitl [HR]; · iexact HR
  isplitl [HW]; · iexact HW
  iintro ⟨HT, H7, H9, HS, HC, Hc, HO, Hd, HX, HW⟩
  iapply Hk
  isplitl [HT]; · iexact HT
  isplitl [H7]; · iexact H7
  isplitl [H9]; · iexact H9
  isplitr [HW]
  · iexists (1 - s)
    irw [other_other s]
    isplitl [HC]; · iexact HC
    isplitl [Hc]; · iexact Hc
    isplitl [HS]; · iexact HS
    isplitl [HO]; · iexists g; iexact HO
    isplitl [Hd]; · iexact Hd
    iexact HX
  iexact HW

/-- What is held before the first point: both slots, the word of the current slot and the weights at anything. -/
def freeP : sProp 𝕄 :=
  iprop((∃ f, slotAt (F := F) c 0 f) ∗ (∃ f, slotAt (F := F) c 1 f) ∗ (∃ f, allPt (F := F) c curM f) ∗ cellP (F := F) c 0 ∗ cellP (F := F) c 1 ∗ allPt c wM XW)

/-- The first grid point: both copies are started and the first is waited for. -/
theorem step_first (x : Vec F S512x4096 .bf16)
    (hc1 : k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1) (hi : (i 0).val = 0) (hfw : firstW c teM Tte = wordAt c teM Tte i)
    (hte : (wordAt c teM Tte i).toNat < 8) (hne : (wordAt c neM Tne i).toNat < 8) (hl : (i 0).val + (wordAt c lrM Tlr i).toNat < 4)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ freeP c XW ∗ owes (c : Thread nD τ) 0 W
        ∗ (iprop(tablesP c Tte Tnu Trs Tne Tlr ∗ owns (c : Thread nD τ) arg7 fullShare x
          ∗ owns (c : Thread nD τ) arg9 fullShare (downOf x (tileOf c XW (expertOf (wordAt c teM Tte i)) 0))
          ∗ heldP c XW (expertOf (wordAt c teM Tte i)) 0 (some (expertOf (wordAt c neM Tne i), colOf ((i 0).val + (wordAt c lrM Tlr i).toNat))) ∗ (∃ W, owes (c : Thread nD τ) 0 W)) -∗ K ⟨⟩))
      ⊢ wp frame (wpE (defs₀ (F := F)) Variants.none c none) Set.univ (bodyOn i arg7 harg7 arg9 harg9) K := by
  unfold heldP freeP
  simp only [nextP]
  iintro ⟨HT, H7, H9, ⟨⟨%f, HS0⟩, ⟨%g, HS1⟩, ⟨%fc, HC⟩, Hc0, Hc1, HX⟩, HW, Hk⟩
  iapply (run_first c XW i arg7 harg7 arg9 harg9 Tte Tnu Trs Tne Tlr x g f fc hc1 hc2 hc3 hc4 hc5 hi hfw hte hne hl W K)
  isplitl [HT]; · iexact HT
  isplitl [H7]; · iexact H7
  isplitl [H9]; · iexact H9
  isplitl [HS0]; · iexact HS0
  isplitl [HS1]; · iexact HS1
  isplitl [HC]; · iexact HC
  isplitl [Hc0]; · iexact Hc0
  isplitl [Hc1]; · iexact Hc1
  isplitl [HX]; · iexact HX
  isplitl [HW]; · iexact HW
  iintro ⟨HT, H7, H9, HS, HC, Hc, HF, HR, HW⟩
  iapply Hk
  isplitl [HT]; · iexact HT
  isplitl [H7]; · iexact H7
  isplitl [H9]; · iexact H9
  isplitr [HW]
  · iexists 0
    isplitl [HC]; · iexact HC
    isplitl [Hc]; · iexact Hc
    isplitl [HS]; · iexact HS
    isplitl [HF]; · iexists g; iexact HF
    iexact HR
  iexact HW

end Step

/-! ## The schedule from one point to the next -/

section Sched
variable {te rs ne lr : ℕ → BitVec 32} {n : ℕ}

/-- The last used tile a point has come to. -/
def tileAt (n k : ℕ) : ℕ := min (k % 40) (n - 1)

theorem tileAt_unused (S : Sched te rs ne lr n) (k : ℕ) (h : ¬(k + 1) % 40 < n) : tileAt n (k + 1) = tileAt n k ∧ (k + 1) / 40 = k / 40 := by
  have := S.pos; have := S.le; unfold tileAt; omega
theorem tileAt_used (S : Sched te rs ne lr n) (k : ℕ) (h : k % 40 < n) : tileAt n k = k % 40 := by
  unfold tileAt; omega

/-- At a tile that begins a run the copy under way is that tile's. -/
theorem next_start (S : Sched te rs ne lr n) (k : ℕ) (hk : k + 1 < 160) (h : (k + 1) % 40 < n) (hr : rs ((k + 1) % 40) = 1#32) :
    nextOf ne lr (k / 40) (tileAt n k) = some (expertOf (te ((k + 1) % 40)), colOf ((k + 1) / 40)) := by
  have hp := S.pos; have hle := S.le
  by_cases h0 : (k + 1) % 40 = 0
  · have e1 : tileAt n k = n - 1 := by unfold tileAt; omega
    have e2 : (k + 1) / 40 = k / 40 + 1 := by omega
    have e3 : ¬k / 40 = 3 := by omega
    obtain ⟨hl, hn⟩ := S.last
    rw [e1, h0, e2, nextOf, if_neg (fun e => e3 e.2), hl, hn]; rfl
  · have e1 : tileAt n k = (k + 1) % 40 - 1 := by unfold tileAt; omega
    have e2 : (k + 1) / 40 = k / 40 := by omega
    have e3 : (k + 1) % 40 - 1 + 1 = (k + 1) % 40 := by omega
    rcases S.step ((k + 1) % 40 - 1) (by omega) with ⟨-, hn, hl⟩ | ⟨hr', -⟩
    · rw [e1, e2, nextOf, hl, hn, e3, if_neg (fun e => absurd e.1 (by decide))]; rfl
    · rw [e3] at hr'; exact absurd hr hr'

/-- At a tile that does not begin a run nothing of the schedule's words changes. -/
theorem next_same (S : Sched te rs ne lr n) (k : ℕ) (h : (k + 1) % 40 < n) (hr : rs ((k + 1) % 40) ≠ 1#32) :
    te (tileAt n k) = te ((k + 1) % 40) ∧ k / 40 = (k + 1) / 40 ∧ nextOf ne lr (k / 40) (tileAt n k) = nextOf ne lr ((k + 1) / 40) ((k + 1) % 40) := by
  have hp := S.pos; have hle := S.le
  have h0 : (k + 1) % 40 ≠ 0 := fun e => hr (e ▸ S.first)
  have e1 : tileAt n k = (k + 1) % 40 - 1 := by unfold tileAt; omega
  have e2 : k / 40 = (k + 1) / 40 := by omega
  have e3 : (k + 1) % 40 - 1 + 1 = (k + 1) % 40 := by omega
  rcases S.step ((k + 1) % 40 - 1) (by omega) with ⟨hr', -⟩ | ⟨-, ht, hn, hl⟩
  · rw [e3] at hr'; exact absurd hr' hr
  · rw [e3] at ht hn hl
    refine ⟨by rw [e1, ht], e2, ?_⟩
    unfold nextOf; rw [e1, e2, hn, hl]

/-- The word that marks the last run is at most one, and at the last column tile it is one exactly when no copy follows. -/
theorem mark_lt (S : Sched te rs ne lr n) (u : ℕ) (hu : u < 40) (j : ℕ) (hj : j < 4) (h : ¬(lr u = 1#32 ∧ j = 3)) : j + (lr u).toNat < 4 := by
  rcases S.lr01 u hu with e | e
  · rw [e]; exact hj
  · have : j ≠ 3 := fun e3 => h ⟨e, e3⟩
    rw [e]; show j + 1 < 4; omega

/-- After the last point no copy is under way. -/
theorem next_last (S : Sched te rs ne lr n) : nextOf ne lr (159 / 40) (tileAt n 159) = none := by
  have hp := S.pos; have hle := S.le
  have e1 : tileAt n 159 = n - 1 := by unfold tileAt; omega
  rw [e1, nextOf, if_pos ⟨S.last.1, by decide⟩]

end Sched

end Cert.EDownIdeal.Gen

end
-- ==== Proof.EDownPoint.lean ====
/-
  The call `l1_moe_down`: a grid point in terms of the schedule.
-/
module

public import proofs.«01_k».proof.Proof.EDownStep

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A grid point in terms of the schedule -/

section Point
variable (c : Dev nD) (XW : BufOf (F := F) c wM) (i : grid0.Coords)
  (arg7 : Memref sig .tc .vmem S512x4096 .bf16) (harg7 : arg7.IsWhole) (arg9 : Memref sig .tc .vmem S512x1024 .bf16) (harg9 : arg9.IsWhole)
  (Tte : BufOf (F := F) c teM) (Tnu : BufOf (F := F) c nuM) (Trs : BufOf (F := F) c rsM) (Tne : BufOf (F := F) c neM) (Tlr : BufOf (F := F) c lrM)
  {te rs ne lr : ℕ → BitVec 32} {n : ℕ}

/-- What is held after grid point `k`: the tile of the last used tile reached, the next one on its way. -/
def afterP (te ne lr : ℕ → BitVec 32) (n k : ℕ) : sProp 𝕄 :=
  heldP c XW (expertOf (te (tileAt n k))) (colOf (k / 40)) (nextOf ne lr (k / 40) (tileAt n k))

/-- The result's block at grid point `k` from the block of rows `x`: the rows times the tile's expert's column tile, or zero
    at a tile that is not used. -/
def resultOf (te : ℕ → BitVec 32) (n k : ℕ) (x : Vec F S512x4096 .bf16) : Vec F S512x1024 .bf16 :=
  if k % 40 < n then downOf x (tileOf c XW (expertOf (te (k % 40))) (colOf (k / 40))) else noneOf

/-- The first grid point. -/
theorem point_first (S : Sched te rs ne lr n) (e0 : (i 0).val = 0) (e1 : (i 1).val = 0) (hn : (nuW c Tnu).toNat = n)
    (hte : wordAt c teM Tte i = te 0) (hrs : wordAt c rsM Trs i = rs 0) (hne : wordAt c neM Tne i = ne 0) (hlr : wordAt c lrM Tlr i = lr 0)
    (hfw : firstW c teM Tte = te 0) (x : Vec F S512x4096 .bf16)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ freeP c XW ∗ owes (c : Thread nD τ) 0 W
        ∗ (iprop(tablesP c Tte Tnu Trs Tne Tlr ∗ owns (c : Thread nD τ) arg7 fullShare x
          ∗ owns (c : Thread nD τ) arg9 fullShare (resultOf c XW te n 0 x)
          ∗ afterP c XW te ne lr n 0 ∗ (∃ W, owes (c : Thread nD τ) 0 W)) -∗ K ⟨⟩))
      ⊢ wp frame (wpE (defs₀ (F := F)) Variants.none c none) Set.univ (bodyOn i arg7 harg7 arg9 harg9) K := by
  have hle : (nuW c Tnu).toNat ≤ 40 := hn ▸ S.le
  have hu : 0 < n := S.pos
  have hm : ¬(lr 0 = 1#32 ∧ 0 = 3) := fun e => absurd e.2 (by decide)
  have h := step_first c XW i arg7 harg7 arg9 harg9 Tte Tnu Trs Tne Tlr x ((cond1_iff i).mpr ⟨e0, e1⟩)
    ((cond2_iff i _ _ hle).mpr ⟨by rw [e1, hn]; exact hu, by rw [hrs]; exact S.first⟩) ((cond3_iff i _).mpr (by rw [hlr, e0]; exact hm))
    ((cond4_iff i _ hle).mpr (by rw [e1, hn]; exact hu)) (fun h => (cond5_iff i _ hle).mp h (by rw [e1, hn]; exact hu)) e0 (hfw.trans hte.symm)
    (by rw [hte]; exact S.te8 0 (by decide)) (by rw [hne]; exact S.ne8 0 (by decide)) (by rw [e0, hlr]; exact mark_lt S 0 (by decide) 0 (by decide) hm) W K
  rw [hte, hne, hlr, e0] at h
  have e : tileAt n 0 = 0 := tileAt_used S 0 hu
  have er : resultOf c XW te n 0 x = downOf x (tileOf c XW (expertOf (te 0)) 0) := if_pos hu
  have ea : afterP c XW te ne lr n 0 = heldP c XW (expertOf (te 0)) 0 (some (expertOf (ne 0), colOf (0 + (lr 0).toNat))) := by
    unfold afterP; rw [e, nextOf, if_neg (fun e => hm ⟨e.1, e.2⟩)]; rfl
  rw [er, ea]; exact h

/-- Any later grid point. -/
theorem point_next (S : Sched te rs ne lr n) (k : ℕ) (hk : k + 1 < 160) (e0 : (i 0).val = (k + 1) / 40) (e1 : (i 1).val = (k + 1) % 40) (hn : (nuW c Tnu).toNat = n)
    (hte : wordAt c teM Tte i = te ((k + 1) % 40)) (hrs : wordAt c rsM Trs i = rs ((k + 1) % 40)) (hne : wordAt c neM Tne i = ne ((k + 1) % 40)) (hlr : wordAt c lrM Tlr i = lr ((k + 1) % 40))
    (x : Vec F S512x4096 .bf16)
    (W : Waits sig Unit) (K : PUnit → sProp 𝕄) :
    iprop(tablesP c Tte Tnu Trs Tne Tlr ∗ owns (c : Thread nD τ) arg7 fullShare x ∗ (∃ d, owns (c : Thread nD τ) arg9 fullShare d)
        ∗ afterP c XW te ne lr n k ∗ owes (c : Thread nD τ) 0 W
        ∗ (iprop(tablesP c Tte Tnu Trs Tne Tlr ∗ owns (c : Thread nD τ) arg7 fullShare x
          ∗ owns (c : Thread nD τ) arg9 fullShare (resultOf c XW te n (k + 1) x)
          ∗ afterP c XW te ne lr n (k + 1) ∗ (∃ W, owes (c : Thread nD τ) 0 W)) -∗ K ⟨⟩))
      ⊢ wp frame (wpE (defs₀ (F := F)) Variants.none c none) Set.univ (bodyOn i arg7 harg7 arg9 harg9) K := by
  have hle : (nuW c Tnu).toNat ≤ 40 := hn ▸ S.le
  have hmod : (k + 1) % 40 < 40 := Nat.mod_lt _ (by decide)
  have hc1 : ¬k0_cond1 i = 1#1 := fun h => by have := (cond1_iff i).mp h; rw [e0, e1] at this; omega
  have hc2 : k0_cond2 i (nuW c Tnu) (wordAt c rsM Trs i) = 1#1 ↔ (k + 1) % 40 < n ∧ rs ((k + 1) % 40) = 1#32 := by rw [cond2_iff i _ _ hle, e1, hn, hrs]
  have hc3 : k0_cond3 i (wordAt c lrM Tlr i) = 1#1 ↔ ¬(lr ((k + 1) % 40) = 1#32 ∧ (k + 1) / 40 = 3) := by rw [cond3_iff i, hlr, e0]
  have hc4 : k0_cond4 i (nuW c Tnu) = 1#1 ↔ (k + 1) % 40 < n := by rw [cond4_iff i _ hle, e1, hn]
  have hc5 : k0_cond5 i (nuW c Tnu) = 1#1 ↔ ¬(k + 1) % 40 < n := by rw [cond5_iff i _ hle, e1, hn]
  have hte8 : (wordAt c teM Tte i).toNat < 8 := by rw [hte]; exact S.te8 _ hmod
  have hne8 : (wordAt c neM Tne i).toNat < 8 := by rw [hne]; exact S.ne8 _ hmod
  by_cases hu : (k + 1) % 40 < n
  · have er : resultOf c XW te n (k + 1) x = downOf x (tileOf c XW (expertOf (te ((k + 1) % 40))) (colOf ((k + 1) / 40))) := if_pos hu
    have e : tileAt n (k + 1) = (k + 1) % 40 := tileAt_used S _ hu
    by_cases hr : rs ((k + 1) % 40) = 1#32
    · have eb : afterP c XW te ne lr n k = heldP c XW (expertOf (te (tileAt n k))) (colOf (k / 40)) (some (expertOf (te ((k + 1) % 40)), colOf ((k + 1) / 40))) := by
        unfold afterP; rw [next_start S k hk hu hr]
      by_cases hl3 : lr ((k + 1) % 40) = 1#32 ∧ (k + 1) / 40 = 3
      · have h := step_last c XW i arg7 harg7 arg9 harg9 Tte Tnu Trs Tne Tlr x (expertOf (te (tileAt n k))) (colOf (k / 40)) hc1 (hc2.mpr ⟨hu, hr⟩) (fun h => hc3.mp h hl3) (hc4.mpr hu) (fun h => hc5.mp h hu) hte8 W K
        rw [hte, e0] at h
        have ea : afterP c XW te ne lr n (k + 1) = heldP c XW (expertOf (te ((k + 1) % 40))) (colOf ((k + 1) / 40)) none := by
          unfold afterP; rw [e, nextOf, if_pos hl3]
        rw [er, ea, eb]; exact h
      · have h := step_start c XW i arg7 harg7 arg9 harg9 Tte Tnu Trs Tne Tlr x (expertOf (te (tileAt n k))) (colOf (k / 40)) hc1 (hc2.mpr ⟨hu, hr⟩) (hc3.mpr hl3) (hc4.mpr hu) (fun h => hc5.mp h hu) hte8 hne8
          (by rw [e0, hlr]; exact mark_lt S _ hmod _ (by omega) hl3) W K
        rw [hte, hne, hlr, e0] at h
        have ea : afterP c XW te ne lr n (k + 1) = heldP c XW (expertOf (te ((k + 1) % 40))) (colOf ((k + 1) / 40)) (some (expertOf (ne ((k + 1) % 40)), colOf ((k + 1) / 40 + (lr ((k + 1) % 40)).toNat))) := by
          unfold afterP; rw [e, nextOf, if_neg hl3]
        rw [er, ea, eb]; exact h
    · obtain ⟨h1, h2, h3⟩ := next_same S k hu hr
      have h := step_same c XW i arg7 harg7 arg9 harg9 Tte Tnu Trs Tne Tlr x (expertOf (te ((k + 1) % 40))) (colOf ((k + 1) / 40)) (nextOf ne lr ((k + 1) / 40) ((k + 1) % 40))
        hc1 (fun h => hr (hc2.mp h).2) (hc4.mpr hu) (fun h => hc5.mp h hu) W K
      have eb : afterP c XW te ne lr n k = heldP c XW (expertOf (te ((k + 1) % 40))) (colOf ((k + 1) / 40)) (nextOf ne lr ((k + 1) / 40) ((k + 1) % 40)) := by
        unfold afterP; rw [h3, h1, h2]
      have ea : afterP c XW te ne lr n (k + 1) = heldP c XW (expertOf (te ((k + 1) % 40))) (colOf ((k + 1) / 40)) (nextOf ne lr ((k + 1) / 40) ((k + 1) % 40)) := by
        unfold afterP; rw [e]
      rw [er, ea, eb]; exact h
  · obtain ⟨h1, h2⟩ := tileAt_unused S k hu
    have er : resultOf c XW te n (k + 1) x = noneOf := if_neg hu
    have ea : afterP c XW te ne lr n (k + 1) = afterP c XW te ne lr n k := by unfold afterP; rw [h1, h2]
    have h := step_unused c XW i arg7 harg7 arg9 harg9 Tte Tnu Trs Tne Tlr x (expertOf (te (tileAt n k))) (colOf (k / 40)) (nextOf ne lr (k / 40) (tileAt n k))
      hc1 (fun h => hu (hc2.mp h).1) (fun h => hu (hc4.mp h)) (hc5.mpr hu) W K
    rw [er, ea]; exact h

end Point

end Cert.EDownIdeal.Gen

end
-- ==== Proof.EDownSlots.lean ====
/-
  The call `l1_moe_down`: what the launch hands the call, for tables that are a schedule.
-/
module

public import proofs.«01_k».proof.Proof.EDownPoint
public import Idealize.ShloMosaic.Lib.Claim

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the call is entered with -/

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl

/-- The tables' words tile by tile, and the number of tiles used. -/
abbrev teT : S40.Idx → BitVec 32 := tbl m 0
abbrev nuT : S1.Idx → BitVec 32 := tbl m 1
abbrev rsT : S40.Idx → BitVec 32 := tbl m 2
abbrev neT : S40.Idx → BitVec 32 := tbl m 3
abbrev lrT : S40.Idx → BitVec 32 := tbl m 4
abbrev used : ℕ := (usedOf (nuT m)).toNat

/-- The tables are a schedule. -/
abbrev Ok : Prop := Sched (word (teT m)) (word (rsT m)) (word (neT m)) (word (lrT m)) (used m)

theorem at_used (h : S1.numel = 1) : (tbl m).at 1 (Rect.unit (s := S1) ![0] S1.size inb_S1_S1_0) h = usedOf (nuT m) := by
  refine congrArg (f := fun x => (nuT m) x) (funext fun a => ?_)
  fin_cases a; rfl
theorem atD_used : (tbl m).atD 1 ![0] = usedOf (nuT m) := by
  unfold Pipeline.Prefetch.Contents.atD
  refine (dif_pos (by decide)).trans (congrArg (f := fun x => (nuT m) x) (funext fun a => ?_))
  fin_cases a; rfl

/-- Which row block a grid point reads: its tile's, or the last used one's. -/
theorem rows_word (S : Ok m) (k : ℕ) (hk : k < 40) :
    (Scalar.maxsi (Scalar.minsi (BitVec.ofNat 32 k) (Scalar.subi (usedOf (nuT m)) 1#32)) 0#32).toNat = min k (used m - 1) := by
  have hp : 1 ≤ (usedOf (nuT m)).toNat := S.pos
  have hle : (usedOf (nuT m)).toNat ≤ 40 := S.le
  have hU : used m = (usedOf (nuT m)).toNat := rfl
  rw [hU]; clear hU
  generalize usedOf (nuT m) = w at hp hle ⊢
  have e1 : (Scalar.subi w 1#32).toNat = w.toNat - 1 := by
    simp only [Scalar.subi, IntOp.subi, BitVec.toNat_sub, BitVec.toNat_ofNat]; omega
  have e2 : (BitVec.ofNat 32 k).toNat = k := by simp only [BitVec.toNat_ofNat]; omega
  generalize Scalar.subi w 1#32 = b at e1
  have i1 : b.toInt = (w.toNat - 1 : ℕ) := by rw [BitVec.toInt_eq_toNat_of_lt (by omega), e1]
  have i2 : (BitVec.ofNat 32 k).toInt = k := by rw [BitVec.toInt_eq_toNat_of_lt (by omega), e2]
  have e3 : Scalar.minsi (BitVec.ofNat 32 k) b = if k ≤ w.toNat - 1 then BitVec.ofNat 32 k else b := by
    simp only [Scalar.minsi, IntOp.minsi, BitVec.slt_eq_decide, BitVec.sle_eq_decide, i1, i2, decide_eq_true_eq]
    by_cases h : k ≤ w.toNat - 1
    · by_cases h' : k < w.toNat - 1
      · simp [h, h']
      · have : BitVec.ofNat 32 k = b := BitVec.eq_of_toNat_eq (by omega)
        simp [this]
    · simp [h, show ¬ k < w.toNat - 1 by omega]
  have e4 : (Scalar.minsi (BitVec.ofNat 32 k) b).toNat = min k (w.toNat - 1) := by
    rw [e3]; split <;> omega
  generalize Scalar.minsi (BitVec.ofNat 32 k) b = d at e4
  have i4 : d.toInt = (min k (w.toNat - 1) : ℕ) := by rw [BitVec.toInt_eq_toNat_of_lt (by omega), e4]
  have e5 : Scalar.maxsi d 0#32 = d := by
    have i0 : (0#32 : BitVec 32).toInt = 0 := by decide
    simp only [Scalar.maxsi, IntOp.maxsi, BitVec.slt_eq_decide, BitVec.sle_eq_decide, i4, i0, decide_eq_true_eq]
    by_cases h : min k (w.toNat - 1) = 0
    · have : d = 0#32 := BitVec.eq_of_toNat_eq (by rw [e4, h]; rfl)
      simp [this]
    · first
        | rw [if_pos (by omega)]
        | rw [if_neg (by omega)]
  rw [e5, e4]

theorem rows_eq (S : Ok m) (i : grid0.Coords) : cc0_transform_0 inb_S1_S1_0 numel1_S1 (tbl m) i = ![min (i 1).val (used m - 1), 0] := by
  show ![(Scalar.maxsi (Scalar.minsi (BitVec.ofNat 32 (i 1).val) (Scalar.subi ((tbl m).at 1 (Rect.unit (s := S1) ![0] S1.size inb_S1_S1_0) numel1_S1) 1#32)) 0#32).toNat, 0] = _
  rw [at_used, rows_word m S _ (coord1_lt i)]

/-- Every row block read lies inside its array. -/
theorem ok_of (S : Ok m) : ok0 (F := F) (tbl m) := fun i =>
  ⟨fun a => by
    rw [rows_eq m S]
    have h := coord1_lt i
    fin_cases a
    · show (min (i 1).val (used m - 1) + 1) * 512 ≤ 20480; omega
    · show (0 + 1) * 4096 ≤ 4096; omega,
   .inr (Affine.block_words_dvd (of_decide_eq_true rfl) (by decide))⟩

abbrev adm (S : Ok m) : (pcfg0 (F := F)).Adm := ⟨tbl m, ok_of m S⟩
abbrev cfgM (S : Ok m) : Pipeline.Cfg sig Λ₀ := cfg0 (adm m S)

/-- The halves of the tables the body is handed. -/
theorem PhiT0_eq (c : Dev nD) : (Pipeline.ΦT pre0 (tbl m) c : sProp 𝕄) = tablesP c (tbl m 0) (tbl m 1) (tbl m 2) (tbl m 3) (tbl m 4) := by
  unfold Pipeline.ΦT Pipeline.prefHeld
  rw [bigSep_univ_eq_bigSepL [(0 : Fin 5), 1, 2, 3, 4] (by decide) (by decide)]
  rfl

/-- Window `w`'s block at point `t`. -/
def iblk (S : Ok m) (c : Dev nD) (w : Fin (cfgM m S).W) (t : Fin (cfgM m S).N) : (((cfgM m S).win w).xblock ((cfgM m S).grid.coords t)).Idx → Elt F ((cfgM m S).win w).elt :=
  (((cfgM m S).win w).blk t).view.read (Elt F) (V m c (Pipeline.arrRef spec0 w))

theorem before0_0_of (S : Ok m) {c : Dev nD} (dat : Dat τ (Elt F) Unit ℕ (Pipeline.UD sig nD τ) ℕ (cfgM m S) c) (hA : dat.A 0 = V m c (Pipeline.arrRef spec0 0))
    (hafter : ∀ t, dat.after 0 t = iblk m S c 0 t) (t : Fin (cfgM m S).N) (d) : dat.before 0 t d = iblk m S c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Neither window is ever idle: a used tile and an unused one are both stored. -/
theorem liveAt0_0 (S : Ok m) : ∀ t : Fin (cfgM m S).N, (cfgM m S).idle 0 (grid0.coords t) = false := fun _ => rfl
theorem liveAt0_1 (S : Ok m) (t : Fin (cfgM m S).N) : (cfgM m S).idle 1 (grid0.coords t) = false := by
  show (!(k0_cond4 (grid0.coords t) ((tbl m).atD 1 ![0]) == 1#1) && !(k0_cond5 (grid0.coords t) ((tbl m).atD 1 ![0]) == 1#1)) = false
  rw [atD_used]
  by_cases h : (grid0.coords t 1).val < used m
  · rw [(cond4_iff _ _ S.le).mpr h]; rfl
  · rw [(cond5_iff _ _ S.le).mpr h]; simp

/-- Each window's staging buffer at point `t`. -/
abbrev ms0_0 (S : Ok m) (t : Fin (cfgM m S).N) : Memref sig .tc .vmem S512x4096 .bf16 := spec0_0.stage ((cfgM m S).slots t 0)
abbrev hs0_0 (S : Ok m) (t : Fin (cfgM m S).N) : (ms0_0 m S t).IsWhole := hstage0_0 (((cfgM m S).slots t 0).cast nbuf0_0)
abbrev ms0_1 (S : Ok m) (t : Fin (cfgM m S).N) : Memref sig .tc .vmem S512x1024 .bf16 := spec0_1.stage ((cfgM m S).slots t 1)
abbrev hs0_1 (S : Ok m) (t : Fin (cfgM m S).N) : (ms0_1 m S t).IsWhole := hstage0_1 (((cfgM m S).slots t 1).cast nbuf0_1)

/-- The kernel's own semaphores: one per slot. -/
abbrev osem0 : Fin 2 → SemLoc sig := fun s => SemLoc.dma (slotSem s).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1) := by
  rw [Pipeline.ownSems0_eq_of_list c osem0 [0, 1] (by decide) (by decide)]; rfl
/-- The weights, which the body only reads. -/
def H0 : Finset (Ref sig .tc) := {main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄) = allPt c wM (V m c main_arg1) := by
  rw [BI.bigSep_eq_bigSepL_of_eq [main_arg1] (by decide) (by decide)]; rfl

/-- What the launch hands the call besides the windows: the slots, the current slot's word, the generator's register, the
    semaphores at zero, the weights. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f, allPt (F := F) c curM f))
        ∗ (∃ r, prngReg c r) ∗ iprop(cellP (F := F) c 0 ∗ cellP (F := F) c 1) ∗ allPt c wM (V m c main_arg1)) := by
  rw [Pipeline.ΦD_eq, scopedRest0_eq, ownSems00_eq, hbmPts0_eq]

/-! ## The buffer of slots as its two slots -/

theorem slot_set (s : Fin 2) : (slotM s).view.set = (Rect.unit (s := S2x1x4096x1024) (slotOff s) S1x1x4096x1024.size (slotOff_inb s)).set :=
  (View.set_reshape _ _).trans (View.set_slice_whole _ _)
abbrev slotSet (c : Dev nD) (s : Fin 2) : Finset (Idx ((c : Thread nD τ).loc cc0_scratch0)) := (slotM s).view.set
theorem slots_disjoint (c : Dev nD) : ∀ s s', s ≠ s' → Disjoint (slotSet c s) (slotSet c s') := by
  intro s s' h
  show Disjoint (slotM s).view.set (slotM s').view.set
  rw [slot_set, slot_set]
  exact Ring.lead_disjoint (s := S2x1x4096x1024) (NB := 2) 0 1 slotOff S1x1x4096x1024.size slotOff_inb (fun b => (Nat.one_mul _).symm) rfl s s' h
theorem slots_cover (c : Dev nD) : Finset.univ.biUnion (slotSet c) = Finset.univ := by
  have e : slotSet c = fun s => (Rect.unit (s := S2x1x4096x1024) (slotOff s) S1x1x4096x1024.size (slotOff_inb s)).set := funext slot_set
  rw [e]
  exact Ring.lead_cover (s := S2x1x4096x1024) (NB := 2) 0 1 slotOff S1x1x4096x1024.size slotOff_inb (fun b => (Nat.one_mul _).symm)
    (fun b a ha => by revert ha; fin_cases a <;> simp) rfl (fun a ha => by revert ha; fin_cases a <;> simp) rfl
theorem slots_split (c : Dev nD) :
    iprop(∃ f : Buf (Elt F) ((c : Thread nD τ).loc cc0_scratch0), ((c : Thread nD τ).loc cc0_scratch0) ↦{fullShare} f)
      ⊢ (iprop((∃ f, slotAt (F := F) c 0 f) ∗ (∃ f, slotAt (F := F) c 1 f)) : sProp 𝕄) :=
  Ring.slots2_split (slotSet c) (slots_disjoint c) (slots_cover c) (fun f => slotAt (F := F) c 0 f) (fun f => slotAt (F := F) c 1 f) (fun _ => rfl) (fun _ => rfl)
theorem slots_join (c : Dev nD) :
    (iprop((∃ f, slotAt (F := F) c 0 f) ∗ (∃ f, slotAt (F := F) c 1 f)) : sProp 𝕄)
      ⊢ iprop(∃ f : Buf (Elt F) ((c : Thread nD τ).loc cc0_scratch0), ((c : Thread nD τ).loc cc0_scratch0) ↦{fullShare} f) :=
  Ring.slots2_join (slotSet c) (slots_disjoint c) (slots_cover c) (fun f => slotAt (F := F) c 0 f) (fun f => slotAt (F := F) c 1 f) (fun _ => rfl) (fun _ => rfl)

/-- What is held after the last point is what was held before the first. -/
theorem held_free (c : Dev nD) (XW : BufOf (F := F) c wM) (e : Fin 8) (j : Fin 4) : heldP c XW e j none ⊢ freeP c XW := by
  unfold heldP freeP
  simp only [nextP]
  unfold owns
  iintro ⟨%s, HC, Hc, ⟨%g, -, HS⟩, ⟨%f, HO⟩, Hd, HX⟩
  fin_cases s
  · isplitl [HS]; · iexists g; iexact HS
    isplitl [HO]; · iexists f; iexact HO
    isplitl [HC]; · iexists _; iexact HC
    isplitl [Hc]; · iexact Hc
    isplitl [Hd]; · iexact Hd
    iexact HX
  · isplitl [HO]; · iexists f; iexact HO
    isplitl [HS]; · iexists g; iexact HS
    isplitl [HC]; · iexists _; iexact HC
    isplitl [Hd]; · iexact Hd
    isplitl [Hc]; · iexact Hc
    iexact HX

/-- What the launch hands over, with the slots apart. -/
theorem phiD_free (c : Dev nD) : (Pipeline.ΦD osem0 spec0 H0 (V m) c : sProp 𝕄) ⊢ iprop(freeP c (V m c main_arg1) ∗ ∃ r, prngReg c r) := by
  rw [PhiD0_eq]; unfold freeP
  iintro ⟨⟨HS, HC⟩, Hg, ⟨H0, H1⟩, HX⟩
  ihave HS2 := (slots_split (F := F) c) $$ HS
  icases HS2 with ⟨HS0, HS1⟩
  isplitr [Hg]
  · isplitl [HS0]; · iexact HS0
    isplitl [HS1]; · iexact HS1
    isplitl [HC]; · iexact HC
    isplitl [H0]; · iexact H0
    isplitl [H1]; · iexact H1
    iexact HX
  iexact Hg
theorem free_phiD (c : Dev nD) : iprop(freeP c (V m c main_arg1) ∗ ∃ r, prngReg c r) ⊢ (Pipeline.ΦD osem0 spec0 H0 (V m) c : sProp 𝕄) := by
  rw [PhiD0_eq]; unfold freeP
  iintro ⟨⟨HS0, HS1, HC, H0, H1, HX⟩, Hg⟩
  isplitl [HS0 HS1 HC]
  · isplitl [HS0 HS1]
    · iapply (slots_join (F := F) c)
      isplitl [HS0]; · iexact HS0
      iexact HS1
    iexact HC
  isplitl [Hg]; · iexact Hg
  isplitl [H0 H1]
  · isplitl [H0]; · iexact H0
    iexact H1
  iexact HX

end Cert.EDownIdeal.Gen

end
-- ==== Proof.EDownFrame.lean ====
/-
  The call `l1_moe_down`: the run of the whole program, for tables that are a schedule.
-/
module

public import proofs.«01_k».proof.Proof.EDownSlots
public import Idealize.ShloMosaic.Lib.Claim

@[expose] public section

set_option maxRecDepth 16384

noncomputable section

namespace Cert.EDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result's block holds, and what is held, point by point -/

/-- The result's block at point `t`. -/
def outAt (S : Ok m) (c : Dev nD) (t : Fin (cfgM m S).N) : Vec F S512x1024 .bf16 :=
  resultOf c (V m c main_arg1) (word (teT m)) (used m) t.val (iblk m S c 0 t)

/-- Before the first point the launch's holdings; after a point what is held after it. -/
def PhiS (S : Ok m) (c : Dev nD) : ℕ → sProp 𝕄
  | 0 => iprop(Pipeline.ΦD osem0 spec0 H0 (V m) c ∗ Pipeline.ΦT pre0 (tbl m) c)
  | n + 1 => iprop(afterP c (V m c main_arg1) (word (teT m)) (word (neT m)) (word (lrT m)) (used m) n ∗ (∃ r, prngReg c r) ∗ Pipeline.ΦT pre0 (tbl m) c)

/-- The proof data of the call on core `c`. -/
def dats (S : Ok m) (_ : Fin 1) (c : Dev nD) : Dat τ (Elt F) Unit ℕ (Pipeline.UD sig nD τ) ℕ (cfgM m S) c where
  A w := V m c (Pipeline.arrRef spec0 w)
  after w t := match w with
    | ⟨0, _⟩ => iblk m S c 0 t
    | ⟨1, _⟩ => outAt m S c t
  Φ t := PhiS m S c t.val
  q _ := fullShare
  owed _ := 0

/-- What is held at a point's start and at its end. -/
theorem Phi_castSucc (S : Ok m) (c : Dev nD) (t : Fin (cfgM m S).N) : (dats m S 0 c).Φ t.castSucc = PhiS m S c t.val := by
  dsimp only [dats]; exact Pipeline.Dat.Φ_castSucc (fun n _ => PhiS m S c n) t
theorem Phi_succ (S : Ok m) (c : Dev nD) (t : Fin (cfgM m S).N) : (dats m S 0 c).Φ t.succ =
    iprop(afterP c (V m c main_arg1) (word (teT m)) (word (neT m)) (word (lrT m)) (used m) t.val ∗ (∃ r, prngReg c r) ∗ Pipeline.ΦT pre0 (tbl m) c) := rfl
theorem PhiS_next (S : Ok m) (c : Dev nD) (n : ℕ) : PhiS m S c (n + 1) =
    iprop(afterP c (V m c main_arg1) (word (teT m)) (word (neT m)) (word (lrT m)) (used m) n ∗ (∃ r, prngReg c r) ∗ Pipeline.ΦT pre0 (tbl m) c) := rfl

theorem A_eq (S : Ok m) (c : Dev nD) (w : Fin (cfgM m S).W) : (dats m S 0 c).A w = V m c (Pipeline.arrRef spec0 w) := by
  dsimp only [dats]
theorem after0_0 (S : Ok m) (c : Dev nD) (t : Fin (cfgM m S).N) : (dats m S 0 c).after 0 t = iblk m S c 0 t := by dsimp only [dats]; try rfl
theorem after0_1 (S : Ok m) (c : Dev nD) (t : Fin (cfgM m S).N) : (dats m S 0 c).after 1 t = outAt m S c t := by dsimp only [dats]; try rfl
theorem before0_0 (S : Ok m) (c : Dev nD) (t : Fin (cfgM m S).N) (d) : (dats m S 0 c).before 0 t d = iblk m S c 0 t :=
  before0_0_of m S (dats m S 0 c) (A_eq m S c 0) (after0_0 m S c) t d

/-! ## The body at any point -/

/-- What the body is called with at point `t`, and what it returns. -/
def bodyPre (S : Ok m) (c : Dev nD) (t : Fin (cfgM m S).N) : sProp 𝕄 :=
  iprop((dats m S 0 c).Φ t.castSucc ∗ (dats m S 0 c).owesAt () t.castSucc
    ∗ (∃ d, owns (c : Thread nD τ) (ms0_0 m S t) fullShare ((dats m S 0 c).before 0 t d))
    ∗ (∃ d, owns (c : Thread nD τ) (ms0_1 m S t) fullShare ((dats m S 0 c).before 1 t d)))
def bodyPost (S : Ok m) (c : Dev nD) (t : Fin (cfgM m S).N) : sProp 𝕄 :=
  iprop((dats m S 0 c).Φ t.succ ∗ (dats m S 0 c).owesAt () t.succ
    ∗ (dats m S 0 c).leavesExact 0 t ∗ (dats m S 0 c).leavesExact 1 t)

/-- The body at point `t`. -/
abbrev bodyAt (S : Ok m) (t : Fin (cfgM m S).N) : Prog (TpuEff nD τ sig (Elt F) Λ₀ .tc) PUnit :=
  bodyOn (grid0.coords t) (ms0_0 m S t) (hs0_0 m S t) (ms0_1 m S t) (hs0_1 m S t)

/-- Moving the pieces of the body's call into the shape a step takes, and its result back. -/
theorem body_of_step (S : Ok m) (c : Dev nD) (t : Fin (cfgM m S).N) (P Q : sProp 𝕄)
    (hin : (dats m S 0 c).Φ t.castSucc ⊢ iprop(P ∗ (∃ r, prngReg c r) ∗ tablesP c (tbl m 0) (tbl m 1) (tbl m 2) (tbl m 3) (tbl m 4)))
    (hout : iprop(Q ∗ (∃ r, prngReg c r) ∗ tablesP c (tbl m 0) (tbl m 1) (tbl m 2) (tbl m 3) (tbl m 4)) ⊢ (dats m S 0 c).Φ t.succ)
    (hstep : ∀ (W : Waits sig Unit) (K : PUnit → sProp 𝕄),
      iprop(tablesP c (tbl m 0) (tbl m 1) (tbl m 2) (tbl m 3) (tbl m 4) ∗ owns (c : Thread nD τ) (ms0_0 m S t) fullShare (iblk m S c 0 t)
          ∗ (∃ d, owns (c : Thread nD τ) (ms0_1 m S t) fullShare d) ∗ P ∗ owes (c : Thread nD τ) 0 W
          ∗ (iprop(tablesP c (tbl m 0) (tbl m 1) (tbl m 2) (tbl m 3) (tbl m 4) ∗ owns (c : Thread nD τ) (ms0_0 m S t) fullShare (iblk m S c 0 t)
            ∗ owns (c : Thread nD τ) (ms0_1 m S t) fullShare (outAt m S c t) ∗ Q ∗ (∃ W, owes (c : Thread nD τ) 0 W)) -∗ K ⟨⟩))
        ⊢ wp frame (wpE (defs₀ (F := F)) Variants.none c none) Set.univ (bodyAt m S t) K) :
    bodyPre m S c t ⊢ wp frame (wpE (defs₀ (F := F)) Variants.none c none) Set.univ (bodyAt m S t) (fun _ => bodyPost m S c t) := by
  unfold bodyPre bodyPost
  simp only [before0_0]
  unfold Dat.owesAt Pipeline.owesWithin
  rw [show (dats m S 0 c).owed t.castSucc = 0 from rfl, show (dats m S 0 c).owed t.succ = 0 from rfl]
  rw [show (dats m S 0 c).leavesExact 0 t = owns (c : Thread nD τ) (ms0_0 m S t) fullShare ((dats m S 0 c).after 0 t) from by
    unfold Dat.leavesExact; rw [liveAt0_0 m S t]; try rfl, after0_0]
  rw [show (dats m S 0 c).leavesExact 1 t = owns (c : Thread nD τ) (ms0_1 m S t) fullShare ((dats m S 0 c).after 1 t) from by
    unfold Dat.leavesExact; rw [liveAt0_1 m S t]; try rfl, after0_1]
  iintro ⟨HΦ, ⟨%W, -, HW⟩, ⟨%d0, H0⟩, ⟨%d1, H1⟩⟩
  ihave HΦ2 := hin $$ HΦ
  icases HΦ2 with ⟨HP, Hg, HT⟩
  iapply (hstep W _)
  isplitl [HT]; · iexact HT
  isplitl [H0]; · iexact H0
  isplitl [H1]; · iexists _; iexact H1
  isplitl [HP]; · iexact HP
  isplitl [HW]; · iexact HW
  iintro ⟨HT, H0, H1, HQ, ⟨%W', HW'⟩⟩
  isplitl [HQ Hg HT]
  · iapply hout
    isplitl [HQ]; · iexact HQ
    isplitl [Hg]; · iexact Hg
    iexact HT
  isplitl [HW']
  · iexists W'; isplitr; · ipureintro; exact fun _ _ => Or.inl trivial
    iexact HW'
  isplitl [H0]; · iexact H0
  iexact H1

theorem coord0_eq (t : Fin grid0.N) : (grid0.coords t 0).val = t.val / 40 := by
  have e : (grid0.coords t 0).val = t.val / 40 % 4 := Pipeline.Grid.coords_val t 0 (by decide) rfl
  have ht : t.val < 160 := Nat.lt_of_lt_of_eq t.isLt N_0
  rw [e]; omega
theorem coord1_eq (t : Fin grid0.N) : (grid0.coords t 1).val = t.val % 40 := by
  have e : (grid0.coords t 1).val = t.val / 1 % 40 := Pipeline.Grid.coords_val t 1 (by decide) rfl
  rw [e, Nat.div_one]

/-- The body at any point. -/
theorem sound_body (S : Ok m) (c : Dev nD) (t : Fin (cfgM m S).N) :
    bodyPre m S c t ⊢ wp frame (wpE (defs₀ (F := F)) Variants.none c none) Set.univ (bodyAt m S t) (fun _ => bodyPost m S c t) := by
  have ht : t.val < 160 := Nat.lt_of_lt_of_eq t.isLt N_0
  have e0 := coord0_eq t
  have e1 := coord1_eq t
  have hn : (nuW c (tbl m 1)).toNat = used m := congrArg BitVec.toNat (nuW_eq c (tbl m 1))
  have hout : iprop(afterP c (V m c main_arg1) (word (teT m)) (word (neT m)) (word (lrT m)) (used m) t.val ∗ (∃ r, prngReg c r) ∗ tablesP c (tbl m 0) (tbl m 1) (tbl m 2) (tbl m 3) (tbl m 4))
      ⊢ (dats m S 0 c).Φ t.succ := by
    rw [Phi_succ, PhiT0_eq]
  by_cases hz : t.val = 0
  · refine body_of_step m S c t (freeP c (V m c main_arg1)) _ ?_ hout (fun W K => ?_)
    · have e : (dats m S 0 c).Φ t.castSucc = iprop(Pipeline.ΦD osem0 spec0 H0 (V m) c ∗ Pipeline.ΦT pre0 (tbl m) c) := by
        rw [Phi_castSucc, hz]; rfl
      rw [e, PhiT0_eq]
      iintro ⟨HD, HT⟩
      ihave HD2 := (phiD_free m c) $$ HD
      icases HD2 with ⟨HP, Hg⟩
      isplitl [HP]; · iexact HP
      isplitl [Hg]; · iexact Hg
      iexact HT
    · unfold outAt
      rw [hz] at e0 e1 ⊢
      exact point_first c (V m c main_arg1) (grid0.coords t) (ms0_0 m S t) (hs0_0 m S t) (ms0_1 m S t) (hs0_1 m S t) (tbl m 0) (tbl m 1) (tbl m 2) (tbl m 3) (tbl m 4) S e0 e1 hn
        ((teW _ c _).trans (by rw [e1])) ((rsW _ c _).trans (by rw [e1])) ((neW _ c _).trans (by rw [e1])) ((lrW _ c _).trans (by rw [e1])) (teF c _) (iblk m S c 0 t) W K
  · obtain ⟨k, hk⟩ : ∃ k, t.val = k + 1 := ⟨t.val - 1, by omega⟩
    refine body_of_step m S c t (afterP c (V m c main_arg1) (word (teT m)) (word (neT m)) (word (lrT m)) (used m) k) _ ?_ hout (fun W K => ?_)
    · have e : (dats m S 0 c).Φ t.castSucc = PhiS m S c (k + 1) := by rw [Phi_castSucc, hk]
      rw [e, PhiS_next, PhiT0_eq]
    · unfold outAt
      rw [hk] at e0 e1 ⊢
      exact point_next c (V m c main_arg1) (grid0.coords t) (ms0_0 m S t) (hs0_0 m S t) (ms0_1 m S t) (hs0_1 m S t) (tbl m 0) (tbl m 1) (tbl m 2) (tbl m 3) (tbl m 4) S k (by omega) e0 e1 hn
        ((teW _ c _).trans (by rw [e1])) ((rsW _ c _).trans (by rw [e1])) ((neW _ c _).trans (by rw [e1])) ((lrW _ c _).trans (by rw [e1])) (iblk m S c 0 t) W K

/-! ## The run -/

theorem defs₀_row (S : Ok m) (t : Fin (cfgM m S).N) :
    defs₀ (F := F) .tc (cfgM m S).body ((cfgM m S).bodyArgs t ((cfgM m S).slots t)) = bodyAt m S t := by
  unfold defs₀; rw [Defs.onTc_tc]

theorem body_obligation (S : Ok m) (c : Dev nD) : BodyObligation (dats (F := F) m S 0 c) (defs₀ (F := F)) Variants.none () Set.univ := fun t => by
  rw [bigSep_W0, bigSep_W0, defs₀_row m S]
  exact triple_restated (sound_body m S c t) rfl .rfl fun _ => .rfl

theorem hin (S : Ok m) (c : Dev nD) : iprop(Pipeline.ΦD osem0 spec0 H0 (V m) c ∗ Pipeline.ΦT pre0 (tbl m) c) ⊢ (dats m S 0 c).Φ 0 :=
  Entails.refl _

theorem hout (S : Ok m) (c : Dev nD) : (dats m S 0 c).Φ (Fin.last (cfgM m S).N) ⊢ Pipeline.ΦD osem0 spec0 H0 (V m) c := by
  have e : (dats m S 0 c).Φ (Fin.last (cfgM m S).N) = PhiS m S c (159 + 1) := by
    show PhiS m S c (Fin.last (cfgM m S).N).val = _
    rw [Fin.val_last, show (cfgM m S).N = 159 + 1 from N_0]
  rw [e, PhiS_next, afterP, next_last S]
  iintro ⟨HH, Hg, -⟩
  iapply (free_phiD m c)
  isplitl [HH]
  · iapply (held_free c (V m c main_arg1) _ _); iexact HH
  iexact Hg

set_option backward.isDefEq.respectTransparency.types false in
/-- The program's run: it ends, with the arrays as the body's results leave them and every semaphore at zero. -/
theorem run_main_quiescent (S : Ok m) : θ_run defs (onTc (τ := τ) (main (F := F))) (s₀ m ρ) (fun r => (Pipeline.FramePost (Pipeline.pin pcfgs fun _ => adm m S) (dats m S) 0 (V m)) r ∧ r.2.sem = fun _ => 0) :=
  Pipeline.θ_run_frameP_dma (Q' := _) pcfgs (fun _ => adm m S) (dats m S) (0 : Fin 1) launch0 osem0 defs₀ Variants.none ownSemFacts0 H0 H0_sub m ρ main
    (hbody := fun c => (body_obligation m S c).loose) (hshare := fun c => (dats m S 0 c).share_full fun _ => rfl)
    (howed := fun _ _ => rfl) (V := V m) (hmain := hmain m Variants.none) (hA := A_eq m S) (hpf := V_pre m) (hin := hin m S) (hout := hout m S)

theorem rest (S : Ok m) (b : Ref sig .tc) (h : b ∈ Pipeline.restRefs sig spec0) : b ∈ Pipeline.restRefs sig (Pipeline.pin pcfgs (fun _ => adm m S) 0).spec := h

/-- What the run leaves in memory, read off: the result's array, and the arguments as they were. -/
theorem read_post (S : Ok m) {r : PUnit × MemSt nD τ sig (Elt F)} (h : (Pipeline.FramePost (Pipeline.pin pcfgs fun _ => adm m S) (dats m S) 0 (V m)) r) (c : Dev nD) :
    r.2.mem ((c.tc : Thread nD τ).loc main_v0) = (dats m S 0 c).arrAt 1 (cfgM m S).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).1 1, ((h c).1 0).trans ((dats m S 0 c).arrAt_in 0 rfl (cfgM m S).N), (h c).2 main_arg1 (rest m S main_arg1 (by decide)), (h c).2 main_arg2 (rest m S main_arg2 (by decide)), (h c).2 main_arg3 (rest m S main_arg3 (by decide)), (h c).2 main_arg4 (rest m S main_arg4 (by decide)), (h c).2 main_arg5 (rest m S main_arg5 (by decide)), (h c).2 main_arg6 (rest m S main_arg6 (by decide))⟩

/-- The call runs to the end, leaves its arguments unchanged and every counter at zero. -/
theorem frame (S : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (read_post m S h.1 c).2, h.2⟩) (run_main_quiescent m ρ S)

end Cert.EDownIdeal.Gen

end
-- ==== Proof.EDownValue.lean ====
/-
  The call `l1_moe_down`: what the kernel leaves in its result, read at the ideal instance, is what the reference computes:
  every row times the weights of its tile's expert, and zeros in the rows of tiles not in use.
-/
module

public import proofs.«01_k».proof.Proof.EDownFrame
public import proofs.«01_k».proof.Proof.EDownPre
public import proofs.«01_k».proof.Proof.Gen.EDownRefIdeal.Run
public import proofs.«01_k».proof.Proof.Gen.EDownRefIdeal.Read
public import Idealize.ShloMosaic.Lib.Pipeline.ValueKit
public import Idealize.ShloMosaic.Lib.Pointwise
public import Idealize.ShloMosaic.Lib.StableHlo.Predicate

@[expose] public section

set_option maxRecDepth 16384

noncomputable section

namespace Cert.EDownIdeal.Gen

open Idealize.ShloMosaic Idealize.ShloMosaic.TcCoe Idealize.SL.Sem
open Idealize.ShloMosaic.Pipeline (Dat)

/-! ## The reference at an entry -/

/-- A bit as a number. -/
theorem bit_number (b : BitVec 1) : FloatOps.uitofp (F := Ideal) .f32 b = if b = 1#1 then (1 : EReal) else 0 := by
  have h : b = 0#1 ∨ b = 1#1 := by revert b; decide
  rcases h with rfl | rfl
  · exact (by simp [FloatOps.uitofp] : FloatOps.uitofp (F := Ideal) .f32 0#1 = (0 : EReal))
  · exact (by simp [FloatOps.uitofp] : FloatOps.uitofp (F := Ideal) .f32 1#1 = (1 : EReal))

open Cert.EDownRefIdeal.Read in
/-- The gate of row `r` for expert `e`: one if the row's tile is in use and is that expert's, else zero. -/
theorem gate_apply (te : IVec S40 32) (nu : IVec S1 32) (hn : (nu (ix1 0)).toNat ≤ 40) (r : Fin 20480) (e : Fin 8)
    (hr : r.val / 512 < 40) (ht : (te (ix1 ⟨r.val / 512, hr⟩)).toNat < 8) :
    val_main_v11 (F := Ideal) te nu (ix2 r e)
      = if expertOf (te (ix1 ⟨r.val / 512, hr⟩)) = e ∧ r.val / 512 < (nu (ix1 0)).toNat then 1 else 0 := by
  pointwise [val_main_v11, val_main_v10, val_main_v9, val_main_v8, val_main_v7, val_main_v6, val_main_v5, val_main_v4, val_main_v3,
    val_main_v2, val_main_v1, val_main_call0_v4, val_main_call0_v3, val_main_call0_v2, val_main_call0_v1, val_main_call0_v0]
  have he : te (ix1 ⟨r.val / 512, hr⟩) = BitVec.ofNat 32 e.val ↔ expertOf (te (ix1 ⟨r.val / 512, hr⟩)) = e := by
    have := e.isLt
    constructor
    · intro h
      apply Fin.ext
      rw [expertOf, h]
      simp only [Fin.ofNat, BitVec.toNat_ofNat]
      omega
    · rintro rfl
      apply BitVec.eq_of_toNat_eq
      simp only [Fin.ofNat, BitVec.toNat_ofNat]
      omega
  have hl : IntOp.cmpi .slt (BitVec.ofNat 32 (r.val / 512)) (nu (ix1 0)) = 1#1 ↔ r.val / 512 < (nu (ix1 0)).toNat := word_lt _ _ hr hn
  rw [bit_number, bit_number, if_congr StableHlo.Predicate.cmpi_eq_iff rfl rfl, if_congr he rfl rfl, if_congr hl rfl rfl]
  by_cases h1 : expertOf (te (ix1 ⟨r.val / 512, hr⟩)) = e <;> by_cases h2 : r.val / 512 < (nu (ix1 0)).toNat <;> simp [h1, h2]

/-- Of eight terms with a gate, one of which alone can be open, the sum from zero is the open one. -/
theorem pick (s : Fin 8 → EReal) (g : Fin 8 → EReal) (f : Fin 8) (P : Prop) [Decidable P] (hg : ∀ e, g e = if f = e ∧ P then 1 else 0) :
    0 + g 0 * s 0 + g 1 * s 1 + g 2 * s 2 + g 3 * s 3 + g 4 * s 4 + g 5 * s 5 + g 6 * s 6 + g 7 * s 7 = if P then s f else 0 := by
  simp only [hg]
  by_cases h : P
  · fin_cases f <;> simp [h]
  · simp [h]

open Cert.EDownRefIdeal.Read in
/-- An entry of the reference: the row times its tile's expert's column if the tile is in use, else zero. -/
theorem ref_apply (x0 : FVec Ideal S20480x4096 .bf16) (x1 : FVec Ideal S8x4096x4096 .f32) (te : IVec S40 32) (nu : IVec S1 32)
    (hn : (nu (ix1 0)).toNat ≤ 40) (r : Fin 20480) (q : Fin 4096) (hr : r.val / 512 < 40) (ht : (te (ix1 ⟨r.val / 512, hr⟩)).toNat < 8) :
    val_main_v69 (F := Ideal) x0 x1 te nu (ix2 r q) = if r.val / 512 < (nu (ix1 0)).toNat
      then ∑ k : Fin 4096, x0 (ix2 r k) * x1 (ix3 (expertOf (te (ix1 ⟨r.val / 512, hr⟩))) k q) else 0 := by
  have h0 : val_main_cst (F := Ideal) Idealize.ShloMosaic.ix0 = (0 : EReal) := by pointwise [val_main_cst]
  pointwise [val_main_v69, val_main_v68, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v0]
  rw [h0]
  exact pick (fun e => ∑ k : Fin 4096, x0 (ix2 r k) * x1 (ix3 e k q)) (fun e => val_main_v11 (F := Ideal) te nu (ix2 r e))
    (expertOf (te (ix1 ⟨r.val / 512, hr⟩))) _ fun e => gate_apply te nu hn r e hr ht

/-! ## The kernel's block at an entry -/

/-- An entry of a tile's product. -/
theorem down_apply (x : FVec Ideal S512x4096 .bf16) (y : FVec Ideal S4096x1024 .f32) (p : Fin 512) (q : Fin 1024) :
    downOf (F := Ideal) x y (ix2 p q) = ∑ k : Fin 4096, x (ix2 p k) * y (ix2 k q) := by pointwise [downOf]

/-- An entry of the block of a tile not in use. -/
theorem none_apply (y : S512x1024.Idx) : noneOf (F := Ideal) y = 0 := by pointwise [noneOf]

/-- An entry of a tile of the weights. -/
theorem tile_apply (c : Dev nD) (XW : BufOf (F := Ideal) c wM) (e : Fin 8) (j : Fin 4) (k : Fin 4096) (q : Fin 1024) :
    tileOf c XW e j (ix2 k q) = XW (ix3 e k (⟨1024 * j.val + q.val, by omega⟩ : Fin 4096)) := by
  refine (congrFun (Memref.read_squeeze_slice (Val := Elt Ideal) wM (Rect.unit (s := S8x4096x4096) (tileOff e j) S1x4096x1024.size (tileOff_inb e j))
    (fun _ => rfl) squeezes_S1x4096x1024_S4096x1024 (show S1x4096x1024.ShapeCasts S4096x1024 by decide) XW) (ix2 k q)).trans ?_
  refine (shapeCast_apply _ _ (ix2 k q) (ix3 0 k q) ?_).trans ?_
  · simp only [Shape.rowMajor_val_three, Shape.rowMajor_val_two]
    show (0 * 4096 + k.val) * 1024 + q.val = k.val * 1024 + q.val
    omega
  refine congrArg XW (funext fun a => ?_)
  fin_cases a
  · exact Fin.ext (show e.val + 1 * 0 = e.val by omega)
  · exact Fin.ext (show 0 + 1 * k.val = k.val by omega)
  · exact Fin.ext (show 1024 * j.val + 1 * q.val = 1024 * j.val + q.val by omega)

variable (m : (ℓ : Loc nD τ sig) → Buf (Elt Ideal) ℓ)

/-- Where the windows stand at grid point `t`: at the row block of its tile, or of the last tile in use; at its own result block. -/
theorem idx0 (S : Ok m) (t : Fin (cfgM m S).N) : ((cfgM m S).win 0).index t = ![min (t.val % 40) (used m - 1), 0] := by
  refine (rows_eq m S (grid0.coords t)).trans ?_
  rw [coord1_eq]
theorem idx1 (S : Ok m) (t : Fin (cfgM m S).N) : ((cfgM m S).win 1).index t = ![t.val % 40, t.val / 40] :=
  (by decide +kernel : ∀ t : Fin grid0.N, cc0_transform_2 (grid0.coords t) = ![t.val % 40, t.val / 40]) t

/-- The result's blocks cover it. -/
theorem covers (S : Ok m) : ((cfgM m S).win 1).Covers := by
  have hN : grid0.N = 160 := N_0
  refine ⟨(by decide : ∀ a : Fin 2, 0 < S512x1024.size a), fun β => ?_⟩
  have b0 : (β (0 : Fin 2)).val < 40 := lt_of_lt_of_eq (β (0 : Fin 2)).isLt (show (20480 + 512 - 1) / 512 = 40 from rfl)
  have b1 : (β (1 : Fin 2)).val < 4 := lt_of_lt_of_eq (β (1 : Fin 2)).isLt (show (4096 + 1024 - 1) / 1024 = 4 from rfl)
  have hb : 40 * (β (1 : Fin 2)).val + (β (0 : Fin 2)).val < grid0.N := by omega
  refine ⟨⟨40 * (β (1 : Fin 2)).val + (β (0 : Fin 2)).val, hb⟩, ?_, fun a => ⟨?_, .inl ?_⟩⟩
  · exact (by decide +kernel : ∀ t : Fin grid0.N, Pipeline.Window.flushOf grid0 true cc0_transform_2 t = true) _
  · rw [idx1]
    fin_cases a
    · show (40 * (β (1 : Fin 2)).val + (β (0 : Fin 2)).val) % 40 = (β (0 : Fin 2)).val; omega
    · show (40 * (β (1 : Fin 2)).val + (β (0 : Fin 2)).val) / 40 = (β (1 : Fin 2)).val; omega
  · rfl

/-- An entry of the rows read at a point whose tile is in use. -/
theorem rows_apply (S : Ok m) (c : Dev nD) (t : Fin (cfgM m S).N) (h : t.val % 40 < used m) (p : Fin 512) (k : Fin 4096) (r : Fin 20480)
    (hr : r.val = t.val % 40 * 512 + p.val) :
    iblk m S c 0 t (ix2 p k) = m ((c : Thread nD τ).loc main_arg0) (ix2 r k) := by
  have i0 := idx0 m S t
  rw [Nat.min_eq_left (by omega)] at i0
  unfold iblk
  refine congrArg (m ((c : Thread nD τ).loc main_arg0)) ?_
  blk_ext [i0]

/-- An entry of the block left at a point is the reference's. -/
theorem entry (S : Ok m) (c : Dev nD) (t : Fin (cfgM m S).N) (p : Fin 512) (q : Fin 1024) (r : Fin 20480) (l : Fin 4096)
    (hr : r.val = t.val % 40 * 512 + p.val) (hl : l.val = t.val / 40 * 1024 + q.val) :
    outAt m S c t (ix2 p q) = Cert.EDownRefIdeal.Read.val_main_v69 (F := Ideal) (m ((c : Thread nD τ).loc main_arg0))
      (m ((c : Thread nD τ).loc main_arg1)) (m ((c : Thread nD τ).loc main_arg2)) (m ((c : Thread nD τ).loc main_arg3)) (ix2 r l) := by
  have ht : t.val < 160 := lt_of_lt_of_eq t.isLt N_0
  have hq : r.val / 512 = t.val % 40 := by omega
  have hw : word (teT m) (t.val % 40) = m ((c : Thread nD τ).loc main_arg2) (ix1 ⟨r.val / 512, by omega⟩) := by
    obtain rfl : c = 0 := Subsingleton.elim _ _
    exact (word_at (teT m) ⟨t.val % 40, by omega⟩).trans (congrArg (teT m) (congrArg ix1 (Fin.ext hq.symm)))
  have hu : used m = (m ((c : Thread nD τ).loc main_arg3) (ix1 0)).toNat := by
    obtain rfl : c = 0 := Subsingleton.elim _ _
    exact congrArg BitVec.toNat (used_at (nuT m))
  have h8 := S.te8 (t.val % 40) (by omega)
  have hn : used m ≤ 40 := S.le
  unfold outAt resultOf
  refine Eq.trans ?_ (ref_apply _ _ _ _ (by rw [← hu]; exact hn) r l (by omega) (by rw [← hw]; exact h8)).symm
  rw [← hu, ← hw, hq]
  by_cases h : t.val % 40 < used m
  · rw [if_pos h, if_pos h]
    refine (down_apply _ _ p q).trans (Finset.sum_congr rfl fun k _ => ?_)
    rw [tile_apply, rows_apply m S c t h p k r hr]
    refine congrArg₂ (fun a b : EReal => a * b) rfl
      (congrArg (fun j : Fin 4096 => m ((c : Thread nD τ).loc main_arg1) (ix3 _ k j)) (Fin.ext ?_))
    show 1024 * (t.val / 40 % 4) + q.val = l.val
    omega
  · rw [if_neg h, if_neg h]
    exact none_apply _

/-- What the kernel leaves in its result is the reference's result. -/
theorem final (S : Ok m) (c : Dev nD) : (dats m S 0 c).arrAt 1 (cfgM m S).N = Cert.EDownRefIdeal.Read.val_main_v69 (F := Ideal)
    (m ((c : Thread nD τ).loc main_arg0)) (m ((c : Thread nD τ).loc main_arg1)) (m ((c : Thread nD τ).loc main_arg2))
    (m ((c : Thread nD τ).loc main_arg3)) := by
  refine (dats m S 0 c).arrAt_eq_of_covers 1 _ (covers m S) fun t hf y => ?_
  have ht : t.val < 160 := lt_of_lt_of_eq t.isLt N_0
  have i1 := idx1 m S t
  obtain ⟨p, q, rfl⟩ : ∃ (p : Fin 512) (q : Fin 1024), y = ix2 p q := ⟨y (0 : Fin 2), y (1 : Fin 2), funext fun (a : Fin 2) => by fin_cases a <;> rfl⟩
  blk_simp
  rw [after0_1]
  refine (entry m S c t p q ⟨t.val % 40 * 512 + p.val, by omega⟩ ⟨t.val / 40 * 1024 + q.val, by omega⟩ rfl rfl).trans ?_
  blk_ext [i1]

end Cert.EDownIdeal.Gen

end
-- ==== Proof.EUpNames.lean ====
/-
  The call `l1_moe_up`: names for the pieces of its buffers.

  The kernel holds two slots, each for a column tile of an expert's two weights, one DMA semaphore per slot and
  weight, and one word saying which slot is current. This file names the slots' halves, the semaphores and the tiles
  of the weights, and states that the slices the body computes are these.
-/
module

public import proofs.«01_k».proof.Proof.Gen.EUpIdeal.Launch
public import Idealize.ShloMosaic.Lib.Ring
public import Idealize.ShloMosaic.Lib.Affine
public import Idealize.ShloMosaic.Lib.Tactic
public import Idealize.ShloMosaic.Lib.Exec

@[expose] public section

noncomputable section

namespace Cert.EUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two weights of all experts, in HBM. -/
abbrev w1M : Memref sig .tc .hbm S8x4096x4096 .f32 := Memref.whole main_arg1
abbrev w3M : Memref sig .tc .hbm S8x4096x4096 .f32 := Memref.whole main_arg2
/-- The two slots a column tile is copied into. -/
abbrev bufM : Memref sig .tc .vmem S2x2x4096x512 .f32 := Memref.whole cc0_scratch0
/-- The word naming the current slot. -/
abbrev curM : Memref sig .tc .smem S1 .i32 := Memref.whole cc0_scratch2

/-- The place of slot `s`'s half for weight `w` in the buffer of slots. -/
abbrev slotOff (s w : Fin 2) : Fin 4 → Nat := ![s.val, w.val, 0, 0]
/-- Its semaphore's place. -/
abbrev semOff (s w : Fin 2) : Fin 2 → Nat := ![s.val, w.val]
/-- Where column tile `j` of expert `e`'s weights begins. -/
abbrev tileOff (e : Fin 8) (j : Fin 8) : Fin 3 → Nat := ![e.val, 0, 512 * j.val]

theorem slotOff_inb : ∀ s w : Fin 2, ∀ a, slotOff s w a + S1x1x4096x512.size a ≤ S2x2x4096x512.size a := by decide
theorem semOff_inb : ∀ s w : Fin 2, ∀ a, semOff s w a + S1x1.size a ≤ S2x2.size a := by decide
theorem tileOff_inb : ∀ (e : Fin 8) (j : Fin 8), ∀ a, tileOff e j a + S1x4096x512.size a ≤ S8x4096x4096.size a := by decide

/-- Slot `s`'s half for weight `w`, as a matrix. -/
def slotM (s w : Fin 2) : Memref sig .tc .vmem S4096x512 .f32 :=
  (bufM.slice (Rect.unit (s := S2x2x4096x512) (slotOff s w) S1x1x4096x512.size (slotOff_inb s w)) (fun _ => rfl)).squeeze S4096x512 squeezes_S1x1x4096x512_S4096x512
/-- Its semaphore. -/
def slotSem (s w : Fin 2) : DmaSems sig S_ :=
  (cc0_scratch1.slice (Rect.unit (s := S2x2) (semOff s w) S1x1.size (semOff_inb s w))).squeeze S_ squeezes_S1x1_S_
/-- Column tile `j` of expert `e`'s weights in one of the two arrays, as a matrix. -/
def tileM (M : Memref sig .tc .hbm S8x4096x4096 .f32) (e : Fin 8) (j : Fin 8) : Memref sig .tc .hbm S4096x512 .f32 :=
  (M.slice (Rect.unit (s := S8x4096x4096) (tileOff e j) S1x4096x512.size (tileOff_inb e j)) (fun _ => rfl)).squeeze S4096x512 squeezes_S1x4096x512_S4096x512

instance (s w : Fin 2) : ClosedOff (slotOff s w) := ⟨slotOff s w, rfl⟩
instance (e : Fin 8) (j : Fin 8) : ClosedOff (tileOff e j) := ⟨tileOff e j, rfl⟩

/-- The expert a word names. -/
abbrev expertOf (v : BitVec 32) : Fin 8 := Fin.ofNat 8 v.toNat
/-- The column tile a number names. -/
abbrev colOf (n : Nat) : Fin 8 := Fin.ofNat 8 n
/-- The word for slot `s`. -/
abbrev wordOf (s : Fin 2) : BitVec 32 := BitVec.ofNat 32 s.val

section Canon

private theorem slotSem_congr {off : Fin 2 → Nat} {s w : Fin 2} (e : off = semOff s w) (hh) :
    (cc0_scratch1.slice (Rect.unit (s := S2x2) off S1x1.size hh)).squeeze S_ squeezes_S1x1_S_ = slotSem s w :=
  congrArg (fun A : DmaSems sig S1x1 => A.squeeze S_ squeezes_S1x1_S_) (SemArray.slice_unit_congr _ e _ _)
private theorem slotM_congr {off : Fin 4 → Nat} {s w : Fin 2} (e : off = slotOff s w) (hh hs) :
    (bufM.slice (Rect.unit (s := S2x2x4096x512) off S1x1x4096x512.size hh) hs).squeeze S4096x512 squeezes_S1x1x4096x512_S4096x512 = slotM s w :=
  congrArg (fun M : Memref sig .tc .vmem S1x1x4096x512 .f32 => M.squeeze S4096x512 squeezes_S1x1x4096x512_S4096x512) (Memref.slice_unit_congr _ e _ _ _ _)
private theorem tileM_congr (M : Memref sig .tc .hbm S8x4096x4096 .f32) {off : Fin 3 → Nat} {e : Fin 8} {j : Fin 8} (h : off = tileOff e j) (hh hs) :
    (M.slice (Rect.unit (s := S8x4096x4096) off S1x4096x512.size hh) hs).squeeze S4096x512 squeezes_S1x4096x512_S4096x512 = tileM M e j :=
  congrArg (fun M : Memref sig .tc .hbm S1x4096x512 .f32 => M.squeeze S4096x512 squeezes_S1x4096x512_S4096x512) (Memref.slice_unit_congr _ h _ _ _ _)

/-- The first point's semaphores and slot. -/
@[sl_canon] theorem semL0 (hh) : (cc0_scratch1.slice (Rect.unit (s := S2x2) ![0, 0] S1x1.size hh)).squeeze S_ squeezes_S1x1_S_ = slotSem 0 0 := slotSem_congr (by decide) _
@[sl_canon] theorem slotL0 (hh hs) : (bufM.slice (Rect.unit (s := S2x2x4096x512) ![0, 0, 0, 0] S1x1x4096x512.size hh) hs).squeeze S4096x512 squeezes_S1x1x4096x512_S4096x512 = slotM 0 0 := slotM_congr (by decide) _ _
@[sl_canon] theorem semL1 (hh) : (cc0_scratch1.slice (Rect.unit (s := S2x2) ![0, 1] S1x1.size hh)).squeeze S_ squeezes_S1x1_S_ = slotSem 0 1 := slotSem_congr (by decide) _
@[sl_canon] theorem slotL1 (hh hs) : (bufM.slice (Rect.unit (s := S2x2x4096x512) ![0, 1, 0, 0] S1x1x4096x512.size hh) hs).squeeze S4096x512 squeezes_S1x1x4096x512_S4096x512 = slotM 0 1 := slotM_congr (by decide) _ _
/-- The slot a run of tiles is waited for in: the one that is not current. -/
@[sl_canon] theorem semW0 (s : Fin 2) (hh) : (cc0_scratch1.slice (Rect.unit (s := S2x2) (k0_off4 (wordOf s)) S1x1.size hh)).squeeze S_ squeezes_S1x1_S_ = slotSem (1 - s) 0 := slotSem_congr (by revert s; decide) _
@[sl_canon] theorem slotW0 (s : Fin 2) (hh hs) : (bufM.slice (Rect.unit (s := S2x2x4096x512) (k0_off5 (wordOf s)) S1x1x4096x512.size hh) hs).squeeze S4096x512 squeezes_S1x1x4096x512_S4096x512 = slotM (1 - s) 0 := slotM_congr (by revert s; decide) _ _
@[sl_canon] theorem semW1 (s : Fin 2) (hh) : (cc0_scratch1.slice (Rect.unit (s := S2x2) (k0_off7 (wordOf s)) S1x1.size hh)).squeeze S_ squeezes_S1x1_S_ = slotSem (1 - s) 1 := slotSem_congr (by revert s; decide) _
@[sl_canon] theorem slotW1 (s : Fin 2) (hh hs) : (bufM.slice (Rect.unit (s := S2x2x4096x512) (k0_off8 (wordOf s)) S1x1x4096x512.size hh) hs).squeeze S4096x512 squeezes_S1x1x4096x512_S4096x512 = slotM (1 - s) 1 := slotM_congr (by revert s; decide) _ _
/-- The same at the first point, whose word is 1. -/
@[sl_canon] theorem semF0 (hh) : (cc0_scratch1.slice (Rect.unit (s := S2x2) (k0_off4 1#32) S1x1.size hh)).squeeze S_ squeezes_S1x1_S_ = slotSem 0 0 := slotSem_congr (by decide) _
@[sl_canon] theorem slotF0 (hh hs) : (bufM.slice (Rect.unit (s := S2x2x4096x512) (k0_off5 1#32) S1x1x4096x512.size hh) hs).squeeze S4096x512 squeezes_S1x1x4096x512_S4096x512 = slotM 0 0 := slotM_congr (by decide) _ _
@[sl_canon] theorem semF1 (hh) : (cc0_scratch1.slice (Rect.unit (s := S2x2) (k0_off7 1#32) S1x1.size hh)).squeeze S_ squeezes_S1x1_S_ = slotSem 0 1 := slotSem_congr (by decide) _
@[sl_canon] theorem slotF1 (hh hs) : (bufM.slice (Rect.unit (s := S2x2x4096x512) (k0_off8 1#32) S1x1x4096x512.size hh) hs).squeeze S4096x512 squeezes_S1x1x4096x512_S4096x512 = slotM 0 1 := slotM_congr (by decide) _ _
@[sl_canon] theorem semG0 (hh) : (cc0_scratch1.slice (Rect.unit (s := S2x2) (k0_off11 1#32) S1x1.size hh)).squeeze S_ squeezes_S1x1_S_ = slotSem 1 0 := slotSem_congr (by decide) _
@[sl_canon] theorem slotG0 (hh hs) : (bufM.slice (Rect.unit (s := S2x2x4096x512) (k0_off12 1#32) S1x1x4096x512.size hh) hs).squeeze S4096x512 squeezes_S1x1x4096x512_S4096x512 = slotM 1 0 := slotM_congr (by decide) _ _
@[sl_canon] theorem semG1 (hh) : (cc0_scratch1.slice (Rect.unit (s := S2x2) (k0_off14 1#32) S1x1.size hh)).squeeze S_ squeezes_S1x1_S_ = slotSem 1 1 := slotSem_congr (by decide) _
@[sl_canon] theorem slotG1 (hh hs) : (bufM.slice (Rect.unit (s := S2x2x4096x512) (k0_off15 1#32) S1x1x4096x512.size hh) hs).squeeze S4096x512 squeezes_S1x1x4096x512_S4096x512 = slotM 1 1 := slotM_congr (by decide) _ _
/-- The slot the next tiles are copied to: the one that was current. -/
@[sl_canon] theorem semN0 (s : Fin 2) (hh) : (cc0_scratch1.slice (Rect.unit (s := S2x2) (k0_off11 (wordOf s)) S1x1.size hh)).squeeze S_ squeezes_S1x1_S_ = slotSem s 0 := slotSem_congr (by revert s; decide) _
@[sl_canon] theorem slotN0 (s : Fin 2) (hh hs) : (bufM.slice (Rect.unit (s := S2x2x4096x512) (k0_off12 (wordOf s)) S1x1x4096x512.size hh) hs).squeeze S4096x512 squeezes_S1x1x4096x512_S4096x512 = slotM s 0 := slotM_congr (by revert s; decide) _ _
@[sl_canon] theorem semN1 (s : Fin 2) (hh) : (cc0_scratch1.slice (Rect.unit (s := S2x2) (k0_off14 (wordOf s)) S1x1.size hh)).squeeze S_ squeezes_S1x1_S_ = slotSem s 1 := slotSem_congr (by revert s; decide) _
@[sl_canon] theorem slotN1 (s : Fin 2) (hh hs) : (bufM.slice (Rect.unit (s := S2x2x4096x512) (k0_off15 (wordOf s)) S1x1x4096x512.size hh) hs).squeeze S4096x512 squeezes_S1x1x4096x512_S4096x512 = slotM s 1 := slotM_congr (by revert s; decide) _ _
/-- The slot the body reads: the current one. -/
@[sl_canon] theorem slotR0 (s : Fin 2) (hh hs) : (bufM.slice (Rect.unit (s := S2x2x4096x512) (k0_off16 (wordOf s)) S1x1x4096x512.size hh) hs).squeeze S4096x512 squeezes_S1x1x4096x512_S4096x512 = slotM s 0 := slotM_congr (by revert s; decide) _ _
@[sl_canon] theorem slotZ0 (hh hs) : (bufM.slice (Rect.unit (s := S2x2x4096x512) (k0_off16 0#32) S1x1x4096x512.size hh) hs).squeeze S4096x512 squeezes_S1x1x4096x512_S4096x512 = slotM 0 0 := slotM_congr (by decide) _ _
@[sl_canon] theorem slotR1 (s : Fin 2) (hh hs) : (bufM.slice (Rect.unit (s := S2x2x4096x512) (k0_off17 (wordOf s)) S1x1x4096x512.size hh) hs).squeeze S4096x512 squeezes_S1x1x4096x512_S4096x512 = slotM s 1 := slotM_congr (by revert s; decide) _ _
@[sl_canon] theorem slotZ1 (hh hs) : (bufM.slice (Rect.unit (s := S2x2x4096x512) (k0_off17 0#32) S1x1x4096x512.size hh) hs).squeeze S4096x512 squeezes_S1x1x4096x512_S4096x512 = slotM 0 1 := slotM_congr (by decide) _ _

theorem off1_eq (v : BitVec 32) (hv : v.toNat < 8) : k0_off1 v = tileOff (expertOf v) 0 := by
  funext a; fin_cases a <;> simp [k0_off1, Fin.ofNat, Nat.mod_eq_of_lt hv]
theorem mul_512 (n : BitVec 32) (hn : n.toNat < 8) : (Scalar.muli n 512#32).toNat = 512 * n.toNat := by
  simp only [Scalar.muli, IntOp.muli, BitVec.toNat_mul, BitVec.toNat_ofNat]; omega
theorem coord_toNat (i : grid0.Coords) : (BitVec.ofNat 32 (i 0).val).toNat = (i 0).val := by
  have h : (i 0).val < 8 := (i 0).isLt
  simp only [BitVec.toNat_ofNat]; omega
theorem off6_eq (i : grid0.Coords) (v : BitVec 32) (hv : v.toNat < 8) : k0_off6 i v = tileOff (expertOf v) (colOf (i 0).val) := by
  have h : (i 0).val < 8 := (i 0).isLt
  have e : (Scalar.muli (BitVec.ofNat 32 (i 0).val) 512#32).toNat = 512 * (i 0).val := by
    rw [mul_512 _ (by rw [coord_toNat]; exact h), coord_toNat]
  show (![v.toNat, 0, (Scalar.muli (BitVec.ofNat 32 (i 0).val) 512#32).toNat] : Fin 3 → Nat) = _
  rw [e]; funext a; fin_cases a <;> simp [Fin.ofNat, Nat.mod_eq_of_lt hv, Nat.mod_eq_of_lt h]
theorem off13_eq (i : grid0.Coords) (l v : BitVec 32) (hv : v.toNat < 8) (hl : (i 0).val + l.toNat < 8) :
    k0_off13 i v l = tileOff (expertOf v) (colOf ((i 0).val + l.toNat)) := by
  have ea : (Scalar.addi (BitVec.ofNat 32 (i 0).val) l).toNat = (i 0).val + l.toNat := by
    simp only [Scalar.addi, IntOp.addi, BitVec.toNat_add, coord_toNat]; omega
  have e : (Scalar.muli (Scalar.addi (BitVec.ofNat 32 (i 0).val) l) 512#32).toNat = 512 * ((i 0).val + l.toNat) := by
    rw [mul_512 _ (by rw [ea]; exact hl), ea]
  show (![v.toNat, 0, (Scalar.muli (Scalar.addi (BitVec.ofNat 32 (i 0).val) l) 512#32).toNat] : Fin 3 → Nat) = _
  rw [e]; funext a; fin_cases a <;> simp [Fin.ofNat, Nat.mod_eq_of_lt hv, Nat.mod_eq_of_lt hl]

/-- The tile the first point copies, the one a run waits for, the one it copies next. -/
@[sl_canon] theorem tileF (M : Memref sig .tc .hbm S8x4096x4096 .f32) (v : BitVec 32) (hv : v.toNat < 8) (hh hs) : (M.slice (Rect.unit (s := S8x4096x4096) (k0_off1 v) S1x4096x512.size hh) hs).squeeze S4096x512 squeezes_S1x4096x512_S4096x512 = tileM M (expertOf v) 0 :=
  tileM_congr M (off1_eq v hv) _ _
@[sl_canon] theorem tileW (M : Memref sig .tc .hbm S8x4096x4096 .f32) (i : grid0.Coords) (v : BitVec 32) (hv : v.toNat < 8) (hh hs) : (M.slice (Rect.unit (s := S8x4096x4096) (k0_off6 i v) S1x4096x512.size hh) hs).squeeze S4096x512 squeezes_S1x4096x512_S4096x512 = tileM M (expertOf v) (colOf (i 0).val) :=
  tileM_congr M (off6_eq i v hv) _ _
@[sl_canon] theorem tileN (M : Memref sig .tc .hbm S8x4096x4096 .f32) (i : grid0.Coords) (l v : BitVec 32) (hv : v.toNat < 8) (hl : (i 0).val + l.toNat < 8) (hh hs) : (M.slice (Rect.unit (s := S8x4096x4096) (k0_off13 i v l) S1x4096x512.size hh) hs).squeeze S4096x512 squeezes_S1x4096x512_S4096x512 = tileM M (expertOf v) (colOf ((i 0).val + l.toNat)) :=
  tileM_congr M (off13_eq i l v hv hl) _ _

/-- The checks the body makes hold. -/
theorem chk1_of (i : grid0.Coords) (v : BitVec 32) (hv : v.toNat < 8) : k0_chk1 i v := fun _ => by
  rw [off1_eq v hv]; exact tileOff_inb _ _
theorem chk2_of (i : grid0.Coords) (n r : BitVec 32) (s : Fin 2) : k0_chk2 i n r (wordOf s) :=
  ⟨fun _ => by revert s; decide, fun _ => by revert s; decide, fun _ => by revert s; decide, fun _ => by revert s; decide⟩
theorem chk3_of (i : grid0.Coords) (n r v : BitVec 32) (hv : v.toNat < 8) : k0_chk3 i n r v := fun _ => by
  rw [off6_eq i v hv]; exact tileOff_inb _ _
theorem chk4_of (i : grid0.Coords) (n r l : BitVec 32) (s : Fin 2) : k0_chk4 i n r (wordOf s) l :=
  ⟨fun _ _ => by revert s; decide, fun _ _ => by revert s; decide, fun _ _ => by revert s; decide, fun _ _ => by revert s; decide⟩
theorem chk5_of (i : grid0.Coords) (n r l' v l : BitVec 32) (hv : v.toNat < 8) (hl : (i 0).val + l.toNat < 8) : k0_chk5 i n r l' v l := fun _ _ => by
  rw [off13_eq i l v hv hl]; exact tileOff_inb _ _
theorem chk6_of (i : grid0.Coords) (n : BitVec 32) (s : Fin 2) : k0_chk6 i n (wordOf s) := ⟨fun _ => by revert s; decide, fun _ => by revert s; decide⟩

end Canon

end Cert.EUpIdeal.Gen

end
-- ==== Proof.EUpBody.lean ====
/-
  The call `l1_moe_up`: the body run at each kind of grid point.
-/
module

public import proofs.«01_k».proof.Proof.EUpNames
public import Idealize.ShloMosaic.Lib.Pipeline.Frame
public import Idealize.ShloMosaic.Lib.Pipeline.FrameBody
public import Idealize.ShloMosaic.Lib.Pipeline.Value
public import Idealize.ShloMosaic.Lib.VecWindow

@[expose] public section

set_option maxRecDepth 16384

noncomputable section

namespace Cert.EUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The five tables: each tile's expert, the number of tiles used, whether a tile begins a run of one expert's tiles,
    the expert of the next run, whether the run is the last one. -/
abbrev teM : Memref sig .tc .smem S40 .i32 := Memref.whole main_arg3
abbrev nuM : Memref sig .tc .smem S1 .i32 := Memref.whole main_arg4
abbrev rsM : Memref sig .tc .smem S40 .i32 := Memref.whole main_arg5
abbrev neM : Memref sig .tc .smem S40 .i32 := Memref.whole main_arg6
abbrev lrM : Memref sig .tc .smem S40 .i32 := Memref.whole main_arg7

/-- A memref's buffer on core `c`, and half of it held (the other half is the pipeline's), and all of it held. -/
abbrev BufOf (c : Dev nD) {sp : Space} {S : Shape} {e : EltTy} (M : Memref sig .tc sp S e) : Type := Buf (Elt F) (M.view.loc (c : Thread nD τ))
abbrev halfPt (c : Dev nD) {S : Shape} {e : EltTy} (M : Memref sig .tc .smem S e) (f : BufOf (F := F) c M) : sProp 𝕄 :=
  M.view.loc (c : Thread nD τ) ↦{fullShare.right} f
abbrev allPt (c : Dev nD) {sp : Space} {S : Shape} {e : EltTy} (M : Memref sig .tc sp S e) (f : BufOf (F := F) c M) : sProp 𝕄 :=
  M.view.loc (c : Thread nD τ) ↦{fullShare} f

theorem first_pos : 0 < S1.numel := by decide

/-- The number of tiles used, read as the body reads it. -/
abbrev nuW (c : Dev nD) (T : BufOf (F := F) c nuM) : BitVec 32 :=
  nuM.view.readAt (Elt F) (Rect.unit (s := S1) ![0] S1.size inb_S1_S1_0).toLoadRect T (Shape.Idx.first first_pos)
/-- The first tile's word of a table. -/
abbrev firstW (c : Dev nD) (M : Memref sig .tc .smem S40 .i32) (T : BufOf (F := F) c M) : BitVec 32 :=
  M.view.readAt (Elt F) (Rect.unit (s := S40) ![0] S1.size inb_S40_S1_0).toLoadRect T (Shape.Idx.first first_pos)
/-- The grid point's tile's word of a table. -/
abbrev wordAt (c : Dev nD) (M : Memref sig .tc .smem S40 .i32) (T : BufOf (F := F) c M) (i : grid0.Coords) : BitVec 32 :=
  M.view.readAt (Elt F) (Rect.unit (s := S40) (k0_off2 i) S1.size (k0_off2_inb i)).toLoadRect T (Shape.Idx.first first_pos)

section Pieces
variable (c : Dev nD)

/-- The semaphore of slot `s`'s half for weight `w` at zero. -/
abbrev cellP (s w : Fin 2) : sProp 𝕄 := semVal ((c : Thread nD τ), SemLoc.dma (slotSem s w).sem) 0
/-- That half at contents `f`. -/
abbrev slotAt (s w : Fin 2) (f : BufOf (F := F) c (slotM s w)) : sProp 𝕄 :=
  (slotM s w).view.loc (c : Thread nD τ) ↦[(slotM s w).view.set]{fullShare} f

variable (M : Memref sig .tc .hbm S8x4096x4096 .f32) (XW : BufOf (F := F) c M)

/-- A tile of a weight as a matrix of words. -/
abbrev tileOf (e j : Fin 8) : S4096x512.Idx → Elt F .f32 := ReadAs.same.apply ((tileM M e j).view.read (Elt F) XW)
/-- A tile of a weight held. -/
abbrev tileP (e j : Fin 8) : sProp 𝕄 := (tileM M e j).view.loc (c : Thread nD τ) ↦[(tileM M e j).view.set]{fullShare} XW
/-- All of a weight but one tile. -/
abbrev restP (e j : Fin 8) : sProp 𝕄 := M.view.loc (c : Thread nD τ) ↦[Finset.univ \ (tileM M e j).view.set]{fullShare} XW
/-- A copy of a tile into slot `s`'s half for weight `w` under way. -/
abbrev flightP (s w : Fin 2) (e j : Fin 8) (f : BufOf (F := F) c (slotM s w)) : sProp 𝕄 :=
  Transfers.Flight countersEmb (c : Thread nD τ) (SemLoc.dma (slotSem s w).sem) () 262144
    iprop(slotAt c s w ((slotM s w).view.writes (Elt F) f [⟨Rect.whole S4096x512, tileOf c M XW e j⟩]) ∗ tileP c M XW e j)

/-- A weight is a tile and the rest. -/
theorem tile_split (e j : Fin 8) : allPt c M XW ⊢ iprop(tileP c M XW e j ∗ restP c M XW e j) :=
  (pointsTo_split_subset (Finset.subset_univ _)).1
theorem tile_join (e j : Fin 8) : iprop(tileP c M XW e j ∗ restP c M XW e j) ⊢ allPt c M XW :=
  (pointsTo_split_subset (Finset.subset_univ _)).2

theorem tile_change (e e' : Fin 8) (j j' : Fin 8) : iprop(tileP c M XW e j ∗ restP c M XW e j) ⊢ iprop(tileP c M XW e' j' ∗ restP c M XW e' j') :=
  (tile_join c M XW e j).trans (tile_split c M XW e' j')

end Pieces

section Body
variable (c : Dev nD) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)

/-- The body at a grid point, on the staging buffers it is called with. -/
abbrev bodyOn : Prog (TpuEff nD τ sig (Elt F) Λ₀ .tc) PUnit :=
  cc0_l1_moe_up i teM (Memref.isWhole_whole _) nuM (Memref.isWhole_whole _) rsM (Memref.isWhole_whole _) neM (Memref.isWhole_whole _) lrM (Memref.isWhole_whole _)
    arg7 harg7 w1M (Memref.isWhole_whole _) w3M (Memref.isWhole_whole _) arg10 harg10 bufM (Memref.isWhole_whole _) cc0_scratch1 curM (Memref.isWhole_whole _)

/-- The tables held. -/
abbrev tablesP : sProp 𝕄 := iprop(halfPt c teM Tte ∗ halfPt c nuM Tnu ∗ halfPt c rsM Trs ∗ halfPt c neM Tne ∗ halfPt c lrM Tlr)

/-- The current slot's word. -/
abbrev curP (s : Fin 2) : sProp 𝕄 := allPt (F := F) c curM (fun _ => wordOf s)

/-- Half the columns of the rows, from column `k`; half the rows of a matrix of weights, from row `k`. -/
abbrev halfRows (x : Vec F S512x4096 .bf16) (k : Nat) (h : ∀ a, (![0, k] : Fin 2 → Nat) a + S512x2048.size a ≤ S512x4096.size a) : FVec F S512x2048 .bf16 :=
  fun p => x ((Rect.unit (s := S512x4096) ![0, k] S512x2048.size h).idx p)
abbrev halfCols (y : S4096x512.Idx → Elt F .f32) (k : Nat) (h : ∀ a, (![k, 0] : Fin 2 → Nat) a + S2048x512.size a ≤ S4096x512.size a) : FVec F S2048x512 .f32 :=
  fun p => y ((Rect.unit (s := S4096x512) ![k, 0] S2048x512.size h).idx p)

/-- The rows times a matrix of weights, in two halves of the inner axis. -/
def twoHalves (x : Vec F S512x4096 .bf16) (y : S4096x512.Idx → Elt F .f32) : FVec F S512x512 .f32 :=
  addf
    (matmul dot_S512x2048_S2048x512_S512x512_1_0_0_1_n_n none (halfRows x 0 inb_S512x4096_S512x2048_0_0)
      (truncf .bf16 (halfCols y 0 inb_S4096x512_S2048x512_0_0) bitsLt_bf16_f32) (constant S512x512 .f32 0x00000000#32))
    (matmul dot_S512x2048_S2048x512_S512x512_1_0_0_1_n_n none (halfRows x 2048 inb_S512x4096_S512x2048_0_2048)
      (truncf .bf16 (halfCols y 2048 inb_S4096x512_S2048x512_2048_0) bitsLt_bf16_f32) (constant S512x512 .f32 0x00000000#32))

/-- What the body stores at a used tile: `silu (x w1) * (x w3)` of the rows and the slot's two weights. -/
def upOf (x : Vec F S512x4096 .bf16) (y z : S4096x512.Idx → Elt F .f32) : Vec F S512x512 .bf16 :=
  truncf .bf16 (mulf (mulf (twoHalves x y) (logistic (twoHalves x y))) (twoHalves x z)) bitsLt_bf16_f32

/-- What a copy into a slot leaves there. -/
theorem slot_landed (s w : Fin 2) (f : BufOf (F := F) c (slotM s w)) (y : S4096x512.Idx → Elt F .f32) :
    (slotM s w).view.read (Elt F) ((slotM s w).view.writes (Elt F) f [⟨Rect.whole S4096x512, y⟩]) = y := View.read_writes_whole (slotM s w).view f y

/-- A product of the rows and the weights in slot `s`, both loaded by halves, as the body computes it. -/
abbrev product (s w : Fin 2) (x : Vec F S512x4096 .bf16) (g : BufOf (F := F) c (slotM s w)) : FVec F S512x512 .f32 :=
  addf
    (matmul dot_S512x2048_S2048x512_S512x512_1_0_0_1_n_n none
      (arg7.view.readAt (Elt F) (Rect.unit (s := S512x4096) ![0, 0] S512x2048.size inb_S512x4096_S512x2048_0_0).toLoadRect (harg7.unread x))
      (truncf .bf16 (show FVec F S2048x512 .f32 from (slotM s w).view.readAt (Elt F) (Rect.unit (s := S4096x512) ![0, 0] S2048x512.size inb_S4096x512_S2048x512_0_0).toLoadRect g) bitsLt_bf16_f32)
      (constant S512x512 .f32 0x00000000#32))
    (matmul dot_S512x2048_S2048x512_S512x512_1_0_0_1_n_n none
      (arg7.view.readAt (Elt F) (Rect.unit (s := S512x4096) ![0, 2048] S512x2048.size inb_S512x4096_S512x2048_0_2048).toLoadRect (harg7.unread x))
      (truncf .bf16 (show FVec F S2048x512 .f32 from (slotM s w).view.readAt (Elt F) (Rect.unit (s := S4096x512) ![2048, 0] S2048x512.size inb_S4096x512_S2048x512_2048_0).toLoadRect g) bitsLt_bf16_f32)
      (constant S512x512 .f32 0x00000000#32))
/-- It is the product by halves of the rows and of what the slot reads as. -/
theorem product_eq (s w : Fin 2) (x : Vec F S512x4096 .bf16) (g : BufOf (F := F) c (slotM s w)) (y : S4096x512.Idx → Elt F .f32)
    (hg : (slotM s w).view.read (Elt F) g = y) : product c arg7 harg7 s w x g = twoHalves x y := by
  subst hg
  unfold twoHalves
  have e : arg7.view.read (Elt F) (harg7.unread x) = x := harg7.read_unread x
  conv_rhs => rw [← e]
  rfl

/-- What a used tile's store leaves. -/
theorem stored_up (s : Fin 2) (x : Vec F S512x4096 .bf16) (y z : S4096x512.Idx → Elt F .f32)
    (g : BufOf (F := F) c (slotM s 0)) (g3 : BufOf (F := F) c (slotM s 1)) (hg : (slotM s 0).view.read (Elt F) g = y) (hg3 : (slotM s 1).view.read (Elt F) g3 = z)
    (f : BufOf (F := F) c arg10) :
    arg10.view.read (Elt F) (arg10.view.writes (Elt F) f [⟨Rect.unit (s := S512x512) ![0, 0] S512x512.size inb_S512x512_S512x512_0_0,
      truncf .bf16 (mulf (mulf (product c arg7 harg7 s 0 x g) (logistic (product c arg7 harg7 s 0 x g))) (product c arg7 harg7 s 1 x g3)) bitsLt_bf16_f32⟩]) = upOf x y z := by
  rw [View.read_writes_full, product_eq c arg7 harg7 s 0 x g y hg, product_eq c arg7 harg7 s 1 x g3 z hg3]; rfl

/-- What a store of the current slot's word leaves. -/
theorem cur_writes (w : BitVec 32) (f : BufOf (F := F) c curM) (h : ∀ a, (![0] : Fin 1 → Nat) a + S1.size a ≤ S1.size a) :
    curM.view.writes (Elt F) f [⟨Rect.unit (s := S1) ![0] S1.size h, fun _ => w⟩] = fun _ => w :=
  View.read_writes_full curM.view f h _ []

/-- The other slot's word, as the body computes it. -/
theorem other_word (s : Fin 2) : Scalar.subi 1#32 (wordOf s) = wordOf (1 - s) := by revert s; decide

/-- What an unused tile's store leaves. -/
def noneOf : Vec F S512x512 .bf16 := broadcast S512x512 (Scalar.ofBits .bf16 0x0000#16)

set_option maxHeartbeats 4000000 in
/-- A tile that is not used: zero is stored. -/
theorem run_unused (x : Vec F S512x4096 .bf16)
    (hc1 : ¬k0_cond1 i = 1#1) (hc2 : ¬k0_cond2 i (nuW c Tnu) (wordAt c rsM Trs i) = 1#1) (hc4 : ¬k0_cond4 i (nuW c Tnu) = 1#1) (hc5 : k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg10 fullShare d) ∗ owes (c : Thread nD τ) 0 W
        ∗ (iprop(tablesP c Tte Tnu Trs Tne Tlr ∗ owns (c : Thread nD τ) arg7 fullShare x ∗ owns (c : Thread nD τ) arg10 fullShare noneOf
        ∗ (∃ W, owes (c : Thread nD τ) 0 W)) -∗ K ⟨⟩))
      ⊢ wp frame (wpE (defs₀ (F := F)) Variants.none c none) Set.univ (bodyOn i arg7 harg7 arg10 harg10) K := by
  unfold owns
  iintro ⟨⟨H2, H3, H4, H5, H6⟩, ⟨%f7, %hf7, H7⟩, ⟨%d9, %f9, %hf9, H9⟩, HW, Hk⟩
  obtain rfl := harg7.eq_unread hf7; obtain rfl := harg10.eq_unread hf9
  sl_exec (disch := first | sl_exact hc1)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact View.read_writes_full arg10.view _ _ _ _
  iexists _; iexact HW

set_option maxHeartbeats 4000000 in
/-- A tile that continues a run: the current slot is used as it is. -/
theorem run_same (s : Fin 2) (x : Vec F S512x4096 .bf16) (g : BufOf (F := F) c (slotM s 0)) (g3 : BufOf (F := F) c (slotM s 1)) (y z : S4096x512.Idx → Elt F .f32)
    (hg : (slotM s 0).view.read (Elt F) g = y) (hg3 : (slotM s 1).view.read (Elt F) g3 = z)
    (hc1 : ¬k0_cond1 i = 1#1) (hc2 : ¬k0_cond2 i (nuW c Tnu) (wordAt c rsM Trs i) = 1#1) (hc4 : k0_cond4 i (nuW c Tnu) = 1#1) (hc5 : ¬k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ slotAt c s 0 g ∗ slotAt c s 1 g3 ∗ curP (F := F) c s ∗ owes (c : Thread nD τ) 0 W
        ∗ (iprop(tablesP c Tte Tnu Trs Tne Tlr ∗ owns (c : Thread nD τ) arg7 fullShare x ∗ owns (c : Thread nD τ) arg10 fullShare (upOf x y z)
        ∗ slotAt c s 0 g ∗ slotAt c s 1 g3 ∗ curP (F := F) c s ∗ (∃ W, owes (c : Thread nD τ) 0 W)) -∗ K ⟨⟩))
      ⊢ wp frame (wpE (defs₀ (F := F)) Variants.none c none) Set.univ (bodyOn i arg7 harg7 arg10 harg10) K := by
  unfold owns
  iintro ⟨⟨H2, H3, H4, H5, H6⟩, ⟨%f7, %hf7, H7⟩, ⟨%d9, %f9, %hf9, H9⟩, HS, HS3, HC, HW, Hk⟩
  obtain rfl := harg7.eq_unread hf7; obtain rfl := harg10.eq_unread hf9
  sl_exec (disch := first | sl_exact hc1)
  have hcur : run_same.sl.r_2 (F := F) c s = wordOf s := rfl
  rw [hcur]
  have hchk : k0_chk6 i (run_same.sl.r c Tnu) (wordOf s) := chk6_of i _ s
  sl_exec (disch := first | sl_exact hc1)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_up c arg7 harg7 arg10 s x y z g g3 hg hg3 _
  isplitl [HS]; · iexact HS
  isplitl [HS3]; · iexact HS3
  isplitl [HC]; · iexact HC
  iexists _; iexact HW

end Body

end Cert.EUpIdeal.Gen

end
-- ==== Proof.EUpState.lean ====
/-
  The call `l1_moe_up`: the body's conditions read off the schedule of the tables' words (stated for the call
  `l1_moe_down`), what the two slots hold between grid points, and that a tile of a run under way changes nothing of it.
-/
module

public import proofs.«01_k».proof.Proof.EUpBody
public import proofs.«01_k».proof.Proof.EDownState
public import Idealize.ShloMosaic.Lib.WordCmp

@[expose] public section

set_option maxRecDepth 16384

noncomputable section

namespace Cert.EUpIdeal.Gen

open Cert.EDownIdeal.Gen (word bit_ne bit_and bit_not word_eq word_lt ofNat_eq usedOf coord_word)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's conditions -/

variable (i : grid0.Coords)
theorem coord0_lt : (i 0).val < 8 := (i 0).isLt
theorem coord1_lt : (i 1).val < 40 := (i 1).isLt
theorem cond1_iff : k0_cond1 i = 1#1 ↔ (i 0).val = 0 ∧ (i 1).val = 0 := by
  have h0 := coord0_lt i; have h1 := coord1_lt i
  simp only [k0_cond1]
  rw [bit_ne, bit_and, word_eq, word_eq, show (0#32 : BitVec 32) = BitVec.ofNat 32 0 from rfl, ofNat_eq _ (by omega) 0 (by omega), ofNat_eq _ h1 0 (by omega)]
theorem cond2_iff (n r : BitVec 32) (hn : n.toNat ≤ 40) : k0_cond2 i n r = 1#1 ↔ (i 1).val < n.toNat ∧ r = 1#32 := by
  simp only [k0_cond2]
  rw [bit_ne, bit_and, word_eq, word_lt _ _ (coord1_lt i) hn]
theorem cond3_iff (l : BitVec 32) : k0_cond3 i l = 1#1 ↔ ¬(l = 1#32 ∧ (i 0).val = 7) := by
  have h0 := coord0_lt i
  simp only [k0_cond3]
  rw [bit_ne, bit_not, bit_and, word_eq, word_eq, show (7#32 : BitVec 32) = BitVec.ofNat 32 7 from rfl, ofNat_eq _ (by omega) 7 (by omega)]
theorem cond4_iff (n : BitVec 32) (hn : n.toNat ≤ 40) : k0_cond4 i n = 1#1 ↔ (i 1).val < n.toNat := by
  simp only [k0_cond4]
  rw [bit_ne, word_lt _ _ (coord1_lt i) hn]
theorem cond5_iff (n : BitVec 32) (hn : n.toNat ≤ 40) : k0_cond5 i n = 1#1 ↔ ¬(i 1).val < n.toNat := by
  simp only [k0_cond5]
  rw [bit_ne, bit_not, word_lt _ _ (coord1_lt i) hn]

/-! ## The words the body reads -/

theorem nuW_eq (c : Dev nD) (T : BufOf (F := F) c nuM) : nuW c T = usedOf T := by
  refine congrArg (f := fun x => (T : S1.Idx → BitVec 32) x) (funext fun a => ?_)
  fin_cases a; rfl

theorem teW (c : Dev nD) (T : BufOf (F := F) c teM) : wordAt c teM T i = word T (i 1).val := by
  refine congrArg (f := fun x => (T : S40.Idx → BitVec 32) x) (funext fun a => ?_)
  have h := coord1_lt i
  fin_cases a
  apply Fin.ext
  show (Scalar.indexCast (BitVec.ofNat 32 (i 1).val)).toNat + 1 * 0 = (i 1).val % 40
  rw [coord_word _ h]; omega
theorem rsW (c : Dev nD) (T : BufOf (F := F) c rsM) : wordAt c rsM T i = word T (i 1).val := teW i c T
theorem neW (c : Dev nD) (T : BufOf (F := F) c neM) : wordAt c neM T i = word T (i 1).val := teW i c T
theorem lrW (c : Dev nD) (T : BufOf (F := F) c lrM) : wordAt c lrM T i = word T (i 1).val := teW i c T
theorem teF (c : Dev nD) (T : BufOf (F := F) c teM) : firstW c teM T = word T 0 := by
  refine congrArg (f := fun x => (T : S40.Idx → BitVec 32) x) (funext fun a => ?_)
  fin_cases a; rfl

/-! ## Between grid points -/

section Held
variable (c : Dev nD) (XW : BufOf (F := F) c w1M) (YW : BufOf (F := F) c w3M)

/-- Slot `s`'s two semaphores at zero. -/
def cellsP (s : Fin 2) : sProp 𝕄 := iprop(cellP (F := F) c s 0 ∗ cellP (F := F) c s 1)
/-- Slot `s` at anything. -/
def slotP (s : Fin 2) : sProp 𝕄 := iprop((∃ f, slotAt (F := F) c s 0 f) ∗ (∃ f, slotAt (F := F) c s 1 f))
/-- Both weights held. -/
def weightsP : sProp 𝕄 := iprop(allPt c w1M XW ∗ allPt c w3M YW)
/-- Tile `(e, j)` of both weights in slot `s`. -/
def landedP (s : Fin 2) (e j : Fin 8) : sProp 𝕄 :=
  iprop(owns (c : Thread nD τ) (slotM s 0) fullShare (tileOf c w1M XW e j) ∗ owns (c : Thread nD τ) (slotM s 1) fullShare (tileOf c w3M YW e j))
/-- The copies of tile `(e, j)` of both weights into slot `s` under way. -/
def copyP (s : Fin 2) (e j : Fin 8) : sProp 𝕄 :=
  iprop((∃ f, flightP c w1M XW s 0 e j f) ∗ restP c w1M XW e j ∗ (∃ f, flightP c w3M YW s 1 e j f) ∗ restP c w3M YW e j)

/-- What is held of the next tile: the copies of it under way into slot `s`, or, when there is none, the slot at anything. -/
def nextP (s : Fin 2) : Option (Fin 8 × Fin 8) → sProp 𝕄
  | none => iprop(slotP (F := F) c s ∗ cellsP (F := F) c s ∗ weightsP c XW YW)
  | some (e, j) => copyP c XW YW s e j

/-- Tile `(e, j)` of the weights is in the current slot, and the copies of tile `nx` into the other slot are under way. -/
def heldP (e j : Fin 8) (nx : Option (Fin 8 × Fin 8)) : sProp 𝕄 :=
  iprop(∃ s : Fin 2, curP (F := F) c s ∗ cellsP (F := F) c s ∗ landedP c XW YW s e j ∗ nextP c XW YW (1 - s) nx)

/-- What is held before the first point: both slots, the word of the current slot and the weights at anything. -/
def freeP : sProp 𝕄 :=
  iprop(slotP (F := F) c 0 ∗ slotP (F := F) c 1 ∗ (∃ f, allPt (F := F) c curM f) ∗ cellsP (F := F) c 0 ∗ cellsP (F := F) c 1 ∗ weightsP c XW YW)

end Held

/-- The tile of the weights being copied while tile `u` of column tile `j` is worked on. -/
def nextOf (ne lr : ℕ → BitVec 32) (j u : ℕ) : Option (Fin 8 × Fin 8) :=
  if lr u = 1#32 ∧ j = 7 then none else some (expertOf (ne u), colOf (j + (lr u).toNat))

theorem other_other (s : Fin 2) : 1 - (1 - s) = s := by revert s; decide

section Step
variable (c : Dev nD) (XW : BufOf (F := F) c w1M) (YW : BufOf (F := F) c w3M) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)

/-- A tile that is not used: nothing of what is held changes. -/
theorem step_unused (x : Vec F S512x4096 .bf16) (e : Fin 8) (j : Fin 8) (nx : Option (Fin 8 × Fin 8))
    (hc1 : ¬k0_cond1 i = 1#1) (hc2 : ¬k0_cond2 i (nuW c Tnu) (wordAt c rsM Trs i) = 1#1) (hc4 : ¬k0_cond4 i (nuW c Tnu) = 1#1) (hc5 : k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ heldP c XW YW e j nx ∗ owes (c : Thread nD τ) 0 W
        ∗ (iprop(tablesP c Tte Tnu Trs Tne Tlr ∗ owns (c : Thread nD τ) arg7 fullShare x
          ∗ owns (c : Thread nD τ) arg10 fullShare (noneOf)
          ∗ heldP c XW YW e j nx ∗ (∃ W, owes (c : Thread nD τ) 0 W)) -∗ K ⟨⟩))
      ⊢ wp frame (wpE (defs₀ (F := F)) Variants.none c none) Set.univ (bodyOn i arg7 harg7 arg10 harg10) K := by
  iintro ⟨HT, H7, H9, HH, HW, Hk⟩
  iapply (run_unused c i arg7 harg7 arg10 harg10 Tte Tnu Trs Tne Tlr x hc1 hc2 hc4 hc5 W K)
  isplitl [HT]; · iexact HT
  isplitl [H7]; · iexact H7
  isplitl [H9]; · iexact H9
  isplitl [HW]; · iexact HW
  iintro ⟨HT, H7, H9, HW⟩
  iapply Hk
  isplitl [HT]; · iexact HT
  isplitl [H7]; · iexact H7
  isplitl [H9]; · iexact H9
  isplitl [HH]; · iexact HH
  iexact HW

/-- A tile of the run under way: the current slot is used as it is. -/
theorem step_same (x : Vec F S512x4096 .bf16) (e : Fin 8) (j : Fin 8) (nx : Option (Fin 8 × Fin 8))
    (hc1 : ¬k0_cond1 i = 1#1) (hc2 : ¬k0_cond2 i (nuW c Tnu) (wordAt c rsM Trs i) = 1#1) (hc4 : k0_cond4 i (nuW c Tnu) = 1#1) (hc5 : ¬k0_cond5 i (nuW c Tnu) = 1#1)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ heldP c XW YW e j nx ∗ owes (c : Thread nD τ) 0 W
        ∗ (iprop(tablesP c Tte Tnu Trs Tne Tlr ∗ owns (c : Thread nD τ) arg7 fullShare x
          ∗ owns (c : Thread nD τ) arg10 fullShare (upOf x (tileOf c w1M XW e j) (tileOf c w3M YW e j))
          ∗ heldP c XW YW e j nx ∗ (∃ W, owes (c : Thread nD τ) 0 W)) -∗ K ⟨⟩))
      ⊢ wp frame (wpE (defs₀ (F := F)) Variants.none c none) Set.univ (bodyOn i arg7 harg7 arg10 harg10) K := by
  unfold heldP
  unfold landedP
  iintro ⟨HT, H7, H9, ⟨%s, HC, Hc, ⟨HS, HS3⟩, HN⟩, HW, Hk⟩
  unfold owns
  icases HS with ⟨%g, %hg, HS⟩
  icases HS3 with ⟨%g3, %hg3, HS3⟩
  iapply (run_same c i arg7 harg7 arg10 harg10 Tte Tnu Trs Tne Tlr s x g g3 (tileOf c w1M XW e j) (tileOf c w3M YW e j) hg hg3 hc1 hc2 hc4 hc5 W K)
  unfold owns
  isplitl [HT]; · iexact HT
  isplitl [H7]; · iexact H7
  isplitl [H9]; · iexact H9
  isplitl [HS]; · iexact HS
  isplitl [HS3]; · iexact HS3
  isplitl [HC]; · iexact HC
  isplitl [HW]; · iexact HW
  iintro ⟨HT, H7, H9, HS, HS3, HC, HW⟩
  iapply Hk
  isplitl [HT]; · iexact HT
  isplitl [H7]; · iexact H7
  isplitl [H9]; · iexact H9
  isplitr [HW]
  · iexists s
    isplitl [HC]; · iexact HC
    isplitl [Hc]; · iexact Hc
    isplitl [HS HS3]
    · isplitl [HS]
      · iexists g
        isplitr; · ipureintro; exact hg
        iexact HS
      iexists g3
      isplitr; · ipureintro; exact hg3
      iexact HS3
    iexact HN
  iexact HW

end Step

end Cert.EUpIdeal.Gen

end
-- ==== Proof.EUpPre.lean ====
/-
  The call `l1_moe_up`: the stated condition on its tables makes them a schedule.
-/
module

public import proofs.«01_k».proof.Proof.EUpState
public import proofs.«01_k».proof.Proof.EDownPre
public import proofs.«01_k».proof.Proof.Gen.Pre_up_schedule

@[expose] public section

noncomputable section

namespace Cert.EUpIdeal.Gen

open Cert.EDownIdeal.Gen (word Sched usedOf)
open Idealize.ShloMosaic Idealize.SL.Sem

variable {F : FTy → Type} [FloatOps F]

/-- The stated condition is the one on the tables of the call `l1_moe_down`: it does not look at rows and weights. -/
theorem sched_of (a0 : FVec F S20480x4096 .bf16) (a1 a2 : FVec F S8x4096x4096 .f32) (te : IVec S40 32) (nu : IVec S1 32) (rs ne lr : IVec S40 32)
    (h : Cert.Pre_up_schedule.fn (F := F) a0 a1 a2 te nu rs ne lr = fun _ => 1#1) :
    Sched (word te) (word rs) (word ne) (word lr) (usedOf nu).toNat :=
  Cert.EDownIdeal.Gen.sched_of a0 a1 te nu rs ne lr h

end Cert.EUpIdeal.Gen

end
-- ==== Proof.EUpStart.lean ====
/-
  The call `l1_moe_up`: the body run at a tile that begins a run of one expert's tiles.
-/
module

public import proofs.«01_k».proof.Proof.EUpState

@[expose] public section

set_option maxRecDepth 16384

noncomputable section

namespace Cert.EUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Step
variable (c : Dev nD) (XW : BufOf (F := F) c w1M) (YW : BufOf (F := F) c w3M) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)

set_option maxHeartbeats 4000000 in
/-- The first tile of a run that is not the last: the copy under way is waited for, the other slot becomes current, and the
    next copy is started. -/
theorem step_start (x : Vec F S512x4096 .bf16) (e : Fin 8) (j : Fin 8)
    (hc1 : ¬k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1)
    (hte : (wordAt c teM Tte i).toNat < 8) (hne : (wordAt c neM Tne i).toNat < 8) (hl : (i 0).val + (wordAt c lrM Tlr i).toNat < 8)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ heldP c XW YW e j (some (expertOf (wordAt c teM Tte i), colOf (i 0).val)) ∗ owes (c : Thread nD τ) 0 W
        ∗ (iprop(tablesP c Tte Tnu Trs Tne Tlr ∗ owns (c : Thread nD τ) arg7 fullShare x
          ∗ owns (c : Thread nD τ) arg10 fullShare (upOf x (tileOf c w1M XW (expertOf (wordAt c teM Tte i)) (colOf (i 0).val)) (tileOf c w3M YW (expertOf (wordAt c teM Tte i)) (colOf (i 0).val)))
          ∗ heldP c XW YW (expertOf (wordAt c teM Tte i)) (colOf (i 0).val) (some (expertOf (wordAt c neM Tne i), colOf ((i 0).val + (wordAt c lrM Tlr i).toNat))) ∗ (∃ W, owes (c : Thread nD τ) 0 W)) -∗ K ⟨⟩))
      ⊢ wp frame (wpE (defs₀ (F := F)) Variants.none c none) Set.univ (bodyOn i arg7 harg7 arg10 harg10) K := by
  unfold heldP
  simp only [nextP]
  unfold cellsP landedP copyP owns
  iintro ⟨⟨H2, H3, H4, H5, H6⟩, ⟨%f7, %hf7, H7⟩, ⟨%d9, %f9, %hf9, H9⟩, ⟨%s, HC, ⟨HZ, HY⟩, ⟨⟨%g, -, HS⟩, ⟨%g3, -, HS3⟩⟩, ⟨%f, HF⟩, HR, ⟨%f3, HG⟩, HQ⟩, HW, Hk⟩
  obtain rfl := harg7.eq_unread hf7; obtain rfl := harg10.eq_unread hf9
  sl_exec (disch := first | sl_exact hc1)
  have hcur : step_start.sl.r_2 (F := F) c s = wordOf s := rfl
  rw [hcur]
  have k2 : k0_chk2 i (step_start.sl.r c Tnu) (step_start.sl.r_1 c i Trs) (wordOf s) := chk2_of i _ _ s
  sl_exec (disch := first | sl_exact hc1 | sl_exact k2)
  rw [show step_start.sl.r_3 (F := F) c i Tte = wordAt c teM Tte i from rfl]
  have k3 : k0_chk3 i (step_start.sl.r c Tnu) (step_start.sl.r_1 c i Trs) (wordAt c teM Tte i) := chk3_of i _ _ _ hte
  sl_exec (disch := first | sl_exact hc1 | sl_exact k3)
  rw [show step_start.sl.r_4 (F := F) c i Tlr = wordAt c lrM Tlr i from rfl]
  have k4 : k0_chk4 i (step_start.sl.r c Tnu) (step_start.sl.r_1 c i Trs) (wordOf s) (wordAt c lrM Tlr i) := chk4_of i _ _ _ s
  ihave HA := (tile_change c w1M XW _ (expertOf (wordAt c neM Tne i)) _ (colOf ((i 0).val + (wordAt c lrM Tlr i).toNat))) $$ [HF_src HR]
  · isplitl [HF_src]; · iexact HF_src
    iexact HR
  icases HA with ⟨HT, HR⟩
  ihave HB := (tile_change c w3M YW _ (expertOf (wordAt c neM Tne i)) _ (colOf ((i 0).val + (wordAt c lrM Tlr i).toNat))) $$ [HG_src HQ]
  · isplitl [HG_src]; · iexact HG_src
    iexact HQ
  icases HB with ⟨HU, HQ⟩
  sl_exec (disch := first | sl_exact hc1 | sl_exact k4)
  rw [show step_start.sl.r_5 (F := F) c i Tne = wordAt c neM Tne i from rfl, show step_start.sl.r_6 (F := F) c i Tlr = wordAt c lrM Tlr i from rfl]
  have k5 : k0_chk5 i (step_start.sl.r c Tnu) (step_start.sl.r_1 c i Trs) (wordAt c lrM Tlr i) (wordAt c neM Tne i) (wordAt c lrM Tlr i) := chk5_of i _ _ _ _ _ hne hl
  sl_exec (disch := first | sl_exact hc1 | sl_exact k5)
  have hv : step_start.sl.v19 s = wordOf (1 - s) := other_word s
  rw [hv, cur_writes]
  have k6 : k0_chk6 i (step_start.sl.r c Tnu) (wordOf (1 - s)) := chk6_of i _ (1 - s)
  sl_exec (disch := first | sl_exact hc1 | sl_exact k6)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_up c arg7 harg7 arg10 (1 - s) x _ _ _ _ (slot_landed c (1 - s) 0 _ _) (slot_landed c (1 - s) 1 _ _) _
  isplitr [HW]
  · iexists (1 - s)
    irw [other_other s]
    isplitl [HC]; · iexact HC
    isplitl [HF HG]
    · isplitl [HF]; · iexact HF
      iexact HG
    isplitl [HF_dst HG_dst]
    · isplitl [HF_dst]
      · iexists _; isplitr
        swap; · iexact HF_dst
        ipureintro; exact slot_landed c (1 - s) 0 _ _
      iexists _; isplitr
      swap; · iexact HG_dst
      ipureintro; exact slot_landed c (1 - s) 1 _ _
    isplitl [HZ]; · iexists g; iexact HZ
    isplitl [HR]; · iexact HR
    isplitl [HY]; · iexists g3; iexact HY
    iexact HQ
  iexists _; iexact HW

end Step

end Cert.EUpIdeal.Gen

end
-- ==== Proof.EUpLast.lean ====
/-
  The call `l1_moe_up`: the body run at the last run's first tile of the last column tile.
-/
module

public import proofs.«01_k».proof.Proof.EUpState

@[expose] public section

set_option maxRecDepth 16384

noncomputable section

namespace Cert.EUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Step
variable (c : Dev nD) (XW : BufOf (F := F) c w1M) (YW : BufOf (F := F) c w3M) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)

set_option maxHeartbeats 4000000 in
/-- The first tile of the last run of the last column tile: as above, and no copy is started. -/
theorem step_last (x : Vec F S512x4096 .bf16) (e : Fin 8) (j : Fin 8)
    (hc1 : ¬k0_cond1 i = 1#1) (hc2 : k0_cond2 i (nuW c Tnu) (wordAt c rsM Trs i) = 1#1) (hc3 : ¬k0_cond3 i (wordAt c lrM Tlr i) = 1#1)
    (hc4 : k0_cond4 i (nuW c Tnu) = 1#1) (hc5 : ¬k0_cond5 i (nuW c Tnu) = 1#1)
    (hte : (wordAt c teM Tte i).toNat < 8)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ heldP c XW YW e j (some (expertOf (wordAt c teM Tte i), colOf (i 0).val)) ∗ owes (c : Thread nD τ) 0 W
        ∗ (iprop(tablesP c Tte Tnu Trs Tne Tlr ∗ owns (c : Thread nD τ) arg7 fullShare x
          ∗ owns (c : Thread nD τ) arg10 fullShare (upOf x (tileOf c w1M XW (expertOf (wordAt c teM Tte i)) (colOf (i 0).val)) (tileOf c w3M YW (expertOf (wordAt c teM Tte i)) (colOf (i 0).val)))
          ∗ heldP c XW YW (expertOf (wordAt c teM Tte i)) (colOf (i 0).val) none ∗ (∃ W, owes (c : Thread nD τ) 0 W)) -∗ K ⟨⟩))
      ⊢ wp frame (wpE (defs₀ (F := F)) Variants.none c none) Set.univ (bodyOn i arg7 harg7 arg10 harg10) K := by
  unfold heldP
  simp only [nextP]
  unfold cellsP landedP copyP slotP weightsP owns
  iintro ⟨⟨H2, H3, H4, H5, H6⟩, ⟨%f7, %hf7, H7⟩, ⟨%d9, %f9, %hf9, H9⟩, ⟨%s, HC, ⟨HZ, HY⟩, ⟨⟨%g, -, HS⟩, ⟨%g3, -, HS3⟩⟩, ⟨%f, HF⟩, HR, ⟨%f3, HG⟩, HQ⟩, HW, Hk⟩
  obtain rfl := harg7.eq_unread hf7; obtain rfl := harg10.eq_unread hf9
  sl_exec (disch := first | sl_exact hc1)
  have hcur : step_last.sl.r_2 (F := F) c s = wordOf s := rfl
  rw [hcur]
  have k2 : k0_chk2 i (step_last.sl.r c Tnu) (step_last.sl.r_1 c i Trs) (wordOf s) := chk2_of i _ _ s
  sl_exec (disch := first | sl_exact hc1 | sl_exact k2)
  rw [show step_last.sl.r_3 (F := F) c i Tte = wordAt c teM Tte i from rfl]
  have k3 : k0_chk3 i (step_last.sl.r c Tnu) (step_last.sl.r_1 c i Trs) (wordAt c teM Tte i) := chk3_of i _ _ _ hte
  sl_exec (disch := first | sl_exact hc1 | sl_exact k3)
  rw [show step_last.sl.r_4 (F := F) c i Tlr = wordAt c lrM Tlr i from rfl]
  have k4 : k0_chk4 i (step_last.sl.r c Tnu) (step_last.sl.r_1 c i Trs) (wordOf s) (wordAt c lrM Tlr i) := chk4_of i _ _ _ s
  ihave HA := (tile_join c w1M XW _ _) $$ [HF_src HR]
  · isplitl [HF_src]; · iexact HF_src
    iexact HR
  ihave HB := (tile_join c w3M YW _ _) $$ [HG_src HQ]
  · isplitl [HG_src]; · iexact HG_src
    iexact HQ
  sl_exec (disch := first | sl_exact hc1 | sl_exact k4)
  have hv : step_last.sl.v19 s = wordOf (1 - s) := other_word s
  rw [hv, cur_writes]
  have k6 : k0_chk6 i (step_last.sl.r c Tnu) (wordOf (1 - s)) := chk6_of i _ (1 - s)
  sl_exec (disch := first | sl_exact hc1 | sl_exact k6)
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_up c arg7 harg7 arg10 (1 - s) x _ _ _ _ (slot_landed c (1 - s) 0 _ _) (slot_landed c (1 - s) 1 _ _) _
  isplitr [HW]
  · iexists (1 - s)
    irw [other_other s]
    isplitl [HC]; · iexact HC
    isplitl [HF HG]
    · isplitl [HF]; · iexact HF
      iexact HG
    isplitl [HF_dst HG_dst]
    · isplitl [HF_dst]
      · iexists _; isplitr
        swap; · iexact HF_dst
        ipureintro; exact slot_landed c (1 - s) 0 _ _
      iexists _; isplitr
      swap; · iexact HG_dst
      ipureintro; exact slot_landed c (1 - s) 1 _ _
    isplitl [HS HS3]
    · isplitl [HS]; · iexists g; iexact HS
      iexists g3; iexact HS3
    isplitl [HZ HY]
    · isplitl [HZ]; · iexact HZ
      iexact HY
    isplitl [HA]; · iexact HA
    iexact HB
  iexists _; iexact HW

end Step

end Cert.EUpIdeal.Gen

end
-- ==== Proof.EUpFirst.lean ====
/-
  The call `l1_moe_up`: the body run at the first grid point.
-/
module

public import proofs.«01_k».proof.Proof.EUpState

@[expose] public section

set_option maxRecDepth 16384

noncomputable section

namespace Cert.EUpIdeal.Gen

open Cert.EDownIdeal.Gen (word)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Step
variable (c : Dev nD) (XW : BufOf (F := F) c w1M) (YW : BufOf (F := F) c w3M) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)

/-- What two stores of the current slot's word leave. -/
theorem cur_writes2 (w v : BitVec 32) (f : BufOf (F := F) c curM) (h h' : ∀ a, (![0] : Fin 1 → Nat) a + S1.size a ≤ S1.size a) :
    curM.view.writes (Elt F) f [⟨Rect.unit (s := S1) ![0] S1.size h, fun _ => w⟩, ⟨Rect.unit (s := S1) ![0] S1.size h', fun _ => v⟩] = fun _ => w :=
  View.read_writes_full curM.view f h _ _

set_option maxHeartbeats 4000000 in
/-- The first grid point: both copies are started and the first is waited for. -/
theorem step_first (x : Vec F S512x4096 .bf16)
    (hc1 : k0_cond1 i = 1#1) (hc2 : k0_cond2 i (nuW c Tnu) (wordAt c rsM Trs i) = 1#1) (hc3 : k0_cond3 i (wordAt c lrM Tlr i) = 1#1)
    (hc4 : k0_cond4 i (nuW c Tnu) = 1#1) (hc5 : ¬k0_cond5 i (nuW c Tnu) = 1#1) (hi : (i 0).val = 0) (hfw : firstW c teM Tte = wordAt c teM Tte i)
    (hte : (wordAt c teM Tte i).toNat < 8) (hne : (wordAt c neM Tne i).toNat < 8) (hl : (i 0).val + (wordAt c lrM Tlr i).toNat < 8)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ freeP c XW YW ∗ owes (c : Thread nD τ) 0 W
        ∗ (iprop(tablesP c Tte Tnu Trs Tne Tlr ∗ owns (c : Thread nD τ) arg7 fullShare x
          ∗ owns (c : Thread nD τ) arg10 fullShare (upOf x (tileOf c w1M XW (expertOf (wordAt c teM Tte i)) 0) (tileOf c w3M YW (expertOf (wordAt c teM Tte i)) 0))
          ∗ heldP c XW YW (expertOf (wordAt c teM Tte i)) 0 (some (expertOf (wordAt c neM Tne i), colOf ((i 0).val + (wordAt c lrM Tlr i).toNat))) ∗ (∃ W, owes (c : Thread nD τ) 0 W)) -∗ K ⟨⟩))
      ⊢ wp frame (wpE (defs₀ (F := F)) Variants.none c none) Set.univ (bodyOn i arg7 harg7 arg10 harg10) K := by
  unfold heldP freeP
  simp only [nextP]
  unfold cellsP landedP copyP slotP weightsP owns
  iintro ⟨⟨H2, H3, H4, H5, H6⟩, ⟨%f7, %hf7, H7⟩, ⟨%d9, %f9, %hf9, H9⟩, ⟨⟨⟨%f, H0⟩, ⟨%f3, H03⟩⟩, ⟨⟨%g, HS⟩, ⟨%g3, HS3⟩⟩, ⟨%fc, HC⟩, ⟨HF, HG⟩, ⟨HZ, HY⟩, HA, HB⟩, HW, Hk⟩
  obtain rfl := harg7.eq_unread hf7; obtain rfl := harg10.eq_unread hf9
  ihave HA := (tile_split c w1M XW (expertOf (wordAt c teM Tte i)) 0) $$ HA
  icases HA with ⟨HT, HR⟩
  ihave HB := (tile_split c w3M YW (expertOf (wordAt c teM Tte i)) 0) $$ HB
  icases HB with ⟨HU, HQ⟩
  sl_exec (disch := first | sl_exact hc1)
  rw [show step_first.sl.r_2 (F := F) c Tte = wordAt c teM Tte i from hfw]
  have k1 : k0_chk1 i (wordAt c teM Tte i) := chk1_of i _ hte
  sl_exec (disch := first | sl_exact hc1 | sl_exact k1)
  have k2 : k0_chk2 i (step_first.sl.r c Tnu) (step_first.sl.r_3 c i Trs) 1#32 := chk2_of i _ _ 1
  sl_exec (disch := first | sl_exact hc1 | sl_exact k2)
  rw [show step_first.sl.r_4 (F := F) c i Tte = wordAt c teM Tte i from rfl]
  have k3 : k0_chk3 i (step_first.sl.r c Tnu) (step_first.sl.r_3 c i Trs) (wordAt c teM Tte i) := chk3_of i _ _ _ hte
  sl_exec (disch := first | sl_exact hc1 | sl_exact k3)
  rw [show step_first.sl.r_5 (F := F) c i Tlr = wordAt c lrM Tlr i from rfl]
  have k4 : k0_chk4 i (step_first.sl.r c Tnu) (step_first.sl.r_3 c i Trs) 1#32 (wordAt c lrM Tlr i) := chk4_of i _ _ _ 1
  ihave HA := (tile_change c w1M XW _ (expertOf (wordAt c neM Tne i)) _ (colOf ((i 0).val + (wordAt c lrM Tlr i).toNat))) $$ [HT HR]
  · isplitl [HT]; · iexact HT
    iexact HR
  icases HA with ⟨HT, HR⟩
  ihave HB := (tile_change c w3M YW _ (expertOf (wordAt c neM Tne i)) _ (colOf ((i 0).val + (wordAt c lrM Tlr i).toNat))) $$ [HU HQ]
  · isplitl [HU]; · iexact HU
    iexact HQ
  icases HB with ⟨HU, HQ⟩
  sl_exec (disch := first | sl_exact hc1 | sl_exact k4)
  rw [show step_first.sl.r_6 (F := F) c i Tne = wordAt c neM Tne i from rfl, show step_first.sl.r_7 (F := F) c i Tlr = wordAt c lrM Tlr i from rfl]
  have k5 : k0_chk5 i (step_first.sl.r c Tnu) (step_first.sl.r_3 c i Trs) (wordAt c lrM Tlr i) (wordAt c neM Tne i) (wordAt c lrM Tlr i) := chk5_of i _ _ _ _ _ hne hl
  sl_exec (disch := first | sl_exact hc1 | sl_exact k5)
  have k6 : k0_chk6 i (step_first.sl.r c Tnu) 0#32 := chk6_of i _ 0
  sl_exec (disch := first | sl_exact hc1 | sl_exact k6)
  rw [cur_writes2]
  sl_step
  iapply Hk
  isplitl [H2 H3 H4 H5 H6]
  · isplitl [H2]; · iexact H2
    isplitl [H3]; · iexact H3
    isplitl [H4]; · iexact H4
    isplitl [H5]; · iexact H5
    iexact H6
  isplitl [H7]
  · iexists _; isplitr
    swap; · iexact H7
    ipureintro; exact hf7
  isplitl [H9]
  · iexists _; isplitr
    swap; · iexact H9
    ipureintro
    exact stored_up c arg7 harg7 arg10 0 x _ _ _ _ (slot_landed c 0 0 _ _) (slot_landed c 0 1 _ _) _
  isplitr [HW]
  · iexists 0
    isplitl [HC]; · iexact HC
    isplitl [HF HG]
    · isplitl [HF]; · iexact HF
      iexact HG
    isplitl [H0 H03]
    · isplitl [H0]
      · iexists _; isplitr
        swap; · iexact H0
        ipureintro; exact slot_landed c 0 0 _ _
      iexists _; isplitr
      swap; · iexact H03
      ipureintro; exact slot_landed c 0 1 _ _
    isplitl [HZ]; · iexists g; iexact HZ
    isplitl [HR]; · iexact HR
    isplitl [HY]; · iexists g3; iexact HY
    iexact HQ
  iexists _; iexact HW

end Step

end Cert.EUpIdeal.Gen

end
-- ==== Proof.EUpPoint.lean ====
/-
  The call `l1_moe_up`: the schedule's words from one point to the next, and what a grid point does in terms of the
  schedule.
-/
module

public import proofs.«01_k».proof.Proof.EUpStart
public import proofs.«01_k».proof.Proof.EUpLast
public import proofs.«01_k».proof.Proof.EUpFirst

@[expose] public section

set_option maxRecDepth 16384

noncomputable section

namespace Cert.EUpIdeal.Gen

open Cert.EDownIdeal.Gen (word Sched)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The schedule from one point to the next -/

section Sched
variable {te rs ne lr : ℕ → BitVec 32} {n : ℕ}

/-- The last used tile a point has come to. -/
def tileAt (n k : ℕ) : ℕ := min (k % 40) (n - 1)

theorem tileAt_unused (S : Sched te rs ne lr n) (k : ℕ) (h : ¬(k + 1) % 40 < n) : tileAt n (k + 1) = tileAt n k ∧ (k + 1) / 40 = k / 40 := by
  have := S.pos; have := S.le; unfold tileAt; omega
theorem tileAt_used (S : Sched te rs ne lr n) (k : ℕ) (h : k % 40 < n) : tileAt n k = k % 40 := by
  unfold tileAt; omega

/-- At a tile that begins a run the copy under way is that tile's. -/
theorem next_start (S : Sched te rs ne lr n) (k : ℕ) (hk : k + 1 < 320) (h : (k + 1) % 40 < n) (hr : rs ((k + 1) % 40) = 1#32) :
    nextOf ne lr (k / 40) (tileAt n k) = some (expertOf (te ((k + 1) % 40)), colOf ((k + 1) / 40)) := by
  have hp := S.pos; have hle := S.le
  by_cases h0 : (k + 1) % 40 = 0
  · have e1 : tileAt n k = n - 1 := by unfold tileAt; omega
    have e2 : (k + 1) / 40 = k / 40 + 1 := by omega
    have e3 : ¬k / 40 = 7 := by omega
    obtain ⟨hl, hn⟩ := S.last
    rw [e1, h0, e2, nextOf, if_neg (fun e => e3 e.2), hl, hn]; rfl
  · have e1 : tileAt n k = (k + 1) % 40 - 1 := by unfold tileAt; omega
    have e2 : (k + 1) / 40 = k / 40 := by omega
    have e3 : (k + 1) % 40 - 1 + 1 = (k + 1) % 40 := by omega
    rcases S.step ((k + 1) % 40 - 1) (by omega) with ⟨-, hn, hl⟩ | ⟨hr', -⟩
    · rw [e1, e2, nextOf, hl, hn, e3, if_neg (fun e => absurd e.1 (by decide))]; rfl
    · rw [e3] at hr'; exact absurd hr hr'

/-- At a tile that does not begin a run nothing of the schedule's words changes. -/
theorem next_same (S : Sched te rs ne lr n) (k : ℕ) (h : (k + 1) % 40 < n) (hr : rs ((k + 1) % 40) ≠ 1#32) :
    te (tileAt n k) = te ((k + 1) % 40) ∧ k / 40 = (k + 1) / 40 ∧ nextOf ne lr (k / 40) (tileAt n k) = nextOf ne lr ((k + 1) / 40) ((k + 1) % 40) := by
  have hp := S.pos; have hle := S.le
  have h0 : (k + 1) % 40 ≠ 0 := fun e => hr (e ▸ S.first)
  have e1 : tileAt n k = (k + 1) % 40 - 1 := by unfold tileAt; omega
  have e2 : k / 40 = (k + 1) / 40 := by omega
  have e3 : (k + 1) % 40 - 1 + 1 = (k + 1) % 40 := by omega
  rcases S.step ((k + 1) % 40 - 1) (by omega) with ⟨hr', -⟩ | ⟨-, ht, hn, hl⟩
  · rw [e3] at hr'; exact absurd hr' hr
  · rw [e3] at ht hn hl
    refine ⟨by rw [e1, ht], e2, ?_⟩
    unfold nextOf; rw [e1, e2, hn, hl]

/-- The word that marks the last run is at most one, and at the last column tile it is one exactly when no copy follows. -/
theorem mark_lt (S : Sched te rs ne lr n) (u : ℕ) (hu : u < 40) (j : ℕ) (hj : j < 8) (h : ¬(lr u = 1#32 ∧ j = 7)) : j + (lr u).toNat < 8 := by
  rcases S.lr01 u hu with e | e
  · rw [e]; exact hj
  · have : j ≠ 7 := fun e3 => h ⟨e, e3⟩
    rw [e]; show j + 1 < 8; omega

/-- After the last point no copy is under way. -/
theorem next_last (S : Sched te rs ne lr n) : nextOf ne lr (319 / 40) (tileAt n 319) = none := by
  have hp := S.pos; have hle := S.le
  have e1 : tileAt n 319 = n - 1 := by unfold tileAt; omega
  rw [e1, nextOf, if_pos ⟨S.last.1, by decide⟩]

end Sched

/-! ## A grid point in terms of the schedule -/

section Point
variable (c : Dev nD) (XW : BufOf (F := F) c w1M) (YW : BufOf (F := F) c w3M) (i : grid0.Coords)
  (arg7 : Memref sig .tc .vmem S512x4096 .bf16) (harg7 : arg7.IsWhole) (arg10 : Memref sig .tc .vmem S512x512 .bf16) (harg10 : arg10.IsWhole)
  (Tte : BufOf (F := F) c teM) (Tnu : BufOf (F := F) c nuM) (Trs : BufOf (F := F) c rsM) (Tne : BufOf (F := F) c neM) (Tlr : BufOf (F := F) c lrM)
  {te rs ne lr : ℕ → BitVec 32} {n : ℕ}

/-- What is held after grid point `k`: the tile of the last used tile reached, the next one on its way. -/
def afterP (te ne lr : ℕ → BitVec 32) (n k : ℕ) : sProp 𝕄 :=
  heldP c XW YW (expertOf (te (tileAt n k))) (colOf (k / 40)) (nextOf ne lr (k / 40) (tileAt n k))

/-- The result's block at grid point `k` from the block of rows `x`: what the tile's expert's column tile
    gives, or zero
    at a tile that is not used. -/
def resultOf (te : ℕ → BitVec 32) (n k : ℕ) (x : Vec F S512x4096 .bf16) : Vec F S512x512 .bf16 :=
  if k % 40 < n then upOf x (tileOf c w1M XW (expertOf (te (k % 40))) (colOf (k / 40))) (tileOf c w3M YW (expertOf (te (k % 40))) (colOf (k / 40))) else noneOf

/-- The first grid point. -/
theorem point_first (S : Sched te rs ne lr n) (e0 : (i 0).val = 0) (e1 : (i 1).val = 0) (hn : (nuW c Tnu).toNat = n)
    (hte : wordAt c teM Tte i = te 0) (hrs : wordAt c rsM Trs i = rs 0) (hne : wordAt c neM Tne i = ne 0) (hlr : wordAt c lrM Tlr i = lr 0)
    (hfw : firstW c teM Tte = te 0) (x : Vec F S512x4096 .bf16)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ freeP c XW YW ∗ owes (c : Thread nD τ) 0 W
        ∗ (iprop(tablesP c Tte Tnu Trs Tne Tlr ∗ owns (c : Thread nD τ) arg7 fullShare x
          ∗ owns (c : Thread nD τ) arg10 fullShare (resultOf c XW YW te n 0 x)
          ∗ afterP c XW YW te ne lr n 0 ∗ (∃ W, owes (c : Thread nD τ) 0 W)) -∗ K ⟨⟩))
      ⊢ wp frame (wpE (defs₀ (F := F)) Variants.none c none) Set.univ (bodyOn i arg7 harg7 arg10 harg10) K := by
  have hle : (nuW c Tnu).toNat ≤ 40 := hn ▸ S.le
  have hu : 0 < n := S.pos
  have hm : ¬(lr 0 = 1#32 ∧ 0 = 7) := fun e => absurd e.2 (by decide)
  have h := step_first c XW YW i arg7 harg7 arg10 harg10 Tte Tnu Trs Tne Tlr x ((cond1_iff i).mpr ⟨e0, e1⟩)
    ((cond2_iff i _ _ hle).mpr ⟨by rw [e1, hn]; exact hu, by rw [hrs]; exact S.first⟩) ((cond3_iff i _).mpr (by rw [hlr, e0]; exact hm))
    ((cond4_iff i _ hle).mpr (by rw [e1, hn]; exact hu)) (fun h => (cond5_iff i _ hle).mp h (by rw [e1, hn]; exact hu)) e0 (hfw.trans hte.symm)
    (by rw [hte]; exact S.te8 0 (by decide)) (by rw [hne]; exact S.ne8 0 (by decide)) (by rw [e0, hlr]; exact mark_lt S 0 (by decide) 0 (by decide) hm) W K
  rw [hte, hne, hlr, e0] at h
  have e : tileAt n 0 = 0 := tileAt_used S 0 hu
  have er : resultOf c XW YW te n 0 x = upOf x (tileOf c w1M XW (expertOf (te 0)) 0) (tileOf c w3M YW (expertOf (te 0)) 0) := if_pos hu
  have ea : afterP c XW YW te ne lr n 0 = heldP c XW YW (expertOf (te 0)) 0 (some (expertOf (ne 0), colOf (0 + (lr 0).toNat))) := by
    unfold afterP; rw [e, nextOf, if_neg (fun e => hm ⟨e.1, e.2⟩)]; rfl
  rw [er, ea]; exact h

/-- Any later grid point. -/
theorem point_next (S : Sched te rs ne lr n) (k : ℕ) (hk : k + 1 < 320) (e0 : (i 0).val = (k + 1) / 40) (e1 : (i 1).val = (k + 1) % 40) (hn : (nuW c Tnu).toNat = n)
    (hte : wordAt c teM Tte i = te ((k + 1) % 40)) (hrs : wordAt c rsM Trs i = rs ((k + 1) % 40)) (hne : wordAt c neM Tne i = ne ((k + 1) % 40)) (hlr : wordAt c lrM Tlr i = lr ((k + 1) % 40))
    (x : Vec F S512x4096 .bf16)
    (W : Waits sig Unit) (K : PUnit → sProp 𝕄) :
    iprop(tablesP c Tte Tnu Trs Tne Tlr ∗ owns (c : Thread nD τ) arg7 fullShare x ∗ (∃ d, owns (c : Thread nD τ) arg10 fullShare d)
        ∗ afterP c XW YW te ne lr n k ∗ owes (c : Thread nD τ) 0 W
        ∗ (iprop(tablesP c Tte Tnu Trs Tne Tlr ∗ owns (c : Thread nD τ) arg7 fullShare x
          ∗ owns (c : Thread nD τ) arg10 fullShare (resultOf c XW YW te n (k + 1) x)
          ∗ afterP c XW YW te ne lr n (k + 1) ∗ (∃ W, owes (c : Thread nD τ) 0 W)) -∗ K ⟨⟩))
      ⊢ wp frame (wpE (defs₀ (F := F)) Variants.none c none) Set.univ (bodyOn i arg7 harg7 arg10 harg10) K := by
  have hle : (nuW c Tnu).toNat ≤ 40 := hn ▸ S.le
  have hmod : (k + 1) % 40 < 40 := Nat.mod_lt _ (by decide)
  have hc1 : ¬k0_cond1 i = 1#1 := fun h => by have := (cond1_iff i).mp h; rw [e0, e1] at this; omega
  have hc2 : k0_cond2 i (nuW c Tnu) (wordAt c rsM Trs i) = 1#1 ↔ (k + 1) % 40 < n ∧ rs ((k + 1) % 40) = 1#32 := by rw [cond2_iff i _ _ hle, e1, hn, hrs]
  have hc3 : k0_cond3 i (wordAt c lrM Tlr i) = 1#1 ↔ ¬(lr ((k + 1) % 40) = 1#32 ∧ (k + 1) / 40 = 7) := by rw [cond3_iff i, hlr, e0]
  have hc4 : k0_cond4 i (nuW c Tnu) = 1#1 ↔ (k + 1) % 40 < n := by rw [cond4_iff i _ hle, e1, hn]
  have hc5 : k0_cond5 i (nuW c Tnu) = 1#1 ↔ ¬(k + 1) % 40 < n := by rw [cond5_iff i _ hle, e1, hn]
  have hte8 : (wordAt c teM Tte i).toNat < 8 := by rw [hte]; exact S.te8 _ hmod
  have hne8 : (wordAt c neM Tne i).toNat < 8 := by rw [hne]; exact S.ne8 _ hmod
  by_cases hu : (k + 1) % 40 < n
  · have er : resultOf c XW YW te n (k + 1) x = upOf x (tileOf c w1M XW (expertOf (te ((k + 1) % 40))) (colOf ((k + 1) / 40))) (tileOf c w3M YW (expertOf (te ((k + 1) % 40))) (colOf ((k + 1) / 40))) := if_pos hu
    have e : tileAt n (k + 1) = (k + 1) % 40 := tileAt_used S _ hu
    by_cases hr : rs ((k + 1) % 40) = 1#32
    · have eb : afterP c XW YW te ne lr n k = heldP c XW YW (expertOf (te (tileAt n k))) (colOf (k / 40)) (some (expertOf (te ((k + 1) % 40)), colOf ((k + 1) / 40))) := by
        unfold afterP; rw [next_start S k hk hu hr]
      by_cases hl3 : lr ((k + 1) % 40) = 1#32 ∧ (k + 1) / 40 = 7
      · have h := step_last c XW YW i arg7 harg7 arg10 harg10 Tte Tnu Trs Tne Tlr x (expertOf (te (tileAt n k))) (colOf (k / 40)) hc1 (hc2.mpr ⟨hu, hr⟩) (fun h => hc3.mp h hl3) (hc4.mpr hu) (fun h => hc5.mp h hu) hte8 W K
        rw [hte, e0] at h
        have ea : afterP c XW YW te ne lr n (k + 1) = heldP c XW YW (expertOf (te ((k + 1) % 40))) (colOf ((k + 1) / 40)) none := by
          unfold afterP; rw [e, nextOf, if_pos hl3]
        rw [er, ea, eb]; exact h
      · have h := step_start c XW YW i arg7 harg7 arg10 harg10 Tte Tnu Trs Tne Tlr x (expertOf (te (tileAt n k))) (colOf (k / 40)) hc1 (hc2.mpr ⟨hu, hr⟩) (hc3.mpr hl3) (hc4.mpr hu) (fun h => hc5.mp h hu) hte8 hne8
          (by rw [e0, hlr]; exact mark_lt S _ hmod _ (by omega) hl3) W K
        rw [hte, hne, hlr, e0] at h
        have ea : afterP c XW YW te ne lr n (k + 1) = heldP c XW YW (expertOf (te ((k + 1) % 40))) (colOf ((k + 1) / 40)) (some (expertOf (ne ((k + 1) % 40)), colOf ((k + 1) / 40 + (lr ((k + 1) % 40)).toNat))) := by
          unfold afterP; rw [e, nextOf, if_neg hl3]
        rw [er, ea, eb]; exact h
    · obtain ⟨h1, h2, h3⟩ := next_same S k hu hr
      have h := step_same c XW YW i arg7 harg7 arg10 harg10 Tte Tnu Trs Tne Tlr x (expertOf (te ((k + 1) % 40))) (colOf ((k + 1) / 40)) (nextOf ne lr ((k + 1) / 40) ((k + 1) % 40))
        hc1 (fun h => hr (hc2.mp h).2) (hc4.mpr hu) (fun h => hc5.mp h hu) W K
      have eb : afterP c XW YW te ne lr n k = heldP c XW YW (expertOf (te ((k + 1) % 40))) (colOf ((k + 1) / 40)) (nextOf ne lr ((k + 1) / 40) ((k + 1) % 40)) := by
        unfold afterP; rw [h3, h1, h2]
      have ea : afterP c XW YW te ne lr n (k + 1) = heldP c XW YW (expertOf (te ((k + 1) % 40))) (colOf ((k + 1) / 40)) (nextOf ne lr ((k + 1) / 40) ((k + 1) % 40)) := by
        unfold afterP; rw [e]
      rw [er, ea, eb]; exact h
  · obtain ⟨h1, h2⟩ := tileAt_unused S k hu
    have er : resultOf c XW YW te n (k + 1) x = noneOf := if_neg hu
    have ea : afterP c XW YW te ne lr n (k + 1) = afterP c XW YW te ne lr n k := by unfold afterP; rw [h1, h2]
    have h := step_unused c XW YW i arg7 harg7 arg10 harg10 Tte Tnu Trs Tne Tlr x (expertOf (te (tileAt n k))) (colOf (k / 40)) (nextOf ne lr (k / 40) (tileAt n k))
      hc1 (fun h => hu (hc2.mp h).1) (fun h => hu (hc4.mp h)) (hc5.mpr hu) W K
    rw [er, ea]; exact h

end Point

end Cert.EUpIdeal.Gen

end
-- ==== Proof.EUpSlots.lean ====
/-
  The call `l1_moe_up`: what the launch hands the call, for tables that are a schedule.
-/
module

public import proofs.«01_k».proof.Proof.EUpPoint
public import Idealize.ShloMosaic.Lib.Claim

@[expose] public section

set_option maxRecDepth 16384

noncomputable section

namespace Cert.EUpIdeal.Gen

open Cert.EDownIdeal.Gen (word Sched usedOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the call is entered with -/

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl

/-- The tables' words tile by tile, and the number of tiles used. -/
abbrev teT : S40.Idx → BitVec 32 := tbl m 0
abbrev nuT : S1.Idx → BitVec 32 := tbl m 1
abbrev rsT : S40.Idx → BitVec 32 := tbl m 2
abbrev neT : S40.Idx → BitVec 32 := tbl m 3
abbrev lrT : S40.Idx → BitVec 32 := tbl m 4
abbrev used : ℕ := (usedOf (nuT m)).toNat

/-- The tables are a schedule. -/
abbrev Ok : Prop := Sched (word (teT m)) (word (rsT m)) (word (neT m)) (word (lrT m)) (used m)

theorem at_used (h : S1.numel = 1) : (tbl m).at 1 (Rect.unit (s := S1) ![0] S1.size inb_S1_S1_0) h = usedOf (nuT m) := by
  refine congrArg (f := fun x => (nuT m) x) (funext fun a => ?_)
  fin_cases a; rfl
theorem atD_used : (tbl m).atD 1 ![0] = usedOf (nuT m) := by
  unfold Pipeline.Prefetch.Contents.atD
  refine (dif_pos (by decide)).trans (congrArg (f := fun x => (nuT m) x) (funext fun a => ?_))
  fin_cases a; rfl

/-- Which row block a grid point reads: its tile's, or the last used one's. -/
theorem rows_word (S : Ok m) (k : ℕ) (hk : k < 40) :
    (Scalar.maxsi (Scalar.minsi (BitVec.ofNat 32 k) (Scalar.subi (usedOf (nuT m)) 1#32)) 0#32).toNat = min k (used m - 1) := by
  have hp : 1 ≤ (usedOf (nuT m)).toNat := S.pos
  have hle : (usedOf (nuT m)).toNat ≤ 40 := S.le
  have hU : used m = (usedOf (nuT m)).toNat := rfl
  rw [hU]; clear hU
  generalize usedOf (nuT m) = w at hp hle ⊢
  have e1 : (Scalar.subi w 1#32).toNat = w.toNat - 1 := by
    simp only [Scalar.subi, IntOp.subi, BitVec.toNat_sub, BitVec.toNat_ofNat]; omega
  have e2 : (BitVec.ofNat 32 k).toNat = k := by simp only [BitVec.toNat_ofNat]; omega
  generalize Scalar.subi w 1#32 = b at e1
  have i1 : b.toInt = (w.toNat - 1 : ℕ) := by rw [BitVec.toInt_eq_toNat_of_lt (by omega), e1]
  have i2 : (BitVec.ofNat 32 k).toInt = k := by rw [BitVec.toInt_eq_toNat_of_lt (by omega), e2]
  have e3 : Scalar.minsi (BitVec.ofNat 32 k) b = if k ≤ w.toNat - 1 then BitVec.ofNat 32 k else b := by
    simp only [Scalar.minsi, IntOp.minsi, BitVec.slt_eq_decide, BitVec.sle_eq_decide, i1, i2, decide_eq_true_eq]
    by_cases h : k ≤ w.toNat - 1
    · by_cases h' : k < w.toNat - 1
      · simp [h, h']
      · have : BitVec.ofNat 32 k = b := BitVec.eq_of_toNat_eq (by omega)
        simp [this]
    · simp [h, show ¬ k < w.toNat - 1 by omega]
  have e4 : (Scalar.minsi (BitVec.ofNat 32 k) b).toNat = min k (w.toNat - 1) := by
    rw [e3]; split <;> omega
  generalize Scalar.minsi (BitVec.ofNat 32 k) b = d at e4
  have i4 : d.toInt = (min k (w.toNat - 1) : ℕ) := by rw [BitVec.toInt_eq_toNat_of_lt (by omega), e4]
  have e5 : Scalar.maxsi d 0#32 = d := by
    have i0 : (0#32 : BitVec 32).toInt = 0 := by decide
    simp only [Scalar.maxsi, IntOp.maxsi, BitVec.slt_eq_decide, BitVec.sle_eq_decide, i4, i0, decide_eq_true_eq]
    by_cases h : min k (w.toNat - 1) = 0
    · have : d = 0#32 := BitVec.eq_of_toNat_eq (by rw [e4, h]; rfl)
      simp [this]
    · first
        | rw [if_pos (by omega)]
        | rw [if_neg (by omega)]
  rw [e5, e4]

theorem rows_eq (S : Ok m) (i : grid0.Coords) : cc0_transform_0 inb_S1_S1_0 numel1_S1 (tbl m) i = ![min (i 1).val (used m - 1), 0] := by
  show ![(Scalar.maxsi (Scalar.minsi (BitVec.ofNat 32 (i 1).val) (Scalar.subi ((tbl m).at 1 (Rect.unit (s := S1) ![0] S1.size inb_S1_S1_0) numel1_S1) 1#32)) 0#32).toNat, 0] = _
  rw [at_used, rows_word m S _ (coord1_lt i)]

/-- Every row block read lies inside its array. -/
theorem ok_of (S : Ok m) : ok0 (F := F) (tbl m) := fun i =>
  ⟨fun a => by
    rw [rows_eq m S]
    have h := coord1_lt i
    fin_cases a
    · show (min (i 1).val (used m - 1) + 1) * 512 ≤ 20480; omega
    · show (0 + 1) * 4096 ≤ 4096; omega,
   .inr (Affine.block_words_dvd (of_decide_eq_true rfl) (by decide))⟩

abbrev adm (S : Ok m) : (pcfg0 (F := F)).Adm := ⟨tbl m, ok_of m S⟩
abbrev cfgM (S : Ok m) : Pipeline.Cfg sig Λ₀ := cfg0 (adm m S)

/-- The halves of the tables the body is handed. -/
theorem PhiT0_eq (c : Dev nD) : (Pipeline.ΦT pre0 (tbl m) c : sProp 𝕄) = tablesP c (tbl m 0) (tbl m 1) (tbl m 2) (tbl m 3) (tbl m 4) := by
  unfold Pipeline.ΦT Pipeline.prefHeld
  rw [bigSep_univ_eq_bigSepL [(0 : Fin 5), 1, 2, 3, 4] (by decide) (by decide)]
  rfl

/-- Window `w`'s block at point `t`. -/
def iblk (S : Ok m) (c : Dev nD) (w : Fin (cfgM m S).W) (t : Fin (cfgM m S).N) : (((cfgM m S).win w).xblock ((cfgM m S).grid.coords t)).Idx → Elt F ((cfgM m S).win w).elt :=
  (((cfgM m S).win w).blk t).view.read (Elt F) (V m c (Pipeline.arrRef spec0 w))

theorem before0_0_of (S : Ok m) {c : Dev nD} (dat : Dat τ (Elt F) Unit ℕ (Pipeline.UD sig nD τ) ℕ (cfgM m S) c) (hA : dat.A 0 = V m c (Pipeline.arrRef spec0 0))
    (hafter : ∀ t, dat.after 0 t = iblk m S c 0 t) (t : Fin (cfgM m S).N) (d) : dat.before 0 t d = iblk m S c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Neither window is ever idle: a used tile and an unused one are both stored. -/
theorem liveAt0_0 (S : Ok m) : ∀ t : Fin (cfgM m S).N, (cfgM m S).idle 0 (grid0.coords t) = false := fun _ => rfl
theorem liveAt0_1 (S : Ok m) (t : Fin (cfgM m S).N) : (cfgM m S).idle 1 (grid0.coords t) = false := by
  show (!(k0_cond4 (grid0.coords t) ((tbl m).atD 1 ![0]) == 1#1) && !(k0_cond5 (grid0.coords t) ((tbl m).atD 1 ![0]) == 1#1)) = false
  rw [atD_used]
  by_cases h : (grid0.coords t 1).val < used m
  · rw [(cond4_iff _ _ S.le).mpr h]; rfl
  · rw [(cond5_iff _ _ S.le).mpr h]; simp

/-- Each window's staging buffer at point `t`. -/
abbrev ms0_0 (S : Ok m) (t : Fin (cfgM m S).N) : Memref sig .tc .vmem S512x4096 .bf16 := spec0_0.stage ((cfgM m S).slots t 0)
abbrev hs0_0 (S : Ok m) (t : Fin (cfgM m S).N) : (ms0_0 m S t).IsWhole := hstage0_0 (((cfgM m S).slots t 0).cast nbuf0_0)
abbrev ms0_1 (S : Ok m) (t : Fin (cfgM m S).N) : Memref sig .tc .vmem S512x512 .bf16 := spec0_1.stage ((cfgM m S).slots t 1)
abbrev hs0_1 (S : Ok m) (t : Fin (cfgM m S).N) : (ms0_1 m S t).IsWhole := hstage0_1 (((cfgM m S).slots t 1).cast nbuf0_1)

/-- The kernel's own semaphores: one per slot and weight. -/
abbrev osem0 : Fin 4 → SemLoc sig := fun | 0 => SemLoc.dma (slotSem 0 0).sem | 1 => SemLoc.dma (slotSem 0 1).sem | 2 => SemLoc.dma (slotSem 1 0).sem | 3 => SemLoc.dma (slotSem 1 1).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 1 0 ∗ cellP (F := F) c 1 1) := by
  rw [Pipeline.ownSems0_eq_of_list c osem0 [0, 1, 2, 3] (by decide) (by decide)]; rfl
/-- The weights, which the body only reads. -/
def H0 : Finset (Ref sig .tc) := {main_arg1, main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(allPt c w1M (V m c main_arg1) ∗ allPt c w3M (V m c main_arg2)) := by
  rw [BI.bigSep_eq_bigSepL_of_eq [main_arg1, main_arg2] (by decide) (by decide)]; rfl

/-- What the launch hands the call besides the windows: the slots, the current slot's word, the generator's register, the
    semaphores at zero, the weights. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f, allPt (F := F) c curM f))
        ∗ (∃ r, prngReg c r) ∗ iprop(cellP (F := F) c 0 0 ∗ cellP (F := F) c 0 1 ∗ cellP (F := F) c 1 0 ∗ cellP (F := F) c 1 1)
        ∗ iprop(allPt c w1M (V m c main_arg1) ∗ allPt c w3M (V m c main_arg2))) := by
  rw [Pipeline.ΦD_eq, scopedRest0_eq, ownSems00_eq, hbmPts0_eq]

/-! ## The buffer of slots as its four halves -/

theorem slot_set (s w : Fin 2) : (slotM s w).view.set = (Rect.unit (s := S2x2x4096x512) (slotOff s w) S1x1x4096x512.size (slotOff_inb s w)).set :=
  (View.set_reshape _ _).trans (View.set_slice_whole _ _)
theorem mem_slot (c : Dev nD) (s w : Fin 2) (x : Idx ((c : Thread nD τ).loc cc0_scratch0)) :
    x ∈ (slotM s w).view.set ↔ (x (0 : Fin 4)).val = s.val ∧ (x (1 : Fin 4)).val = w.val := by
  rw [slot_set]
  have h2 : (x (2 : Fin 4)).val < 4096 := (x (2 : Fin 4)).isLt
  have h3 : (x (3 : Fin 4)).val < 512 := (x (3 : Fin 4)).isLt
  refine Rect.mem_set_unit.trans ⟨fun h => ?_, fun ⟨e0, e1⟩ a => ?_⟩
  · have a0 : s.val ≤ (x (0 : Fin 4)).val ∧ (x (0 : Fin 4)).val < s.val + 1 := h 0
    have a1 : w.val ≤ (x (1 : Fin 4)).val ∧ (x (1 : Fin 4)).val < w.val + 1 := h 1
    omega
  · fin_cases a
    · show s.val ≤ (x (0 : Fin 4)).val ∧ (x (0 : Fin 4)).val < s.val + 1; omega
    · show w.val ≤ (x (1 : Fin 4)).val ∧ (x (1 : Fin 4)).val < w.val + 1; omega
    · show 0 ≤ (x (2 : Fin 4)).val ∧ (x (2 : Fin 4)).val < 0 + 4096; omega
    · show 0 ≤ (x (3 : Fin 4)).val ∧ (x (3 : Fin 4)).val < 0 + 512; omega

/-- The elements of each half, by its slot and its weight. -/
abbrev slotSet (c : Dev nD) (k : Fin 2 × Fin 2) : Finset (Idx ((c : Thread nD τ).loc cc0_scratch0)) := (slotM k.1 k.2).view.set
theorem slots_disjoint (c : Dev nD) : ∀ k k', k ≠ k' → Disjoint (slotSet c k) (slotSet c k') := by
  intro k k' h
  refine Finset.disjoint_left.mpr fun x hx hx' => h ?_
  obtain ⟨a0, a1⟩ := (mem_slot c _ _ x).mp hx
  obtain ⟨b0, b1⟩ := (mem_slot c _ _ x).mp hx'
  exact Prod.ext (Fin.ext (a0.symm.trans b0)) (Fin.ext (a1.symm.trans b1))
theorem slots_cover (c : Dev nD) : Finset.univ.biUnion (slotSet c) = Finset.univ := by
  refine Finset.eq_univ_of_forall fun x => Finset.mem_biUnion.mpr ⟨(⟨(x (0 : Fin 4)).val, (x (0 : Fin 4)).isLt⟩, ⟨(x (1 : Fin 4)).val, (x (1 : Fin 4)).isLt⟩), Finset.mem_univ _, ?_⟩
  exact (mem_slot c _ _ x).mpr ⟨rfl, rfl⟩
theorem halves_eq (P : Fin 2 × Fin 2 → sProp 𝕄) : bigSep Finset.univ P = iprop(P (0, 0) ∗ P (0, 1) ∗ P (1, 0) ∗ P (1, 1)) :=
  bigSep_univ_eq_bigSepL [(0, 0), (0, 1), (1, 0), (1, 1)] (by decide) (by decide) P
theorem slots_split (c : Dev nD) :
    iprop(∃ f : Buf (Elt F) ((c : Thread nD τ).loc cc0_scratch0), ((c : Thread nD τ).loc cc0_scratch0) ↦{fullShare} f)
      ⊢ (iprop(slotP (F := F) c 0 ∗ slotP (F := F) c 1) : sProp 𝕄) := by
  unfold slotP
  iintro ⟨%f, H⟩
  ihave H2 := (Entails.of_eq ((Ring.pointsTo_blocks (Ix := Unit) (Name := ℕ) (U := Pipeline.UD sig nD τ) (Lvl := ℕ) (q := fullShare) (slotSet c) (slots_disjoint c) (slots_cover c) f).trans (halves_eq _))) $$ H
  icases H2 with ⟨H0, H1, H2, H3⟩
  isplitl [H0 H1]
  · isplitl [H0]; · iexists f; iexact H0
    iexists f; iexact H1
  isplitl [H2]; · iexists f; iexact H2
  iexists f; iexact H3
theorem slots_join (c : Dev nD) :
    (iprop(slotP (F := F) c 0 ∗ slotP (F := F) c 1) : sProp 𝕄)
      ⊢ iprop(∃ f : Buf (Elt F) ((c : Thread nD τ).loc cc0_scratch0), ((c : Thread nD τ).loc cc0_scratch0) ↦{fullShare} f) := by
  unfold slotP
  iintro ⟨⟨⟨%f0, H0⟩, ⟨%f1, H1⟩⟩, ⟨%f2, H2⟩, ⟨%f3, H3⟩⟩
  iapply (Ring.pointsTo_blocks_join_exists (slotSet c) (slots_disjoint c) (slots_cover c) f0)
  irw [halves_eq]
  isplitl [H0]; · iexists f0; iexact H0
  isplitl [H1]; · iexists f1; iexact H1
  isplitl [H2]; · iexists f2; iexact H2
  iexists f3; iexact H3

/-- What is held after the last point is what was held before the first. -/
theorem held_free (c : Dev nD) (XW : BufOf (F := F) c w1M) (YW : BufOf (F := F) c w3M) (e j : Fin 8) : heldP c XW YW e j none ⊢ freeP c XW YW := by
  unfold heldP freeP
  simp only [nextP]
  unfold landedP owns
  iintro ⟨%s, HC, Hc, ⟨⟨%g, -, HS⟩, ⟨%g3, -, HS3⟩⟩, HO, Hd, HX⟩
  ihave HL : slotP (F := F) c s $$ [HS HS3]
  · unfold slotP
    isplitl [HS]; · iexists g; iexact HS
    iexists g3; iexact HS3
  fin_cases s
  · isplitl [HL]; · iexact HL
    isplitl [HO]; · iexact HO
    isplitl [HC]; · iexists _; iexact HC
    isplitl [Hc]; · iexact Hc
    isplitl [Hd]; · iexact Hd
    iexact HX
  · isplitl [HO]; · iexact HO
    isplitl [HL]; · iexact HL
    isplitl [HC]; · iexists _; iexact HC
    isplitl [Hd]; · iexact Hd
    isplitl [Hc]; · iexact Hc
    iexact HX

/-- What the launch hands over, with the slots apart. -/
theorem phiD_free (c : Dev nD) : (Pipeline.ΦD osem0 spec0 H0 (V m) c : sProp 𝕄) ⊢ iprop(freeP c (V m c main_arg1) (V m c main_arg2) ∗ ∃ r, prngReg c r) := by
  rw [PhiD0_eq]; unfold freeP cellsP weightsP
  iintro ⟨⟨HS, HC⟩, Hg, ⟨H0, H1, H2, H3⟩, HX⟩
  ihave HS2 := (slots_split (F := F) c) $$ HS
  icases HS2 with ⟨HS0, HS1⟩
  isplitr [Hg]
  · isplitl [HS0]; · iexact HS0
    isplitl [HS1]; · iexact HS1
    isplitl [HC]; · iexact HC
    isplitl [H0 H1]
    · isplitl [H0]; · iexact H0
      iexact H1
    isplitl [H2 H3]
    · isplitl [H2]; · iexact H2
      iexact H3
    iexact HX
  iexact Hg
theorem free_phiD (c : Dev nD) : iprop(freeP c (V m c main_arg1) (V m c main_arg2) ∗ ∃ r, prngReg c r) ⊢ (Pipeline.ΦD osem0 spec0 H0 (V m) c : sProp 𝕄) := by
  rw [PhiD0_eq]; unfold freeP cellsP weightsP
  iintro ⟨⟨HS0, HS1, HC, ⟨H0, H1⟩, ⟨H2, H3⟩, HX⟩, Hg⟩
  isplitl [HS0 HS1 HC]
  · isplitl [HS0 HS1]
    · iapply (slots_join (F := F) c)
      isplitl [HS0]; · iexact HS0
      iexact HS1
    iexact HC
  isplitl [Hg]; · iexact Hg
  isplitl [H0 H1 H2 H3]
  · isplitl [H0]; · iexact H0
    isplitl [H1]; · iexact H1
    isplitl [H2]; · iexact H2
    iexact H3
  iexact HX

end Cert.EUpIdeal.Gen

end
-- ==== Proof.EUpFrame.lean ====
/-
  The call `l1_moe_up`: the run of the whole program, for tables that are a schedule.
-/
module

public import proofs.«01_k».proof.Proof.EUpSlots
public import Idealize.ShloMosaic.Lib.Claim

@[expose] public section

set_option maxRecDepth 16384

noncomputable section

namespace Cert.EUpIdeal.Gen

open Cert.EDownIdeal.Gen (word)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result's block holds, and what is held, point by point -/

/-- The result's block at point `t`. -/
def outAt (S : Ok m) (c : Dev nD) (t : Fin (cfgM m S).N) : Vec F S512x512 .bf16 :=
  resultOf c (V m c main_arg1) (V m c main_arg2) (word (teT m)) (used m) t.val (iblk m S c 0 t)

/-- Before the first point the launch's holdings; after a point what is held after it. -/
def PhiS (S : Ok m) (c : Dev nD) : ℕ → sProp 𝕄
  | 0 => iprop(Pipeline.ΦD osem0 spec0 H0 (V m) c ∗ Pipeline.ΦT pre0 (tbl m) c)
  | n + 1 => iprop(afterP c (V m c main_arg1) (V m c main_arg2) (word (teT m)) (word (neT m)) (word (lrT m)) (used m) n ∗ (∃ r, prngReg c r) ∗ Pipeline.ΦT pre0 (tbl m) c)

/-- The proof data of the call on core `c`. -/
def dats (S : Ok m) (_ : Fin 1) (c : Dev nD) : Dat τ (Elt F) Unit ℕ (Pipeline.UD sig nD τ) ℕ (cfgM m S) c where
  A w := V m c (Pipeline.arrRef spec0 w)
  after w t := match w with
    | ⟨0, _⟩ => iblk m S c 0 t
    | ⟨1, _⟩ => outAt m S c t
  Φ t := PhiS m S c t.val
  q _ := fullShare
  owed _ := 0

/-- What is held at a point's start and at its end. -/
theorem Phi_castSucc (S : Ok m) (c : Dev nD) (t : Fin (cfgM m S).N) : (dats m S 0 c).Φ t.castSucc = PhiS m S c t.val := by
  dsimp only [dats]; exact Pipeline.Dat.Φ_castSucc (fun n _ => PhiS m S c n) t
theorem Phi_succ (S : Ok m) (c : Dev nD) (t : Fin (cfgM m S).N) : (dats m S 0 c).Φ t.succ =
    iprop(afterP c (V m c main_arg1) (V m c main_arg2) (word (teT m)) (word (neT m)) (word (lrT m)) (used m) t.val ∗ (∃ r, prngReg c r) ∗ Pipeline.ΦT pre0 (tbl m) c) := rfl
theorem PhiS_next (S : Ok m) (c : Dev nD) (n : ℕ) : PhiS m S c (n + 1) =
    iprop(afterP c (V m c main_arg1) (V m c main_arg2) (word (teT m)) (word (neT m)) (word (lrT m)) (used m) n ∗ (∃ r, prngReg c r) ∗ Pipeline.ΦT pre0 (tbl m) c) := rfl

theorem A_eq (S : Ok m) (c : Dev nD) (w : Fin (cfgM m S).W) : (dats m S 0 c).A w = V m c (Pipeline.arrRef spec0 w) := by
  dsimp only [dats]
theorem after0_0 (S : Ok m) (c : Dev nD) (t : Fin (cfgM m S).N) : (dats m S 0 c).after 0 t = iblk m S c 0 t := by dsimp only [dats]; try rfl
theorem after0_1 (S : Ok m) (c : Dev nD) (t : Fin (cfgM m S).N) : (dats m S 0 c).after 1 t = outAt m S c t := by dsimp only [dats]; try rfl
theorem before0_0 (S : Ok m) (c : Dev nD) (t : Fin (cfgM m S).N) (d) : (dats m S 0 c).before 0 t d = iblk m S c 0 t :=
  before0_0_of m S (dats m S 0 c) (A_eq m S c 0) (after0_0 m S c) t d

/-! ## The body at any point -/

/-- What the body is called with at point `t`, and what it returns. -/
def bodyPre (S : Ok m) (c : Dev nD) (t : Fin (cfgM m S).N) : sProp 𝕄 :=
  iprop((dats m S 0 c).Φ t.castSucc ∗ (dats m S 0 c).owesAt () t.castSucc
    ∗ (∃ d, owns (c : Thread nD τ) (ms0_0 m S t) fullShare ((dats m S 0 c).before 0 t d))
    ∗ (∃ d, owns (c : Thread nD τ) (ms0_1 m S t) fullShare ((dats m S 0 c).before 1 t d)))
def bodyPost (S : Ok m) (c : Dev nD) (t : Fin (cfgM m S).N) : sProp 𝕄 :=
  iprop((dats m S 0 c).Φ t.succ ∗ (dats m S 0 c).owesAt () t.succ
    ∗ (dats m S 0 c).leavesExact 0 t ∗ (dats m S 0 c).leavesExact 1 t)

/-- The body at point `t`. -/
abbrev bodyAt (S : Ok m) (t : Fin (cfgM m S).N) : Prog (TpuEff nD τ sig (Elt F) Λ₀ .tc) PUnit :=
  bodyOn (grid0.coords t) (ms0_0 m S t) (hs0_0 m S t) (ms0_1 m S t) (hs0_1 m S t)

/-- Moving the pieces of the body's call into the shape a step takes, and its result back. -/
theorem body_of_step (S : Ok m) (c : Dev nD) (t : Fin (cfgM m S).N) (P Q : sProp 𝕄)
    (hin : (dats m S 0 c).Φ t.castSucc ⊢ iprop(P ∗ (∃ r, prngReg c r) ∗ tablesP c (tbl m 0) (tbl m 1) (tbl m 2) (tbl m 3) (tbl m 4)))
    (hout : iprop(Q ∗ (∃ r, prngReg c r) ∗ tablesP c (tbl m 0) (tbl m 1) (tbl m 2) (tbl m 3) (tbl m 4)) ⊢ (dats m S 0 c).Φ t.succ)
    (hstep : ∀ (W : Waits sig Unit) (K : PUnit → sProp 𝕄),
      iprop(tablesP c (tbl m 0) (tbl m 1) (tbl m 2) (tbl m 3) (tbl m 4) ∗ owns (c : Thread nD τ) (ms0_0 m S t) fullShare (iblk m S c 0 t)
          ∗ (∃ d, owns (c : Thread nD τ) (ms0_1 m S t) fullShare d) ∗ P ∗ owes (c : Thread nD τ) 0 W
          ∗ (iprop(tablesP c (tbl m 0) (tbl m 1) (tbl m 2) (tbl m 3) (tbl m 4) ∗ owns (c : Thread nD τ) (ms0_0 m S t) fullShare (iblk m S c 0 t)
            ∗ owns (c : Thread nD τ) (ms0_1 m S t) fullShare (outAt m S c t) ∗ Q ∗ (∃ W, owes (c : Thread nD τ) 0 W)) -∗ K ⟨⟩))
        ⊢ wp frame (wpE (defs₀ (F := F)) Variants.none c none) Set.univ (bodyAt m S t) K) :
    bodyPre m S c t ⊢ wp frame (wpE (defs₀ (F := F)) Variants.none c none) Set.univ (bodyAt m S t) (fun _ => bodyPost m S c t) := by
  unfold bodyPre bodyPost
  simp only [before0_0]
  unfold Dat.owesAt Pipeline.owesWithin
  rw [show (dats m S 0 c).owed t.castSucc = 0 from rfl, show (dats m S 0 c).owed t.succ = 0 from rfl]
  rw [show (dats m S 0 c).leavesExact 0 t = owns (c : Thread nD τ) (ms0_0 m S t) fullShare ((dats m S 0 c).after 0 t) from by
    unfold Dat.leavesExact; rw [liveAt0_0 m S t]; try rfl, after0_0]
  rw [show (dats m S 0 c).leavesExact 1 t = owns (c : Thread nD τ) (ms0_1 m S t) fullShare ((dats m S 0 c).after 1 t) from by
    unfold Dat.leavesExact; rw [liveAt0_1 m S t]; try rfl, after0_1]
  iintro ⟨HΦ, ⟨%W, -, HW⟩, ⟨%d0, H0⟩, ⟨%d1, H1⟩⟩
  ihave HΦ2 := hin $$ HΦ
  icases HΦ2 with ⟨HP, Hg, HT⟩
  iapply (hstep W _)
  isplitl [HT]; · iexact HT
  isplitl [H0]; · iexact H0
  isplitl [H1]; · iexists _; iexact H1
  isplitl [HP]; · iexact HP
  isplitl [HW]; · iexact HW
  iintro ⟨HT, H0, H1, HQ, ⟨%W', HW'⟩⟩
  isplitl [HQ Hg HT]
  · iapply hout
    isplitl [HQ]; · iexact HQ
    isplitl [Hg]; · iexact Hg
    iexact HT
  isplitl [HW']
  · iexists W'; isplitr; · ipureintro; exact fun _ _ => Or.inl trivial
    iexact HW'
  isplitl [H0]; · iexact H0
  iexact H1

theorem coord0_eq (t : Fin grid0.N) : (grid0.coords t 0).val = t.val / 40 := by
  have e : (grid0.coords t 0).val = t.val / 40 % 8 := Pipeline.Grid.coords_val t 0 (by decide) rfl
  have ht : t.val < 320 := Nat.lt_of_lt_of_eq t.isLt N_0
  rw [e]; omega
theorem coord1_eq (t : Fin grid0.N) : (grid0.coords t 1).val = t.val % 40 := by
  have e : (grid0.coords t 1).val = t.val / 1 % 40 := Pipeline.Grid.coords_val t 1 (by decide) rfl
  rw [e, Nat.div_one]

/-- The body at any point. -/
theorem sound_body (S : Ok m) (c : Dev nD) (t : Fin (cfgM m S).N) :
    bodyPre m S c t ⊢ wp frame (wpE (defs₀ (F := F)) Variants.none c none) Set.univ (bodyAt m S t) (fun _ => bodyPost m S c t) := by
  have ht : t.val < 320 := Nat.lt_of_lt_of_eq t.isLt N_0
  have e0 := coord0_eq t
  have e1 := coord1_eq t
  have hn : (nuW c (tbl m 1)).toNat = used m := congrArg BitVec.toNat (nuW_eq c (tbl m 1))
  have hout : iprop(afterP c (V m c main_arg1) (V m c main_arg2) (word (teT m)) (word (neT m)) (word (lrT m)) (used m) t.val ∗ (∃ r, prngReg c r) ∗ tablesP c (tbl m 0) (tbl m 1) (tbl m 2) (tbl m 3) (tbl m 4))
      ⊢ (dats m S 0 c).Φ t.succ := by
    rw [Phi_succ, PhiT0_eq]
  by_cases hz : t.val = 0
  · refine body_of_step m S c t (freeP c (V m c main_arg1) (V m c main_arg2)) _ ?_ hout (fun W K => ?_)
    · have e : (dats m S 0 c).Φ t.castSucc = iprop(Pipeline.ΦD osem0 spec0 H0 (V m) c ∗ Pipeline.ΦT pre0 (tbl m) c) := by
        rw [Phi_castSucc, hz]; rfl
      rw [e, PhiT0_eq]
      iintro ⟨HD, HT⟩
      ihave HD2 := (phiD_free m c) $$ HD
      icases HD2 with ⟨HP, Hg⟩
      isplitl [HP]; · iexact HP
      isplitl [Hg]; · iexact Hg
      iexact HT
    · unfold outAt
      rw [hz] at e0 e1 ⊢
      exact point_first c (V m c main_arg1) (V m c main_arg2) (grid0.coords t) (ms0_0 m S t) (hs0_0 m S t) (ms0_1 m S t) (hs0_1 m S t) (tbl m 0) (tbl m 1) (tbl m 2) (tbl m 3) (tbl m 4) S e0 e1 hn
        ((teW _ c _).trans (by rw [e1])) ((rsW _ c _).trans (by rw [e1])) ((neW _ c _).trans (by rw [e1])) ((lrW _ c _).trans (by rw [e1])) (teF c _) (iblk m S c 0 t) W K
  · obtain ⟨k, hk⟩ : ∃ k, t.val = k + 1 := ⟨t.val - 1, by omega⟩
    refine body_of_step m S c t (afterP c (V m c main_arg1) (V m c main_arg2) (word (teT m)) (word (neT m)) (word (lrT m)) (used m) k) _ ?_ hout (fun W K => ?_)
    · have e : (dats m S 0 c).Φ t.castSucc = PhiS m S c (k + 1) := by rw [Phi_castSucc, hk]
      rw [e, PhiS_next, PhiT0_eq]
    · unfold outAt
      rw [hk] at e0 e1 ⊢
      exact point_next c (V m c main_arg1) (V m c main_arg2) (grid0.coords t) (ms0_0 m S t) (hs0_0 m S t) (ms0_1 m S t) (hs0_1 m S t) (tbl m 0) (tbl m 1) (tbl m 2) (tbl m 3) (tbl m 4) S k (by omega) e0 e1 hn
        ((teW _ c _).trans (by rw [e1])) ((rsW _ c _).trans (by rw [e1])) ((neW _ c _).trans (by rw [e1])) ((lrW _ c _).trans (by rw [e1])) (iblk m S c 0 t) W K

/-! ## The run -/

theorem defs₀_row (S : Ok m) (t : Fin (cfgM m S).N) :
    defs₀ (F := F) .tc (cfgM m S).body ((cfgM m S).bodyArgs t ((cfgM m S).slots t)) = bodyAt m S t := by
  unfold defs₀; rw [Defs.onTc_tc]

theorem body_obligation (S : Ok m) (c : Dev nD) : BodyObligation (dats (F := F) m S 0 c) (defs₀ (F := F)) Variants.none () Set.univ := fun t => by
  rw [bigSep_W0, bigSep_W0, defs₀_row m S]
  exact triple_restated (sound_body m S c t) rfl .rfl fun _ => .rfl

theorem hin (S : Ok m) (c : Dev nD) : iprop(Pipeline.ΦD osem0 spec0 H0 (V m) c ∗ Pipeline.ΦT pre0 (tbl m) c) ⊢ (dats m S 0 c).Φ 0 :=
  Entails.refl _

theorem hout (S : Ok m) (c : Dev nD) : (dats m S 0 c).Φ (Fin.last (cfgM m S).N) ⊢ Pipeline.ΦD osem0 spec0 H0 (V m) c := by
  have e : (dats m S 0 c).Φ (Fin.last (cfgM m S).N) = PhiS m S c (319 + 1) := by
    show PhiS m S c (Fin.last (cfgM m S).N).val = _
    rw [Fin.val_last, show (cfgM m S).N = 319 + 1 from N_0]
  rw [e, PhiS_next, afterP, next_last S]
  iintro ⟨HH, Hg, -⟩
  iapply (free_phiD m c)
  isplitl [HH]
  · iapply (held_free c (V m c main_arg1) (V m c main_arg2) _ _); iexact HH
  iexact Hg

set_option backward.isDefEq.respectTransparency.types false in
/-- The program's run: it ends, with the arrays as the body's results leave them and every semaphore at zero. -/
theorem run_main_quiescent (S : Ok m) : θ_run defs (onTc (τ := τ) (main (F := F))) (s₀ m ρ) (fun r => (Pipeline.FramePost (Pipeline.pin pcfgs fun _ => adm m S) (dats m S) 0 (V m)) r ∧ r.2.sem = fun _ => 0) :=
  Pipeline.θ_run_frameP_dma (Q' := _) pcfgs (fun _ => adm m S) (dats m S) (0 : Fin 1) launch0 osem0 defs₀ Variants.none ownSemFacts0 H0 H0_sub m ρ main
    (hbody := fun c => (body_obligation m S c).loose) (hshare := fun c => (dats m S 0 c).share_full fun _ => rfl)
    (howed := fun _ _ => rfl) (V := V m) (hmain := hmain m Variants.none) (hA := A_eq m S) (hpf := V_pre m) (hin := hin m S) (hout := hout m S)

theorem rest (S : Ok m) (b : Ref sig .tc) (h : b ∈ Pipeline.restRefs sig spec0) : b ∈ Pipeline.restRefs sig (Pipeline.pin pcfgs (fun _ => adm m S) 0).spec := h

/-- What the run leaves in memory, read off: the result's array, and the arguments as they were. -/
theorem read_post (S : Ok m) {r : PUnit × MemSt nD τ sig (Elt F)} (h : (Pipeline.FramePost (Pipeline.pin pcfgs fun _ => adm m S) (dats m S) 0 (V m)) r) (c : Dev nD) :
    r.2.mem ((c.tc : Thread nD τ).loc main_v0) = (dats m S 0 c).arrAt 1 (cfgM m S).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).1 1, ((h c).1 0).trans ((dats m S 0 c).arrAt_in 0 rfl (cfgM m S).N), (h c).2 main_arg1 (rest m S main_arg1 (by decide)), (h c).2 main_arg2 (rest m S main_arg2 (by decide)), (h c).2 main_arg3 (rest m S main_arg3 (by decide)), (h c).2 main_arg4 (rest m S main_arg4 (by decide)), (h c).2 main_arg5 (rest m S main_arg5 (by decide)), (h c).2 main_arg6 (rest m S main_arg6 (by decide)), (h c).2 main_arg7 (rest m S main_arg7 (by decide))⟩

/-- The call runs to the end, leaves its arguments unchanged and every counter at zero. -/
theorem frame (S : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (read_post m S h.1 c).2, h.2⟩) (run_main_quiescent m ρ S)

end Cert.EUpIdeal.Gen

end
-- ==== Proof.EUpValue.lean ====
/-
  The call `l1_moe_up`: what the kernel leaves in its result, read at the ideal instance, is what the reference computes:
  `silu (x w1) * (x w3)` of every row with its tile's expert's weights, and zeros in the rows of tiles not in use.
-/
module

public import proofs.«01_k».proof.Proof.EUpFrame
public import proofs.«01_k».proof.Proof.EUpPre
public import proofs.«01_k».proof.Proof.EDownValue
public import proofs.«01_k».proof.Proof.Gen.EUpRefIdeal.Run
public import proofs.«01_k».proof.Proof.Gen.EUpRefIdeal.Read
public import Idealize.ShloMosaic.Lib.Pipeline.ValueKit
public import Idealize.ShloMosaic.Lib.Pointwise
public import Idealize.ShloMosaic.Lib.StableHlo.Predicate

@[expose] public section

set_option maxRecDepth 16384

noncomputable section

namespace Cert.EUpIdeal.Gen

open Cert.EDownIdeal.Gen (word pick word_at used_at)
open Idealize.ShloMosaic Idealize.ShloMosaic.TcCoe Idealize.SL.Sem
open Idealize.ShloMosaic.Pipeline (Dat)

/-! ## The reference at an entry -/

open Cert.EUpRefIdeal.Read in
/-- The gate of row `r` for expert `e`: one if the row's tile is in use and is that expert's, else zero. -/
theorem gate_apply (te : IVec S40 32) (nu : IVec S1 32) (hn : (nu (ix1 0)).toNat ≤ 40) (r : Fin 20480) (e : Fin 8)
    (hr : r.val / 512 < 40) (ht : (te (ix1 ⟨r.val / 512, hr⟩)).toNat < 8) :
    val_main_v11 (F := Ideal) te nu (ix2 r e)
      = if expertOf (te (ix1 ⟨r.val / 512, hr⟩)) = e ∧ r.val / 512 < (nu (ix1 0)).toNat then 1 else 0 :=
  Cert.EDownIdeal.Gen.gate_apply te nu hn r e hr ht

/-- `silu a * b`. -/
def gated (a b : EReal) : EReal := a * Ideal.logistic a * b

open Cert.EUpRefIdeal.Read in
set_option maxHeartbeats 4000000 in
/-- An entry of the reference: `silu (x w1) * (x w3)` with its tile's expert's columns if the tile is in use, else zero. -/
theorem ref_apply (x0 : FVec Ideal S20480x4096 .bf16) (x1 x2 : FVec Ideal S8x4096x4096 .f32) (te : IVec S40 32) (nu : IVec S1 32)
    (hn : (nu (ix1 0)).toNat ≤ 40) (r : Fin 20480) (q : Fin 4096) (hr : r.val / 512 < 40) (ht : (te (ix1 ⟨r.val / 512, hr⟩)).toNat < 8) :
    val_main_v109 (F := Ideal) x0 x1 x2 te nu (ix2 r q) = if r.val / 512 < (nu (ix1 0)).toNat
      then gated (∑ k : Fin 4096, x0 (ix2 r k) * x1 (ix3 (expertOf (te (ix1 ⟨r.val / 512, hr⟩))) k q))
        (∑ k : Fin 4096, x0 (ix2 r k) * x2 (ix3 (expertOf (te (ix1 ⟨r.val / 512, hr⟩))) k q)) else 0 := by
  have h0 : val_main_cst (F := Ideal) Idealize.ShloMosaic.ix0 = (0 : EReal) := by pointwise [val_main_cst]
  pointwise [val_main_v109, val_main_v108, val_main_v107, val_main_v106, val_main_v105, val_main_v104, val_main_v103, val_main_v102,
    val_main_v101, val_main_v100, val_main_v99, val_main_v98, val_main_v97, val_main_v96, val_main_v95, val_main_v94, val_main_v93,
    val_main_v92, val_main_v91, val_main_v90, val_main_v89, val_main_v88, val_main_v87, val_main_v86, val_main_v85, val_main_v84,
    val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_call8_v5, val_main_call8_v4, val_main_call8_v3, val_main_call8_v2, val_main_call8_v1, val_main_call8_v0, val_main_call8_cst,
    val_main_call8_cst_0, val_main_call7_v5, val_main_call7_v4, val_main_call7_v3, val_main_call7_v2, val_main_call7_v1,
    val_main_call7_v0, val_main_call7_cst, val_main_call7_cst_0, val_main_call6_v5, val_main_call6_v4, val_main_call6_v3,
    val_main_call6_v2, val_main_call6_v1, val_main_call6_v0, val_main_call6_cst, val_main_call6_cst_0, val_main_call5_v5,
    val_main_call5_v4, val_main_call5_v3, val_main_call5_v2, val_main_call5_v1, val_main_call5_v0, val_main_call5_cst,
    val_main_call5_cst_0, val_main_call4_v5, val_main_call4_v4, val_main_call4_v3, val_main_call4_v2, val_main_call4_v1,
    val_main_call4_v0, val_main_call4_cst, val_main_call4_cst_0, val_main_call3_v5, val_main_call3_v4, val_main_call3_v3,
    val_main_call3_v2, val_main_call3_v1, val_main_call3_v0, val_main_call3_cst, val_main_call3_cst_0, val_main_call2_v5,
    val_main_call2_v4, val_main_call2_v3, val_main_call2_v2, val_main_call2_v1, val_main_call2_v0, val_main_call2_cst,
    val_main_call2_cst_0, val_main_call1_v5, val_main_call1_v4, val_main_call1_v3, val_main_call1_v2, val_main_call1_v1,
    val_main_call1_v0, val_main_call1_cst, val_main_call1_cst_0, val_main_v0]
  rw [h0]
  simp only [gated, Ideal.logistic]
  have h := pick (fun e => gated (∑ k : Fin 4096, x0 (ix2 r k) * x1 (ix3 e k q)) (∑ k : Fin 4096, x0 (ix2 r k) * x2 (ix3 e k q)))
    (fun e => val_main_v11 (F := Ideal) te nu (ix2 r e))
    (expertOf (te (ix1 ⟨r.val / 512, hr⟩))) (r.val / 512 < (nu (ix1 0)).toNat) fun e => gate_apply te nu hn r e hr ht
  simp only [gated, Ideal.logistic] at h
  exact h

/-! ## The kernel's block at an entry -/

/-- An entry of a product by halves: the two halves of the inner axis are its whole. -/
theorem halves_apply (x : FVec Ideal S512x4096 .bf16) (y : FVec Ideal S4096x512 .f32) (p q : Fin 512) :
    twoHalves (F := Ideal) x y (ix2 p q) = ∑ k : Fin 4096, x (ix2 p k) * y (ix2 k q) := by
  refine Eq.trans ?_ (Fin.sum_univ_add (a := 2048) (b := 2048) fun k : Fin 4096 => x (ix2 p k) * y (ix2 k q)).symm
  pointwise [twoHalves, halfRows, halfCols]
  rfl

/-- An entry of a used tile's block. -/
theorem up_apply (x : FVec Ideal S512x4096 .bf16) (y z : FVec Ideal S4096x512 .f32) (p q : Fin 512) :
    upOf (F := Ideal) x y z (ix2 p q) = gated (∑ k : Fin 4096, x (ix2 p k) * y (ix2 k q)) (∑ k : Fin 4096, x (ix2 p k) * z (ix2 k q)) := by
  rw [← halves_apply, ← halves_apply]
  pointwise [upOf]
  rfl

/-- An entry of the block of a tile not in use. -/
theorem none_apply (y : S512x512.Idx) : noneOf (F := Ideal) y = 0 := by pointwise [noneOf]

/-- An entry of a tile of the weights. -/
theorem tile_apply (c : Dev nD) (M : Memref sig .tc .hbm S8x4096x4096 .f32) (XW : BufOf (F := Ideal) c M) (e j : Fin 8) (k : Fin 4096) (q : Fin 512) :
    tileOf c M XW e j (ix2 k q) = M.view.read (Elt Ideal) XW (ix3 e k (⟨512 * j.val + q.val, by omega⟩ : Fin 4096)) := by
  refine (congrFun (Memref.read_squeeze_slice (Val := Elt Ideal) M (Rect.unit (s := S8x4096x4096) (tileOff e j) S1x4096x512.size (tileOff_inb e j))
    (fun _ => rfl) squeezes_S1x4096x512_S4096x512 (show S1x4096x512.ShapeCasts S4096x512 by decide) XW) (ix2 k q)).trans ?_
  refine (shapeCast_apply _ _ (ix2 k q) (ix3 0 k q) ?_).trans ?_
  · simp only [Shape.rowMajor_val_three, Shape.rowMajor_val_two]
    show (0 * 4096 + k.val) * 512 + q.val = k.val * 512 + q.val
    omega
  refine congrArg (M.view.read (Elt Ideal) XW) (funext fun a => ?_)
  fin_cases a
  · exact Fin.ext (show e.val + 1 * 0 = e.val by omega)
  · exact Fin.ext (show 0 + 1 * k.val = k.val by omega)
  · exact Fin.ext (show 512 * j.val + 1 * q.val = 512 * j.val + q.val by omega)

variable (m : (ℓ : Loc nD τ sig) → Buf (Elt Ideal) ℓ)

/-- Where the windows stand at grid point `t`: at the row block of its tile, or of the last tile in use; at its own result block. -/
theorem idx0 (S : Ok m) (t : Fin (cfgM m S).N) : ((cfgM m S).win 0).index t = ![min (t.val % 40) (used m - 1), 0] := by
  refine (rows_eq m S (grid0.coords t)).trans ?_
  rw [coord1_eq]
theorem idx1 (S : Ok m) (t : Fin (cfgM m S).N) : ((cfgM m S).win 1).index t = ![t.val % 40, t.val / 40] :=
  (by decide +kernel : ∀ t : Fin grid0.N, cc0_transform_3 (grid0.coords t) = ![t.val % 40, t.val / 40]) t

/-- The result's blocks cover it. -/
theorem covers (S : Ok m) : ((cfgM m S).win 1).Covers := by
  have hN : grid0.N = 320 := N_0
  refine ⟨(by decide : ∀ a : Fin 2, 0 < S512x512.size a), fun β => ?_⟩
  have b0 : (β (0 : Fin 2)).val < 40 := lt_of_lt_of_eq (β (0 : Fin 2)).isLt (show (20480 + 512 - 1) / 512 = 40 from rfl)
  have b1 : (β (1 : Fin 2)).val < 8 := lt_of_lt_of_eq (β (1 : Fin 2)).isLt (show (4096 + 512 - 1) / 512 = 8 from rfl)
  have hb : 40 * (β (1 : Fin 2)).val + (β (0 : Fin 2)).val < grid0.N := by omega
  refine ⟨⟨40 * (β (1 : Fin 2)).val + (β (0 : Fin 2)).val, hb⟩, ?_, fun a => ⟨?_, .inl ?_⟩⟩
  · exact (by decide +kernel : ∀ t : Fin grid0.N, Pipeline.Window.flushOf grid0 true cc0_transform_3 t = true) _
  · rw [idx1]
    fin_cases a
    · show (40 * (β (1 : Fin 2)).val + (β (0 : Fin 2)).val) % 40 = (β (0 : Fin 2)).val; omega
    · show (40 * (β (1 : Fin 2)).val + (β (0 : Fin 2)).val) / 40 = (β (1 : Fin 2)).val; omega
  · rfl

/-- An entry of the rows read at a point whose tile is in use. -/
theorem rows_apply (S : Ok m) (c : Dev nD) (t : Fin (cfgM m S).N) (h : t.val % 40 < used m) (p : Fin 512) (k : Fin 4096) (r : Fin 20480)
    (hr : r.val = t.val % 40 * 512 + p.val) :
    iblk m S c 0 t (ix2 p k) = m ((c : Thread nD τ).loc main_arg0) (ix2 r k) := by
  have i0 := idx0 m S t
  rw [Nat.min_eq_left (by omega)] at i0
  unfold iblk
  refine congrArg (m ((c : Thread nD τ).loc main_arg0)) ?_
  blk_ext [i0]

/-- An entry of the block left at a point is the reference's. -/
theorem entry (S : Ok m) (c : Dev nD) (t : Fin (cfgM m S).N) (p : Fin 512) (q : Fin 512) (r : Fin 20480) (l : Fin 4096)
    (hr : r.val = t.val % 40 * 512 + p.val) (hl : l.val = t.val / 40 * 512 + q.val) :
    outAt m S c t (ix2 p q) = Cert.EUpRefIdeal.Read.val_main_v109 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) (ix2 r l) := by
  have ht : t.val < 320 := lt_of_lt_of_eq t.isLt N_0
  have hq : r.val / 512 = t.val % 40 := by omega
  have hw : word (teT m) (t.val % 40) = m ((c : Thread nD τ).loc main_arg3) (ix1 ⟨r.val / 512, by omega⟩) := by
    obtain rfl : c = 0 := Subsingleton.elim _ _
    exact (word_at (teT m) ⟨t.val % 40, by omega⟩).trans (congrArg (teT m) (congrArg ix1 (Fin.ext hq.symm)))
  have hu : used m = (m ((c : Thread nD τ).loc main_arg4) (ix1 0)).toNat := by
    obtain rfl : c = 0 := Subsingleton.elim _ _
    exact congrArg BitVec.toNat (used_at (nuT m))
  have h8 := S.te8 (t.val % 40) (by omega)
  have hn : used m ≤ 40 := S.le
  unfold outAt resultOf
  refine Eq.trans ?_ (ref_apply _ _ _ _ _ (by rw [← hu]; exact hn) r l (by omega) (by rw [← hw]; exact h8)).symm
  rw [← hu, ← hw, hq]
  by_cases h : t.val % 40 < used m
  · rw [if_pos h, if_pos h]
    refine (up_apply _ _ _ p q).trans ?_
    have hj : (⟨512 * (colOf (t.val / 40)).val + q.val, by omega⟩ : Fin 4096) = l := Fin.ext (by
      show 512 * (t.val / 40 % 8) + q.val = l.val
      omega)
    refine congrArg₂ gated (Finset.sum_congr rfl fun k _ => ?_) (Finset.sum_congr rfl fun k _ => ?_)
    all_goals
      rw [tile_apply, rows_apply m S c t h p k r hr, hj]
      rfl
  · rw [if_neg h, if_neg h]
    exact none_apply _

/-- What the kernel leaves in its result is the reference's result. -/
theorem final (S : Ok m) (c : Dev nD) : (dats m S 0 c).arrAt 1 (cfgM m S).N = Cert.EUpRefIdeal.Read.val_main_v109 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m S 0 c).arrAt_eq_of_covers 1 _ (covers m S) fun t hf y => ?_
  have ht : t.val < 320 := lt_of_lt_of_eq t.isLt N_0
  have i1 := idx1 m S t
  obtain ⟨p, q, rfl⟩ : ∃ (p : Fin 512) (q : Fin 512), y = ix2 p q := ⟨y (0 : Fin 2), y (1 : Fin 2), funext fun (a : Fin 2) => by fin_cases a <;> rfl⟩
  blk_simp
  rw [after0_1]
  refine (entry m S c t p q ⟨t.val % 40 * 512 + p.val, by omega⟩ ⟨t.val / 40 * 512 + q.val, by omega⟩ rfl rfl).trans ?_
  blk_ext [i1]

end Cert.EUpIdeal.Gen

end
-- ==== Proof.lean ====
/-
  The certificate: for each of the kernel's calls that are claimed here, the call runs to completion without
  touching its arguments, the same holds of its reference, and at the ideal instance (exact arithmetic on the
  extended reals) the two have equal results.
-/
module

public import proofs.«01_k».proof.Defs
public import proofs.«01_k».proof.Proof.Gen.Gate.Frame
public import proofs.«01_k».proof.Proof.Gen.GateRefIdeal.Run
public import proofs.«01_k».proof.Proof.GateValue
public import proofs.«01_k».proof.Proof.Gen.In.Frame
public import proofs.«01_k».proof.Proof.Gen.InRefIdeal.Run
public import proofs.«01_k».proof.Proof.InValue
public import proofs.«01_k».proof.Proof.Gen.Up.Frame
public import proofs.«01_k».proof.Proof.Gen.UpRefIdeal.Run
public import proofs.«01_k».proof.Proof.UpValue
public import proofs.«01_k».proof.Proof.Gen.Gelu.Frame
public import proofs.«01_k».proof.Proof.Gen.GeluRefIdeal.Run
public import proofs.«01_k».proof.Proof.GeluValue
public import proofs.«01_k».proof.Proof.Gen.Out.Launch
public import proofs.«01_k».proof.Proof.Gen.OutRefIdeal.Run
public import proofs.«01_k».proof.Proof.OutValue
public import proofs.«01_k».proof.Proof.Gen.Down.Launch
public import proofs.«01_k».proof.Proof.Gen.DownRefIdeal.Run
public import proofs.«01_k».proof.Proof.DownValue
public import proofs.«01_k».proof.Proof.Gen.OutB.Launch
public import proofs.«01_k».proof.Proof.Gen.OutBIdeal.Launch
public import proofs.«01_k».proof.Proof.Gen.OutBRefIdeal.Run
public import proofs.«01_k».proof.Proof.Gen.EDown.Launch
public import proofs.«01_k».proof.Proof.Gen.EDownRefIdeal.Run
public import proofs.«01_k».proof.Proof.Gen.Pre_down_schedule
public import proofs.«01_k».proof.Proof.EDownPre
public import proofs.«01_k».proof.Proof.EDownValue
public import proofs.«01_k».proof.Proof.Gen.EUp.Launch
public import proofs.«01_k».proof.Proof.Gen.EUpRefIdeal.Run
public import proofs.«01_k».proof.Proof.Gen.Pre_up_schedule
public import proofs.«01_k».proof.Proof.EUpPre
public import proofs.«01_k».proof.Proof.EUpValue
public import Idealize.ShloMosaic.Lib.Quiescent
public import Idealize.ShloMosaic.Lib.Claim
public import Idealize.ShloMosaic.Lib.Tactic
public import Idealize.ShloMosaic.Adequacy
public import Idealize.ShloMosaic.Init

@[expose] public section

noncomputable section

namespace Cert.Proof

open Idealize.ShloMosaic Idealize.ShloMosaic.Tactic Idealize.SL.Sem

/-! ## The spatial gate -/

/-- The host reference runs to completion, leaves its arguments as they were and every counter at zero. -/
theorem quiescent_GateRefIdeal : Cert.quiescent_GateRefIdeal (hGateRefIdeal := Cert.GateRefIdeal.Gen.facts) := by
  intro m g _
  exact (θ_run Cert.GateRefIdeal.defs _ _).mono (fun r h => ⟨fun c => (h c).2,
      Idealize.ShloMosaic.sem_eq_zero_of_no_sems (by decide) r.2⟩) (Cert.GateRefIdeal.Value.run (F := Ideal) m g)

/-- The spatial gate kernel and its reference have equal results on equal arguments. -/
theorem algebraic_Gate : Cert.algebraic_GateIdeal_GateRefIdeal (hGateIdeal := Cert.GateIdeal.Gen.facts) (hGateRefIdeal := Cert.GateRefIdeal.Gen.facts) := by
  intro m g m' g' _ hagree
  refine ⟨fun c => Cert.GateRefIdeal.Read.val_main_v41 (F := Ideal)
      (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)),
    ?_, ?_⟩
  · exact (θ_run Cert.GateIdeal.defs _ _).mono (fun r h c => by
      have hr := h c
      exact ⟨(hr.1).trans (Cert.GateProof.final m c), hr.2⟩) (Cert.GateIdeal.Value.run_blocks (F := Ideal) m g)
  · exact (θ_run Cert.GateRefIdeal.defs _ _).mono (fun r h c => by
      have hr := h c
      obtain ⟨e0, e1, e2, e3, e4⟩ := hagree c
      exact ⟨hr.1.trans ((Cert.GateRefIdeal.Read.val_main_v41_eq _ _ _ _ _ ).trans (by rw [e0, e1, e2, e3, e4])), hr.2⟩) (Cert.GateRefIdeal.Value.run (F := Ideal) m' g')

/-! ## The first layer's input projection -/

/-- The host reference runs to completion, leaves its arguments as they were and every counter at zero. -/
theorem quiescent_InRefIdeal : Cert.quiescent_InRefIdeal (hInRefIdeal := Cert.InRefIdeal.Gen.facts) := by
  intro m g _
  exact (θ_run Cert.InRefIdeal.defs _ _).mono (fun r h => ⟨fun c => (h c).2,
      Idealize.ShloMosaic.sem_eq_zero_of_no_sems (by decide) r.2⟩) (Cert.InRefIdeal.Value.run (F := Ideal) m g)

/-- The input projection kernel and its reference have equal results on equal arguments. -/
theorem algebraic_In : Cert.algebraic_InIdeal_InRefIdeal (hInIdeal := Cert.InIdeal.Gen.facts) (hInRefIdeal := Cert.InRefIdeal.Gen.facts) := by
  intro m g m' g' _ hagree
  refine ⟨fun c => Cert.InRefIdeal.Read.val_main_v2 (F := Ideal)
      (m ((c.tc : Thread Cert.InIdeal.nD Cert.InIdeal.τ).loc Cert.InIdeal.main_arg0)) (m ((c.tc : Thread Cert.InIdeal.nD Cert.InIdeal.τ).loc Cert.InIdeal.main_arg1)),
    ?_, ?_⟩
  · exact (θ_run Cert.InIdeal.defs _ _).mono (fun r h c => by
      have hr := h c
      exact ⟨(hr.1).trans (Cert.InProof.final m c), hr.2⟩) (Cert.InIdeal.Value.run_blocks (F := Ideal) m g)
  · exact (θ_run Cert.InRefIdeal.defs _ _).mono (fun r h c => by
      have hr := h c
      obtain ⟨e0, e1⟩ := hagree c
      exact ⟨hr.1.trans ((Cert.InRefIdeal.Read.val_main_v2_eq _ _ ).trans (by rw [e0, e1])), hr.2⟩) (Cert.InRefIdeal.Value.run (F := Ideal) m' g')

/-! ## The feed-forward up projection -/

/-- The host reference runs to completion, leaves its arguments as they were and every counter at zero. -/
theorem quiescent_UpRefIdeal : Cert.quiescent_UpRefIdeal (hUpRefIdeal := Cert.UpRefIdeal.Gen.facts) := by
  intro m g _
  exact (θ_run Cert.UpRefIdeal.defs _ _).mono (fun r h => ⟨fun c => (h c).2.2,
      Idealize.ShloMosaic.sem_eq_zero_of_no_sems (by decide) r.2⟩) (Cert.UpRefIdeal.Value.run (F := Ideal) m g)

/-- The SwiGLU kernel and its reference have equal results (the activations and the rounded down weight) on equal
    arguments. -/
theorem algebraic_Up : Cert.algebraic_UpIdeal_UpRefIdeal (hUpIdeal := Cert.UpIdeal.Gen.facts) (hUpRefIdeal := Cert.UpRefIdeal.Gen.facts) := by
  intro m g m' g' _ hagree
  refine ⟨fun c => Cert.UpRefIdeal.Read.val_main_v5 (F := Ideal)
      (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)),
    fun c => Cert.UpRefIdeal.Read.val_main_v6 (F := Ideal)
      (m ((c.tc : Thread Cert.UpIdeal.nD Cert.UpIdeal.τ).loc Cert.UpIdeal.main_arg3)),
    ?_, ?_⟩
  · exact (θ_run Cert.UpIdeal.defs _ _).mono (fun r h c => by
      have hr := h c
      exact ⟨(hr.1).trans (Cert.UpProof.final_act m c), (hr.2.1).trans (Cert.UpProof.final_copy m c), hr.2.2⟩) (Cert.UpIdeal.Value.run_blocks (F := Ideal) m g)
  · exact (θ_run Cert.UpRefIdeal.defs _ _).mono (fun r h c => by
      have hr := h c
      obtain ⟨e0, e1, e2, e3⟩ := hagree c
      exact ⟨hr.1.trans ((Cert.UpRefIdeal.Read.val_main_v5_eq _ _ _ ).trans (by rw [e0, e1, e2])),
        hr.2.1.trans ((Cert.UpRefIdeal.Read.val_main_v6_eq _ ).trans (by rw [e3])), hr.2.2⟩) (Cert.UpRefIdeal.Value.run (F := Ideal) m' g')

/-! ## The second layer's input projection -/

/-- The host reference runs to completion, leaves its arguments as they were and every counter at zero. -/
theorem quiescent_GeluRefIdeal : Cert.quiescent_GeluRefIdeal (hGeluRefIdeal := Cert.GeluRefIdeal.Gen.facts) := by
  intro m g _
  exact (θ_run Cert.GeluRefIdeal.defs _ _).mono (fun r h => ⟨fun c => (h c).2.2,
      Idealize.ShloMosaic.sem_eq_zero_of_no_sems (by decide) r.2⟩) (Cert.GeluRefIdeal.Value.run (F := Ideal) m g)

/-- The gelu projection kernel and its reference have equal results (the activations and the rounded output weight)
    on equal arguments. -/
theorem algebraic_Gelu : Cert.algebraic_GeluIdeal_GeluRefIdeal (hGeluIdeal := Cert.GeluIdeal.Gen.facts) (hGeluRefIdeal := Cert.GeluRefIdeal.Gen.facts) := by
  intro m g m' g' _ hagree
  refine ⟨fun c => Cert.GeluRefIdeal.Read.val_main_v18 (F := Ideal)
      (m ((c.tc : Thread Cert.GeluIdeal.nD Cert.GeluIdeal.τ).loc Cert.GeluIdeal.main_arg0)) (m ((c.tc : Thread Cert.GeluIdeal.nD Cert.GeluIdeal.τ).loc Cert.GeluIdeal.main_arg1)) (m ((c.tc : Thread Cert.GeluIdeal.nD Cert.GeluIdeal.τ).loc Cert.GeluIdeal.main_arg2)),
    fun c => Cert.GeluRefIdeal.Read.val_main_v19 (F := Ideal)
      (m ((c.tc : Thread Cert.GeluIdeal.nD Cert.GeluIdeal.τ).loc Cert.GeluIdeal.main_arg3)),
    ?_, ?_⟩
  · exact (θ_run Cert.GeluIdeal.defs _ _).mono (fun r h c => by
      have hr := h c
      exact ⟨(hr.1).trans (Cert.GeluProof.final_act m c), (hr.2.1).trans (Cert.GeluProof.final_copy m c), hr.2.2⟩) (Cert.GeluIdeal.Value.run_blocks (F := Ideal) m g)
  · exact (θ_run Cert.GeluRefIdeal.defs _ _).mono (fun r h c => by
      have hr := h c
      obtain ⟨e0, e1, e2, e3⟩ := hagree c
      exact ⟨hr.1.trans ((Cert.GeluRefIdeal.Read.val_main_v18_eq _ _ _ ).trans (by rw [e0, e1, e2])),
        hr.2.1.trans ((Cert.GeluRefIdeal.Read.val_main_v19_eq _ ).trans (by rw [e3])), hr.2.2⟩) (Cert.GeluRefIdeal.Value.run (F := Ideal) m' g')

/-! ## The first layer's output projection, residual and norm -/

/-- The program and its ideal twin have the same text, so a run of one is a run of the other. -/
theorem same_Out : Cert.quiescent_Out (hOut := Cert.Out.Gen.facts) =
    ∀ (m : (ℓ : Loc Cert.OutIdeal.nD Cert.OutIdeal.τ Cert.OutIdeal.sig) → Buf (Elt Bits) ℓ) (g : Dev Cert.OutIdeal.nD → PrngReg), True →
      θ_run (Cert.OutIdeal.defs (F := Bits)) (onTc (τ := Cert.OutIdeal.τ) (Cert.OutIdeal.main (F := Bits))) ⟨m, fun _ => 0, g⟩ (fun r =>
        (∀ c : Dev Cert.OutIdeal.nD, r.2.mem ((c.tc : Thread Cert.OutIdeal.nD Cert.OutIdeal.τ).loc Cert.OutIdeal.main_arg0) = m ((c.tc : Thread Cert.OutIdeal.nD Cert.OutIdeal.τ).loc Cert.OutIdeal.main_arg0)
        ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
        ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
        ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
        ∧ r.2.mem ((c.tc : Thread Cert.OutIdeal.nD Cert.OutIdeal.τ).loc Cert.OutIdeal.main_arg4) = m ((c.tc : Thread Cert.OutIdeal.nD Cert.OutIdeal.τ).loc Cert.OutIdeal.main_arg4)) ∧ r.2.sem = fun _ => 0) := by sl_kernel_rfl

/-- The call `l0_out_proj_ln` runs to completion, leaves its arguments as they were and every counter at zero (machine words). -/
theorem quiescent_Out : Cert.quiescent_Out (hOut := Cert.Out.Gen.facts) :=
  same_Out.mpr fun m g _ => Cert.OutIdeal.Gen.frame (F := Bits) m g

/-- The host reference runs to completion, leaves its arguments as they were and every counter at zero. -/
theorem quiescent_OutRefIdeal : Cert.quiescent_OutRefIdeal (hOutRefIdeal := Cert.OutRefIdeal.Gen.facts) := by
  intro m g _
  exact (θ_run Cert.OutRefIdeal.defs _ _).mono (fun r h => ⟨fun c => (h c).2.2,
      Idealize.ShloMosaic.sem_eq_zero_of_no_sems (by decide) r.2⟩) (Cert.OutRefIdeal.Value.run (F := Ideal) m g)

/-- The output projection with residual and layer norm and its reference have equal results (the normalized rows and
    their rounding) on equal arguments. -/
theorem algebraic_Out : Cert.algebraic_OutIdeal_OutRefIdeal (hOutIdeal := Cert.OutIdeal.Gen.facts) (hOutRefIdeal := Cert.OutRefIdeal.Gen.facts) := by
  intro m g m' g' _ hagree
  refine ⟨fun c => Cert.OutRefIdeal.Read.val_main_v28 (F := Ideal)
      (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)),
    fun c => Cert.OutRefIdeal.Read.val_main_v29 (F := Ideal)
      (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)),
    ?_, ?_⟩
  · exact (θ_run Cert.OutIdeal.defs _ _).mono (fun r h c => by
      have hr := h c
      exact ⟨(hr.1).trans (Cert.OutProof.final_rows m c), (hr.2.1).trans (Cert.OutProof.final_round m c), hr.2.2⟩) (Cert.OutIdeal.Value.run_blocks (F := Ideal) m g)
  · exact (θ_run Cert.OutRefIdeal.defs _ _).mono (fun r h c => by
      have hr := h c
      obtain ⟨e0, e1, e2, e3, e4⟩ := hagree c
      exact ⟨hr.1.trans ((Cert.OutRefIdeal.Read.val_main_v28_eq _ _ _ _ _ ).trans (by rw [e0, e1, e2, e3, e4])),
        hr.2.1.trans ((Cert.OutRefIdeal.Read.val_main_v29_eq _ _ _ _ _ ).trans (by rw [e0, e1, e2, e3, e4])), hr.2.2⟩) (Cert.OutRefIdeal.Value.run (F := Ideal) m' g')

/-! ## The feed-forward down projection, residual and norm -/

/-- The program and its ideal twin have the same text, so a run of one is a run of the other. -/
theorem same_Down : Cert.quiescent_Down (hDown := Cert.Down.Gen.facts) =
    ∀ (m : (ℓ : Loc Cert.DownIdeal.nD Cert.DownIdeal.τ Cert.DownIdeal.sig) → Buf (Elt Bits) ℓ) (g : Dev Cert.DownIdeal.nD → PrngReg), True →
      θ_run (Cert.DownIdeal.defs (F := Bits)) (onTc (τ := Cert.DownIdeal.τ) (Cert.DownIdeal.main (F := Bits))) ⟨m, fun _ => 0, g⟩ (fun r =>
        (∀ c : Dev Cert.DownIdeal.nD, r.2.mem ((c.tc : Thread Cert.DownIdeal.nD Cert.DownIdeal.τ).loc Cert.DownIdeal.main_arg0) = m ((c.tc : Thread Cert.DownIdeal.nD Cert.DownIdeal.τ).loc Cert.DownIdeal.main_arg0)
        ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
        ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
        ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
        ∧ r.2.mem ((c.tc : Thread Cert.DownIdeal.nD Cert.DownIdeal.τ).loc Cert.DownIdeal.main_arg4) = m ((c.tc : Thread Cert.DownIdeal.nD Cert.DownIdeal.τ).loc Cert.DownIdeal.main_arg4)) ∧ r.2.sem = fun _ => 0) := by sl_kernel_rfl

/-- The call `l0_ffn_down_ln` runs to completion, leaves its arguments as they were and every counter at zero (machine words). -/
theorem quiescent_Down : Cert.quiescent_Down (hDown := Cert.Down.Gen.facts) :=
  same_Down.mpr fun m g _ => Cert.DownIdeal.Gen.frame (F := Bits) m g

/-- The host reference runs to completion, leaves its arguments as they were and every counter at zero. -/
theorem quiescent_DownRefIdeal : Cert.quiescent_DownRefIdeal (hDownRefIdeal := Cert.DownRefIdeal.Gen.facts) := by
  intro m g _
  exact (θ_run Cert.DownRefIdeal.defs _ _).mono (fun r h => ⟨fun c => (h c).2.2,
      Idealize.ShloMosaic.sem_eq_zero_of_no_sems (by decide) r.2⟩) (Cert.DownRefIdeal.Value.run (F := Ideal) m g)

/-- The down projection with residual and layer norm and its reference have equal results (the normalized rows and
    their rounding) on equal arguments. -/
theorem algebraic_Down : Cert.algebraic_DownIdeal_DownRefIdeal (hDownIdeal := Cert.DownIdeal.Gen.facts) (hDownRefIdeal := Cert.DownRefIdeal.Gen.facts) := by
  intro m g m' g' _ hagree
  refine ⟨fun c => Cert.DownRefIdeal.Read.val_main_v28 (F := Ideal)
      (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)),
    fun c => Cert.DownRefIdeal.Read.val_main_v29 (F := Ideal)
      (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)),
    ?_, ?_⟩
  · exact (θ_run Cert.DownIdeal.defs _ _).mono (fun r h c => by
      have hr := h c
      exact ⟨(hr.1).trans (Cert.DownProof.final_rows m c), (hr.2.1).trans (Cert.DownProof.final_round m c), hr.2.2⟩) (Cert.DownIdeal.Value.run_blocks (F := Ideal) m g)
  · exact (θ_run Cert.DownRefIdeal.defs _ _).mono (fun r h c => by
      have hr := h c
      obtain ⟨e0, e1, e2, e3, e4⟩ := hagree c
      exact ⟨hr.1.trans ((Cert.DownRefIdeal.Read.val_main_v28_eq _ _ _ _ _ ).trans (by rw [e0, e1, e2, e3, e4])),
        hr.2.1.trans ((Cert.DownRefIdeal.Read.val_main_v29_eq _ _ _ _ _ ).trans (by rw [e0, e1, e2, e3, e4])), hr.2.2⟩) (Cert.DownRefIdeal.Value.run (F := Ideal) m' g')

/-! ## The second layer's output projection, residual and norm -/

/-- The call `l1_out_proj_ln` has the text of `l0_out_proj_ln`. -/
theorem same_OutB : Cert.quiescent_OutB (hOutB := Cert.OutB.Gen.facts) =
    ∀ (m : (ℓ : Loc Cert.OutIdeal.nD Cert.OutIdeal.τ Cert.OutIdeal.sig) → Buf (Elt Bits) ℓ) (g : Dev Cert.OutIdeal.nD → PrngReg), True →
      θ_run (Cert.OutIdeal.defs (F := Bits)) (onTc (τ := Cert.OutIdeal.τ) (Cert.OutIdeal.main (F := Bits))) ⟨m, fun _ => 0, g⟩ (fun r =>
        (∀ c : Dev Cert.OutIdeal.nD, r.2.mem ((c.tc : Thread Cert.OutIdeal.nD Cert.OutIdeal.τ).loc Cert.OutIdeal.main_arg0) = m ((c.tc : Thread Cert.OutIdeal.nD Cert.OutIdeal.τ).loc Cert.OutIdeal.main_arg0)
        ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
        ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
        ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
        ∧ r.2.mem ((c.tc : Thread Cert.OutIdeal.nD Cert.OutIdeal.τ).loc Cert.OutIdeal.main_arg4) = m ((c.tc : Thread Cert.OutIdeal.nD Cert.OutIdeal.τ).loc Cert.OutIdeal.main_arg4)) ∧ r.2.sem = fun _ => 0) := by sl_kernel_rfl

/-- The call `l1_out_proj_ln` runs to completion, leaves its arguments as they were and every counter at zero (machine words). -/
theorem quiescent_OutB : Cert.quiescent_OutB (hOutB := Cert.OutB.Gen.facts) :=
  same_OutB.mpr fun m g _ => Cert.OutIdeal.Gen.frame (F := Bits) m g

/-- The call `l1_out_proj_ln` has the text of `l0_out_proj_ln`. -/
theorem same_OutBIdeal : Cert.quiescent_OutBIdeal (hOutBIdeal := Cert.OutBIdeal.Gen.facts) =
    ∀ (m : (ℓ : Loc Cert.OutIdeal.nD Cert.OutIdeal.τ Cert.OutIdeal.sig) → Buf (Elt Ideal) ℓ) (g : Dev Cert.OutIdeal.nD → PrngReg), True →
      θ_run (Cert.OutIdeal.defs (F := Ideal)) (onTc (τ := Cert.OutIdeal.τ) (Cert.OutIdeal.main (F := Ideal))) ⟨m, fun _ => 0, g⟩ (fun r =>
        (∀ c : Dev Cert.OutIdeal.nD, r.2.mem ((c.tc : Thread Cert.OutIdeal.nD Cert.OutIdeal.τ).loc Cert.OutIdeal.main_arg0) = m ((c.tc : Thread Cert.OutIdeal.nD Cert.OutIdeal.τ).loc Cert.OutIdeal.main_arg0)
        ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
        ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
        ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
        ∧ r.2.mem ((c.tc : Thread Cert.OutIdeal.nD Cert.OutIdeal.τ).loc Cert.OutIdeal.main_arg4) = m ((c.tc : Thread Cert.OutIdeal.nD Cert.OutIdeal.τ).loc Cert.OutIdeal.main_arg4)) ∧ r.2.sem = fun _ => 0) := by sl_kernel_rfl

/-- The call `l1_out_proj_ln` runs to completion, leaves its arguments as they were and every counter at zero (ideal instance). -/
theorem quiescent_OutBIdeal : Cert.quiescent_OutBIdeal (hOutBIdeal := Cert.OutBIdeal.Gen.facts) :=
  same_OutBIdeal.mpr fun m g _ => Cert.OutIdeal.Gen.frame (F := Ideal) m g

/-- The host reference runs to completion, leaves its arguments as they were and every counter at zero. -/
theorem quiescent_OutBRefIdeal : Cert.quiescent_OutBRefIdeal (hOutBRefIdeal := Cert.OutBRefIdeal.Gen.facts) := by
  intro m g _
  exact (θ_run Cert.OutBRefIdeal.defs _ _).mono (fun r h => ⟨fun c => (h c).2.2,
      Idealize.ShloMosaic.sem_eq_zero_of_no_sems (by decide) r.2⟩) (Cert.OutBRefIdeal.Value.run (F := Ideal) m g)

/-- The second layer's output projection with residual and layer norm and its reference have equal results: call and
    reference have the texts of the first layer's. -/
theorem algebraic_OutB : Cert.algebraic_OutBIdeal_OutBRefIdeal (hOutBIdeal := Cert.OutBIdeal.Gen.facts) (hOutBRefIdeal := Cert.OutBRefIdeal.Gen.facts) :=
  (by sl_kernel_rfl : Cert.algebraic_OutBIdeal_OutBRefIdeal (hOutBIdeal := Cert.OutBIdeal.Gen.facts) (hOutBRefIdeal := Cert.OutBRefIdeal.Gen.facts)
    = Cert.algebraic_OutIdeal_OutRefIdeal (hOutIdeal := Cert.OutIdeal.Gen.facts) (hOutRefIdeal := Cert.OutRefIdeal.Gen.facts)).mpr
    algebraic_Out

/-! ## The experts' down projection -/

/-- The program and its ideal twin have the same text, so a run of one is a run of the other. -/
theorem same_EDown : Cert.quiescent_EDown (hEDown := Cert.EDown.Gen.facts) (hPre_down_schedule := Cert.Pre_down_schedule.Gen.facts) =
    ∀ (m : (ℓ : Loc Cert.EDownIdeal.nD Cert.EDownIdeal.τ Cert.EDownIdeal.sig) → Buf (Elt Bits) ℓ) (g : Dev Cert.EDownIdeal.nD → PrngReg), (∀ c : Dev Cert.EDownIdeal.nD, Cert.Pre_down_schedule.fn (F := Bits)
      (m ((c.tc : Thread Cert.EDownIdeal.nD Cert.EDownIdeal.τ).loc Cert.EDownIdeal.main_arg0)) (m ((c.tc : Thread Cert.EDownIdeal.nD Cert.EDownIdeal.τ).loc Cert.EDownIdeal.main_arg1)) (m ((c.tc : Thread Cert.EDownIdeal.nD Cert.EDownIdeal.τ).loc Cert.EDownIdeal.main_arg2)) (m ((c.tc : Thread Cert.EDownIdeal.nD Cert.EDownIdeal.τ).loc Cert.EDownIdeal.main_arg3)) (m ((c.tc : Thread Cert.EDownIdeal.nD Cert.EDownIdeal.τ).loc Cert.EDownIdeal.main_arg4)) (m ((c.tc : Thread Cert.EDownIdeal.nD Cert.EDownIdeal.τ).loc Cert.EDownIdeal.main_arg5)) (m ((c.tc : Thread Cert.EDownIdeal.nD Cert.EDownIdeal.τ).loc Cert.EDownIdeal.main_arg6))
      = fun _ => 1#1) →
      θ_run (Cert.EDownIdeal.defs (F := Bits)) (onTc (τ := Cert.EDownIdeal.τ) (Cert.EDownIdeal.main (F := Bits))) ⟨m, fun _ => 0, g⟩ (fun r =>
        (∀ c : Dev Cert.EDownIdeal.nD, r.2.mem ((c.tc : Thread Cert.EDownIdeal.nD Cert.EDownIdeal.τ).loc Cert.EDownIdeal.main_arg0) = m ((c.tc : Thread Cert.EDownIdeal.nD Cert.EDownIdeal.τ).loc Cert.EDownIdeal.main_arg0)
        ∧ r.2.mem ((c.tc : Thread Cert.EDownIdeal.nD Cert.EDownIdeal.τ).loc Cert.EDownIdeal.main_arg1) = m ((c.tc : Thread Cert.EDownIdeal.nD Cert.EDownIdeal.τ).loc Cert.EDownIdeal.main_arg1)
        ∧ r.2.mem ((c.tc : Thread Cert.EDownIdeal.nD Cert.EDownIdeal.τ).loc Cert.EDownIdeal.main_arg2) = m ((c.tc : Thread Cert.EDownIdeal.nD Cert.EDownIdeal.τ).loc Cert.EDownIdeal.main_arg2)
        ∧ r.2.mem ((c.tc : Thread Cert.EDownIdeal.nD Cert.EDownIdeal.τ).loc Cert.EDownIdeal.main_arg3) = m ((c.tc : Thread Cert.EDownIdeal.nD Cert.EDownIdeal.τ).loc Cert.EDownIdeal.main_arg3)
        ∧ r.2.mem ((c.tc : Thread Cert.EDownIdeal.nD Cert.EDownIdeal.τ).loc Cert.EDownIdeal.main_arg4) = m ((c.tc : Thread Cert.EDownIdeal.nD Cert.EDownIdeal.τ).loc Cert.EDownIdeal.main_arg4)
        ∧ r.2.mem ((c.tc : Thread Cert.EDownIdeal.nD Cert.EDownIdeal.τ).loc Cert.EDownIdeal.main_arg5) = m ((c.tc : Thread Cert.EDownIdeal.nD Cert.EDownIdeal.τ).loc Cert.EDownIdeal.main_arg5)
        ∧ r.2.mem ((c.tc : Thread Cert.EDownIdeal.nD Cert.EDownIdeal.τ).loc Cert.EDownIdeal.main_arg6) = m ((c.tc : Thread Cert.EDownIdeal.nD Cert.EDownIdeal.τ).loc Cert.EDownIdeal.main_arg6)) ∧ r.2.sem = fun _ => 0) := by sl_kernel_rfl

/-- The call `l1_moe_down` runs to completion, leaves its arguments as they were and every counter at zero (machine words). -/
theorem quiescent_EDown : Cert.quiescent_EDown (hEDown := Cert.EDown.Gen.facts) (hPre_down_schedule := Cert.Pre_down_schedule.Gen.facts) :=
  same_EDown.mpr fun m g hp => Cert.EDownIdeal.Gen.frame (F := Bits) m g (Cert.EDownIdeal.Gen.sched_of _ _ _ _ _ _ _ (hp 0))

/-- The host reference runs to completion, leaves its arguments as they were and every counter at zero. -/
theorem quiescent_EDownRefIdeal : Cert.quiescent_EDownRefIdeal (hEDownRefIdeal := Cert.EDownRefIdeal.Gen.facts) (hPre_down_schedule := Cert.Pre_down_schedule.Gen.facts) := by
  intro m g _
  exact (θ_run Cert.EDownRefIdeal.defs _ _).mono (fun r h => ⟨fun c => (h c).2,
      Idealize.ShloMosaic.sem_eq_zero_of_no_sems (by decide) r.2⟩) (Cert.EDownRefIdeal.Value.run (F := Ideal) m g)

/-- The experts' down projection and its reference have equal results on equal arguments, if the tables are a schedule. -/
theorem algebraic_EDown : Cert.algebraic_EDownIdeal_EDownRefIdeal (hEDownIdeal := Cert.EDownIdeal.Gen.facts) (hEDownRefIdeal := Cert.EDownRefIdeal.Gen.facts) (hPre_down_schedule := Cert.Pre_down_schedule.Gen.facts) := by
  intro m g m' g' hp hagree
  refine ⟨fun c => Cert.EDownRefIdeal.Read.val_main_v69 (F := Ideal)
      (m ((c.tc : Thread Cert.EDownIdeal.nD Cert.EDownIdeal.τ).loc Cert.EDownIdeal.main_arg0)) (m ((c.tc : Thread Cert.EDownIdeal.nD Cert.EDownIdeal.τ).loc Cert.EDownIdeal.main_arg1)) (m ((c.tc : Thread Cert.EDownIdeal.nD Cert.EDownIdeal.τ).loc Cert.EDownIdeal.main_arg2)) (m ((c.tc : Thread Cert.EDownIdeal.nD Cert.EDownIdeal.τ).loc Cert.EDownIdeal.main_arg3)),
    ?_, ?_⟩
  · have S : Cert.EDownIdeal.Gen.Ok m := (Cert.EDownIdeal.Gen.sched_of _ _ _ _ _ _ _ (hp 0))
    exact (θ_run Cert.EDownIdeal.defs _ _).mono (fun r h c => by
      have hr := Cert.EDownIdeal.Gen.read_post m S h.1 c
      exact ⟨hr.1.trans (Cert.EDownIdeal.Gen.final m S c), hr.2⟩) (Cert.EDownIdeal.Gen.run_main_quiescent (F := Ideal) m g S)
  · exact (θ_run Cert.EDownRefIdeal.defs _ _).mono (fun r h c => by
      have hr := h c
      obtain ⟨e0, e1, e2, e3, e4, e5, e6⟩ := hagree c
      exact ⟨hr.1.trans ((Cert.EDownRefIdeal.Read.val_main_v69_eq m' c).trans (by rw [e0, e1, e2, e3])), hr.2⟩) (Cert.EDownRefIdeal.Value.run (F := Ideal) m' g')

/-! ## The experts' up projections -/

/-- The program and its ideal twin have the same text, so a run of one is a run of the other. -/
theorem same_EUp : Cert.quiescent_EUp (hEUp := Cert.EUp.Gen.facts) (hPre_up_schedule := Cert.Pre_up_schedule.Gen.facts) =
    ∀ (m : (ℓ : Loc Cert.EUpIdeal.nD Cert.EUpIdeal.τ Cert.EUpIdeal.sig) → Buf (Elt Bits) ℓ) (g : Dev Cert.EUpIdeal.nD → PrngReg), (∀ c : Dev Cert.EUpIdeal.nD, Cert.Pre_up_schedule.fn (F := Bits)
      (m ((c.tc : Thread Cert.EUpIdeal.nD Cert.EUpIdeal.τ).loc Cert.EUpIdeal.main_arg0)) (m ((c.tc : Thread Cert.EUpIdeal.nD Cert.EUpIdeal.τ).loc Cert.EUpIdeal.main_arg1)) (m ((c.tc : Thread Cert.EUpIdeal.nD Cert.EUpIdeal.τ).loc Cert.EUpIdeal.main_arg2)) (m ((c.tc : Thread Cert.EUpIdeal.nD Cert.EUpIdeal.τ).loc Cert.EUpIdeal.main_arg3)) (m ((c.tc : Thread Cert.EUpIdeal.nD Cert.EUpIdeal.τ).loc Cert.EUpIdeal.main_arg4)) (m ((c.tc : Thread Cert.EUpIdeal.nD Cert.EUpIdeal.τ).loc Cert.EUpIdeal.main_arg5)) (m ((c.tc : Thread Cert.EUpIdeal.nD Cert.EUpIdeal.τ).loc Cert.EUpIdeal.main_arg6)) (m ((c.tc : Thread Cert.EUpIdeal.nD Cert.EUpIdeal.τ).loc Cert.EUpIdeal.main_arg7))
      = fun _ => 1#1) →
      θ_run (Cert.EUpIdeal.defs (F := Bits)) (onTc (τ := Cert.EUpIdeal.τ) (Cert.EUpIdeal.main (F := Bits))) ⟨m, fun _ => 0, g⟩ (fun r =>
        (∀ c : Dev Cert.EUpIdeal.nD, r.2.mem ((c.tc : Thread Cert.EUpIdeal.nD Cert.EUpIdeal.τ).loc Cert.EUpIdeal.main_arg0) = m ((c.tc : Thread Cert.EUpIdeal.nD Cert.EUpIdeal.τ).loc Cert.EUpIdeal.main_arg0)
        ∧ r.2.mem ((c.tc : Thread Cert.EUpIdeal.nD Cert.EUpIdeal.τ).loc Cert.EUpIdeal.main_arg1) = m ((c.tc : Thread Cert.EUpIdeal.nD Cert.EUpIdeal.τ).loc Cert.EUpIdeal.main_arg1)
        ∧ r.2.mem ((c.tc : Thread Cert.EUpIdeal.nD Cert.EUpIdeal.τ).loc Cert.EUpIdeal.main_arg2) = m ((c.tc : Thread Cert.EUpIdeal.nD Cert.EUpIdeal.τ).loc Cert.EUpIdeal.main_arg2)
        ∧ r.2.mem ((c.tc : Thread Cert.EUpIdeal.nD Cert.EUpIdeal.τ).loc Cert.EUpIdeal.main_arg3) = m ((c.tc : Thread Cert.EUpIdeal.nD Cert.EUpIdeal.τ).loc Cert.EUpIdeal.main_arg3)
        ∧ r.2.mem ((c.tc : Thread Cert.EUpIdeal.nD Cert.EUpIdeal.τ).loc Cert.EUpIdeal.main_arg4) = m ((c.tc : Thread Cert.EUpIdeal.nD Cert.EUpIdeal.τ).loc Cert.EUpIdeal.main_arg4)
        ∧ r.2.mem ((c.tc : Thread Cert.EUpIdeal.nD Cert.EUpIdeal.τ).loc Cert.EUpIdeal.main_arg5) = m ((c.tc : Thread Cert.EUpIdeal.nD Cert.EUpIdeal.τ).loc Cert.EUpIdeal.main_arg5)
        ∧ r.2.mem ((c.tc : Thread Cert.EUpIdeal.nD Cert.EUpIdeal.τ).loc Cert.EUpIdeal.main_arg6) = m ((c.tc : Thread Cert.EUpIdeal.nD Cert.EUpIdeal.τ).loc Cert.EUpIdeal.main_arg6)
        ∧ r.2.mem ((c.tc : Thread Cert.EUpIdeal.nD Cert.EUpIdeal.τ).loc Cert.EUpIdeal.main_arg7) = m ((c.tc : Thread Cert.EUpIdeal.nD Cert.EUpIdeal.τ).loc Cert.EUpIdeal.main_arg7)) ∧ r.2.sem = fun _ => 0) := by sl_kernel_rfl

/-- The call `l1_moe_up` runs to completion, leaves its arguments as they were and every counter at zero (machine words). -/
theorem quiescent_EUp : Cert.quiescent_EUp (hEUp := Cert.EUp.Gen.facts) (hPre_up_schedule := Cert.Pre_up_schedule.Gen.facts) :=
  same_EUp.mpr fun m g hp => Cert.EUpIdeal.Gen.frame (F := Bits) m g (Cert.EUpIdeal.Gen.sched_of _ _ _ _ _ _ _ _ (hp 0))

/-- The host reference runs to completion, leaves its arguments as they were and every counter at zero. -/
theorem quiescent_EUpRefIdeal : Cert.quiescent_EUpRefIdeal (hEUpRefIdeal := Cert.EUpRefIdeal.Gen.facts) (hPre_up_schedule := Cert.Pre_up_schedule.Gen.facts) := by
  intro m g _
  exact (θ_run Cert.EUpRefIdeal.defs _ _).mono (fun r h => ⟨fun c => (h c).2,
      Idealize.ShloMosaic.sem_eq_zero_of_no_sems (by decide) r.2⟩) (Cert.EUpRefIdeal.Value.run (F := Ideal) m g)

/-- The experts' gated up projections and their reference have equal results on equal arguments, if the tables are a schedule. -/
theorem algebraic_EUp : Cert.algebraic_EUpIdeal_EUpRefIdeal (hEUpIdeal := Cert.EUpIdeal.Gen.facts) (hEUpRefIdeal := Cert.EUpRefIdeal.Gen.facts) (hPre_up_schedule := Cert.Pre_up_schedule.Gen.facts) := by
  intro m g m' g' hp hagree
  refine ⟨fun c => Cert.EUpRefIdeal.Read.val_main_v109 (F := Ideal)
      (m ((c.tc : Thread Cert.EUpIdeal.nD Cert.EUpIdeal.τ).loc Cert.EUpIdeal.main_arg0)) (m ((c.tc : Thread Cert.EUpIdeal.nD Cert.EUpIdeal.τ).loc Cert.EUpIdeal.main_arg1)) (m ((c.tc : Thread Cert.EUpIdeal.nD Cert.EUpIdeal.τ).loc Cert.EUpIdeal.main_arg2)) (m ((c.tc : Thread Cert.EUpIdeal.nD Cert.EUpIdeal.τ).loc Cert.EUpIdeal.main_arg3)) (m ((c.tc : Thread Cert.EUpIdeal.nD Cert.EUpIdeal.τ).loc Cert.EUpIdeal.main_arg4)),
    ?_, ?_⟩
  · have S : Cert.EUpIdeal.Gen.Ok m := (Cert.EUpIdeal.Gen.sched_of _ _ _ _ _ _ _ _ (hp 0))
    exact (θ_run Cert.EUpIdeal.defs _ _).mono (fun r h c => by
      have hr := Cert.EUpIdeal.Gen.read_post m S h.1 c
      exact ⟨hr.1.trans (Cert.EUpIdeal.Gen.final m S c), hr.2⟩) (Cert.EUpIdeal.Gen.run_main_quiescent (F := Ideal) m g S)
  · exact (θ_run Cert.EUpRefIdeal.defs _ _).mono (fun r h c => by
      have hr := h c
      obtain ⟨e0, e1, e2, e3, e4, e5, e6, e7⟩ := hagree c
      exact ⟨hr.1.trans ((Cert.EUpRefIdeal.Read.val_main_v109_eq m' c).trans (by rw [e0, e1, e2, e3, e4])), hr.2⟩) (Cert.EUpRefIdeal.Value.run (F := Ideal) m' g')

/-! ## The claim -/

/-- Everything claimed: the runs of all programs, and the value claim of every call. -/
theorem claim : Cert.Claim :=
  ⟨Cert.Gate.Gen.facts, Cert.GateIdeal.Gen.facts, Cert.GateRefIdeal.Gen.facts, Cert.In.Gen.facts, Cert.InIdeal.Gen.facts, Cert.InRefIdeal.Gen.facts, Cert.Up.Gen.facts, Cert.UpIdeal.Gen.facts, Cert.UpRefIdeal.Gen.facts, Cert.Gelu.Gen.facts, Cert.GeluIdeal.Gen.facts, Cert.GeluRefIdeal.Gen.facts, Cert.Out.Gen.facts, Cert.OutIdeal.Gen.facts, Cert.OutRefIdeal.Gen.facts, Cert.Down.Gen.facts, Cert.DownIdeal.Gen.facts, Cert.DownRefIdeal.Gen.facts, Cert.OutB.Gen.facts, Cert.OutBIdeal.Gen.facts, Cert.OutBRefIdeal.Gen.facts, Cert.EDown.Gen.facts, Cert.EDownIdeal.Gen.facts, Cert.EDownRefIdeal.Gen.facts, Cert.EUp.Gen.facts, Cert.EUpIdeal.Gen.facts, Cert.EUpRefIdeal.Gen.facts, Cert.Pre_down_schedule.Gen.facts, Cert.Pre_up_schedule.Gen.facts,
    fun m g _ => Cert.Gate.Gen.frame (F := Bits) m g,
    fun m g _ => Cert.GateIdeal.Gen.frame (F := Ideal) m g,
    quiescent_GateRefIdeal,
    fun m g _ => Cert.In.Gen.frame (F := Bits) m g,
    fun m g _ => Cert.InIdeal.Gen.frame (F := Ideal) m g,
    quiescent_InRefIdeal,
    fun m g _ => Cert.Up.Gen.frame (F := Bits) m g,
    fun m g _ => Cert.UpIdeal.Gen.frame (F := Ideal) m g,
    quiescent_UpRefIdeal,
    fun m g _ => Cert.Gelu.Gen.frame (F := Bits) m g,
    fun m g _ => Cert.GeluIdeal.Gen.frame (F := Ideal) m g,
    quiescent_GeluRefIdeal,
    quiescent_Out,
    fun m g _ => Cert.OutIdeal.Gen.frame (F := Ideal) m g,
    quiescent_OutRefIdeal,
    quiescent_Down,
    fun m g _ => Cert.DownIdeal.Gen.frame (F := Ideal) m g,
    quiescent_DownRefIdeal,
    quiescent_OutB,
    quiescent_OutBIdeal,
    quiescent_OutBRefIdeal,
    quiescent_EDown,
    fun m g hp => Cert.EDownIdeal.Gen.frame (F := Ideal) m g (Cert.EDownIdeal.Gen.sched_of _ _ _ _ _ _ _ (hp 0)),
    quiescent_EDownRefIdeal,
    quiescent_EUp,
    fun m g hp => Cert.EUpIdeal.Gen.frame (F := Ideal) m g (Cert.EUpIdeal.Gen.sched_of _ _ _ _ _ _ _ _ (hp 0)),
    quiescent_EUpRefIdeal,
    trivial,
    algebraic_Gate,
    trivial,
    algebraic_In,
    trivial,
    algebraic_Up,
    trivial,
    algebraic_Gelu,
    trivial,
    algebraic_Out,
    trivial,
    algebraic_Down,
    trivial,
    algebraic_OutB,
    trivial,
    algebraic_EDown,
    trivial,
    algebraic_EUp⟩

end Cert.Proof

end
